-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_Lin (m : (ℓ : Loc Cert.Lin.nD Cert.Lin.τ Cert.Lin.sig) → Buf (Elt Bits) ℓ) : Prop :=
  True

def Pre_LinIdeal (m : (ℓ : Loc Cert.LinIdeal.nD Cert.LinIdeal.τ Cert.LinIdeal.sig) → Buf (Elt Ideal) ℓ) : Prop :=
  True

def Pre_LinReferenceIdeal (m : (ℓ : Loc Cert.LinReferenceIdeal.nD Cert.LinReferenceIdeal.τ Cert.LinReferenceIdeal.sig) → Buf (Elt Ideal) ℓ) : Prop :=
  True

def Pre_Step (m : (ℓ : Loc Cert.Step.nD Cert.Step.τ Cert.Step.sig) → Buf (Elt Bits) ℓ) : Prop :=
  True

def Pre_StepIdeal (m : (ℓ : Loc Cert.StepIdeal.nD Cert.StepIdeal.τ Cert.StepIdeal.sig) → Buf (Elt Ideal) ℓ) : Prop :=
  True

def Pre_StepIdeal_finite_gate [hPre_finite_gate : Cert.Pre_finite_gate.Facts] (m : (ℓ : Loc Cert.StepIdeal.nD Cert.StepIdeal.τ Cert.StepIdeal.sig) → Buf (Elt Ideal) ℓ) : Prop :=
  ∀ c : Dev Cert.StepIdeal.nD,
    (Cert.Pre_finite_gate.fn (F := Ideal) (m ((c.tc : Thread Cert.StepIdeal.nD Cert.StepIdeal.τ).loc Cert.StepIdeal.main_arg0)) (m ((c.tc : Thread Cert.StepIdeal.nD Cert.StepIdeal.τ).loc Cert.StepIdeal.main_arg1)) (m ((c.tc : Thread Cert.StepIdeal.nD Cert.StepIdeal.τ).loc Cert.StepIdeal.main_arg2)) (m ((c.tc : Thread Cert.StepIdeal.nD Cert.StepIdeal.τ).loc Cert.StepIdeal.main_arg3)) (m ((c.tc : Thread Cert.StepIdeal.nD Cert.StepIdeal.τ).loc Cert.StepIdeal.main_arg4)) (m ((c.tc : Thread Cert.StepIdeal.nD Cert.StepIdeal.τ).loc Cert.StepIdeal.main_arg5)) (m ((c.tc : Thread Cert.StepIdeal.nD Cert.StepIdeal.τ).loc Cert.StepIdeal.main_arg6)) (m ((c.tc : Thread Cert.StepIdeal.nD Cert.StepIdeal.τ).loc Cert.StepIdeal.main_arg7)) (m ((c.tc : Thread Cert.StepIdeal.nD Cert.StepIdeal.τ).loc Cert.StepIdeal.main_arg8))) = (fun _ => 1#1)

def Pre_StepReferenceIdeal (m : (ℓ : Loc Cert.StepReferenceIdeal.nD Cert.StepReferenceIdeal.τ Cert.StepReferenceIdeal.sig) → Buf (Elt Ideal) ℓ) : Prop :=
  True

def Pre_StepReferenceIdeal_finite_gate [hPre_finite_gate : Cert.Pre_finite_gate.Facts] (m : (ℓ : Loc Cert.StepReferenceIdeal.nD Cert.StepReferenceIdeal.τ Cert.StepReferenceIdeal.sig) → Buf (Elt Ideal) ℓ) : Prop :=
  ∀ c : Dev Cert.StepReferenceIdeal.nD,
    (Cert.Pre_finite_gate.fn (F := Ideal) (m ((c.tc : Thread Cert.StepReferenceIdeal.nD Cert.StepReferenceIdeal.τ).loc Cert.StepReferenceIdeal.main_arg0)) (m ((c.tc : Thread Cert.StepReferenceIdeal.nD Cert.StepReferenceIdeal.τ).loc Cert.StepReferenceIdeal.main_arg1)) (m ((c.tc : Thread Cert.StepReferenceIdeal.nD Cert.StepReferenceIdeal.τ).loc Cert.StepReferenceIdeal.main_arg2)) (m ((c.tc : Thread Cert.StepReferenceIdeal.nD Cert.StepReferenceIdeal.τ).loc Cert.StepReferenceIdeal.main_arg3)) (m ((c.tc : Thread Cert.StepReferenceIdeal.nD Cert.StepReferenceIdeal.τ).loc Cert.StepReferenceIdeal.main_arg4)) (m ((c.tc : Thread Cert.StepReferenceIdeal.nD Cert.StepReferenceIdeal.τ).loc Cert.StepReferenceIdeal.main_arg5)) (m ((c.tc : Thread Cert.StepReferenceIdeal.nD Cert.StepReferenceIdeal.τ).loc Cert.StepReferenceIdeal.main_arg6)) (m ((c.tc : Thread Cert.StepReferenceIdeal.nD Cert.StepReferenceIdeal.τ).loc Cert.StepReferenceIdeal.main_arg7)) (m ((c.tc : Thread Cert.StepReferenceIdeal.nD Cert.StepReferenceIdeal.τ).loc Cert.StepReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1)
      ∧ r.2.mem ((c.tc : Thread Cert.Rows.nD Cert.Rows.τ).loc Cert.Rows.main_arg2) = m ((c.tc : Thread Cert.Rows.nD Cert.Rows.τ).loc Cert.Rows.main_arg2))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
      ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1)
      ∧ r.2.mem ((c.tc : Thread Cert.RowsReferenceIdeal.nD Cert.RowsReferenceIdeal.τ).loc Cert.RowsReferenceIdeal.main_arg2) = m ((c.tc : Thread Cert.RowsReferenceIdeal.nD Cert.RowsReferenceIdeal.τ).loc Cert.RowsReferenceIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4))
      ∧ r.2.sem = fun _ => 0)

def quiescent_Lin [hLin : Cert.Lin.Facts] : Prop :=
  ∀ (m : (ℓ : Loc Cert.Lin.nD Cert.Lin.τ Cert.Lin.sig) → Buf (Elt Bits) ℓ) (g : Dev Cert.Lin.nD → PrngReg), Pre_Lin m →
    θ_run (Cert.Lin.defs (F := Bits)) (onTc (τ := Cert.Lin.τ) (Cert.Lin.main (F := Bits))) ⟨m, fun _ => 0, g⟩ (fun r => (∀ c : Dev Cert.Lin.nD,
      r.2.mem ((c.tc : Thread Cert.Lin.nD Cert.Lin.τ).loc Cert.Lin.main_arg0) = m ((c.tc : Thread Cert.Lin.nD Cert.Lin.τ).loc Cert.Lin.main_arg0)
      ∧ r.2.mem ((c.tc : Thread Cert.Lin.nD Cert.Lin.τ).loc Cert.Lin.main_arg1) = m ((c.tc : Thread Cert.Lin.nD Cert.Lin.τ).loc Cert.Lin.main_arg1)
      ∧ r.2.mem ((c.tc : Thread Cert.Lin.nD Cert.Lin.τ).loc Cert.Lin.main_arg2) = m ((c.tc : Thread Cert.Lin.nD Cert.Lin.τ).loc Cert.Lin.main_arg2)
      ∧ r.2.mem ((c.tc : Thread Cert.Lin.nD Cert.Lin.τ).loc Cert.Lin.main_arg3) = m ((c.tc : Thread Cert.Lin.nD Cert.Lin.τ).loc Cert.Lin.main_arg3))
      ∧ r.2.sem = fun _ => 0)

def quiescent_LinIdeal [hLinIdeal : Cert.LinIdeal.Facts] : Prop :=
  ∀ (m : (ℓ : Loc Cert.LinIdeal.nD Cert.LinIdeal.τ Cert.LinIdeal.sig) → Buf (Elt Ideal) ℓ) (g : Dev Cert.LinIdeal.nD → PrngReg), Pre_LinIdeal m →
    θ_run (Cert.LinIdeal.defs (F := Ideal)) (onTc (τ := Cert.LinIdeal.τ) (Cert.LinIdeal.main (F := Ideal))) ⟨m, fun _ => 0, g⟩ (fun r => (∀ c : Dev Cert.LinIdeal.nD,
      r.2.mem ((c.tc : Thread Cert.LinIdeal.nD Cert.LinIdeal.τ).loc Cert.LinIdeal.main_arg0) = m ((c.tc : Thread Cert.LinIdeal.nD Cert.LinIdeal.τ).loc Cert.LinIdeal.main_arg0)
      ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
      ∧ r.2.mem ((c.tc : Thread Cert.LinIdeal.nD Cert.LinIdeal.τ).loc Cert.LinIdeal.main_arg2) = m ((c.tc : Thread Cert.LinIdeal.nD Cert.LinIdeal.τ).loc Cert.LinIdeal.main_arg2)
      ∧ r.2.mem ((c.tc : Thread Cert.LinIdeal.nD Cert.LinIdeal.τ).loc Cert.LinIdeal.main_arg3) = m ((c.tc : Thread Cert.LinIdeal.nD Cert.LinIdeal.τ).loc Cert.LinIdeal.main_arg3))
      ∧ r.2.sem = fun _ => 0)

def quiescent_LinReferenceIdeal [hLinReferenceIdeal : Cert.LinReferenceIdeal.Facts] : Prop :=
  ∀ (m : (ℓ : Loc Cert.LinReferenceIdeal.nD Cert.LinReferenceIdeal.τ Cert.LinReferenceIdeal.sig) → Buf (Elt Ideal) ℓ) (g : Dev Cert.LinReferenceIdeal.nD → PrngReg), Pre_LinReferenceIdeal m →
    θ_run (Cert.LinReferenceIdeal.defs (F := Ideal)) (onTc (τ := Cert.LinReferenceIdeal.τ) (Cert.LinReferenceIdeal.main (F := Ideal))) ⟨m, fun _ => 0, g⟩ (fun r => (∀ c : Dev Cert.LinReferenceIdeal.nD,
      r.2.mem ((c.tc : Thread Cert.LinReferenceIdeal.nD Cert.LinReferenceIdeal.τ).loc Cert.LinReferenceIdeal.main_arg0) = m ((c.tc : Thread Cert.LinReferenceIdeal.nD Cert.LinReferenceIdeal.τ).loc Cert.LinReferenceIdeal.main_arg0)
      ∧ r.2.mem ((c.tc : Thread Cert.LinReferenceIdeal.nD Cert.LinReferenceIdeal.τ).loc Cert.LinReferenceIdeal.main_arg1) = m ((c.tc : Thread Cert.LinReferenceIdeal.nD Cert.LinReferenceIdeal.τ).loc Cert.LinReferenceIdeal.main_arg1)
      ∧ r.2.mem ((c.tc : Thread Cert.LinReferenceIdeal.nD Cert.LinReferenceIdeal.τ).loc Cert.LinReferenceIdeal.main_arg2) = m ((c.tc : Thread Cert.LinReferenceIdeal.nD Cert.LinReferenceIdeal.τ).loc Cert.LinReferenceIdeal.main_arg2)
      ∧ r.2.mem ((c.tc : Thread Cert.LinReferenceIdeal.nD Cert.LinReferenceIdeal.τ).loc Cert.LinReferenceIdeal.main_arg3) = m ((c.tc : Thread Cert.LinReferenceIdeal.nD Cert.LinReferenceIdeal.τ).loc Cert.LinReferenceIdeal.main_arg3))
      ∧ r.2.sem = fun _ => 0)

def quiescent_Step [hStep : Cert.Step.Facts] : Prop :=
  ∀ (m : (ℓ : Loc Cert.Step.nD Cert.Step.τ Cert.Step.sig) → Buf (Elt Bits) ℓ) (g : Dev Cert.Step.nD → PrngReg), Pre_Step m →
    θ_run (Cert.Step.defs (F := Bits)) (onTc (τ := Cert.Step.τ) (Cert.Step.main (F := Bits))) ⟨m, fun _ => 0, g⟩ (fun r => (∀ c : Dev Cert.Step.nD,
      r.2.mem ((c.tc : Thread Cert.Step.nD Cert.Step.τ).loc Cert.Step.main_arg0) = m ((c.tc : Thread Cert.Step.nD Cert.Step.τ).loc Cert.Step.main_arg0)
      ∧ r.2.mem ((c.tc : Thread Cert.Step.nD Cert.Step.τ).loc Cert.Step.main_arg1) = m ((c.tc : Thread Cert.Step.nD Cert.Step.τ).loc Cert.Step.main_arg1)
      ∧ r.2.mem ((c.tc : Thread Cert.Step.nD Cert.Step.τ).loc Cert.Step.main_arg2) = m ((c.tc : Thread Cert.Step.nD Cert.Step.τ).loc Cert.Step.main_arg2)
      ∧ r.2.mem ((c.tc : Thread Cert.Step.nD Cert.Step.τ).loc Cert.Step.main_arg3) = m ((c.tc : Thread Cert.Step.nD Cert.Step.τ).loc Cert.Step.main_arg3)
      ∧ r.2.mem ((c.tc : Thread Cert.Step.nD Cert.Step.τ).loc Cert.Step.main_arg4) = m ((c.tc : Thread Cert.Step.nD Cert.Step.τ).loc Cert.Step.main_arg4)
      ∧ r.2.mem ((c.tc : Thread Cert.Step.nD Cert.Step.τ).loc Cert.Step.main_arg5) = m ((c.tc : Thread Cert.Step.nD Cert.Step.τ).loc Cert.Step.main_arg5)
      ∧ r.2.mem ((c.tc : Thread Cert.Step.nD Cert.Step.τ).loc Cert.Step.main_arg6) = m ((c.tc : Thread Cert.Step.nD Cert.Step.τ).loc Cert.Step.main_arg6)
      ∧ r.2.mem ((c.tc : Thread Cert.Step.nD Cert.Step.τ).loc Cert.Step.main_arg7) = m ((c.tc : Thread Cert.Step.nD Cert.Step.τ).loc Cert.Step.main_arg7)
      ∧ r.2.mem ((c.tc : Thread Cert.Step.nD Cert.Step.τ).loc Cert.Step.main_arg8) = m ((c.tc : Thread Cert.Step.nD Cert.Step.τ).loc Cert.Step.main_arg8))
      ∧ r.2.sem = fun _ => 0)

def quiescent_StepIdeal [hStepIdeal : Cert.StepIdeal.Facts] : Prop :=
  ∀ (m : (ℓ : Loc Cert.StepIdeal.nD Cert.StepIdeal.τ Cert.StepIdeal.sig) → Buf (Elt Ideal) ℓ) (g : Dev Cert.StepIdeal.nD → PrngReg), Pre_StepIdeal m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ r.2.sem = fun _ => 0)

def quiescent_StepIdeal_pre_finite_gate [hStepIdeal : Cert.StepIdeal.Facts] [hPre_finite_gate : Cert.Pre_finite_gate.Facts] : Prop :=
  ∀ (m : (ℓ : Loc Cert.StepIdeal.nD Cert.StepIdeal.τ Cert.StepIdeal.sig) → Buf (Elt Ideal) ℓ) (g : Dev Cert.StepIdeal.nD → PrngReg), Pre_StepIdeal_finite_gate m →
    θ_run (Cert.StepIdeal.defs (F := Ideal)) (onTc (τ := Cert.StepIdeal.τ) (Cert.StepIdeal.main (F := Ideal))) ⟨m, fun _ => 0, g⟩ (fun r => (∀ c : Dev Cert.StepIdeal.nD,
      r.2.mem ((c.tc : Thread Cert.StepIdeal.nD Cert.StepIdeal.τ).loc Cert.StepIdeal.main_arg0) = m ((c.tc : Thread Cert.StepIdeal.nD Cert.StepIdeal.τ).loc Cert.StepIdeal.main_arg0)
      ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
      ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
      ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
      ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
      ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
      ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
      ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
      ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ r.2.sem = fun _ => 0)

def quiescent_StepReferenceIdeal [hStepReferenceIdeal : Cert.StepReferenceIdeal.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7)
      ∧ r.2.mem ((c.tc : Thread Cert.StepReferenceIdeal.nD Cert.StepReferenceIdeal.τ).loc Cert.StepReferenceIdeal.main_arg8) = m ((c.tc : Thread Cert.StepReferenceIdeal.nD Cert.StepReferenceIdeal.τ).loc Cert.StepReferenceIdeal.main_arg8))
      ∧ r.2.sem = fun _ => 0)

def quiescent_StepReferenceIdeal_pre_finite_gate [hStepReferenceIdeal : Cert.StepReferenceIdeal.Facts] [hPre_finite_gate : Cert.Pre_finite_gate.Facts] : Prop :=
  ∀ (m : (ℓ : Loc Cert.StepReferenceIdeal.nD Cert.StepReferenceIdeal.τ Cert.StepReferenceIdeal.sig) → Buf (Elt Ideal) ℓ) (g : Dev Cert.StepReferenceIdeal.nD → PrngReg), Pre_StepReferenceIdeal_finite_gate m →
    θ_run (Cert.StepReferenceIdeal.defs (F := Ideal)) (onTc (τ := Cert.StepReferenceIdeal.τ) (Cert.StepReferenceIdeal.main (F := Ideal))) ⟨m, fun _ => 0, g⟩ (fun r => (∀ c : Dev Cert.StepReferenceIdeal.nD,
      r.2.mem ((c.tc : Thread Cert.StepReferenceIdeal.nD Cert.StepReferenceIdeal.τ).loc Cert.StepReferenceIdeal.main_arg0) = m ((c.tc : Thread Cert.StepReferenceIdeal.nD Cert.StepReferenceIdeal.τ).loc Cert.StepReferenceIdeal.main_arg0)
      ∧ r.2.mem ((c.tc : Thread Cert.StepReferenceIdeal.nD Cert.StepReferenceIdeal.τ).loc Cert.StepReferenceIdeal.main_arg1) = m ((c.tc : Thread Cert.StepReferenceIdeal.nD Cert.StepReferenceIdeal.τ).loc Cert.StepReferenceIdeal.main_arg1)
      ∧ r.2.mem ((c.tc : Thread Cert.StepReferenceIdeal.nD Cert.StepReferenceIdeal.τ).loc Cert.StepReferenceIdeal.main_arg2) = m ((c.tc : Thread Cert.StepReferenceIdeal.nD Cert.StepReferenceIdeal.τ).loc Cert.StepReferenceIdeal.main_arg2)
      ∧ r.2.mem ((c.tc : Thread Cert.StepReferenceIdeal.nD Cert.StepReferenceIdeal.τ).loc Cert.StepReferenceIdeal.main_arg3) = m ((c.tc : Thread Cert.StepReferenceIdeal.nD Cert.StepReferenceIdeal.τ).loc Cert.StepReferenceIdeal.main_arg3)
      ∧ r.2.mem ((c.tc : Thread Cert.StepReferenceIdeal.nD Cert.StepReferenceIdeal.τ).loc Cert.StepReferenceIdeal.main_arg4) = m ((c.tc : Thread Cert.StepReferenceIdeal.nD Cert.StepReferenceIdeal.τ).loc Cert.StepReferenceIdeal.main_arg4)
      ∧ r.2.mem ((c.tc : Thread Cert.StepReferenceIdeal.nD Cert.StepReferenceIdeal.τ).loc Cert.StepReferenceIdeal.main_arg5) = m ((c.tc : Thread Cert.StepReferenceIdeal.nD Cert.StepReferenceIdeal.τ).loc Cert.StepReferenceIdeal.main_arg5)
      ∧ r.2.mem ((c.tc : Thread Cert.StepReferenceIdeal.nD Cert.StepReferenceIdeal.τ).loc Cert.StepReferenceIdeal.main_arg6) = m ((c.tc : Thread Cert.StepReferenceIdeal.nD Cert.StepReferenceIdeal.τ).loc Cert.StepReferenceIdeal.main_arg6)
      ∧ r.2.mem ((c.tc : Thread Cert.StepReferenceIdeal.nD Cert.StepReferenceIdeal.τ).loc Cert.StepReferenceIdeal.main_arg7) = m ((c.tc : Thread Cert.StepReferenceIdeal.nD Cert.StepReferenceIdeal.τ).loc Cert.StepReferenceIdeal.main_arg7)
      ∧ r.2.mem ((c.tc : Thread Cert.StepReferenceIdeal.nD Cert.StepReferenceIdeal.τ).loc Cert.StepReferenceIdeal.main_arg8) = m ((c.tc : Thread Cert.StepReferenceIdeal.nD Cert.StepReferenceIdeal.τ).loc Cert.StepReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v25_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v2_0)) (v1 : (c : Dev Cert.MlpIdeal.nD) → Buf (Elt Ideal) ((c.tc : Thread Cert.MlpIdeal.nD Cert.MlpIdeal.τ).loc Cert.MlpIdeal.main_v2_1)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2_0) = v0 c
          ∧ r.2.mem ((c.tc : Thread Cert.MlpIdeal.nD Cert.MlpIdeal.τ).loc Cert.MlpIdeal.main_v2_1) = v1 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v30) = v0 c
          ∧ r.2.mem ((c.tc : Thread Cert.MlpReferenceIdeal.nD Cert.MlpReferenceIdeal.τ).loc Cert.MlpReferenceIdeal.main_v61) = v1 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)) →
    ∃ (v0 : (c : Dev Cert.MergeIdeal.nD) → Buf (Elt Ideal) ((c.tc : Thread Cert.MergeIdeal.nD Cert.MergeIdeal.τ).loc Cert.MergeIdeal.main_v10_0)) (v1 : (c : Dev Cert.MergeIdeal.nD) → Buf (Elt Ideal) ((c.tc : Thread Cert.MergeIdeal.nD Cert.MergeIdeal.τ).loc Cert.MergeIdeal.main_v10_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v10_0) = v0 c
          ∧ r.2.mem ((c.tc : Thread Cert.MergeIdeal.nD Cert.MergeIdeal.τ).loc Cert.MergeIdeal.main_v10_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v35) = v0 c
          ∧ r.2.mem ((c.tc : Thread Cert.MergeReferenceIdeal.nD Cert.MergeReferenceIdeal.τ).loc Cert.MergeReferenceIdeal.main_v71) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)
      ∧ m' ((c.tc : Thread Cert.RowsReferenceIdeal.nD Cert.RowsReferenceIdeal.τ).loc Cert.RowsReferenceIdeal.main_arg2) = m ((c.tc : Thread Cert.RowsIdeal.nD Cert.RowsIdeal.τ).loc Cert.RowsIdeal.main_arg2)) →
    ∃ (v0 : (c : Dev Cert.RowsIdeal.nD) → Buf (Elt Ideal) ((c.tc : Thread Cert.RowsIdeal.nD Cert.RowsIdeal.τ).loc Cert.RowsIdeal.main_v17)) (v1 : (c : Dev Cert.RowsIdeal.nD) → Buf (Elt Ideal) ((c.tc : Thread Cert.RowsIdeal.nD Cert.RowsIdeal.τ).loc Cert.RowsIdeal.main_v19)) (v2 : (c : Dev Cert.RowsIdeal.nD) → Buf (Elt Ideal) ((c.tc : Thread Cert.RowsIdeal.nD Cert.RowsIdeal.τ).loc Cert.RowsIdeal.main_v21)) (v3 : (c : Dev Cert.RowsIdeal.nD) → Buf (Elt Ideal) ((c.tc : Thread Cert.RowsIdeal.nD Cert.RowsIdeal.τ).loc Cert.RowsIdeal.main_v23)) (v4 : (c : Dev Cert.RowsIdeal.nD) → Buf (Elt Ideal) ((c.tc : Thread Cert.RowsIdeal.nD Cert.RowsIdeal.τ).loc Cert.RowsIdeal.main_v26)) (v5 : (c : Dev Cert.RowsIdeal.nD) → Buf (Elt Ideal) ((c.tc : Thread Cert.RowsIdeal.nD Cert.RowsIdeal.τ).loc Cert.RowsIdeal.main_v29)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v17) = v0 c
          ∧ r.2.mem ((c.tc : Thread Cert.RowsIdeal.nD Cert.RowsIdeal.τ).loc Cert.RowsIdeal.main_v19) = v1 c
          ∧ r.2.mem ((c.tc : Thread Cert.RowsIdeal.nD Cert.RowsIdeal.τ).loc Cert.RowsIdeal.main_v21) = v2 c
          ∧ r.2.mem ((c.tc : Thread Cert.RowsIdeal.nD Cert.RowsIdeal.τ).loc Cert.RowsIdeal.main_v23) = v3 c
          ∧ r.2.mem ((c.tc : Thread Cert.RowsIdeal.nD Cert.RowsIdeal.τ).loc Cert.RowsIdeal.main_v26) = v4 c
          ∧ r.2.mem ((c.tc : Thread Cert.RowsIdeal.nD Cert.RowsIdeal.τ).loc Cert.RowsIdeal.main_v29) = v5 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1)
          ∧ r.2.mem ((c.tc : Thread Cert.RowsIdeal.nD Cert.RowsIdeal.τ).loc Cert.RowsIdeal.main_arg2) = m ((c.tc : Thread Cert.RowsIdeal.nD Cert.RowsIdeal.τ).loc Cert.RowsIdeal.main_arg2))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v17) = v0 c
          ∧ r.2.mem ((c.tc : Thread Cert.RowsReferenceIdeal.nD Cert.RowsReferenceIdeal.τ).loc Cert.RowsReferenceIdeal.main_v19) = v1 c
          ∧ r.2.mem ((c.tc : Thread Cert.RowsReferenceIdeal.nD Cert.RowsReferenceIdeal.τ).loc Cert.RowsReferenceIdeal.main_v21) = v2 c
          ∧ r.2.mem ((c.tc : Thread Cert.RowsReferenceIdeal.nD Cert.RowsReferenceIdeal.τ).loc Cert.RowsReferenceIdeal.main_v23) = v3 c
          ∧ r.2.mem ((c.tc : Thread Cert.RowsReferenceIdeal.nD Cert.RowsReferenceIdeal.τ).loc Cert.RowsReferenceIdeal.main_v32) = v4 c
          ∧ r.2.mem ((c.tc : Thread Cert.RowsReferenceIdeal.nD Cert.RowsReferenceIdeal.τ).loc Cert.RowsReferenceIdeal.main_v33) = v5 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1)
          ∧ r.2.mem ((c.tc : Thread Cert.RowsReferenceIdeal.nD Cert.RowsReferenceIdeal.τ).loc Cert.RowsReferenceIdeal.main_arg2) = m' ((c.tc : Thread Cert.RowsReferenceIdeal.nD Cert.RowsReferenceIdeal.τ).loc Cert.RowsReferenceIdeal.main_arg2))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)) →
    ∃ (v0 : (c : Dev Cert.SampleIdeal.nD) → Buf (Elt Ideal) ((c.tc : Thread Cert.SampleIdeal.nD Cert.SampleIdeal.τ).loc Cert.SampleIdeal.main_v18)) (v1 : (c : Dev Cert.SampleIdeal.nD) → Buf (Elt Ideal) ((c.tc : Thread Cert.SampleIdeal.nD Cert.SampleIdeal.τ).loc Cert.SampleIdeal.main_v20)) (v2 : (c : Dev Cert.SampleIdeal.nD) → Buf (Elt Ideal) ((c.tc : Thread Cert.SampleIdeal.nD Cert.SampleIdeal.τ).loc Cert.SampleIdeal.main_v22)) (v3 : (c : Dev Cert.SampleIdeal.nD) → Buf (Elt Ideal) ((c.tc : Thread Cert.SampleIdeal.nD Cert.SampleIdeal.τ).loc Cert.SampleIdeal.main_v24)) (v4 : (c : Dev Cert.SampleIdeal.nD) → Buf (Elt Ideal) ((c.tc : Thread Cert.SampleIdeal.nD Cert.SampleIdeal.τ).loc Cert.SampleIdeal.main_v28)) (v5 : (c : Dev Cert.SampleIdeal.nD) → Buf (Elt Ideal) ((c.tc : Thread Cert.SampleIdeal.nD Cert.SampleIdeal.τ).loc Cert.SampleIdeal.main_v32)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v18) = v0 c
          ∧ r.2.mem ((c.tc : Thread Cert.SampleIdeal.nD Cert.SampleIdeal.τ).loc Cert.SampleIdeal.main_v20) = v1 c
          ∧ r.2.mem ((c.tc : Thread Cert.SampleIdeal.nD Cert.SampleIdeal.τ).loc Cert.SampleIdeal.main_v22) = v2 c
          ∧ r.2.mem ((c.tc : Thread Cert.SampleIdeal.nD Cert.SampleIdeal.τ).loc Cert.SampleIdeal.main_v24) = v3 c
          ∧ r.2.mem ((c.tc : Thread Cert.SampleIdeal.nD Cert.SampleIdeal.τ).loc Cert.SampleIdeal.main_v28) = v4 c
          ∧ r.2.mem ((c.tc : Thread Cert.SampleIdeal.nD Cert.SampleIdeal.τ).loc Cert.SampleIdeal.main_v32) = v5 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v17) = v0 c
          ∧ r.2.mem ((c.tc : Thread Cert.SampleReferenceIdeal.nD Cert.SampleReferenceIdeal.τ).loc Cert.SampleReferenceIdeal.main_v19) = v1 c
          ∧ r.2.mem ((c.tc : Thread Cert.SampleReferenceIdeal.nD Cert.SampleReferenceIdeal.τ).loc Cert.SampleReferenceIdeal.main_v21) = v2 c
          ∧ r.2.mem ((c.tc : Thread Cert.SampleReferenceIdeal.nD Cert.SampleReferenceIdeal.τ).loc Cert.SampleReferenceIdeal.main_v23) = v3 c
          ∧ r.2.mem ((c.tc : Thread Cert.SampleReferenceIdeal.nD Cert.SampleReferenceIdeal.τ).loc Cert.SampleReferenceIdeal.main_v30) = v4 c
          ∧ r.2.mem ((c.tc : Thread Cert.SampleReferenceIdeal.nD Cert.SampleReferenceIdeal.τ).loc Cert.SampleReferenceIdeal.main_v31) = v5 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4))

def preserves_Lin_LinIdeal : Prop :=
  True

def algebraic_LinIdeal_LinReferenceIdeal [hLinIdeal : Cert.LinIdeal.Facts] [hLinReferenceIdeal : Cert.LinReferenceIdeal.Facts] : Prop :=
  ∀ (m : (ℓ : Loc Cert.LinIdeal.nD Cert.LinIdeal.τ Cert.LinIdeal.sig) → Buf (Elt Ideal) ℓ) (g : Dev Cert.LinIdeal.nD → PrngReg)
    (m' : (ℓ : Loc Cert.LinReferenceIdeal.nD Cert.LinReferenceIdeal.τ Cert.LinReferenceIdeal.sig) → Buf (Elt Ideal) ℓ) (g' : Dev Cert.LinReferenceIdeal.nD → PrngReg), Pre_LinIdeal m →
    (∀ c : Dev Cert.LinIdeal.nD,
      m' ((c.tc : Thread Cert.LinReferenceIdeal.nD Cert.LinReferenceIdeal.τ).loc Cert.LinReferenceIdeal.main_arg0) = m ((c.tc : Thread Cert.LinIdeal.nD Cert.LinIdeal.τ).loc Cert.LinIdeal.main_arg0)
      ∧ m' ((c.tc : Thread Cert.LinReferenceIdeal.nD Cert.LinReferenceIdeal.τ).loc Cert.LinReferenceIdeal.main_arg1) = m ((c.tc : Thread Cert.LinIdeal.nD Cert.LinIdeal.τ).loc Cert.LinIdeal.main_arg1)
      ∧ m' ((c.tc : Thread Cert.LinReferenceIdeal.nD Cert.LinReferenceIdeal.τ).loc Cert.LinReferenceIdeal.main_arg2) = m ((c.tc : Thread Cert.LinIdeal.nD Cert.LinIdeal.τ).loc Cert.LinIdeal.main_arg2)
      ∧ m' ((c.tc : Thread Cert.LinReferenceIdeal.nD Cert.LinReferenceIdeal.τ).loc Cert.LinReferenceIdeal.main_arg3) = m ((c.tc : Thread Cert.LinIdeal.nD Cert.LinIdeal.τ).loc Cert.LinIdeal.main_arg3)) →
    ∃ (v0 : (c : Dev Cert.LinIdeal.nD) → Buf (Elt Ideal) ((c.tc : Thread Cert.LinIdeal.nD Cert.LinIdeal.τ).loc Cert.LinIdeal.main_v31)) (v1 : (c : Dev Cert.LinIdeal.nD) → Buf (Elt Ideal) ((c.tc : Thread Cert.LinIdeal.nD Cert.LinIdeal.τ).loc Cert.LinIdeal.main_v32)) (v2 : (c : Dev Cert.LinIdeal.nD) → Buf (Elt Ideal) ((c.tc : Thread Cert.LinIdeal.nD Cert.LinIdeal.τ).loc Cert.LinIdeal.main_v33)) (v3 : (c : Dev Cert.LinIdeal.nD) → Buf (Elt Ideal) ((c.tc : Thread Cert.LinIdeal.nD Cert.LinIdeal.τ).loc Cert.LinIdeal.main_v34)) (v4 : (c : Dev Cert.LinIdeal.nD) → Buf (Elt Ideal) ((c.tc : Thread Cert.LinIdeal.nD Cert.LinIdeal.τ).loc Cert.LinIdeal.main_v35)) (v5 : (c : Dev Cert.LinIdeal.nD) → Buf (Elt Ideal) ((c.tc : Thread Cert.LinIdeal.nD Cert.LinIdeal.τ).loc Cert.LinIdeal.main_v30)),
      θ_run (Cert.LinIdeal.defs (F := Ideal)) (onTc (τ := Cert.LinIdeal.τ) (Cert.LinIdeal.main (F := Ideal))) ⟨m, fun _ => 0, g⟩ (fun r => ∀ c : Dev Cert.LinIdeal.nD,
          r.2.mem ((c.tc : Thread Cert.LinIdeal.nD Cert.LinIdeal.τ).loc Cert.LinIdeal.main_v31) = v0 c
          ∧ r.2.mem ((c.tc : Thread Cert.LinIdeal.nD Cert.LinIdeal.τ).loc Cert.LinIdeal.main_v32) = v1 c
          ∧ r.2.mem ((c.tc : Thread Cert.LinIdeal.nD Cert.LinIdeal.τ).loc Cert.LinIdeal.main_v33) = v2 c
          ∧ r.2.mem ((c.tc : Thread Cert.LinIdeal.nD Cert.LinIdeal.τ).loc Cert.LinIdeal.main_v34) = v3 c
          ∧ r.2.mem ((c.tc : Thread Cert.LinIdeal.nD Cert.LinIdeal.τ).loc Cert.LinIdeal.main_v35) = v4 c
          ∧ r.2.mem ((c.tc : Thread Cert.LinIdeal.nD Cert.LinIdeal.τ).loc Cert.LinIdeal.main_v30) = v5 c
          ∧ r.2.mem ((c.tc : Thread Cert.LinIdeal.nD Cert.LinIdeal.τ).loc Cert.LinIdeal.main_arg0) = m ((c.tc : Thread Cert.LinIdeal.nD Cert.LinIdeal.τ).loc Cert.LinIdeal.main_arg0)
          ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
          ∧ r.2.mem ((c.tc : Thread Cert.LinIdeal.nD Cert.LinIdeal.τ).loc Cert.LinIdeal.main_arg2) = m ((c.tc : Thread Cert.LinIdeal.nD Cert.LinIdeal.τ).loc Cert.LinIdeal.main_arg2)
          ∧ r.2.mem ((c.tc : Thread Cert.LinIdeal.nD Cert.LinIdeal.τ).loc Cert.LinIdeal.main_arg3) = m ((c.tc : Thread Cert.LinIdeal.nD Cert.LinIdeal.τ).loc Cert.LinIdeal.main_arg3))
      ∧ θ_run (Cert.LinReferenceIdeal.defs (F := Ideal)) (onTc (τ := Cert.LinReferenceIdeal.τ) (Cert.LinReferenceIdeal.main (F := Ideal))) ⟨m', fun _ => 0, g'⟩ (fun r => ∀ c : Dev Cert.LinReferenceIdeal.nD,
          r.2.mem ((c.tc : Thread Cert.LinReferenceIdeal.nD Cert.LinReferenceIdeal.τ).loc Cert.LinReferenceIdeal.main_v17) = v0 c
          ∧ r.2.mem ((c.tc : Thread Cert.LinReferenceIdeal.nD Cert.LinReferenceIdeal.τ).loc Cert.LinReferenceIdeal.main_v18) = v1 c
          ∧ r.2.mem ((c.tc : Thread Cert.LinReferenceIdeal.nD Cert.LinReferenceIdeal.τ).loc Cert.LinReferenceIdeal.main_v33) = v2 c
          ∧ r.2.mem ((c.tc : Thread Cert.LinReferenceIdeal.nD Cert.LinReferenceIdeal.τ).loc Cert.LinReferenceIdeal.main_v20) = v3 c
          ∧ r.2.mem ((c.tc : Thread Cert.LinReferenceIdeal.nD Cert.LinReferenceIdeal.τ).loc Cert.LinReferenceIdeal.main_v21) = v4 c
          ∧ r.2.mem ((c.tc : Thread Cert.LinReferenceIdeal.nD Cert.LinReferenceIdeal.τ).loc Cert.LinReferenceIdeal.main_v32) = v5 c
          ∧ r.2.mem ((c.tc : Thread Cert.LinReferenceIdeal.nD Cert.LinReferenceIdeal.τ).loc Cert.LinReferenceIdeal.main_arg0) = m' ((c.tc : Thread Cert.LinReferenceIdeal.nD Cert.LinReferenceIdeal.τ).loc Cert.LinReferenceIdeal.main_arg0)
          ∧ r.2.mem ((c.tc : Thread Cert.LinReferenceIdeal.nD Cert.LinReferenceIdeal.τ).loc Cert.LinReferenceIdeal.main_arg1) = m' ((c.tc : Thread Cert.LinReferenceIdeal.nD Cert.LinReferenceIdeal.τ).loc Cert.LinReferenceIdeal.main_arg1)
          ∧ r.2.mem ((c.tc : Thread Cert.LinReferenceIdeal.nD Cert.LinReferenceIdeal.τ).loc Cert.LinReferenceIdeal.main_arg2) = m' ((c.tc : Thread Cert.LinReferenceIdeal.nD Cert.LinReferenceIdeal.τ).loc Cert.LinReferenceIdeal.main_arg2)
          ∧ r.2.mem ((c.tc : Thread Cert.LinReferenceIdeal.nD Cert.LinReferenceIdeal.τ).loc Cert.LinReferenceIdeal.main_arg3) = m' ((c.tc : Thread Cert.LinReferenceIdeal.nD Cert.LinReferenceIdeal.τ).loc Cert.LinReferenceIdeal.main_arg3))

def preserves_Step_StepIdeal : Prop :=
  True

def algebraic_StepIdeal_StepReferenceIdeal_pre_finite_gate [hStepIdeal : Cert.StepIdeal.Facts] [hStepReferenceIdeal : Cert.StepReferenceIdeal.Facts] [hPre_finite_gate : Cert.Pre_finite_gate.Facts] : Prop :=
  ∀ (m : (ℓ : Loc Cert.StepIdeal.nD Cert.StepIdeal.τ Cert.StepIdeal.sig) → Buf (Elt Ideal) ℓ) (g : Dev Cert.StepIdeal.nD → PrngReg)
    (m' : (ℓ : Loc Cert.StepReferenceIdeal.nD Cert.StepReferenceIdeal.τ Cert.StepReferenceIdeal.sig) → Buf (Elt Ideal) ℓ) (g' : Dev Cert.StepReferenceIdeal.nD → PrngReg), Pre_StepIdeal_finite_gate m →
    (∀ c : Dev Cert.StepIdeal.nD,
      m' ((c.tc : Thread Cert.StepReferenceIdeal.nD Cert.StepReferenceIdeal.τ).loc Cert.StepReferenceIdeal.main_arg0) = m ((c.tc : Thread Cert.StepIdeal.nD Cert.StepIdeal.τ).loc Cert.StepIdeal.main_arg0)
      ∧ m' ((c.tc : Thread Cert.StepReferenceIdeal.nD Cert.StepReferenceIdeal.τ).loc Cert.StepReferenceIdeal.main_arg1) = m ((c.tc : Thread Cert.StepIdeal.nD Cert.StepIdeal.τ).loc Cert.StepIdeal.main_arg1)
      ∧ m' ((c.tc : Thread Cert.StepReferenceIdeal.nD Cert.StepReferenceIdeal.τ).loc Cert.StepReferenceIdeal.main_arg2) = m ((c.tc : Thread Cert.StepIdeal.nD Cert.StepIdeal.τ).loc Cert.StepIdeal.main_arg2)
      ∧ m' ((c.tc : Thread Cert.StepReferenceIdeal.nD Cert.StepReferenceIdeal.τ).loc Cert.StepReferenceIdeal.main_arg3) = m ((c.tc : Thread Cert.StepIdeal.nD Cert.StepIdeal.τ).loc Cert.StepIdeal.main_arg3)
      ∧ m' ((c.tc : Thread Cert.StepReferenceIdeal.nD Cert.StepReferenceIdeal.τ).loc Cert.StepReferenceIdeal.main_arg4) = m ((c.tc : Thread Cert.StepIdeal.nD Cert.StepIdeal.τ).loc Cert.StepIdeal.main_arg4)
      ∧ m' ((c.tc : Thread Cert.StepReferenceIdeal.nD Cert.StepReferenceIdeal.τ).loc Cert.StepReferenceIdeal.main_arg5) = m ((c.tc : Thread Cert.StepIdeal.nD Cert.StepIdeal.τ).loc Cert.StepIdeal.main_arg5)
      ∧ m' ((c.tc : Thread Cert.StepReferenceIdeal.nD Cert.StepReferenceIdeal.τ).loc Cert.StepReferenceIdeal.main_arg6) = m ((c.tc : Thread Cert.StepIdeal.nD Cert.StepIdeal.τ).loc Cert.StepIdeal.main_arg6)
      ∧ m' ((c.tc : Thread Cert.StepReferenceIdeal.nD Cert.StepReferenceIdeal.τ).loc Cert.StepReferenceIdeal.main_arg7) = m ((c.tc : Thread Cert.StepIdeal.nD Cert.StepIdeal.τ).loc Cert.StepIdeal.main_arg7)
      ∧ m' ((c.tc : Thread Cert.StepReferenceIdeal.nD Cert.StepReferenceIdeal.τ).loc Cert.StepReferenceIdeal.main_arg8) = m ((c.tc : Thread Cert.StepIdeal.nD Cert.StepIdeal.τ).loc Cert.StepIdeal.main_arg8)) →
    ∃ (v0 : (c : Dev Cert.StepIdeal.nD) → Buf (Elt Ideal) ((c.tc : Thread Cert.StepIdeal.nD Cert.StepIdeal.τ).loc Cert.StepIdeal.main_v21_0)) (v1 : (c : Dev Cert.StepIdeal.nD) → Buf (Elt Ideal) ((c.tc : Thread Cert.StepIdeal.nD Cert.StepIdeal.τ).loc Cert.StepIdeal.main_v21_1)),
      θ_run (Cert.StepIdeal.defs (F := Ideal)) (onTc (τ := Cert.StepIdeal.τ) (Cert.StepIdeal.main (F := Ideal))) ⟨m, fun _ => 0, g⟩ (fun r => ∀ c : Dev Cert.StepIdeal.nD,
          r.2.mem ((c.tc : Thread Cert.StepIdeal.nD Cert.StepIdeal.τ).loc Cert.StepIdeal.main_v21_0) = v0 c
          ∧ r.2.mem ((c.tc : Thread Cert.StepIdeal.nD Cert.StepIdeal.τ).loc Cert.StepIdeal.main_v21_1) = v1 c
          ∧ r.2.mem ((c.tc : Thread Cert.StepIdeal.nD Cert.StepIdeal.τ).loc Cert.StepIdeal.main_arg0) = m ((c.tc : Thread Cert.StepIdeal.nD Cert.StepIdeal.τ).loc Cert.StepIdeal.main_arg0)
          ∧ r.2.mem ((c.tc : Thread Cert.StepIdeal.nD Cert.StepIdeal.τ).loc Cert.StepIdeal.main_arg1) = m ((c.tc : Thread Cert.StepIdeal.nD Cert.StepIdeal.τ).loc Cert.StepIdeal.main_arg1)
          ∧ r.2.mem ((c.tc : Thread Cert.StepIdeal.nD Cert.StepIdeal.τ).loc Cert.StepIdeal.main_arg2) = m ((c.tc : Thread Cert.StepIdeal.nD Cert.StepIdeal.τ).loc Cert.StepIdeal.main_arg2)
          ∧ r.2.mem ((c.tc : Thread Cert.StepIdeal.nD Cert.StepIdeal.τ).loc Cert.StepIdeal.main_arg3) = m ((c.tc : Thread Cert.StepIdeal.nD Cert.StepIdeal.τ).loc Cert.StepIdeal.main_arg3)
          ∧ r.2.mem ((c.tc : Thread Cert.StepIdeal.nD Cert.StepIdeal.τ).loc Cert.StepIdeal.main_arg4) = m ((c.tc : Thread Cert.StepIdeal.nD Cert.StepIdeal.τ).loc Cert.StepIdeal.main_arg4)
          ∧ r.2.mem ((c.tc : Thread Cert.StepIdeal.nD Cert.StepIdeal.τ).loc Cert.StepIdeal.main_arg5) = m ((c.tc : Thread Cert.StepIdeal.nD Cert.StepIdeal.τ).loc Cert.StepIdeal.main_arg5)
          ∧ r.2.mem ((c.tc : Thread Cert.StepIdeal.nD Cert.StepIdeal.τ).loc Cert.StepIdeal.main_arg6) = m ((c.tc : Thread Cert.StepIdeal.nD Cert.StepIdeal.τ).loc Cert.StepIdeal.main_arg6)
          ∧ r.2.mem ((c.tc : Thread Cert.StepIdeal.nD Cert.StepIdeal.τ).loc Cert.StepIdeal.main_arg7) = m ((c.tc : Thread Cert.StepIdeal.nD Cert.StepIdeal.τ).loc Cert.StepIdeal.main_arg7)
          ∧ r.2.mem ((c.tc : Thread Cert.StepIdeal.nD Cert.StepIdeal.τ).loc Cert.StepIdeal.main_arg8) = m ((c.tc : Thread Cert.StepIdeal.nD Cert.StepIdeal.τ).loc Cert.StepIdeal.main_arg8))
      ∧ θ_run (Cert.StepReferenceIdeal.defs (F := Ideal)) (onTc (τ := Cert.StepReferenceIdeal.τ) (Cert.StepReferenceIdeal.main (F := Ideal))) ⟨m', fun _ => 0, g'⟩ (fun r => ∀ c : Dev Cert.StepReferenceIdeal.nD,
          r.2.mem ((c.tc : Thread Cert.StepReferenceIdeal.nD Cert.StepReferenceIdeal.τ).loc Cert.StepReferenceIdeal.main_v67) = v0 c
          ∧ r.2.mem ((c.tc : Thread Cert.StepReferenceIdeal.nD Cert.StepReferenceIdeal.τ).loc Cert.StepReferenceIdeal.main_v47) = v1 c
          ∧ r.2.mem ((c.tc : Thread Cert.StepReferenceIdeal.nD Cert.StepReferenceIdeal.τ).loc Cert.StepReferenceIdeal.main_arg0) = m' ((c.tc : Thread Cert.StepReferenceIdeal.nD Cert.StepReferenceIdeal.τ).loc Cert.StepReferenceIdeal.main_arg0)
          ∧ r.2.mem ((c.tc : Thread Cert.StepReferenceIdeal.nD Cert.StepReferenceIdeal.τ).loc Cert.StepReferenceIdeal.main_arg1) = m' ((c.tc : Thread Cert.StepReferenceIdeal.nD Cert.StepReferenceIdeal.τ).loc Cert.StepReferenceIdeal.main_arg1)
          ∧ r.2.mem ((c.tc : Thread Cert.StepReferenceIdeal.nD Cert.StepReferenceIdeal.τ).loc Cert.StepReferenceIdeal.main_arg2) = m' ((c.tc : Thread Cert.StepReferenceIdeal.nD Cert.StepReferenceIdeal.τ).loc Cert.StepReferenceIdeal.main_arg2)
          ∧ r.2.mem ((c.tc : Thread Cert.StepReferenceIdeal.nD Cert.StepReferenceIdeal.τ).loc Cert.StepReferenceIdeal.main_arg3) = m' ((c.tc : Thread Cert.StepReferenceIdeal.nD Cert.StepReferenceIdeal.τ).loc Cert.StepReferenceIdeal.main_arg3)
          ∧ r.2.mem ((c.tc : Thread Cert.StepReferenceIdeal.nD Cert.StepReferenceIdeal.τ).loc Cert.StepReferenceIdeal.main_arg4) = m' ((c.tc : Thread Cert.StepReferenceIdeal.nD Cert.StepReferenceIdeal.τ).loc Cert.StepReferenceIdeal.main_arg4)
          ∧ r.2.mem ((c.tc : Thread Cert.StepReferenceIdeal.nD Cert.StepReferenceIdeal.τ).loc Cert.StepReferenceIdeal.main_arg5) = m' ((c.tc : Thread Cert.StepReferenceIdeal.nD Cert.StepReferenceIdeal.τ).loc Cert.StepReferenceIdeal.main_arg5)
          ∧ r.2.mem ((c.tc : Thread Cert.StepReferenceIdeal.nD Cert.StepReferenceIdeal.τ).loc Cert.StepReferenceIdeal.main_arg6) = m' ((c.tc : Thread Cert.StepReferenceIdeal.nD Cert.StepReferenceIdeal.τ).loc Cert.StepReferenceIdeal.main_arg6)
          ∧ r.2.mem ((c.tc : Thread Cert.StepReferenceIdeal.nD Cert.StepReferenceIdeal.τ).loc Cert.StepReferenceIdeal.main_arg7) = m' ((c.tc : Thread Cert.StepReferenceIdeal.nD Cert.StepReferenceIdeal.τ).loc Cert.StepReferenceIdeal.main_arg7)
          ∧ r.2.mem ((c.tc : Thread Cert.StepReferenceIdeal.nD Cert.StepReferenceIdeal.τ).loc Cert.StepReferenceIdeal.main_arg8) = m' ((c.tc : Thread Cert.StepReferenceIdeal.nD Cert.StepReferenceIdeal.τ).loc Cert.StepReferenceIdeal.main_arg8))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hMerge : Cert.Merge.Facts) (hMergeIdeal : Cert.MergeIdeal.Facts) (hMergeReferenceIdeal : Cert.MergeReferenceIdeal.Facts) (hRows : Cert.Rows.Facts) (hRowsIdeal : Cert.RowsIdeal.Facts) (hRowsReferenceIdeal : Cert.RowsReferenceIdeal.Facts) (hSample : Cert.Sample.Facts) (hSampleIdeal : Cert.SampleIdeal.Facts) (hSampleReferenceIdeal : Cert.SampleReferenceIdeal.Facts) (hLin : Cert.Lin.Facts) (hLinIdeal : Cert.LinIdeal.Facts) (hLinReferenceIdeal : Cert.LinReferenceIdeal.Facts) (hStep : Cert.Step.Facts) (hStepIdeal : Cert.StepIdeal.Facts) (hStepReferenceIdeal : Cert.StepReferenceIdeal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_Lin (hLin := hLin)
    ∧ quiescent_LinIdeal (hLinIdeal := hLinIdeal)
    ∧ quiescent_LinReferenceIdeal (hLinReferenceIdeal := hLinReferenceIdeal)
    ∧ quiescent_Step (hStep := hStep)
    ∧ quiescent_StepIdeal (hStepIdeal := hStepIdeal)
    ∧ quiescent_StepIdeal_pre_finite_gate (hStepIdeal := hStepIdeal) (hPre_finite_gate := hPre_finite_gate)
    ∧ quiescent_StepReferenceIdeal (hStepReferenceIdeal := hStepReferenceIdeal)
    ∧ quiescent_StepReferenceIdeal_pre_finite_gate (hStepReferenceIdeal := hStepReferenceIdeal) (hPre_finite_gate := hPre_finite_gate)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal (hMlpIdeal := hMlpIdeal) (hMlpReferenceIdeal := hMlpReferenceIdeal)
    ∧ preserves_Merge_MergeIdeal
    ∧ algebraic_MergeIdeal_MergeReferenceIdeal (hMergeIdeal := hMergeIdeal) (hMergeReferenceIdeal := hMergeReferenceIdeal)
    ∧ preserves_Rows_RowsIdeal
    ∧ algebraic_RowsIdeal_RowsReferenceIdeal (hRowsIdeal := hRowsIdeal) (hRowsReferenceIdeal := hRowsReferenceIdeal)
    ∧ preserves_Sample_SampleIdeal
    ∧ algebraic_SampleIdeal_SampleReferenceIdeal (hSampleIdeal := hSampleIdeal) (hSampleReferenceIdeal := hSampleReferenceIdeal)
    ∧ preserves_Lin_LinIdeal
    ∧ algebraic_LinIdeal_LinReferenceIdeal (hLinIdeal := hLinIdeal) (hLinReferenceIdeal := hLinReferenceIdeal)
    ∧ preserves_Step_StepIdeal
    ∧ algebraic_StepIdeal_StepReferenceIdeal_pre_finite_gate (hStepIdeal := hStepIdeal) (hStepReferenceIdeal := hStepReferenceIdeal) (hPre_finite_gate := hPre_finite_gate)
-- ==== Pre_finite.lean ====
abbrev S4x2048x512 : Shape := ⟨3, ![4, 2048, 512]⟩
abbrev S4x2048x1024 : Shape := ⟨3, ![4, 2048, 1024]⟩
abbrev S4x2048x16 : Shape := ⟨3, ![4, 2048, 16]⟩
abbrev S16x512 : Shape := ⟨2, ![16, 512]⟩
abbrev S512 : Shape := ⟨1, ![512]⟩
abbrev S256 : Shape := ⟨1, ![256]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S4x2048x16 : S_.BroadcastsInDim S4x2048x16 (![] : Fin 0 → Fin S4x2048x16.rank)
  reducesTo_S4x2048x16_S_d0_1_2 : S4x2048x16.ReducesTo [0, 1, 2] S_
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S16x512 .f32) (main_arg6 : FVec F S512 .f32) (main_v13 : IVec S_ 1) (main_v16 : IVec S4x2048x16 1) : IVec S_ 1 :=
  let main_c_5 : IVec S_ 1 := constantI S_ 1 1#1
  let main_v17 : IVec S_ 1 := (fun x v => Host.reduce IntOp.andi x v reducesTo_S4x2048x16_S_d0_1_2 h_S_) main_v16 main_c_5
  let main_v18 : IVec S_ 1 := andi main_v13 main_v17
  let main_v19 : FVec F S16x512 .f32 := Host.absf main_arg5
  let main_cst_6 : FVec F S_ .f32 := constant S_ .f32 0x7F800000#32
  let main_v20 : FVec F S16x512 .f32 := broadcastInDim S16x512 ![] bcast_S_S16x512 main_cst_6
  let main_v21 : IVec S16x512 1 := cmpf .olt main_v19 main_v20
  let main_c_7 : IVec S_ 1 := constantI S_ 1 1#1
  let main_v22 : IVec S_ 1 := (fun x v => Host.reduce IntOp.andi x v reducesTo_S16x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S4x2048x512 .f32) (main_arg1 : FVec F S4x2048x512 .f32) (main_arg2 : FVec F S4x2048x1024 .f32) (main_arg3 : FVec F S4x2048x1024 .f32) (main_arg4 : FVec F S4x2048x16 .f32) (main_arg5 : FVec F S16x512 .f32) (main_arg6 : FVec F S512 .f32) (main_arg7 : FVec F S256 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S4x2048x512 .f32 := Host.absf main_arg1
  let main_cst_0 : FVec F S_ .f32 := constant S_ .f32 0x7F800000#32
  let main_v5 : FVec F S4x2048x512 .f32 := broadcastInDim S4x2048x512 ![] bcast_S_S4x2048x512 main_cst_0
  let main_v6 : IVec S4x2048x512 1 := cmpf .olt main_v4 main_v5
  let main_c_1 : IVec S_ 1 := constantI S_ 1 1#1
  let main_v7 : IVec S_ 1 := (fun x v => Host.reduce IntOp.andi x v reducesTo_S4x2048x512_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S4x2048x16 .f32 := Host.absf main_arg4
  let main_cst_4 : FVec F S_ .f32 := constant S_ .f32 0x7F800000#32
  let main_v15 : FVec F S4x2048x16 .f32 := broadcastInDim S4x2048x16 ![] bcast_S_S4x2048x16 main_cst_4
  let main_v16 : IVec S4x2048x16 1 := cmpf .olt main_v14 main_v15
  fn_part1 (F := F) main_arg5 main_arg6 main_v13 main_v16
-- ==== Pre_finite_gate.lean ====
abbrev S8x1x512 : Shape := ⟨3, ![8, 1, 512]⟩
abbrev S8x1x1024 : Shape := ⟨3, ![8, 1, 1024]⟩
abbrev S8x1x16 : Shape := ⟨3, ![8, 1, 16]⟩
abbrev S16x512 : Shape := ⟨2, ![16, 512]⟩
abbrev S512 : Shape := ⟨1, ![512]⟩
abbrev S256 : Shape := ⟨1, ![256]⟩
abbrev S8x4x128x256 : Shape := ⟨4, ![8, 4, 128, 256]⟩
abbrev S_ : Shape := ⟨0, ![]⟩

class Facts : Prop where
  bcast_S_S8x1x16 : S_.BroadcastsInDim S8x1x16 (![] : Fin 0 → Fin S8x1x16.rank)
  reducesTo_S8x1x16_S_d0_1_2 : S8x1x16.ReducesTo [0, 1, 2] S_
  h_S_ : 0 < S_.numel
  bcast_S_S16x512 : S_.BroadcastsInDim S16x512 (![] : Fin 0 → Fin S16x512.rank)
  reducesTo_S16x512_S_d0_1 : S16x512.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S8x1x512 .f32) (main_arg1 : FVec F S8x1x512 .f32) (main_arg2 : FVec F S8x1x1024 .f32) (main_arg3 : FVec F S8x1x1024 .f32) (main_arg4 : FVec F S8x1x16 .f32) (main_arg5 : FVec F S16x512 .f32) (main_arg6 : FVec F S512 .f32) (main_arg7 : FVec F S256 .f32) (main_arg8 : FVec F S8x4x128x256 .f32) : IVec S_ 1 :=
  let main_v0 : FVec F S8x1x16 .f32 := Host.absf main_arg4
  let main_cst : FVec F S_ .f32 := constant S_ .f32 0x7F800000#32
  let main_v1 : FVec F S8x1x16 .f32 := broadcastInDim S8x1x16 ![] bcast_S_S8x1x16 main_cst
  let main_v2 : IVec S8x1x16 1 := cmpf .olt main_v0 main_v1
  let main_c : IVec S_ 1 := constantI S_ 1 1#1
  let main_v3 : IVec S_ 1 := (fun x v => Host.reduce IntOp.andi x v reducesTo_S8x1x16_S_d0_1_2 h_S_) main_v2 main_c
  let main_v4 : FVec F S16x512 .f32 := Host.absf main_arg5
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S512 .f32 := Host.absf main_arg6
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S4x2048x512 : Shape := ⟨3, ![4, 2048, 512]⟩
abbrev S4x2048x1024 : Shape := ⟨3, ![4, 2048, 1024]⟩
abbrev S4x2048x16 : Shape := ⟨3, ![4, 2048, 16]⟩
abbrev S16x512 : Shape := ⟨2, ![16, 512]⟩
abbrev S512 : Shape := ⟨1, ![512]⟩
abbrev S256 : Shape := ⟨1, ![256]⟩
abbrev S_ : Shape := ⟨0, ![]⟩
abbrev S8192x48 : Shape := ⟨2, ![8192, 48]⟩
abbrev S8192x16 : Shape := ⟨2, ![8192, 16]⟩
abbrev S8192x64 : Shape := ⟨2, ![8192, 64]⟩
abbrev S8192x128 : Shape := ⟨2, ![8192, 128]⟩
abbrev S8192x512 : Shape := ⟨2, ![8192, 512]⟩
abbrev S8192x1024 : Shape := ⟨2, ![8192, 1024]⟩
abbrev S1x512 : Shape := ⟨2, ![1, 512]⟩
abbrev S1x256 : Shape := ⟨2, ![1, 256]⟩
abbrev S4x4x128x256 : Shape := ⟨4, ![4, 4, 128, 256]⟩
abbrev S2048x128 : Shape := ⟨2, ![2048, 128]⟩
abbrev S2048x256 : Shape := ⟨2, ![2048, 256]⟩
abbrev S16x128 : Shape := ⟨2, ![16, 128]⟩
abbrev S1x128 : Shape := ⟨2, ![1, 128]⟩
abbrev S1x1x128x256 : Shape := ⟨4, ![1, 1, 128, 256]⟩
abbrev S64x256x128 : Shape := ⟨3, ![64, 256, 128]⟩
abbrev S2048x16 : Shape := ⟨2, ![2048, 16]⟩
abbrev S64x32x128 : Shape := ⟨3, ![64, 32, 128]⟩
abbrev S64x1x128 : Shape := ⟨3, ![64, 1, 128]⟩
abbrev S32x256 : Shape := ⟨2, ![32, 256]⟩
abbrev S32x128 : Shape := ⟨2, ![32, 128]⟩
abbrev S256x128 : Shape := ⟨2, ![256, 128]⟩
abbrev S1x256x128 : Shape := ⟨3, ![1, 256, 128]⟩
abbrev S128x256 : Shape := ⟨2, ![128, 256]⟩
abbrev S128x128 : Shape := ⟨2, ![128, 128]⟩
abbrev S128 : Shape := ⟨1, ![128]⟩
abbrev S128x1 : Shape := ⟨2, ![128, 1]⟩

abbrev nBuf : Space → Nat
  | .hbm => 24
  | .vmem => 25
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S4x2048x1024, .f32⟩
  | .hbm, ⟨3, _⟩ => ⟨S4x2048x1024, .f32⟩
  | .hbm, ⟨4, _⟩ => ⟨S4x2048x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S_, .f32⟩
  | .hbm, ⟨9, _⟩ => ⟨S8192x48, .f32⟩
  | .hbm, ⟨10, _⟩ => ⟨S8192x16, .f32⟩
  | .hbm, ⟨11, _⟩ => ⟨S_, .f32⟩
  | .hbm, ⟨12, _⟩ => ⟨S8192x64, .f32⟩
  | .hbm, ⟨13, _⟩ => ⟨S8192x128, .f32⟩
  | .hbm, ⟨14, _⟩ => ⟨S8192x512, .f32⟩
  | .hbm, ⟨15, _⟩ => ⟨S8192x512, .f32⟩
  | .hbm, ⟨16, _⟩ => ⟨S8192x1024, .f32⟩
  | .hbm, ⟨17, _⟩ => ⟨S8192x1024, .bf16⟩
  | .hbm, ⟨18, _⟩ => ⟨S8192x1024, .f32⟩
  | .hbm, ⟨19, _⟩ => ⟨S16x512, .bf16⟩
  | .hbm, ⟨20, _⟩ => ⟨S1x512, .f32⟩
  | .hbm, ⟨21, _⟩ => ⟨S1x256, .f32⟩
  | .hbm, ⟨22, _⟩ => ⟨S8192x1024, .bf16⟩
  | .hbm, ⟨23, _⟩ => ⟨S4x4x128x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x256, .bf16⟩
  | .local _ .vmem, ⟨5, _⟩ => ⟨S2048x256, .bf16⟩
  | .local _ .vmem, ⟨6, _⟩ => ⟨S2048x256, .f32⟩
  | .local _ .vmem, ⟨7, _⟩ => ⟨S2048x256, .f32⟩
  | .local _ .vmem, ⟨8, _⟩ => ⟨S2048x128, .f32⟩
  | .local _ .vmem, ⟨9, _⟩ => ⟨S2048x128, .f32⟩
  | .local _ .vmem, ⟨10, _⟩ => ⟨S16x128, .bf16⟩
  | .local _ .vmem, ⟨11, _⟩ => ⟨S16x128, .bf16⟩
  | .local _ .vmem, ⟨12, _⟩ => ⟨S1x128, .f32⟩
  | .local _ .vmem, ⟨13, _⟩ => ⟨S1x128, .f32⟩
  | .local _ .vmem, ⟨14, _⟩ => ⟨S1x256, .f32⟩
  | .local _ .vmem, ⟨15, _⟩ => ⟨S2048x256, .bf16⟩
  | .local _ .vmem, ⟨16, _⟩ => ⟨S2048x256, .bf16⟩
  | .local _ .vmem, ⟨17, _⟩ => ⟨S1x1x128x256, .f32⟩
  | .local _ .vmem, ⟨18, _⟩ => ⟨S1x1x128x256, .f32⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .f32⟩
  | .local _ .vmem, ⟨24, _⟩ => ⟨S64x256x128, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32_38 : BitVec 32 := 0#32
  let c64_i32 : BitVec 32 := 64#32
  let v123 : BitVec 32 := Scalar.addi c0_i32_38 c64_i32
  let c1_i32_39 : BitVec 32 := 1#32
  ⟨c0_i32_38, v123, c1_i32_39⟩
def k0_mult1 (k0_t1 : Fin k0_t1_loop.trips) : BitVec 32 :=
  let c0_i32_38 : BitVec 32 := 0#32
  let c1_i32_39 : BitVec 32 := 1#32
  let arg18 : BitVec 32 := Scf.iv c0_i32_38 c1_i32_39 k0_t1
  let c32_i32_710 : BitVec 32 := 32#32
  let v1418 : BitVec 32 := Scalar.muli arg18 c32_i32_710
  v1418
def k0_off1 (k0_t1 : Fin k0_t1_loop.trips) : Fin 2 → Nat :=
  let c0_i32_38 : BitVec 32 := 0#32
  let c1_i32_39 : BitVec 32 := 1#32
  let arg18 : BitVec 32 := Scf.iv c0_i32_38 c1_i32_39 k0_t1
  let c32_i32_710 : BitVec 32 := 32#32
  let v1418 : BitVec 32 := Scalar.muli arg18 c32_i32_710
  let v1419 : BitVec 32 := v1418
  let v1420 : Index := Scalar.indexCast v1419
  let c0_711 : Index := 0#32
  ![v1420.toNat, 0]
def k0_off2 (k0_t1 : Fin k0_t1_loop.trips) : Fin 2 → Nat :=
  let c0_i32_38 : BitVec 32 := 0#32
  let c1_i32_39 : BitVec 32 := 1#32
  let arg18 : BitVec 32 := Scf.iv c0_i32_38 c1_i32_39 k0_t1
  let c32_i32_710 : BitVec 32 := 32#32
  let v1418 : BitVec 32 := Scalar.muli arg18 c32_i32_710
  let v1419 : BitVec 32 := v1418
  let v1423 : Index := Scalar.indexCast v1419
  let c0_712 : Index := 0#32
  ![v1423.toNat, 0]
def k0_off3 (k0_t1 : Fin k0_t1_loop.trips) : Fin 3 → Nat :=
  let c0_i32_38 : BitVec 32 := 0#32
  let c1_i32_39 : BitVec 32 := 1#32
  let arg18 : BitVec 32 := Scf.iv c0_i32_38 c1_i32_39 k0_t1
  let v1426 : Index := Scalar.indexCast arg18
  let c0_714 : Index := 0#32
  let c0_715 : Index := 0#32
  ![v1426.toNat, 0, 0]
@[reducible] def k0_t2_loop : Scf.Loop 32 :=
  let c0_i32_42 : BitVec 32 := 0#32
  let c64_i32_43 : BitVec 32 := 64#32
  let v125 : BitVec 32 := Scalar.addi c0_i32_42 c64_i32_43
  let c1_i32_44 : BitVec 32 := 1#32
  ⟨c0_i32_42, v125, c1_i32_44⟩
def k0_mult2 (k0_t2 : Fin k0_t2_loop.trips) : BitVec 32 :=
  let c0_i32_42 : BitVec 32 := 0#32
  let c1_i32_44 : BitVec 32 := 1#32
  let arg18 : BitVec 32 := Scf.iv c0_i32_42 c1_i32_44 k0_t2
  let c32_i32_710 : BitVec 32 := 32#32
  let v1418 : BitVec 32 := Scalar.muli arg18 c32_i32_710
  v1418
def k0_off4 (k0_t2 : Fin k0_t2_loop.trips) : Fin 2 → Nat :=
  let c0_i32_42 : BitVec 32 := 0#32
  let c1_i32_44 : BitVec 32 := 1#32
  let arg18 : BitVec 32 := Scf.iv c0_i32_42 c1_i32_44 k0_t2
  let c32_i32_710 : BitVec 32 := 32#32
  let v1418 : BitVec 32 := Scalar.muli arg18 c32_i32_710
  let v1419 : BitVec 32 := v1418
  let v1420 : Index := Scalar.indexCast v1419
  let c0_711 : Index := 0#32
  ![v1420.toNat, 0]
def k0_off5 (k0_t2 : Fin k0_t2_loop.trips) : Fin 3 → Nat :=
  let c0_i32_42 : BitVec 32 := 0#32
  let c1_i32_44 : BitVec 32 := 1#32
  let arg18 : BitVec 32 := Scf.iv c0_i32_42 c1_i32_44 k0_t2
  let v1424 : Index := Scalar.indexCast arg18
  let c0_712 : Index := 0#32
  let c0_713 : Index := 0#32
  ![v1424.toNat, 0, 0]
def k0_mult3 : BitVec 32 :=
  let c0_i32_66 : BitVec 32 := 0#32
  let c128_i32 : BitVec 32 := 128#32
  let v186 : BitVec 32 := Scalar.muli c0_i32_66 c128_i32
  v186
def k0_off6 (c0_i32_66 : BitVec 32) : Fin 2 → Nat :=
  let c128_i32 : BitVec 32 := 128#32
  let v186 : BitVec 32 := Scalar.muli c0_i32_66 c128_i32
  let v187 : BitVec 32 := v186
  let v188 : Index := Scalar.indexCast v187
  let c0_67 : Index := 0#32
  ![v188.toNat, 0]
def k0_off7 (c0_i32_66 : BitVec 32) : Fin 2 → Nat :=
  let c128_i32 : BitVec 32 := 128#32
  let v186 : BitVec 32 := Scalar.muli c0_i32_66 c128_i32
  let v187 : BitVec 32 := v186
  let v196 : Index := Scalar.indexCast v187
  let c0_71 : Index := 0#32
  ![v196.toNat, 0]
def k0_off8 (c0_i32_66 : BitVec 32) (c0_i32_73 : BitVec 32) : Fin 2 → Nat :=
  let c128_i32 : BitVec 32 := 128#32
  let v186 : BitVec 32 := Scalar.muli c0_i32_66 c128_i32
  let v187 : BitVec 32 := v186
  let v200 : BitVec 32 := Scalar.addi v187 c0_i32_73
  let v201 : Index := Scalar.indexCast v200
  let c0_74 : Index := 0#32
  ![v201.toNat, 0]
def k0_off9 (c0_i32_66 : BitVec 32) (c0_i32_76 : BitVec 32) : Fin 3 → Nat :=
  let c4_i32_75 : BitVec 32 := 4#32
  let v203 : BitVec 32 := Scalar.muli c0_i32_66 c4_i32_75
  let v204 : BitVec 32 := Scalar.addi v203 c0_i32_76
  let v205 : Index := Scalar.indexCast v204
  let c0_77 : Index := 0#32
  let c0_78 : Index := 0#32
  ![v205.toNat, 0, 0]
def k0_mult4 : BitVec 32 :=
  let c1_i32_104 : BitVec 32 := 1#32
  let c128_i32_105 : BitVec 32 := 128#32
  let v263 : BitVec 32 := Scalar.muli c1_i32_104 c128_i32_105
  v263
def k0_mult5 : BitVec 32 :=
  let c2_i32_145 : BitVec 32 := 2#32
  let c128_i32_146 : BitVec 32 := 128#32
  let v340 : BitVec 32 := Scalar.muli c2_i32_145 c128_i32_146
  v340
def k0_mult6 : BitVec 32 :=
  let c3_i32_186 : BitVec 32 := 3#32
  let c128_i32_187 : BitVec 32 := 128#32
  let v417 : BitVec 32 := Scalar.muli c3_i32_186 c128_i32_187
  v417
def k0_mult7 : BitVec 32 :=
  let c4_i32_227 : BitVec 32 := 4#32
  let c128_i32_228 : BitVec 32 := 128#32
  let v494 : BitVec 32 := Scalar.muli c4_i32_227 c128_i32_228
  v494
def k0_mult8 : BitVec 32 :=
  let c5_i32 : BitVec 32 := 5#32
  let c128_i32_268 : BitVec 32 := 128#32
  let v571 : BitVec 32 := Scalar.muli c5_i32 c128_i32_268
  v571
def k0_mult9 : BitVec 32 :=
  let c6_i32 : BitVec 32 := 6#32
  let c128_i32_308 : BitVec 32 := 128#32
  let v648 : BitVec 32 := Scalar.muli c6_i32 c128_i32_308
  v648
def k0_mult10 : BitVec 32 :=
  let c7_i32 : BitVec 32 := 7#32
  let c128_i32_348 : BitVec 32 := 128#32
  let v725 : BitVec 32 := Scalar.muli c7_i32 c128_i32_348
  v725
def k0_mult11 : BitVec 32 :=
  let c8_i32_388 : BitVec 32 := 8#32
  let c128_i32_389 : BitVec 32 := 128#32
  let v802 : BitVec 32 := Scalar.muli c8_i32_388 c128_i32_389
  v802
def k0_mult12 : BitVec 32 :=
  let c9_i32 : BitVec 32 := 9#32
  let c128_i32_429 : BitVec 32 := 128#32
  let v879 : BitVec 32 := Scalar.muli c9_i32 c128_i32_429
  v879
def k0_mult13 : BitVec 32 :=
  let c10_i32 : BitVec 32 := 10#32
  let c128_i32_469 : BitVec 32 := 128#32
  let v956 : BitVec 32 := Scalar.muli c10_i32 c128_i32_469
  v956
def k0_mult14 : BitVec 32 :=
  let c11_i32 : BitVec 32 := 11#32
  let c128_i32_509 : BitVec 32 := 128#32
  let v1033 : BitVec 32 := Scalar.muli c11_i32 c128_i32_509
  v1033
def k0_mult15 : BitVec 32 :=
  let c12_i32 : BitVec 32 := 12#32
  let c128_i32_549 : BitVec 32 := 128#32
  let v1110 : BitVec 32 := Scalar.muli c12_i32 c128_i32_549
  v1110
def k0_mult16 : BitVec 32 :=
  let c13_i32 : BitVec 32 := 13#32
  let c128_i32_589 : BitVec 32 := 128#32
  let v1187 : BitVec 32 := Scalar.muli c13_i32 c128_i32_589
  v1187
def k0_mult17 : BitVec 32 :=
  let c14_i32 : BitVec 32 := 14#32
  let c128_i32_629 : BitVec 32 := 128#32
  let v1264 : BitVec 32 := Scalar.muli c14_i32 c128_i32_629
  v1264
def k0_mult18 : BitVec 32 :=
  let c15_i32 : BitVec 32 := 15#32
  let c128_i32_669 : BitVec 32 := 128#32
  let v1341 : BitVec 32 := Scalar.muli c15_i32 c128_i32_669
  v1341
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x2048x512 : Shape := ⟨3, ![4, 2048, 512]⟩
abbrev S4x2048x1024 : Shape := ⟨3, ![4, 2048, 1024]⟩
abbrev S4x2048x16 : Shape := ⟨3, ![4, 2048, 16]⟩
abbrev S16x512 : Shape := ⟨2, ![16, 512]⟩
abbrev S512 : Shape := ⟨1, ![512]⟩
abbrev S256 : Shape := ⟨1, ![256]⟩
abbrev S4x2048x4x128 : Shape := ⟨4, ![4, 2048, 4, 128]⟩
abbrev S_ : Shape := ⟨0, ![]⟩
abbrev S4x2048x4x256 : Shape := ⟨4, ![4, 2048, 4, 256]⟩
abbrev S1x1x512 : Shape := ⟨3, ![1, 1, 512]⟩
abbrev S4x4x128x256 : Shape := ⟨4, ![4, 4, 128, 256]⟩
abbrev S4x128x16x4x128 : Shape := ⟨5, ![4, 128, 16, 4, 128]⟩
abbrev S128x4x4x16x128 : Shape := ⟨5, ![128, 4, 4, 16, 128]⟩
abbrev S4x128x16x4x256 : Shape := ⟨5, ![4, 128, 16, 4, 256]⟩
abbrev S128x4x4x16x256 : Shape := ⟨5, ![128, 4, 4, 16, 256]⟩
abbrev S16x16 : Shape := ⟨2, ![16, 16]⟩
abbrev S1x4x4x16x128 : Shape := ⟨5, ![1, 4, 4, 16, 128]⟩
abbrev S4x4x16x128 : Shape := ⟨4, ![4, 4, 16, 128]⟩
abbrev S1x4x4x16x256 : Shape := ⟨5, ![1, 4, 4, 16, 256]⟩
abbrev S4x4x16x256 : Shape := ⟨4, ![4, 4, 16, 256]⟩
abbrev S4x4x1x128 : Shape := ⟨4, ![4, 4, 1, 128]⟩
abbrev S4x4x16x16 : Shape := ⟨4, ![4, 4, 16, 16]⟩
abbrev S4x4x128 : Shape := ⟨3, ![4, 4, 128]⟩
abbrev S4x4x128x1 : Shape := ⟨4, ![4, 4, 128, 1]⟩
abbrev S4x2048x4 : Shape := ⟨3, ![4, 2048, 4]⟩
abbrev S4x2048x4x1 : Shape := ⟨4, ![4, 2048, 4, 1]⟩
abbrev S1x1x1x256 : Shape := ⟨4, ![1, 1, 1, 256]⟩
abbrev S8192x1024 : Shape := ⟨2, ![8192, 1024]⟩

abbrev nBuf : Space → Nat
  | .hbm => 164
  | .vmem => 0
  | .smem => 0
  | _ => 0

abbrev hbmTy0_0 (i : Nat) : BufTy := match i % 128 with
  | 0 => ⟨S4x2048x512, .f32⟩
  | 1 => ⟨S4x2048x512, .f32⟩
  | 2 => ⟨S4x2048x1024, .f32⟩
  | 3 => ⟨S4x2048x1024, .f32⟩
  | 4 => ⟨S4x2048x16, .f32⟩
  | 5 => ⟨S16x512, .f32⟩
  | 6 => ⟨S512, .f32⟩
  | 7 => ⟨S256, .f32⟩
  | 8 => ⟨S4x2048x4x128, .f32⟩
  | 9 => ⟨S_, .f32⟩
  | 10 => ⟨S4x2048x4x128, .f32⟩
  | 11 => ⟨S4x2048x4x128, .f32⟩
  | 12 => ⟨S4x2048x4x128, .f32⟩
  | 13 => ⟨S4x2048x4x256, .f32⟩
  | 14 => ⟨S4x2048x512, .f32⟩
  | 15 => ⟨S1x1x512, .f32⟩
  | 16 => ⟨S4x2048x512, .f32⟩
  | 17 => ⟨S4x2048x512, .f32⟩
  | 18 => ⟨S4x2048x512, .f32⟩
  | 19 => ⟨S_, .f32⟩
  | 20 => ⟨S4x2048x512, .f32⟩
  | 21 => ⟨S4x2048x512, .f32⟩
  | 22 => ⟨S4x2048x512, .f32⟩
  | 23 => ⟨S4x2048x512, .f32⟩
  | 24 => ⟨S4x2048x512, .i1⟩
  | 25 => ⟨S4x2048x512, .f32⟩
  | 26 => ⟨S4x2048x512, .f32⟩
  | 27 => ⟨S4x2048x512, .f32⟩
  | 28 => ⟨S4x2048x512, .f32⟩
  | 29 => ⟨S4x2048x512, .f32⟩
  | 30 => ⟨S4x2048x512, .f32⟩
  | 31 => ⟨S4x2048x512, .f32⟩
  | 32 => ⟨S4x2048x512, .f32⟩
  | 33 => ⟨S4x2048x512, .f32⟩
  | 34 => ⟨S_, .f32⟩
  | 35 => ⟨S4x2048x512, .f32⟩
  | 36 => ⟨S4x2048x512, .f32⟩
  | 37 => ⟨S4x2048x4x128, .f32⟩
  | 38 => ⟨S_, .f32⟩
  | 39 => ⟨S4x4x128x256, .f32⟩
  | 40 => ⟨S4x128x16x4x128, .f32⟩
  | 41 => ⟨S128x4x4x16x128, .f32⟩
  | 42 => ⟨S4x128x16x4x128, .f32⟩
  | 43 => ⟨S128x4x4x16x128, .f32⟩
  | 44 => ⟨S4x128x16x4x256, .f32⟩
  | 45 => ⟨S128x4x4x16x256, .f32⟩
  | 46 => ⟨S4x128x16x4x128, .f32⟩
  | 47 => ⟨S128x4x4x16x128, .f32⟩
  | 48 => ⟨S_, .i1⟩
  | 49 => ⟨S16x16, .i1⟩
  | 50 => ⟨S16x16, .i32⟩
  | 51 => ⟨S_, .i32⟩
  | 52 => ⟨S16x16, .i32⟩
  | 53 => ⟨S16x16, .i32⟩
  | 54 => ⟨S16x16, .i32⟩
  | 55 => ⟨S16x16, .i1⟩
  | 56 => ⟨S_, .i1⟩
  | 57 => ⟨S16x16, .i1⟩
  | 58 => ⟨S16x16, .i1⟩
  | 59 => ⟨S_, .f32⟩
  | 60 => ⟨S128x4x4x16x256, .f32⟩
  | 61 => ⟨S_, .i32⟩
  | 62 => ⟨S128x4x4x16x128, .f32⟩
  | 63 => ⟨S128x4x4x16x128, .f32⟩
  | 64 => ⟨S128x4x4x16x256, .f32⟩
  | 65 => ⟨S128x4x4x16x128, .f32⟩
  | 66 => ⟨S16x16, .i1⟩
  | 67 => ⟨S_, .i32⟩
  | 68 => ⟨S4x4x128x256, .f32⟩
  | 69 => ⟨S128x4x4x16x256, .f32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S1x4x4x16x128, .f32⟩
  | 77 => ⟨S4x4x16x128, .f32⟩
  | 78 => ⟨S_, .i32⟩
  | 79 => ⟨S_, .i32⟩
  | 80 => ⟨S_, .i32⟩
  | 81 => ⟨S_, .i32⟩
  | 82 => ⟨S1x4x4x16x128, .f32⟩
  | 83 => ⟨S4x4x16x128, .f32⟩
  | 84 => ⟨S_, .i32⟩
  | 85 => ⟨S_, .i32⟩
  | 86 => ⟨S_, .i32⟩
  | 87 => ⟨S_, .i32⟩
  | 88 => ⟨S1x4x4x16x256, .f32⟩
  | 89 => ⟨S4x4x16x256, .f32⟩
  | 90 => ⟨S_, .i32⟩
  | 91 => ⟨S_, .i32⟩
  | 92 => ⟨S_, .i32⟩
  | 93 => ⟨S_, .i32⟩
  | 94 => ⟨S1x4x4x16x128, .f32⟩
  | 95 => ⟨S4x4x16x128, .f32⟩
  | 96 => ⟨S_, .f32⟩
  | 97 => ⟨S_, .f32⟩
  | 98 => ⟨S4x4x16x128, .f32⟩
  | 99 => ⟨S4x4x1x128, .f32⟩
  | 100 => ⟨S4x4x16x128, .f32⟩
  | 101 => ⟨S4x4x16x128, .f32⟩
  | 102 => ⟨S4x4x16x128, .f32⟩
  | 103 => ⟨S4x4x16x128, .f32⟩
  | 104 => ⟨S4x4x16x128, .f32⟩
  | 105 => ⟨S4x4x16x16, .f32⟩
  | 106 => ⟨S_, .f32⟩
  | 107 => ⟨S_, .f32⟩
  | 108 => ⟨S4x4x16x16, .i1⟩
  | 109 => ⟨S4x4x16x16, .f32⟩
  | 110 => ⟨S4x4x16x16, .f32⟩
  | 111 => ⟨S4x4x16x256, .f32⟩
  | 112 => ⟨S4x4x16x256, .f32⟩
  | 113 => ⟨S4x4x16x256, .f32⟩
  | 114 => ⟨S4x4x1x128, .f32⟩
  | 115 => ⟨S4x4x128, .f32⟩
  | 116 => ⟨S4x4x128x1, .f32⟩
  | 117 => ⟨S4x4x128x256, .f32⟩
  | 118 => ⟨S4x4x128x256, .f32⟩
  | 119 => ⟨S4x4x16x128, .f32⟩
  | 120 => ⟨S4x4x16x128, .f32⟩
  | 121 => ⟨S4x4x16x128, .f32⟩
  | 122 => ⟨S4x4x16x128, .f32⟩
  | 123 => ⟨S4x4x128x256, .f32⟩
  | 124 => ⟨S4x4x128x256, .f32⟩
  | 125 => ⟨S1x4x4x16x256, .f32⟩
  | 126 => ⟨S_, .i32⟩
  | 127 => ⟨S_, .i32⟩
  | _ => ⟨S4x2048x512, .f32⟩

abbrev hbmTy0_1 (i : Nat) : BufTy := match i % 128 with
  | 0 => ⟨S_, .i32⟩
  | 1 => ⟨S_, .i32⟩
  | 2 => ⟨S128x4x4x16x256, .f32⟩
  | 3 => ⟨S_, .i32⟩
  | 4 => ⟨S_, .i32⟩
  | 5 => ⟨S4x128x16x4x256, .f32⟩
  | 6 => ⟨S4x2048x4x256, .f32⟩
  | 7 => ⟨S4x2048x4x256, .f32⟩
  | 8 => ⟨S_, .f32⟩
  | 9 => ⟨S4x2048x4, .f32⟩
  | 10 => ⟨S4x2048x4x1, .f32⟩
  | 11 => ⟨S_, .f32⟩
  | 12 => ⟨S4x2048x4x1, .f32⟩
  | 13 => ⟨S4x2048x4x1, .f32⟩
  | 14 => ⟨S_, .f32⟩
  | 15 => ⟨S4x2048x4x1, .f32⟩
  | 16 => ⟨S4x2048x4x1, .f32⟩
  | 17 => ⟨S4x2048x4x1, .f32⟩
  | 18 => ⟨S4x2048x4x256, .f32⟩
  | 19 => ⟨S4x2048x4x256, .f32⟩
  | 20 => ⟨S1x1x1x256, .f32⟩
  | 21 => ⟨S4x2048x4x256, .f32⟩
  | 22 => ⟨S4x2048x4x256, .f32⟩
  | 23 => ⟨S4x2048x4x256, .f32⟩
  | 24 => ⟨S4x2048x4x256, .f32⟩
  | 25 => ⟨S4x2048x4x256, .f32⟩
  | 26 => ⟨S_, .f32⟩
  | 27 => ⟨S4x2048x4x256, .f32⟩
  | 28 => ⟨S4x2048x4x256, .f32⟩
  | 29 => ⟨S_, .f32⟩
  | 30 => ⟨S4x2048x4x256, .f32⟩
  | 31 => ⟨S4x2048x4x256, .f32⟩
  | 32 => ⟨S4x2048x4x256, .f32⟩
  | 33 => ⟨S4x2048x4x256, .f32⟩
  | 34 => ⟨S8192x1024, .f32⟩
  | 35 => ⟨S8192x1024, .bf16⟩
  | _ => ⟨S4x2048x512, .f32⟩

abbrev hbmTy (i : Nat) : BufTy := match i / 128 with
  | 0 => hbmTy0_0 i
  | 1 => hbmTy0_1 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c : Ref sig .tc := ⟨.hbm, 48, rfl⟩
abbrev main_v22 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_c_0 : Ref sig .tc := ⟨.hbm, 56, rfl⟩
abbrev main_call1_v5 : Ref sig .tc := ⟨.hbm, 57, rfl⟩
abbrev main_v23 : Ref sig .tc := ⟨.hbm, 58, rfl⟩
abbrev main_cst_2 : Ref sig .tc := ⟨.hbm, 59, rfl⟩
abbrev main_v24 : Ref sig .tc := ⟨.hbm, 60, rfl⟩
abbrev main_c_3 : Ref sig .tc := ⟨.hbm, 61, rfl⟩
abbrev main_v25_0 : Ref sig .tc := ⟨.hbm, 62, rfl⟩
abbrev main_v25_1 : Ref sig .tc := ⟨.hbm, 63, rfl⟩
abbrev main_v25_2 : Ref sig .tc := ⟨.hbm, 64, rfl⟩
abbrev main_v25_3 : Ref sig .tc := ⟨.hbm, 65, rfl⟩
abbrev main_v25_4 : Ref sig .tc := ⟨.hbm, 66, rfl⟩
abbrev main_v25_5 : Ref sig .tc := ⟨.hbm, 67, rfl⟩
abbrev main_v25_6 : Ref sig .tc := ⟨.hbm, 68, rfl⟩
abbrev main_v25_7 : Ref sig .tc := ⟨.hbm, 69, rfl⟩
abbrev main_while0c_c_14 : Ref sig .tc := ⟨.hbm, 70, rfl⟩
abbrev main_while0c_v46 : Ref sig .tc := ⟨.hbm, 71, rfl⟩
abbrev main_while0b_call2_c : Ref sig .tc := ⟨.hbm, 72, rfl⟩
abbrev main_while0b_call2_c_0 : Ref sig .tc := ⟨.hbm, 73, rfl⟩
abbrev main_while0b_call2_c_1 : Ref sig .tc := ⟨.hbm, 74, rfl⟩
abbrev main_while0b_call2_c_2 : Ref sig .tc := ⟨.hbm, 75, rfl⟩
abbrev main_while0b_call2_v0 : Ref sig .tc := ⟨.hbm, 76, rfl⟩
abbrev main_while0b_v46 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_c_2 : Ref sig .tc := ⟨.hbm, 81, rfl⟩
abbrev main_while0b_call3_v0 : Ref sig .tc := ⟨.hbm, 82, rfl⟩
abbrev main_while0b_v47 : Ref sig .tc := ⟨.hbm, 83, rfl⟩
abbrev main_while0b_call4_c : Ref sig .tc := ⟨.hbm, 84, rfl⟩
abbrev main_while0b_call4_c_0 : Ref sig .tc := ⟨.hbm, 85, rfl⟩
abbrev main_while0b_call4_c_1 : Ref sig .tc := ⟨.hbm, 86, rfl⟩
abbrev main_while0b_call4_c_2 : Ref sig .tc := ⟨.hbm, 87, rfl⟩
abbrev main_while0b_call4_v0 : Ref sig .tc := ⟨.hbm, 88, rfl⟩
abbrev main_while0b_v48 : Ref sig .tc := ⟨.hbm, 89, rfl⟩
abbrev main_while0b_call5_c : Ref sig .tc := ⟨.hbm, 90, rfl⟩
abbrev main_while0b_call5_c_0 : Ref sig .tc := ⟨.hbm, 91, rfl⟩
abbrev main_while0b_call5_c_1 : Ref sig .tc := ⟨.hbm, 92, rfl⟩
abbrev main_while0b_call5_c_2 : Ref sig .tc := ⟨.hbm, 93, rfl⟩
abbrev main_while0b_call5_v0 : Ref sig .tc := ⟨.hbm, 94, rfl⟩
abbrev main_while0b_v49 : Ref sig .tc := ⟨.hbm, 95, rfl⟩
abbrev main_while0b_call6_call0_cst : Ref sig .tc := ⟨.hbm, 96, rfl⟩
abbrev main_while0b_call6_call0_v0 : Ref sig .tc := ⟨.hbm, 97, rfl⟩
abbrev main_while0b_v50 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_v55 : Ref sig .tc := ⟨.hbm, 103, rfl⟩
abbrev main_while0b_v56 : Ref sig .tc := ⟨.hbm, 104, rfl⟩
abbrev main_while0b_v57 : Ref sig .tc := ⟨.hbm, 105, rfl⟩
abbrev main_while0b_cst_14 : Ref sig .tc := ⟨.hbm, 106, rfl⟩
abbrev main_while0b_call7_v0 : Ref sig .tc := ⟨.hbm, 107, rfl⟩
abbrev main_while0b_call7_v1 : Ref sig .tc := ⟨.hbm, 108, rfl⟩
abbrev main_while0b_call7_v2 : Ref sig .tc := ⟨.hbm, 109, rfl⟩
abbrev main_while0b_v58 : Ref sig .tc := ⟨.hbm, 110, rfl⟩
abbrev main_while0b_v59 : Ref sig .tc := ⟨.hbm, 111, rfl⟩
abbrev main_while0b_v60 : Ref sig .tc := ⟨.hbm, 112, rfl⟩
abbrev main_while0b_v61 : Ref sig .tc := ⟨.hbm, 113, rfl⟩
abbrev main_while0b_v62 : Ref sig .tc := ⟨.hbm, 114, rfl⟩
abbrev main_while0b_v63 : Ref sig .tc := ⟨.hbm, 115, rfl⟩
abbrev main_while0b_v64 : Ref sig .tc := ⟨.hbm, 116, rfl⟩
abbrev main_while0b_v65 : Ref sig .tc := ⟨.hbm, 117, rfl⟩
abbrev main_while0b_v66 : Ref sig .tc := ⟨.hbm, 118, rfl⟩
abbrev main_while0b_v67 : Ref sig .tc := ⟨.hbm, 119, rfl⟩
abbrev main_while0b_v68 : Ref sig .tc := ⟨.hbm, 120, rfl⟩
abbrev main_while0b_v69 : Ref sig .tc := ⟨.hbm, 121, rfl⟩
abbrev main_while0b_v70 : Ref sig .tc := ⟨.hbm, 122, rfl⟩
abbrev main_while0b_v71 : Ref sig .tc := ⟨.hbm, 123, rfl⟩
abbrev main_while0b_v72 : Ref sig .tc := ⟨.hbm, 124, rfl⟩
abbrev main_while0b_call8_v0 : Ref sig .tc := ⟨.hbm, 125, rfl⟩
abbrev main_while0b_call8_c : Ref sig .tc := ⟨.hbm, 126, rfl⟩
abbrev main_while0b_call8_c_0 : Ref sig .tc := ⟨.hbm, 127, rfl⟩
abbrev main_while0b_call8_c_1 : Ref sig .tc := ⟨.hbm, 128, rfl⟩
abbrev main_while0b_call8_c_2 : Ref sig .tc := ⟨.hbm, 129, rfl⟩
abbrev main_while0b_v73 : Ref sig .tc := ⟨.hbm, 130, rfl⟩
abbrev main_while0b_c_15 : Ref sig .tc := ⟨.hbm, 131, rfl⟩
abbrev main_while0b_v74 : Ref sig .tc := ⟨.hbm, 132, rfl⟩
abbrev main_v26 : Ref sig .tc := ⟨.hbm, 133, rfl⟩
abbrev main_v27 : Ref sig .tc := ⟨.hbm, 134, rfl⟩
abbrev main_v28 : Ref sig .tc := ⟨.hbm, 135, rfl⟩
abbrev main_cst_4 : Ref sig .tc := ⟨.hbm, 136, rfl⟩
abbrev main_v29 : Ref sig .tc := ⟨.hbm, 137, rfl⟩
abbrev main_v30 : Ref sig .tc := ⟨.hbm, 138, rfl⟩
abbrev main_cst_5 : Ref sig .tc := ⟨.hbm, 139, rfl⟩
abbrev main_v31 : Ref sig .tc := ⟨.hbm, 140, rfl⟩
abbrev main_v32 : Ref sig .tc := ⟨.hbm, 141, rfl⟩
abbrev main_cst_6 : Ref sig .tc := ⟨.hbm, 142, rfl⟩
abbrev main_v33 : Ref sig .tc := ⟨.hbm, 143, rfl⟩
abbrev main_v34 : Ref sig .tc := ⟨.hbm, 144, rfl⟩
abbrev main_v35 : Ref sig .tc := ⟨.hbm, 145, rfl⟩
abbrev main_v36 : Ref sig .tc := ⟨.hbm, 146, rfl⟩
abbrev main_v37 : Ref sig .tc := ⟨.hbm, 147, rfl⟩
abbrev main_v38 : Ref sig .tc := ⟨.hbm, 148, rfl⟩
abbrev main_v39 : Ref sig .tc := ⟨.hbm, 149, rfl⟩
abbrev main_v40 : Ref sig .tc := ⟨.hbm, 150, rfl⟩
abbrev main_v41 : Ref sig .tc := ⟨.hbm, 151, rfl⟩
abbrev main_call9_v0 : Ref sig .tc := ⟨.hbm, 152, rfl⟩
abbrev main_call9_v1 : Ref sig .tc := ⟨.hbm, 153, rfl⟩
abbrev main_call9_cst : Ref sig .tc := ⟨.hbm, 154, rfl⟩
abbrev main_call9_v2 : Ref sig .tc := ⟨.hbm, 155, rfl⟩
abbrev main_call9_v3 : Ref sig .tc := ⟨.hbm, 156, rfl⟩
abbrev main_call9_cst_0 : Ref sig .tc := ⟨.hbm, 157, rfl⟩
abbrev main_call9_v4 : Ref sig .tc := ⟨.hbm, 158, rfl⟩
abbrev main_call9_v5 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩

abbrev nD : Nat := 1
abbrev τ : Topo := Topo.v7x

variable {F : FTy → Type} [FloatOps F]

abbrev main_while0_count : Scf.Loop 32 := ⟨0#32, 128#32, 1#32⟩
-- ==== Mlp.lean ====
abbrev S8192x2048 : Shape := ⟨2, ![8192, 2048]⟩
abbrev S16x2048 : Shape := ⟨2, ![16, 2048]⟩
abbrev S2048 : Shape := ⟨1, ![2048]⟩
abbrev S2048x8192 : Shape := ⟨2, ![2048, 8192]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1040x2048 : Shape := ⟨2, ![1040, 2048]⟩
abbrev S1024 : Shape := ⟨1, ![1024]⟩
abbrev S1024x1 : Shape := ⟨2, ![1024, 1]⟩
abbrev S16 : Shape := ⟨1, ![16]⟩
abbrev S16x1 : Shape := ⟨2, ![16, 1]⟩
abbrev S1040x512 : Shape := ⟨2, ![1040, 512]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S16x2048, .f32⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S1x2048, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .f32⟩
  | .local _ .vmem, ⟨11, _⟩ => ⟨S16x2048, .f32⟩
  | .local _ .vmem, ⟨12, _⟩ => ⟨S1040x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c0_i32_15 : BitVec 32 := 0#32
  let v24 : BitVec 1 := Scalar.cmpi .eq arg0 c0_i32_15
  let v25 : BitVec 32 := Scalar.extui v24
  let c0_i32_16 : BitVec 32 := 0#32
  let v26 : BitVec 1 := Scalar.cmpi .ne v25 c0_i32_16
  v26

def k0_cond5 (i : grid0.Coords) : BitVec 1 :=
  let arg1 : BitVec 32 := BitVec.ofNat 32 (i 1).val
  let c15_i32_18 : BitVec 32 := 15#32
  let v30 : BitVec 1 := Scalar.cmpi .eq arg1 c15_i32_18
  let arg0 : BitVec 32 := BitVec.ofNat 32 (i 0).val
  let c0_i32_19 : BitVec 32 := 0#32
  let v31 : BitVec 1 := Scalar.cmpi .eq arg0 c0_i32_19
  let v32 : BitVec 1 := Scalar.andi v30 v31
  let v33 : BitVec 32 := Scalar.extui v32
  let c0_i32_20 : BitVec 32 := 0#32
  let v34 : BitVec 1 := Scalar.cmpi .ne v33 c0_i32_20
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S16x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S16x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== MlpReferenceIdeal.lean ====
abbrev S8192x2048 : Shape := ⟨2, ![8192, 2048]⟩
abbrev S16x2048 : Shape := ⟨2, ![16, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩
abbrev S16 : Shape := ⟨1, ![16]⟩
abbrev S16x1 : Shape := ⟨2, ![16, 1]⟩
abbrev S16x8192 : Shape := ⟨2, ![16, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S16x2048, .f32⟩
  | .hbm, ⟨2, _⟩ => ⟨S2048, .f32⟩
  | .hbm, ⟨3, _⟩ => ⟨S2048x8192, .f32⟩
  | .hbm, ⟨4, _⟩ => ⟨S8192x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S16x2048, .f32⟩
  | .hbm, ⟨46, _⟩ => ⟨S_, .f32⟩
  | .hbm, ⟨47, _⟩ => ⟨S16, .f32⟩
  | .hbm, ⟨48, _⟩ => ⟨S16x1, .f32⟩
  | .hbm, ⟨49, _⟩ => ⟨S_, .f32⟩
  | .hbm, ⟨50, _⟩ => ⟨S16x1, .f32⟩
  | .hbm, ⟨51, _⟩ => ⟨S16x1, .f32⟩
  | .hbm, ⟨52, _⟩ => ⟨S_, .f32⟩
  | .hbm, ⟨53, _⟩ => ⟨S16x1, .f32⟩
  | .hbm, ⟨54, _⟩ => ⟨S16x1, .f32⟩
  | .hbm, ⟨55, _⟩ => ⟨S16x1, .f32⟩
  | .hbm, ⟨56, _⟩ => ⟨S16x2048, .f32⟩
  | .hbm, ⟨57, _⟩ => ⟨S16x2048, .f32⟩
  | .hbm, ⟨58, _⟩ => ⟨S1x2048, .f32⟩
  | .hbm, ⟨59, _⟩ => ⟨S16x2048, .f32⟩
  | .hbm, ⟨60, _⟩ => ⟨S16x2048, .f32⟩
  | .hbm, ⟨61, _⟩ => ⟨S16x8192, .f32⟩
  | .hbm, ⟨62, _⟩ => ⟨S_, .f32⟩
  | .hbm, ⟨63, _⟩ => ⟨S16x8192, .f32⟩
  | .hbm, ⟨64, _⟩ => ⟨S16x8192, .f32⟩
  | .hbm, ⟨65, _⟩ => ⟨S16x8192, .f32⟩
  | .hbm, ⟨66, _⟩ => ⟨S16x2048, .f32⟩
  | .hbm, ⟨67, _⟩ => ⟨S16x2048, .f32⟩
  | .hbm, ⟨68, _⟩ => ⟨S16x2048, .f32⟩
  | .hbm, ⟨69, _⟩ => ⟨S_, .f32⟩
  | .hbm, ⟨70, _⟩ => ⟨S16, .f32⟩
  | .hbm, ⟨71, _⟩ => ⟨S16x1, .f32⟩
  | .hbm, ⟨72, _⟩ => ⟨S_, .f32⟩
  | .hbm, ⟨73, _⟩ => ⟨S16x1, .f32⟩
  | .hbm, ⟨74, _⟩ => ⟨S16x1, .f32⟩
  | .hbm, ⟨75, _⟩ => ⟨S_, .f32⟩
  | .hbm, ⟨76, _⟩ => ⟨S16x1, .f32⟩
  | .hbm, ⟨77, _⟩ => ⟨S16x1, .f32⟩
  | .hbm, ⟨78, _⟩ => ⟨S16x1, .f32⟩
  | .hbm, ⟨79, _⟩ => ⟨S16x2048, .f32⟩
  | .hbm, ⟨80, _⟩ => ⟨S16x2048, .f32⟩
  | .hbm, ⟨81, _⟩ => ⟨S1x2048, .f32⟩
  | .hbm, ⟨82, _⟩ => ⟨S16x2048, .f32⟩
  | .hbm, ⟨83, _⟩ => ⟨S16x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S16x1024 : Shape := ⟨2, ![16, 1024]⟩
abbrev S16x2048 : Shape := ⟨2, ![16, 2048]⟩
abbrev S2048 : Shape := ⟨1, ![2048]⟩
abbrev S2048x9792 : Shape := ⟨2, ![2048, 9792]⟩
abbrev S1024x2048 : Shape := ⟨2, ![1024, 2048]⟩
abbrev S2048x2048 : Shape := ⟨2, ![2048, 2048]⟩
abbrev S9792x2048 : Shape := ⟨2, ![9792, 2048]⟩
abbrev S1x2048 : Shape := ⟨2, ![1, 2048]⟩
abbrev S256x1024 : Shape := ⟨2, ![256, 1024]⟩
abbrev S256x2048 : Shape := ⟨2, ![256, 2048]⟩
abbrev S4096x2048 : Shape := ⟨2, ![4096, 2048]⟩
abbrev S256 : Shape := ⟨1, ![256]⟩
abbrev S256x1 : Shape := ⟨2, ![256, 1]⟩
abbrev S16 : Shape := ⟨1, ![16]⟩
abbrev S16x1 : Shape := ⟨2, ![16, 1]⟩

abbrev nBuf : Space → Nat
  | .hbm => 23
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S16x1024, .f32⟩
  | .hbm, ⟨4, _⟩ => ⟨S16x1024, .f32⟩
  | .hbm, ⟨5, _⟩ => ⟨S16x2048, .f32⟩
  | .hbm, ⟨6, _⟩ => ⟨S2048, .f32⟩
  | .hbm, ⟨7, _⟩ => ⟨S2048x9792, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S9792x2048, .f32⟩
  | .hbm, ⟨12, _⟩ => ⟨S9792x2048, .bf16⟩
  | .hbm, ⟨13, _⟩ => ⟨S8192x1024, .bf16⟩
  | .hbm, ⟨14, _⟩ => ⟨S8192x1024, .bf16⟩
  | .hbm, ⟨15, _⟩ => ⟨S16x1024, .bf16⟩
  | .hbm, ⟨16, _⟩ => ⟨S16x1024, .bf16⟩
  | .hbm, ⟨17, _⟩ => ⟨S1x2048, .f32⟩
  | .hbm, ⟨18, _⟩ => ⟨S1024x2048, .bf16⟩
  | .hbm, ⟨19, _⟩ => ⟨S1024x2048, .bf16⟩
  | .hbm, ⟨20, _⟩ => ⟨S2048x2048, .bf16⟩
  | .hbm, ⟨21, _⟩ => ⟨S8192x2048, .f32⟩
  | .hbm, ⟨22, _⟩ => ⟨S16x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .f32⟩
  | .local _ .vmem, ⟨5, _⟩ => ⟨S256x2048, .f32⟩
  | .local _ .vmem, ⟨6, _⟩ => ⟨S16x1024, .bf16⟩
  | .local _ .vmem, ⟨7, _⟩ => ⟨S16x1024, .bf16⟩
  | .local _ .vmem, ⟨8, _⟩ => ⟨S16x2048, .f32⟩
  | .local _ .vmem, ⟨9, _⟩ => ⟨S1x2048, .f32⟩
  | .local _ .vmem, ⟨10, _⟩ => ⟨S4096x2048, .bf16⟩
  | .local _ .vmem, ⟨11, _⟩ => ⟨S1024x2048, .bf16⟩
  | .local _ .vmem, ⟨12, _⟩ => ⟨S1024x2048, .bf16⟩
  | .local _ .vmem, ⟨13, _⟩ => ⟨S2048x2048, .bf16⟩
  | .local _ .vmem, ⟨14, _⟩ => ⟨S256x2048, .f32⟩
  | .local _ .vmem, ⟨15, _⟩ => ⟨S256x2048, .f32⟩
  | .local _ .vmem, ⟨16, _⟩ => ⟨S16x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v43 : BitVec 1 := Scalar.cmpi .eq arg0 c0_i32
  let v44 : BitVec 32 := Scalar.extui v43
  let c0_i32_25 : BitVec 32 := 0#32
  let v45 : BitVec 1 := Scalar.cmpi .ne v44 c0_i32_25
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c5696_i32 : BitVec 32 := 5696#32
  let c0_i32 : BitVec 32 := 0#32
  let c0_i32_0 : BitVec 32 := 0#32
  ![c5696_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4096x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S16x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MergeReferenceIdeal.lean ====
abbrev S8192x1024 : Shape := ⟨2, ![8192, 1024]⟩
abbrev S8192x2048 : Shape := ⟨2, ![8192, 2048]⟩
abbrev S16x1024 : Shape := ⟨2, ![16, 1024]⟩
abbrev S16x2048 : Shape := ⟨2, ![16, 2048]⟩
abbrev S2048 : Shape := ⟨1, ![2048]⟩
abbrev S2048x9792 : Shape := ⟨2, ![2048, 9792]⟩
abbrev S1024x2048 : Shape := ⟨2, ![1024, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x4096 : Shape := ⟨2, ![2048, 4096]⟩
abbrev S8192x4096 : Shape := ⟨2, ![8192, 4096]⟩
abbrev S16 : Shape := ⟨1, ![16]⟩
abbrev S16x1 : Shape := ⟨2, ![16, 1]⟩
abbrev S16x4096 : Shape := ⟨2, ![16, 4096]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S16x1024, .f32⟩
  | .hbm, ⟨4, _⟩ => ⟨S16x1024, .f32⟩
  | .hbm, ⟨5, _⟩ => ⟨S16x2048, .f32⟩
  | .hbm, ⟨6, _⟩ => ⟨S2048, .f32⟩
  | .hbm, ⟨7, _⟩ => ⟨S2048x9792, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S2048x4096, .f32⟩
  | .hbm, ⟨28, _⟩ => ⟨S8192x4096, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S16x2048, .f32⟩
  | .hbm, ⟨55, _⟩ => ⟨S_, .f32⟩
  | .hbm, ⟨56, _⟩ => ⟨S16, .f32⟩
  | .hbm, ⟨57, _⟩ => ⟨S16x1, .f32⟩
  | .hbm, ⟨58, _⟩ => ⟨S_, .f32⟩
  | .hbm, ⟨59, _⟩ => ⟨S16x1, .f32⟩
  | .hbm, ⟨60, _⟩ => ⟨S16x1, .f32⟩
  | .hbm, ⟨61, _⟩ => ⟨S_, .f32⟩
  | .hbm, ⟨62, _⟩ => ⟨S16x1, .f32⟩
  | .hbm, ⟨63, _⟩ => ⟨S16x1, .f32⟩
  | .hbm, ⟨64, _⟩ => ⟨S16x1, .f32⟩
  | .hbm, ⟨65, _⟩ => ⟨S16x2048, .f32⟩
  | .hbm, ⟨66, _⟩ => ⟨S16x2048, .f32⟩
  | .hbm, ⟨67, _⟩ => ⟨S1x2048, .f32⟩
  | .hbm, ⟨68, _⟩ => ⟨S16x2048, .f32⟩
  | .hbm, ⟨69, _⟩ => ⟨S16x2048, .f32⟩
  | .hbm, ⟨70, _⟩ => ⟨S2048x4096, .f32⟩
  | .hbm, ⟨71, _⟩ => ⟨S16x4096, .f32⟩
  | .hbm, ⟨72, _⟩ => ⟨S16x2048, .f32⟩
  | .hbm, ⟨73, _⟩ => ⟨S16x2048, .f32⟩
  | .hbm, ⟨74, _⟩ => ⟨S16x2048, .f32⟩
  | .hbm, ⟨75, _⟩ => ⟨S16x2048, .f32⟩
  | .hbm, ⟨76, _⟩ => ⟨S_, .f32⟩
  | .hbm, ⟨77, _⟩ => ⟨S16x2048, .f32⟩
  | .hbm, ⟨78, _⟩ => ⟨S16x2048, .f32⟩
  | .hbm, ⟨79, _⟩ => ⟨S_, .f32⟩
  | .hbm, ⟨80, _⟩ => ⟨S16x2048, .f32⟩
  | .hbm, ⟨81, _⟩ => ⟨S16x2048, .f32⟩
  | .hbm, ⟨82, _⟩ => ⟨S16x2048, .f32⟩
  | .hbm, ⟨83, _⟩ => ⟨S16x2048, .f32⟩
  | .hbm, ⟨84, _⟩ => ⟨S16x2048, .f32⟩
  | .hbm, ⟨85, _⟩ => ⟨S16x2048, .f32⟩
  | .hbm, ⟨86, _⟩ => ⟨S_, .f32⟩
  | .hbm, ⟨87, _⟩ => ⟨S16x2048, .f32⟩
  | .hbm, ⟨88, _⟩ => ⟨S16x2048, .f32⟩
  | .hbm, ⟨89, _⟩ => ⟨S_, .f32⟩
  | .hbm, ⟨90, _⟩ => ⟨S16x2048, .f32⟩
  | .hbm, ⟨91, _⟩ => ⟨S16x2048, .f32⟩
  | .hbm, ⟨92, _⟩ => ⟨S16x2048, .f32⟩
  | .hbm, ⟨93, _⟩ => ⟨S16x2048, .f32⟩
  | .hbm, ⟨94, _⟩ => ⟨S16x2048, .f32⟩
  | .hbm, ⟨95, _⟩ => ⟨S16x2048, .f32⟩
  | .hbm, ⟨96, _⟩ => ⟨S16x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩

abbrev nD : Nat := 1
abbrev τ : Topo := Topo.v7x

variable {F : FTy → Type} [FloatOps F]
-- ==== Rows.lean ====
abbrev S4x2048x2048 : Shape := ⟨3, ![4, 2048, 2048]⟩
abbrev S2048 : Shape := ⟨1, ![2048]⟩
abbrev S2048x9792 : Shape := ⟨2, ![2048, 9792]⟩
abbrev S48 : Shape := ⟨1, ![48]⟩
abbrev S9792x2048 : Shape := ⟨2, ![9792, 2048]⟩
abbrev S_ : Shape := ⟨0, ![]⟩
abbrev S64x2048 : Shape := ⟨2, ![64, 2048]⟩
abbrev S48x1 : Shape := ⟨2, ![48, 1]⟩
abbrev S48x2048 : Shape := ⟨2, ![48, 2048]⟩
abbrev S16x2048 : Shape := ⟨2, ![16, 2048]⟩
abbrev S128x2048 : Shape := ⟨2, ![128, 2048]⟩
abbrev S1x2048 : Shape := ⟨2, ![1, 2048]⟩
abbrev S8192x2048 : Shape := ⟨2, ![8192, 2048]⟩
abbrev S1x128 : Shape := ⟨2, ![1, 128]⟩
abbrev S16x64x8192 : Shape := ⟨3, ![16, 64, 8192]⟩
abbrev S4x256x2048 : Shape := ⟨3, ![4, 256, 2048]⟩
abbrev S4x8192x64 : Shape := ⟨3, ![4, 8192, 64]⟩
abbrev S4x80x8192 : Shape := ⟨3, ![4, 80, 8192]⟩
abbrev S512x2048 : Shape := ⟨2, ![512, 2048]⟩
abbrev S2560x2048 : Shape := ⟨2, ![2560, 2048]⟩
abbrev S16x64x512 : Shape := ⟨3, ![16, 64, 512]⟩
abbrev S1x256x512 : Shape := ⟨3, ![1, 256, 512]⟩
abbrev S4x512x64 : Shape := ⟨3, ![4, 512, 64]⟩
abbrev S4x80x512 : Shape := ⟨3, ![4, 80, 512]⟩
abbrev S512 : Shape := ⟨1, ![512]⟩
abbrev S512x1 : Shape := ⟨2, ![512, 1]⟩
abbrev S1024x2048 : Shape := ⟨2, ![1024, 2048]⟩
abbrev S512x1024 : Shape := ⟨2, ![512, 1024]⟩
abbrev S1024x512 : Shape := ⟨2, ![1024, 512]⟩
abbrev S64x512 : Shape := ⟨2, ![64, 512]⟩
abbrev S1x64x512 : Shape := ⟨3, ![1, 64, 512]⟩
abbrev S256x2048 : Shape := ⟨2, ![256, 2048]⟩
abbrev S512x256 : Shape := ⟨2, ![512, 256]⟩
abbrev S256x512 : Shape := ⟨2, ![256, 512]⟩
abbrev S512x64 : Shape := ⟨2, ![512, 64]⟩
abbrev S1x512x64 : Shape := ⟨3, ![1, 512, 64]⟩
abbrev S16x512 : Shape := ⟨2, ![16, 512]⟩
abbrev S80x512 : Shape := ⟨2, ![80, 512]⟩
abbrev S1x80x512 : Shape := ⟨3, ![1, 80, 512]⟩
abbrev S4x4x64x2048 : Shape := ⟨4, ![4, 4, 64, 2048]⟩
abbrev S4x2048x4x64 : Shape := ⟨4, ![4, 2048, 4, 64]⟩
abbrev S4x256x512 : Shape := ⟨3, ![4, 256, 512]⟩
abbrev S4x4x64x512 : Shape := ⟨4, ![4, 4, 64, 512]⟩
abbrev S4x512x4x64 : Shape := ⟨4, ![4, 512, 4, 64]⟩

abbrev nBuf : Space → Nat
  | .hbm => 48
  | .vmem => 28
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x9792, .f32⟩
  | .hbm, ⟨3, _⟩ => ⟨S48, .i32⟩
  | .hbm, ⟨4, _⟩ => ⟨S9792x2048, .f32⟩
  | .hbm, ⟨5, _⟩ => ⟨S9792x2048, .bf16⟩
  | .hbm, ⟨6, _⟩ => ⟨S_, .bf16⟩
  | .hbm, ⟨7, _⟩ => ⟨S64x2048, .bf16⟩
  | .hbm, ⟨8, _⟩ => ⟨S_, .i32⟩
  | .hbm, ⟨9, _⟩ => ⟨S48, .i32⟩
  | .hbm, ⟨10, _⟩ => ⟨S48, .i1⟩
  | .hbm, ⟨11, _⟩ => ⟨S_, .i32⟩
  | .hbm, ⟨12, _⟩ => ⟨S48, .i32⟩
  | .hbm, ⟨13, _⟩ => ⟨S48, .i32⟩
  | .hbm, ⟨14, _⟩ => ⟨S48, .i32⟩
  | .hbm, ⟨15, _⟩ => ⟨S48x1, .i32⟩
  | .hbm, ⟨16, _⟩ => ⟨S48x2048, .bf16⟩
  | .hbm, ⟨17, _⟩ => ⟨S16x2048, .bf16⟩
  | .hbm, ⟨18, _⟩ => ⟨S128x2048, .bf16⟩
  | .hbm, ⟨19, _⟩ => ⟨S1x2048, .f32⟩
  | .hbm, ⟨20, _⟩ => ⟨S8192x2048, .f32⟩
  | .hbm, ⟨21, _⟩ => ⟨S_, .f32⟩
  | .hbm, ⟨22, _⟩ => ⟨S1x128, .f32⟩
  | .hbm, ⟨23, _⟩ => ⟨S16x64x8192, .bf16⟩
  | .hbm, ⟨24, _⟩ => ⟨S4x256x2048, .f32⟩
  | .hbm, ⟨25, _⟩ => ⟨S4x256x2048, .f32⟩
  | .hbm, ⟨26, _⟩ => ⟨S4x256x2048, .f32⟩
  | .hbm, ⟨27, _⟩ => ⟨S4x8192x64, .bf16⟩
  | .hbm, ⟨28, _⟩ => ⟨S4x256x2048, .f32⟩
  | .hbm, ⟨29, _⟩ => ⟨S4x80x8192, .bf16⟩
  | .hbm, ⟨30, _⟩ => ⟨S4x256x2048, .f32⟩
  | .hbm, ⟨31, _⟩ => ⟨S4x8192x64, .bf16⟩
  | .hbm, ⟨32, _⟩ => ⟨S4x256x2048, .f32⟩
  | .hbm, ⟨33, _⟩ => ⟨S4x80x8192, .bf16⟩
  | .hbm, ⟨34, _⟩ => ⟨S4x4x64x2048, .f32⟩
  | .hbm, ⟨35, _⟩ => ⟨S4x2048x4x64, .f32⟩
  | .hbm, ⟨36, _⟩ => ⟨S4x4x64x2048, .f32⟩
  | .hbm, ⟨37, _⟩ => ⟨S4x2048x4x64, .f32⟩
  | .hbm, ⟨38, _⟩ => ⟨S4x4x64x2048, .f32⟩
  | .hbm, ⟨39, _⟩ => ⟨S4x2048x4x64, .f32⟩
  | .hbm, ⟨40, _⟩ => ⟨S4x4x64x2048, .f32⟩
  | .hbm, ⟨41, _⟩ => ⟨S4x2048x4x64, .f32⟩
  | .hbm, ⟨42, _⟩ => ⟨S4x256x512, .f32⟩
  | .hbm, ⟨43, _⟩ => ⟨S4x4x64x512, .f32⟩
  | .hbm, ⟨44, _⟩ => ⟨S4x512x4x64, .f32⟩
  | .hbm, ⟨45, _⟩ => ⟨S4x256x512, .f32⟩
  | .hbm, ⟨46, _⟩ => ⟨S4x4x64x512, .f32⟩
  | .hbm, ⟨47, _⟩ => ⟨S4x512x4x64, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2560x2048, .bf16⟩
  | .local _ .vmem, ⟨4, _⟩ => ⟨S128x2048, .bf16⟩
  | .local _ .vmem, ⟨5, _⟩ => ⟨S1x128, .f32⟩
  | .local _ .vmem, ⟨6, _⟩ => ⟨S16x64x512, .bf16⟩
  | .local _ .vmem, ⟨7, _⟩ => ⟨S16x64x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S4x512x64, .bf16⟩
  | .local _ .vmem, ⟨15, _⟩ => ⟨S4x512x64, .bf16⟩
  | .local _ .vmem, ⟨16, _⟩ => ⟨S1x256x512, .f32⟩
  | .local _ .vmem, ⟨17, _⟩ => ⟨S1x256x512, .f32⟩
  | .local _ .vmem, ⟨18, _⟩ => ⟨S4x80x512, .bf16⟩
  | .local _ .vmem, ⟨19, _⟩ => ⟨S4x80x512, .bf16⟩
  | .local _ .vmem, ⟨20, _⟩ => ⟨S1x256x512, .f32⟩
  | .local _ .vmem, ⟨21, _⟩ => ⟨S1x256x512, .f32⟩
  | .local _ .vmem, ⟨22, _⟩ => ⟨S4x512x64, .bf16⟩
  | .local _ .vmem, ⟨23, _⟩ => ⟨S4x512x64, .bf16⟩
  | .local _ .vmem, ⟨24, _⟩ => ⟨S1x256x512, .f32⟩
  | .local _ .vmem, ⟨25, _⟩ => ⟨S1x256x512, .f32⟩
  | .local _ .vmem, ⟨26, _⟩ => ⟨S4x80x512, .bf16⟩
  | .local _ .vmem, ⟨27, _⟩ => ⟨S4x80x512, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev main_v15_5 : Ref sig .tc := ⟨.hbm, 28, rfl⟩
abbrev main_v15_6 : Ref sig .tc := ⟨.hbm, 29, rfl⟩
abbrev main_v15_7 : Ref sig .tc := ⟨.hbm, 30, rfl⟩
abbrev main_v15_8 : Ref sig .tc := ⟨.hbm, 31, rfl⟩
abbrev main_v15_9 : Ref sig .tc := ⟨.hbm, 32, rfl⟩
abbrev main_v15_10 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S16x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x80x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RowsReferenceIdeal.lean ====
abbrev S4x2048x2048 : Shape := ⟨3, ![4, 2048, 2048]⟩
abbrev S2048 : Shape := ⟨1, ![2048]⟩
abbrev S2048x9792 : Shape := ⟨2, ![2048, 9792]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x9792 : Shape := ⟨3, ![4, 2048, 9792]⟩
abbrev S4x2048x1536 : Shape := ⟨3, ![4, 2048, 1536]⟩
abbrev S4x2048x6x4x64 : Shape := ⟨5, ![4, 2048, 6, 4, 64]⟩
abbrev S4x2048x1x4x64 : Shape := ⟨5, ![4, 2048, 1, 4, 64]⟩
abbrev S4x2048x4x64 : Shape := ⟨4, ![4, 2048, 4, 64]⟩
abbrev S4x512x4x64 : Shape := ⟨4, ![4, 512, 4, 64]⟩
abbrev S4x2560x4x64 : Shape := ⟨4, ![4, 2560, 4, 64]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x9792, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S4x2048x9792, .f32⟩
  | .hbm, ⟨20, _⟩ => ⟨S4x2048x1536, .f32⟩
  | .hbm, ⟨21, _⟩ => ⟨S4x2048x6x4x64, .f32⟩
  | .hbm, ⟨22, _⟩ => ⟨S4x2048x1x4x64, .f32⟩
  | .hbm, ⟨23, _⟩ => ⟨S4x2048x4x64, .f32⟩
  | .hbm, ⟨24, _⟩ => ⟨S4x2048x1x4x64, .f32⟩
  | .hbm, ⟨25, _⟩ => ⟨S4x2048x4x64, .f32⟩
  | .hbm, ⟨26, _⟩ => ⟨S4x2048x1x4x64, .f32⟩
  | .hbm, ⟨27, _⟩ => ⟨S4x2048x4x64, .f32⟩
  | .hbm, ⟨28, _⟩ => ⟨S4x2048x1x4x64, .f32⟩
  | .hbm, ⟨29, _⟩ => ⟨S4x2048x4x64, .f32⟩
  | .hbm, ⟨30, _⟩ => ⟨S4x2048x1x4x64, .f32⟩
  | .hbm, ⟨31, _⟩ => ⟨S4x2048x4x64, .f32⟩
  | .hbm, ⟨32, _⟩ => ⟨S4x2048x1x4x64, .f32⟩
  | .hbm, ⟨33, _⟩ => ⟨S4x2048x4x64, .f32⟩
  | .hbm, ⟨34, _⟩ => ⟨S_, .f32⟩
  | .hbm, ⟨35, _⟩ => ⟨S4x512x4x64, .f32⟩
  | .hbm, ⟨36, _⟩ => ⟨S4x2560x4x64, .f32⟩
  | .hbm, ⟨37, _⟩ => ⟨S_, .f32⟩
  | .hbm, ⟨38, _⟩ => ⟨S4x512x4x64, .f32⟩
  | .hbm, ⟨39, _⟩ => ⟨S4x2560x4x64, .f32⟩
  | .hbm, ⟨40, _⟩ => ⟨S4x512x4x64, .f32⟩
  | .hbm, ⟨41, _⟩ => ⟨S4x512x4x64, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Sample.lean ====
abbrev S8x1x2048 : Shape := ⟨3, ![8, 1, 2048]⟩
abbrev S8x512x4x64 : Shape := ⟨4, ![8, 512, 4, 64]⟩
abbrev S2048 : Shape := ⟨1, ![2048]⟩
abbrev S2048x9792 : Shape := ⟨2, ![2048, 9792]⟩
abbrev S48 : Shape := ⟨1, ![48]⟩
abbrev S9792x2048 : Shape := ⟨2, ![9792, 2048]⟩
abbrev S_ : Shape := ⟨0, ![]⟩
abbrev S64x2048 : Shape := ⟨2, ![64, 2048]⟩
abbrev S48x1 : Shape := ⟨2, ![48, 1]⟩
abbrev S48x2048 : Shape := ⟨2, ![48, 2048]⟩
abbrev S16x2048 : Shape := ⟨2, ![16, 2048]⟩
abbrev S128x2048 : Shape := ⟨2, ![128, 2048]⟩
abbrev S1x2048 : Shape := ⟨2, ![1, 2048]⟩
abbrev S8x2048 : Shape := ⟨2, ![8, 2048]⟩
abbrev S1x128 : Shape := ⟨2, ![1, 128]⟩
abbrev S16x1024 : Shape := ⟨2, ![16, 1024]⟩
abbrev S16x256 : Shape := ⟨2, ![16, 256]⟩
abbrev S2560x2048 : Shape := ⟨2, ![2560, 2048]⟩
abbrev S16 : Shape := ⟨1, ![16]⟩
abbrev S16x1 : Shape := ⟨2, ![16, 1]⟩
abbrev S1024x2048 : Shape := ⟨2, ![1024, 2048]⟩
abbrev S256x2048 : Shape := ⟨2, ![256, 2048]⟩
abbrev S8x256 : Shape := ⟨2, ![8, 256]⟩
abbrev S8x1x4x64 : Shape := ⟨4, ![8, 1, 4, 64]⟩
abbrev S8x511x4x64 : Shape := ⟨4, ![8, 511, 4, 64]⟩

abbrev nBuf : Space → Nat
  | .hbm => 51
  | .vmem => 12
  | .smem => 0
  | _ => 0

abbrev bufTy : (tb : Table) → Fin (tcTables nBuf tb) → BufTy
  | .hbm, ⟨0, _⟩ => ⟨S8x1x2048, .f32⟩
  | .hbm, ⟨1, _⟩ => ⟨S8x512x4x64, .f32⟩
  | .hbm, ⟨2, _⟩ => ⟨S8x512x4x64, .f32⟩
  | .hbm, ⟨3, _⟩ => ⟨S2048, .f32⟩
  | .hbm, ⟨4, _⟩ => ⟨S2048x9792, .f32⟩
  | .hbm, ⟨5, _⟩ => ⟨S48, .i32⟩
  | .hbm, ⟨6, _⟩ => ⟨S9792x2048, .f32⟩
  | .hbm, ⟨7, _⟩ => ⟨S9792x2048, .bf16⟩
  | .hbm, ⟨8, _⟩ => ⟨S_, .bf16⟩
  | .hbm, ⟨9, _⟩ => ⟨S64x2048, .bf16⟩
  | .hbm, ⟨10, _⟩ => ⟨S_, .i32⟩
  | .hbm, ⟨11, _⟩ => ⟨S48, .i32⟩
  | .hbm, ⟨12, _⟩ => ⟨S48, .i1⟩
  | .hbm, ⟨13, _⟩ => ⟨S_, .i32⟩
  | .hbm, ⟨14, _⟩ => ⟨S48, .i32⟩
  | .hbm, ⟨15, _⟩ => ⟨S48, .i32⟩
  | .hbm, ⟨16, _⟩ => ⟨S48, .i32⟩
  | .hbm, ⟨17, _⟩ => ⟨S48x1, .i32⟩
  | .hbm, ⟨18, _⟩ => ⟨S48x2048, .bf16⟩
  | .hbm, ⟨19, _⟩ => ⟨S16x2048, .bf16⟩
  | .hbm, ⟨20, _⟩ => ⟨S128x2048, .bf16⟩
  | .hbm, ⟨21, _⟩ => ⟨S1x2048, .f32⟩
  | .hbm, ⟨22, _⟩ => ⟨S8x2048, .f32⟩
  | .hbm, ⟨23, _⟩ => ⟨S_, .i32⟩
  | .hbm, ⟨24, _⟩ => ⟨S_, .f32⟩
  | .hbm, ⟨25, _⟩ => ⟨S16x2048, .f32⟩
  | .hbm, ⟨26, _⟩ => ⟨S_, .f32⟩
  | .hbm, ⟨27, _⟩ => ⟨S1x128, .f32⟩
  | .hbm, ⟨28, _⟩ => ⟨S16x1024, .bf16⟩
  | .hbm, ⟨29, _⟩ => ⟨S16x256, .f32⟩
  | .hbm, ⟨30, _⟩ => ⟨S16x256, .f32⟩
  | .hbm, ⟨31, _⟩ => ⟨S16x256, .f32⟩
  | .hbm, ⟨32, _⟩ => ⟨S16x256, .f32⟩
  | .hbm, ⟨33, _⟩ => ⟨S16x256, .f32⟩
  | .hbm, ⟨34, _⟩ => ⟨S16x256, .f32⟩
  | .hbm, ⟨35, _⟩ => ⟨S8x256, .f32⟩
  | .hbm, ⟨36, _⟩ => ⟨S8x1x4x64, .f32⟩
  | .hbm, ⟨37, _⟩ => ⟨S8x256, .f32⟩
  | .hbm, ⟨38, _⟩ => ⟨S8x1x4x64, .f32⟩
  | .hbm, ⟨39, _⟩ => ⟨S8x256, .f32⟩
  | .hbm, ⟨40, _⟩ => ⟨S8x1x4x64, .f32⟩
  | .hbm, ⟨41, _⟩ => ⟨S8x256, .f32⟩
  | .hbm, ⟨42, _⟩ => ⟨S8x1x4x64, .f32⟩
  | .hbm, ⟨43, _⟩ => ⟨S8x511x4x64, .f32⟩
  | .hbm, ⟨44, _⟩ => ⟨S8x256, .f32⟩
  | .hbm, ⟨45, _⟩ => ⟨S8x1x4x64, .f32⟩
  | .hbm, ⟨46, _⟩ => ⟨S8x512x4x64, .f32⟩
  | .hbm, ⟨47, _⟩ => ⟨S8x511x4x64, .f32⟩
  | .hbm, ⟨48, _⟩ => ⟨S8x256, .f32⟩
  | .hbm, ⟨49, _⟩ => ⟨S8x1x4x64, .f32⟩
  | .hbm, ⟨50, _⟩ => ⟨S8x512x4x64, .f32⟩
  | .local _ .vmem, ⟨0, _⟩ => ⟨S16x2048, .f32⟩
  | .local _ .vmem, ⟨1, _⟩ => ⟨S1x2048, .f32⟩
  | .local _ .vmem, ⟨2, _⟩ => ⟨S2560x2048, .bf16⟩
  | .local _ .vmem, ⟨3, _⟩ => ⟨S128x2048, .bf16⟩
  | .local _ .vmem, ⟨4, _⟩ => ⟨S1x128, .f32⟩
  | .local _ .vmem, ⟨5, _⟩ => ⟨S16x1024, .bf16⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | _, _ => ⟨S8x1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call0_v0 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_v16_5 : Ref sig .tc := ⟨.hbm, 33, rfl⟩
abbrev main_v16_6 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S16x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S16x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== SampleReferenceIdeal.lean ====
abbrev S8x1x2048 : Shape := ⟨3, ![8, 1, 2048]⟩
abbrev S8x512x4x64 : Shape := ⟨4, ![8, 512, 4, 64]⟩
abbrev S2048 : Shape := ⟨1, ![2048]⟩
abbrev S2048x9792 : Shape := ⟨2, ![2048, 9792]⟩
abbrev S_ : Shape := ⟨0, ![]⟩
abbrev S8x1 : Shape := ⟨2, ![8, 1]⟩
abbrev S8x1x1 : Shape := ⟨3, ![8, 1, 1]⟩
abbrev S1x1x2048 : Shape := ⟨3, ![1, 1, 2048]⟩
abbrev S8x1x9792 : Shape := ⟨3, ![8, 1, 9792]⟩
abbrev S8x1x1536 : Shape := ⟨3, ![8, 1, 1536]⟩
abbrev S8x1x6x4x64 : Shape := ⟨5, ![8, 1, 6, 4, 64]⟩
abbrev S8x1x1x4x64 : Shape := ⟨5, ![8, 1, 1, 4, 64]⟩
abbrev S8x1x4x64 : Shape := ⟨4, ![8, 1, 4, 64]⟩
abbrev S8x513x4x64 : Shape := ⟨4, ![8, 513, 4, 64]⟩

abbrev nBuf : Space → Nat
  | .hbm => 40
  | .vmem => 0
  | .smem => 0
  | _ => 0

abbrev bufTy : (tb : Table) → Fin (tcTables nBuf tb) → BufTy
  | .hbm, ⟨0, _⟩ => ⟨S8x1x2048, .f32⟩
  | .hbm, ⟨1, _⟩ => ⟨S8x512x4x64, .f32⟩
  | .hbm, ⟨2, _⟩ => ⟨S8x512x4x64, .f32⟩
  | .hbm, ⟨3, _⟩ => ⟨S2048, .f32⟩
  | .hbm, ⟨4, _⟩ => ⟨S2048x9792, .f32⟩
  | .hbm, ⟨5, _⟩ => ⟨S8x1x2048, .f32⟩
  | .hbm, ⟨6, _⟩ => ⟨S_, .f32⟩
  | .hbm, ⟨7, _⟩ => ⟨S8x1, .f32⟩
  | .hbm, ⟨8, _⟩ => ⟨S8x1x1, .f32⟩
  | .hbm, ⟨9, _⟩ => ⟨S_, .f32⟩
  | .hbm, ⟨10, _⟩ => ⟨S8x1x1, .f32⟩
  | .hbm, ⟨11, _⟩ => ⟨S8x1x1, .f32⟩
  | .hbm, ⟨12, _⟩ => ⟨S_, .f32⟩
  | .hbm, ⟨13, _⟩ => ⟨S8x1x1, .f32⟩
  | .hbm, ⟨14, _⟩ => ⟨S8x1x1, .f32⟩
  | .hbm, ⟨15, _⟩ => ⟨S8x1x1, .f32⟩
  | .hbm, ⟨16, _⟩ => ⟨S8x1x2048, .f32⟩
  | .hbm, ⟨17, _⟩ => ⟨S8x1x2048, .f32⟩
  | .hbm, ⟨18, _⟩ => ⟨S1x1x2048, .f32⟩
  | .hbm, ⟨19, _⟩ => ⟨S8x1x2048, .f32⟩
  | .hbm, ⟨20, _⟩ => ⟨S8x1x2048, .f32⟩
  | .hbm, ⟨21, _⟩ => ⟨S8x1x9792, .f32⟩
  | .hbm, ⟨22, _⟩ => ⟨S8x1x1536, .f32⟩
  | .hbm, ⟨23, _⟩ => ⟨S8x1x6x4x64, .f32⟩
  | .hbm, ⟨24, _⟩ => ⟨S8x1x1x4x64, .f32⟩
  | .hbm, ⟨25, _⟩ => ⟨S8x1x4x64, .f32⟩
  | .hbm, ⟨26, _⟩ => ⟨S8x1x1x4x64, .f32⟩
  | .hbm, ⟨27, _⟩ => ⟨S8x1x4x64, .f32⟩
  | .hbm, ⟨28, _⟩ => ⟨S8x1x1x4x64, .f32⟩
  | .hbm, ⟨29, _⟩ => ⟨S8x1x4x64, .f32⟩
  | .hbm, ⟨30, _⟩ => ⟨S8x1x1x4x64, .f32⟩
  | .hbm, ⟨31, _⟩ => ⟨S8x1x4x64, .f32⟩
  | .hbm, ⟨32, _⟩ => ⟨S8x1x1x4x64, .f32⟩
  | .hbm, ⟨33, _⟩ => ⟨S8x1x4x64, .f32⟩
  | .hbm, ⟨34, _⟩ => ⟨S8x1x1x4x64, .f32⟩
  | .hbm, ⟨35, _⟩ => ⟨S8x1x4x64, .f32⟩
  | .hbm, ⟨36, _⟩ => ⟨S8x513x4x64, .f32⟩
  | .hbm, ⟨37, _⟩ => ⟨S8x513x4x64, .f32⟩
  | .hbm, ⟨38, _⟩ => ⟨S8x512x4x64, .f32⟩
  | .hbm, ⟨39, _⟩ => ⟨S8x512x4x64, .f32⟩
  | _, _ => ⟨S8x1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Lin.lean ====
abbrev S4x2048x2048 : Shape := ⟨3, ![4, 2048, 2048]⟩
abbrev S2048 : Shape := ⟨1, ![2048]⟩
abbrev S2048x9792 : Shape := ⟨2, ![2048, 9792]⟩
abbrev S48 : Shape := ⟨1, ![48]⟩
abbrev S9792x2048 : Shape := ⟨2, ![9792, 2048]⟩
abbrev S_ : Shape := ⟨0, ![]⟩
abbrev S64x2048 : Shape := ⟨2, ![64, 2048]⟩
abbrev S48x1 : Shape := ⟨2, ![48, 1]⟩
abbrev S48x2048 : Shape := ⟨2, ![48, 2048]⟩
abbrev S16x2048 : Shape := ⟨2, ![16, 2048]⟩
abbrev S128x2048 : Shape := ⟨2, ![128, 2048]⟩
abbrev S1x2048 : Shape := ⟨2, ![1, 2048]⟩
abbrev S80 : Shape := ⟨1, ![80]⟩
abbrev S128 : Shape := ⟨1, ![128]⟩
abbrev S1x128 : Shape := ⟨2, ![1, 128]⟩
abbrev S8192x2048 : Shape := ⟨2, ![8192, 2048]⟩
abbrev S8192x512 : Shape := ⟨2, ![8192, 512]⟩
abbrev S8192x1024 : Shape := ⟨2, ![8192, 1024]⟩
abbrev S8192x128 : Shape := ⟨2, ![8192, 128]⟩
abbrev S4x8192x128 : Shape := ⟨3, ![4, 8192, 128]⟩
abbrev S512x2048 : Shape := ⟨2, ![512, 2048]⟩
abbrev S3072x2048 : Shape := ⟨2, ![3072, 2048]⟩
abbrev S512x512 : Shape := ⟨2, ![512, 512]⟩
abbrev S512x1024 : Shape := ⟨2, ![512, 1024]⟩
abbrev S512x128 : Shape := ⟨2, ![512, 128]⟩
abbrev S4x512x128 : Shape := ⟨3, ![4, 512, 128]⟩
abbrev S512 : Shape := ⟨1, ![512]⟩
abbrev S512x1 : Shape := ⟨2, ![512, 1]⟩
abbrev S1024x2048 : Shape := ⟨2, ![1024, 2048]⟩
abbrev S1x512x128 : Shape := ⟨3, ![1, 512, 128]⟩
abbrev S8192x16 : Shape := ⟨2, ![8192, 16]⟩
abbrev S8192x48 : Shape := ⟨2, ![8192, 48]⟩
abbrev S4x2048x4x3x4 : Shape := ⟨5, ![4, 2048, 4, 3, 4]⟩
abbrev S4x2048x4x4x3 : Shape := ⟨5, ![4, 2048, 4, 4, 3]⟩
abbrev S4x2048x512 : Shape := ⟨3, ![4, 2048, 512]⟩
abbrev S4x2048x1024 : Shape := ⟨3, ![4, 2048, 1024]⟩
abbrev S4x2048x16 : Shape := ⟨3, ![4, 2048, 16]⟩

abbrev nBuf : Space → Nat
  | .hbm => 53
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x9792, .f32⟩
  | .hbm, ⟨3, _⟩ => ⟨S48, .f32⟩
  | .hbm, ⟨4, _⟩ => ⟨S48, .i32⟩
  | .hbm, ⟨5, _⟩ => ⟨S9792x2048, .f32⟩
  | .hbm, ⟨6, _⟩ => ⟨S9792x2048, .bf16⟩
  | .hbm, ⟨7, _⟩ => ⟨S_, .bf16⟩
  | .hbm, ⟨8, _⟩ => ⟨S64x2048, .bf16⟩
  | .hbm, ⟨9, _⟩ => ⟨S_, .i32⟩
  | .hbm, ⟨10, _⟩ => ⟨S48, .i32⟩
  | .hbm, ⟨11, _⟩ => ⟨S48, .i1⟩
  | .hbm, ⟨12, _⟩ => ⟨S_, .i32⟩
  | .hbm, ⟨13, _⟩ => ⟨S48, .i32⟩
  | .hbm, ⟨14, _⟩ => ⟨S48, .i32⟩
  | .hbm, ⟨15, _⟩ => ⟨S48, .i32⟩
  | .hbm, ⟨16, _⟩ => ⟨S48x1, .i32⟩
  | .hbm, ⟨17, _⟩ => ⟨S48x2048, .bf16⟩
  | .hbm, ⟨18, _⟩ => ⟨S16x2048, .bf16⟩
  | .hbm, ⟨19, _⟩ => ⟨S128x2048, .bf16⟩
  | .hbm, ⟨20, _⟩ => ⟨S1x2048, .f32⟩
  | .hbm, ⟨21, _⟩ => ⟨S_, .i32⟩
  | .hbm, ⟨22, _⟩ => ⟨S48, .i32⟩
  | .hbm, ⟨23, _⟩ => ⟨S48, .i32⟩
  | .hbm, ⟨24, _⟩ => ⟨S_, .i32⟩
  | .hbm, ⟨25, _⟩ => ⟨S48, .i32⟩
  | .hbm, ⟨26, _⟩ => ⟨S48, .i1⟩
  | .hbm, ⟨27, _⟩ => ⟨S_, .i32⟩
  | .hbm, ⟨28, _⟩ => ⟨S48, .i32⟩
  | .hbm, ⟨29, _⟩ => ⟨S48, .i32⟩
  | .hbm, ⟨30, _⟩ => ⟨S48, .i32⟩
  | .hbm, ⟨31, _⟩ => ⟨S48x1, .i32⟩
  | .hbm, ⟨32, _⟩ => ⟨S48, .f32⟩
  | .hbm, ⟨33, _⟩ => ⟨S_, .f32⟩
  | .hbm, ⟨34, _⟩ => ⟨S80, .f32⟩
  | .hbm, ⟨35, _⟩ => ⟨S128, .f32⟩
  | .hbm, ⟨36, _⟩ => ⟨S1x128, .f32⟩
  | .hbm, ⟨37, _⟩ => ⟨S8192x2048, .f32⟩
  | .hbm, ⟨38, _⟩ => ⟨S8192x512, .f32⟩
  | .hbm, ⟨39, _⟩ => ⟨S8192x512, .f32⟩
  | .hbm, ⟨40, _⟩ => ⟨S8192x1024, .bf16⟩
  | .hbm, ⟨41, _⟩ => ⟨S8192x1024, .f32⟩
  | .hbm, ⟨42, _⟩ => ⟨S8192x128, .f32⟩
  | .hbm, ⟨43, _⟩ => ⟨S4x8192x128, .f32⟩
  | .hbm, ⟨44, _⟩ => ⟨S8192x16, .f32⟩
  | .hbm, ⟨45, _⟩ => ⟨S8192x48, .f32⟩
  | .hbm, ⟨46, _⟩ => ⟨S4x2048x4x3x4, .f32⟩
  | .hbm, ⟨47, _⟩ => ⟨S4x2048x4x4x3, .f32⟩
  | .hbm, ⟨48, _⟩ => ⟨S4x2048x512, .f32⟩
  | .hbm, ⟨49, _⟩ => ⟨S4x2048x512, .f32⟩
  | .hbm, ⟨50, _⟩ => ⟨S4x2048x1024, .bf16⟩
  | .hbm, ⟨51, _⟩ => ⟨S4x2048x1024, .f32⟩
  | .hbm, ⟨52, _⟩ => ⟨S4x2048x16, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3072x2048, .bf16⟩
  | .local _ .vmem, ⟨4, _⟩ => ⟨S128x2048, .bf16⟩
  | .local _ .vmem, ⟨5, _⟩ => ⟨S1x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x128, .f32⟩
  | .local _ .vmem, ⟨15, _⟩ => ⟨S512x128, .f32⟩
  | .local _ .vmem, ⟨16, _⟩ => ⟨S4x512x128, .f32⟩
  | .local _ .vmem, ⟨17, _⟩ => ⟨S4x512x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v26_3 : Ref sig .tc := ⟨.hbm, 41, rfl⟩
abbrev main_v26_4 : Ref sig .tc := ⟨.hbm, 42, rfl⟩
abbrev main_v26_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2608_i32 : BitVec 32 := 2608#32
  let c0_i32 : BitVec 32 := 0#32
  let c0_i32_0 : BitVec 32 := 0#32
  ![c2608_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== LinReferenceIdeal.lean ====
abbrev S4x2048x2048 : Shape := ⟨3, ![4, 2048, 2048]⟩
abbrev S2048 : Shape := ⟨1, ![2048]⟩
abbrev S2048x9792 : Shape := ⟨2, ![2048, 9792]⟩
abbrev S48 : Shape := ⟨1, ![48]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S4x2048x9792 : Shape := ⟨3, ![4, 2048, 9792]⟩
abbrev S4x2048x1024 : Shape := ⟨3, ![4, 2048, 1024]⟩
abbrev S4x2048x1536 : Shape := ⟨3, ![4, 2048, 1536]⟩
abbrev S4x2048x48 : Shape := ⟨3, ![4, 2048, 48]⟩
abbrev S4x2048x512 : Shape := ⟨3, ![4, 2048, 512]⟩
abbrev S4x2048x16 : Shape := ⟨3, ![4, 2048, 16]⟩
abbrev S4x2048x4096 : Shape := ⟨3, ![4, 2048, 4096]⟩
abbrev S1x1x48 : Shape := ⟨3, ![1, 1, 48]⟩
abbrev S4x2048x4x4x3 : Shape := ⟨5, ![4, 2048, 4, 4, 3]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x9792, .f32⟩
  | .hbm, ⟨3, _⟩ => ⟨S48, .f32⟩
  | .hbm, ⟨4, _⟩ => ⟨S4x2048x2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x2048, .f32⟩
  | .hbm, ⟨16, _⟩ => ⟨S4x2048x2048, .f32⟩
  | .hbm, ⟨17, _⟩ => ⟨S1x1x2048, .f32⟩
  | .hbm, ⟨18, _⟩ => ⟨S4x2048x2048, .f32⟩
  | .hbm, ⟨19, _⟩ => ⟨S4x2048x2048, .f32⟩
  | .hbm, ⟨20, _⟩ => ⟨S4x2048x9792, .f32⟩
  | .hbm, ⟨21, _⟩ => ⟨S4x2048x1024, .f32⟩
  | .hbm, ⟨22, _⟩ => ⟨S4x2048x1536, .f32⟩
  | .hbm, ⟨23, _⟩ => ⟨S4x2048x48, .f32⟩
  | .hbm, ⟨24, _⟩ => ⟨S4x2048x512, .f32⟩
  | .hbm, ⟨25, _⟩ => ⟨S4x2048x512, .f32⟩
  | .hbm, ⟨26, _⟩ => ⟨S4x2048x1024, .f32⟩
  | .hbm, ⟨27, _⟩ => ⟨S4x2048x1024, .f32⟩
  | .hbm, ⟨28, _⟩ => ⟨S4x2048x16, .f32⟩
  | .hbm, ⟨29, _⟩ => ⟨S4x2048x4096, .f32⟩
  | .hbm, ⟨30, _⟩ => ⟨S1x1x48, .f32⟩
  | .hbm, ⟨31, _⟩ => ⟨S4x2048x48, .f32⟩
  | .hbm, ⟨32, _⟩ => ⟨S4x2048x48, .f32⟩
  | .hbm, ⟨33, _⟩ => ⟨S4x2048x48, .f32⟩
  | .hbm, ⟨34, _⟩ => ⟨S4x2048x48, .f32⟩
  | .hbm, ⟨35, _⟩ => ⟨S_, .f32⟩
  | .hbm, ⟨36, _⟩ => ⟨S4x2048x48, .f32⟩
  | .hbm, ⟨37, _⟩ => ⟨S4x2048x48, .f32⟩
  | .hbm, ⟨38, _⟩ => ⟨S_, .f32⟩
  | .hbm, ⟨39, _⟩ => ⟨S4x2048x48, .f32⟩
  | .hbm, ⟨40, _⟩ => ⟨S4x2048x48, .f32⟩
  | .hbm, ⟨41, _⟩ => ⟨S4x2048x4x4x3, .f32⟩
  | .hbm, ⟨42, _⟩ => ⟨S4x2048x1024, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Step.lean ====
abbrev S8x1x512 : Shape := ⟨3, ![8, 1, 512]⟩
abbrev S8x1x1024 : Shape := ⟨3, ![8, 1, 1024]⟩
abbrev S8x1x16 : Shape := ⟨3, ![8, 1, 16]⟩
abbrev S16x512 : Shape := ⟨2, ![16, 512]⟩
abbrev S512 : Shape := ⟨1, ![512]⟩
abbrev S256 : Shape := ⟨1, ![256]⟩
abbrev S8x4x128x256 : Shape := ⟨4, ![8, 4, 128, 256]⟩
abbrev S_ : Shape := ⟨0, ![]⟩
abbrev S8x48 : Shape := ⟨2, ![8, 48]⟩
abbrev S8x16 : Shape := ⟨2, ![8, 16]⟩
abbrev S8x64 : Shape := ⟨2, ![8, 64]⟩
abbrev S8x128 : Shape := ⟨2, ![8, 128]⟩
abbrev S8x512 : Shape := ⟨2, ![8, 512]⟩
abbrev S16x1x512 : Shape := ⟨3, ![16, 1, 512]⟩
abbrev S8x1024 : Shape := ⟨2, ![8, 1024]⟩
abbrev S16x1024 : Shape := ⟨2, ![16, 1024]⟩
abbrev S16x1x1024 : Shape := ⟨3, ![16, 1, 1024]⟩
abbrev S16x128 : Shape := ⟨2, ![16, 128]⟩
abbrev S16x1x128 : Shape := ⟨3, ![16, 1, 128]⟩
abbrev S1x512 : Shape := ⟨2, ![1, 512]⟩
abbrev S1x256 : Shape := ⟨2, ![1, 256]⟩
abbrev S1x1x512 : Shape := ⟨3, ![1, 1, 512]⟩
abbrev S1x1x1024 : Shape := ⟨3, ![1, 1, 1024]⟩
abbrev S1x1x128 : Shape := ⟨3, ![1, 1, 128]⟩
abbrev S1x4x128x256 : Shape := ⟨4, ![1, 4, 128, 256]⟩
abbrev S1x128 : Shape := ⟨2, ![1, 128]⟩
abbrev S1x16 : Shape := ⟨2, ![1, 16]⟩
abbrev S16x16 : Shape := ⟨2, ![16, 16]⟩
abbrev S1x1024 : Shape := ⟨2, ![1, 1024]⟩
abbrev S1x1x128x256 : Shape := ⟨4, ![1, 1, 128, 256]⟩
abbrev S128x256 : Shape := ⟨2, ![128, 256]⟩
abbrev S1 : Shape := ⟨1, ![1]⟩
abbrev S1x1 : Shape := ⟨2, ![1, 1]⟩
abbrev S128x128 : Shape := ⟨2, ![128, 128]⟩

abbrev nBuf : Space → Nat
  | .hbm => 44
  | .vmem => 19
  | .smem => 0
  | _ => 0

abbrev bufTy : (tb : Table) → Fin (tcTables nBuf tb) → BufTy
  | .hbm, ⟨0, _⟩ => ⟨S8x1x512, .f32⟩
  | .hbm, ⟨1, _⟩ => ⟨S8x1x512, .f32⟩
  | .hbm, ⟨2, _⟩ => ⟨S8x1x1024, .f32⟩
  | .hbm, ⟨3, _⟩ => ⟨S8x1x1024, .f32⟩
  | .hbm, ⟨4, _⟩ => ⟨S8x1x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S8x4x128x256, .f32⟩
  | .hbm, ⟨9, _⟩ => ⟨S_, .f32⟩
  | .hbm, ⟨10, _⟩ => ⟨S8x48, .f32⟩
  | .hbm, ⟨11, _⟩ => ⟨S8x16, .f32⟩
  | .hbm, ⟨12, _⟩ => ⟨S_, .f32⟩
  | .hbm, ⟨13, _⟩ => ⟨S8x64, .f32⟩
  | .hbm, ⟨14, _⟩ => ⟨S8x128, .f32⟩
  | .hbm, ⟨15, _⟩ => ⟨S8x512, .f32⟩
  | .hbm, ⟨16, _⟩ => ⟨S_, .i32⟩
  | .hbm, ⟨17, _⟩ => ⟨S_, .f32⟩
  | .hbm, ⟨18, _⟩ => ⟨S16x512, .f32⟩
  | .hbm, ⟨19, _⟩ => ⟨S16x1x512, .f32⟩
  | .hbm, ⟨20, _⟩ => ⟨S8x512, .f32⟩
  | .hbm, ⟨21, _⟩ => ⟨S_, .i32⟩
  | .hbm, ⟨22, _⟩ => ⟨S_, .f32⟩
  | .hbm, ⟨23, _⟩ => ⟨S16x512, .f32⟩
  | .hbm, ⟨24, _⟩ => ⟨S16x1x512, .f32⟩
  | .hbm, ⟨25, _⟩ => ⟨S8x1024, .f32⟩
  | .hbm, ⟨26, _⟩ => ⟨S_, .i32⟩
  | .hbm, ⟨27, _⟩ => ⟨S_, .f32⟩
  | .hbm, ⟨28, _⟩ => ⟨S16x1024, .f32⟩
  | .hbm, ⟨29, _⟩ => ⟨S16x1x1024, .f32⟩
  | .hbm, ⟨30, _⟩ => ⟨S8x1024, .f32⟩
  | .hbm, ⟨31, _⟩ => ⟨S_, .i32⟩
  | .hbm, ⟨32, _⟩ => ⟨S_, .f32⟩
  | .hbm, ⟨33, _⟩ => ⟨S16x1024, .f32⟩
  | .hbm, ⟨34, _⟩ => ⟨S16x1x1024, .f32⟩
  | .hbm, ⟨35, _⟩ => ⟨S_, .i32⟩
  | .hbm, ⟨36, _⟩ => ⟨S_, .f32⟩
  | .hbm, ⟨37, _⟩ => ⟨S16x128, .f32⟩
  | .hbm, ⟨38, _⟩ => ⟨S16x1x128, .f32⟩
  | .hbm, ⟨39, _⟩ => ⟨S16x512, .bf16⟩
  | .hbm, ⟨40, _⟩ => ⟨S1x512, .f32⟩
  | .hbm, ⟨41, _⟩ => ⟨S1x256, .f32⟩
  | .hbm, ⟨42, _⟩ => ⟨S8x1x1024, .f32⟩
  | .hbm, ⟨43, _⟩ => ⟨S8x4x128x256, .f32⟩
  | .local _ .vmem, ⟨0, _⟩ => ⟨S1x1x512, .f32⟩
  | .local _ .vmem, ⟨1, _⟩ => ⟨S1x1x512, .f32⟩
  | .local _ .vmem, ⟨2, _⟩ => ⟨S1x1x512, .f32⟩
  | .local _ .vmem, ⟨3, _⟩ => ⟨S1x1x512, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x128, .f32⟩
  | .local _ .vmem, ⟨9, _⟩ => ⟨S1x1x128, .f32⟩
  | .local _ .vmem, ⟨10, _⟩ => ⟨S16x512, .bf16⟩
  | .local _ .vmem, ⟨11, _⟩ => ⟨S1x512, .f32⟩
  | .local _ .vmem, ⟨12, _⟩ => ⟨S1x256, .f32⟩
  | .local _ .vmem, ⟨13, _⟩ => ⟨S1x4x128x256, .f32⟩
  | .local _ .vmem, ⟨14, _⟩ => ⟨S1x4x128x256, .f32⟩
  | .local _ .vmem, ⟨15, _⟩ => ⟨S1x1x1024, .f32⟩
  | .local _ .vmem, ⟨16, _⟩ => ⟨S1x1x1024, .f32⟩
  | .local _ .vmem, ⟨17, _⟩ => ⟨S1x4x128x256, .f32⟩
  | .local _ .vmem, ⟨18, _⟩ => ⟨S1x4x128x256, .f32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_call2_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_call3_v0 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_call4_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21_0 : Ref sig .tc := ⟨.hbm, 42, rfl⟩
abbrev main_v21_1 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S16x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== StepReferenceIdeal.lean ====
abbrev S8x1x512 : Shape := ⟨3, ![8, 1, 512]⟩
abbrev S8x1x1024 : Shape := ⟨3, ![8, 1, 1024]⟩
abbrev S8x1x16 : Shape := ⟨3, ![8, 1, 16]⟩
abbrev S16x512 : Shape := ⟨2, ![16, 512]⟩
abbrev S512 : Shape := ⟨1, ![512]⟩
abbrev S256 : Shape := ⟨1, ![256]⟩
abbrev S8x4x128x256 : Shape := ⟨4, ![8, 4, 128, 256]⟩
abbrev S8x1x4x128 : Shape := ⟨4, ![8, 1, 4, 128]⟩
abbrev S_ : Shape := ⟨0, ![]⟩
abbrev S8x1x4x256 : Shape := ⟨4, ![8, 1, 4, 256]⟩
abbrev S1x1x512 : Shape := ⟨3, ![1, 1, 512]⟩
abbrev S8x1x1x4x128 : Shape := ⟨5, ![8, 1, 1, 4, 128]⟩
abbrev S1x8x4x1x128 : Shape := ⟨5, ![1, 8, 4, 1, 128]⟩
abbrev S8x1x1x4x256 : Shape := ⟨5, ![8, 1, 1, 4, 256]⟩
abbrev S1x8x4x1x256 : Shape := ⟨5, ![1, 8, 4, 1, 256]⟩
abbrev S1x1 : Shape := ⟨2, ![1, 1]⟩
abbrev S8x4x1x128 : Shape := ⟨4, ![8, 4, 1, 128]⟩
abbrev S8x4x1x256 : Shape := ⟨4, ![8, 4, 1, 256]⟩
abbrev S8x4x1x1 : Shape := ⟨4, ![8, 4, 1, 1]⟩
abbrev S8x4x128 : Shape := ⟨3, ![8, 4, 128]⟩
abbrev S8x4x128x1 : Shape := ⟨4, ![8, 4, 128, 1]⟩
abbrev S8x1x4 : Shape := ⟨3, ![8, 1, 4]⟩
abbrev S8x1x4x1 : Shape := ⟨4, ![8, 1, 4, 1]⟩
abbrev S1x1x1x256 : Shape := ⟨4, ![1, 1, 1, 256]⟩

abbrev nBuf : Space → Nat
  | .hbm => 120
  | .vmem => 0
  | .smem => 0
  | _ => 0

abbrev bufTy : (tb : Table) → Fin (tcTables nBuf tb) → BufTy
  | .hbm, ⟨0, _⟩ => ⟨S8x1x512, .f32⟩
  | .hbm, ⟨1, _⟩ => ⟨S8x1x512, .f32⟩
  | .hbm, ⟨2, _⟩ => ⟨S8x1x1024, .f32⟩
  | .hbm, ⟨3, _⟩ => ⟨S8x1x1024, .f32⟩
  | .hbm, ⟨4, _⟩ => ⟨S8x1x16, .f32⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S8x4x128x256, .f32⟩
  | .hbm, ⟨9, _⟩ => ⟨S8x1x4x128, .f32⟩
  | .hbm, ⟨10, _⟩ => ⟨S_, .f32⟩
  | .hbm, ⟨11, _⟩ => ⟨S8x1x4x128, .f32⟩
  | .hbm, ⟨12, _⟩ => ⟨S8x1x4x128, .f32⟩
  | .hbm, ⟨13, _⟩ => ⟨S8x1x4x128, .f32⟩
  | .hbm, ⟨14, _⟩ => ⟨S8x1x4x256, .f32⟩
  | .hbm, ⟨15, _⟩ => ⟨S8x1x512, .f32⟩
  | .hbm, ⟨16, _⟩ => ⟨S1x1x512, .f32⟩
  | .hbm, ⟨17, _⟩ => ⟨S8x1x512, .f32⟩
  | .hbm, ⟨18, _⟩ => ⟨S8x1x512, .f32⟩
  | .hbm, ⟨19, _⟩ => ⟨S8x1x512, .f32⟩
  | .hbm, ⟨20, _⟩ => ⟨S_, .f32⟩
  | .hbm, ⟨21, _⟩ => ⟨S8x1x512, .f32⟩
  | .hbm, ⟨22, _⟩ => ⟨S8x1x512, .f32⟩
  | .hbm, ⟨23, _⟩ => ⟨S8x1x512, .f32⟩
  | .hbm, ⟨24, _⟩ => ⟨S8x1x512, .f32⟩
  | .hbm, ⟨25, _⟩ => ⟨S8x1x512, .i1⟩
  | .hbm, ⟨26, _⟩ => ⟨S8x1x512, .f32⟩
  | .hbm, ⟨27, _⟩ => ⟨S8x1x512, .f32⟩
  | .hbm, ⟨28, _⟩ => ⟨S8x1x512, .f32⟩
  | .hbm, ⟨29, _⟩ => ⟨S8x1x512, .f32⟩
  | .hbm, ⟨30, _⟩ => ⟨S8x1x512, .f32⟩
  | .hbm, ⟨31, _⟩ => ⟨S8x1x512, .f32⟩
  | .hbm, ⟨32, _⟩ => ⟨S8x1x512, .f32⟩
  | .hbm, ⟨33, _⟩ => ⟨S8x1x512, .f32⟩
  | .hbm, ⟨34, _⟩ => ⟨S8x1x512, .f32⟩
  | .hbm, ⟨35, _⟩ => ⟨S_, .f32⟩
  | .hbm, ⟨36, _⟩ => ⟨S8x1x512, .f32⟩
  | .hbm, ⟨37, _⟩ => ⟨S8x1x512, .f32⟩
  | .hbm, ⟨38, _⟩ => ⟨S8x1x4x128, .f32⟩
  | .hbm, ⟨39, _⟩ => ⟨S8x1x1x4x128, .f32⟩
  | .hbm, ⟨40, _⟩ => ⟨S1x8x4x1x128, .f32⟩
  | .hbm, ⟨41, _⟩ => ⟨S8x1x1x4x128, .f32⟩
  | .hbm, ⟨42, _⟩ => ⟨S1x8x4x1x128, .f32⟩
  | .hbm, ⟨43, _⟩ => ⟨S8x1x1x4x256, .f32⟩
  | .hbm, ⟨44, _⟩ => ⟨S1x8x4x1x256, .f32⟩
  | .hbm, ⟨45, _⟩ => ⟨S8x1x1x4x128, .f32⟩
  | .hbm, ⟨46, _⟩ => ⟨S1x8x4x1x128, .f32⟩
  | .hbm, ⟨47, _⟩ => ⟨S_, .i1⟩
  | .hbm, ⟨48, _⟩ => ⟨S1x1, .i1⟩
  | .hbm, ⟨49, _⟩ => ⟨S1x1, .i32⟩
  | .hbm, ⟨50, _⟩ => ⟨S_, .i32⟩
  | .hbm, ⟨51, _⟩ => ⟨S1x1, .i32⟩
  | .hbm, ⟨52, _⟩ => ⟨S1x1, .i32⟩
  | .hbm, ⟨53, _⟩ => ⟨S1x1, .i32⟩
  | .hbm, ⟨54, _⟩ => ⟨S1x1, .i1⟩
  | .hbm, ⟨55, _⟩ => ⟨S_, .i1⟩
  | .hbm, ⟨56, _⟩ => ⟨S1x1, .i1⟩
  | .hbm, ⟨57, _⟩ => ⟨S1x1, .i1⟩
  | .hbm, ⟨58, _⟩ => ⟨S8x4x1x128, .f32⟩
  | .hbm, ⟨59, _⟩ => ⟨S8x4x1x128, .f32⟩
  | .hbm, ⟨60, _⟩ => ⟨S8x4x1x256, .f32⟩
  | .hbm, ⟨61, _⟩ => ⟨S8x4x1x128, .f32⟩
  | .hbm, ⟨62, _⟩ => ⟨S_, .f32⟩
  | .hbm, ⟨63, _⟩ => ⟨S_, .f32⟩
  | .hbm, ⟨64, _⟩ => ⟨S8x4x1x128, .f32⟩
  | .hbm, ⟨65, _⟩ => ⟨S8x4x1x128, .f32⟩
  | .hbm, ⟨66, _⟩ => ⟨S8x4x1x128, .f32⟩
  | .hbm, ⟨67, _⟩ => ⟨S8x4x1x128, .f32⟩
  | .hbm, ⟨68, _⟩ => ⟨S8x4x1x128, .f32⟩
  | .hbm, ⟨69, _⟩ => ⟨S8x4x1x128, .f32⟩
  | .hbm, ⟨70, _⟩ => ⟨S8x4x1x1, .f32⟩
  | .hbm, ⟨71, _⟩ => ⟨S_, .f32⟩
  | .hbm, ⟨72, _⟩ => ⟨S_, .f32⟩
  | .hbm, ⟨73, _⟩ => ⟨S8x4x1x1, .i1⟩
  | .hbm, ⟨74, _⟩ => ⟨S8x4x1x1, .f32⟩
  | .hbm, ⟨75, _⟩ => ⟨S8x4x1x1, .f32⟩
  | .hbm, ⟨76, _⟩ => ⟨S8x4x1x256, .f32⟩
  | .hbm, ⟨77, _⟩ => ⟨S8x4x1x256, .f32⟩
  | .hbm, ⟨78, _⟩ => ⟨S8x4x1x256, .f32⟩
  | .hbm, ⟨79, _⟩ => ⟨S8x4x1x128, .f32⟩
  | .hbm, ⟨80, _⟩ => ⟨S8x4x128, .f32⟩
  | .hbm, ⟨81, _⟩ => ⟨S8x4x128x1, .f32⟩
  | .hbm, ⟨82, _⟩ => ⟨S8x4x128x256, .f32⟩
  | .hbm, ⟨83, _⟩ => ⟨S8x4x128x256, .f32⟩
  | .hbm, ⟨84, _⟩ => ⟨S8x4x1x128, .f32⟩
  | .hbm, ⟨85, _⟩ => ⟨S8x4x1x128, .f32⟩
  | .hbm, ⟨86, _⟩ => ⟨S8x4x1x128, .f32⟩
  | .hbm, ⟨87, _⟩ => ⟨S8x4x128x256, .f32⟩
  | .hbm, ⟨88, _⟩ => ⟨S8x4x128x256, .f32⟩
  | .hbm, ⟨89, _⟩ => ⟨S1x8x4x1x256, .f32⟩
  | .hbm, ⟨90, _⟩ => ⟨S8x1x1x4x256, .f32⟩
  | .hbm, ⟨91, _⟩ => ⟨S8x1x4x256, .f32⟩
  | .hbm, ⟨92, _⟩ => ⟨S8x1x4x256, .f32⟩
  | .hbm, ⟨93, _⟩ => ⟨S_, .f32⟩
  | .hbm, ⟨94, _⟩ => ⟨S8x1x4, .f32⟩
  | .hbm, ⟨95, _⟩ => ⟨S8x1x4x1, .f32⟩
  | .hbm, ⟨96, _⟩ => ⟨S_, .f32⟩
  | .hbm, ⟨97, _⟩ => ⟨S8x1x4x1, .f32⟩
  | .hbm, ⟨98, _⟩ => ⟨S8x1x4x1, .f32⟩
  | .hbm, ⟨99, _⟩ => ⟨S_, .f32⟩
  | .hbm, ⟨100, _⟩ => ⟨S8x1x4x1, .f32⟩
  | .hbm, ⟨101, _⟩ => ⟨S8x1x4x1, .f32⟩
  | .hbm, ⟨102, _⟩ => ⟨S8x1x4x1, .f32⟩
  | .hbm, ⟨103, _⟩ => ⟨S8x1x4x256, .f32⟩
  | .hbm, ⟨104, _⟩ => ⟨S8x1x4x256, .f32⟩
  | .hbm, ⟨105, _⟩ => ⟨S1x1x1x256, .f32⟩
  | .hbm, ⟨106, _⟩ => ⟨S8x1x4x256, .f32⟩
  | .hbm, ⟨107, _⟩ => ⟨S8x1x4x256, .f32⟩
  | .hbm, ⟨108, _⟩ => ⟨S8x1x4x256, .f32⟩
  | .hbm, ⟨109, _⟩ => ⟨S8x1x4x256, .f32⟩
  | .hbm, ⟨110, _⟩ => ⟨S8x1x4x256, .f32⟩
  | .hbm, ⟨111, _⟩ => ⟨S_, .f32⟩
  | .hbm, ⟨112, _⟩ => ⟨S8x1x4x256, .f32⟩
  | .hbm, ⟨113, _⟩ => ⟨S8x1x4x256, .f32⟩
  | .hbm, ⟨114, _⟩ => ⟨S_, .f32⟩
  | .hbm, ⟨115, _⟩ => ⟨S8x1x4x256, .f32⟩
  | .hbm, ⟨116, _⟩ => ⟨S8x1x4x256, .f32⟩
  | .hbm, ⟨117, _⟩ => ⟨S8x1x4x256, .f32⟩
  | .hbm, ⟨118, _⟩ => ⟨S8x1x4x256, .f32⟩
  | .hbm, ⟨119, _⟩ => ⟨S8x1x1024, .f32⟩
  | _, _ => ⟨S8x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v9 : Ref sig .tc := ⟨.hbm, 34, rfl⟩
abbrev main_cst_0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c : Ref sig .tc := ⟨.hbm, 47, rfl⟩
abbrev main_v21 : Ref sig .tc := ⟨.hbm, 48, rfl⟩
abbrev main_call1_v0 : Ref sig .tc := ⟨.hbm, 49, rfl⟩
abbrev main_call1_c : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_c_0 : Ref sig .tc := ⟨.hbm, 55, rfl⟩
abbrev main_call1_v5 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_call2_call0_cst : Ref sig .tc := ⟨.hbm, 62, rfl⟩
abbrev main_call2_call0_v0 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_1 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_cst_2 : Ref sig .tc := ⟨.hbm, 93, rfl⟩
abbrev main_v52 : Ref sig .tc := ⟨.hbm, 94, rfl⟩
abbrev main_v53 : Ref sig .tc := ⟨.hbm, 95, rfl⟩
abbrev main_cst_3 : Ref sig .tc := ⟨.hbm, 96, rfl⟩
abbrev main_v54 : Ref sig .tc := ⟨.hbm, 97, rfl⟩
abbrev main_v55 : Ref sig .tc := ⟨.hbm, 98, rfl⟩
abbrev main_cst_4 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩

abbrev nD : Nat := 1
abbrev τ : Topo := Topo.v7x

variable {F : FTy → Type} [FloatOps F]
-- ==== Proof.Gla.Loops.lean ====
module

public import proofs.«01_k».proof.Proof.Gen.KernelIdeal.Frame
public import proofs.«01_k».proof.Proof.Gen.KernelIdeal.Skeleton
public import Idealize.ShloMosaic.Lib.WritesUnit
public import Idealize.ShloMosaic.Lib.Pointwise

/-! The two counted loops of the gated-linear-attention kernel's body, each by its invariant: what the state buffer holds
    after `k` trips, as an array. The first loop leaves in slot `i` the outer product of chunk `i`'s values and decayed keys;
    the second leaves in slot `i` the state before chunk `i` and carries the state after it. -/

@[expose] public section

set_option maxRecDepth 16384

noncomputable section

namespace Cert.KernelIdeal.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem trips1 : k0_t1_loop.trips = 64 := by decide
theorem trips2 : k0_t2_loop.trips = 64 := by decide

/-! ## The first loop -/

/-- What trip `k` stores: the product of chunk `k`'s values with its decayed keys. -/
def upd (x4 : Vec F S2048x256 .bf16) (x15 : Vec F S2048x128 .bf16) (k : Fin k0_t1_loop.trips) : FVec F S1x256x128 .f32 :=
  k0_pay18 (View.ld x4 (Rect.unit (s := S2048x256) (k0_off1 k) S32x256.size (k0_off1_inb k)))
    (View.ld x15 (Rect.unit (s := S2048x128) (k0_off2 k) S32x128.size (k0_off2_inb k)))

/-- The state buffer after `k` trips of the first loop, over contents `g`. -/
def updArr (x4 : Vec F S2048x256 .bf16) (x15 : Vec F S2048x128 .bf16) (g : Vec F S64x256x128 .f32) (k : ℕ) : Vec F S64x256x128 .f32 :=
  fun j => if (j 0).val < k then upd x4 x15 ⟨(j 0).val, trips1 ▸ (j 0).isLt⟩ (ix3 0 (j 1) (j 2)) else g j

/-- The state carried before trip `k` of the second loop, over the first loop's products `u` and the decays `x16`. -/
def stAt (x16 : Vec F S2048x128 .f32) (u : Vec F S64x256x128 .f32) : ℕ → FVec F S256x128 .f32
  | 0 => k0_pay19
  | k + 1 => if h : k < k0_t2_loop.trips then
      k0_pay20 (stAt x16 u k) (View.ld x16 (Rect.unit (s := S2048x128) (k0_off4 ⟨k, h⟩) S1x128.size (k0_off4_inb ⟨k, h⟩)))
        (View.ld u (Rect.unit (s := S64x256x128) (k0_off5 ⟨k, h⟩) S1x256x128.size (k0_off5_inb ⟨k, h⟩)))
    else stAt x16 u k

/-- The state buffer after `k` trips of the second loop. -/
def stArr (x16 : Vec F S2048x128 .f32) (u : Vec F S64x256x128 .f32) (k : ℕ) : Vec F S64x256x128 .f32 :=
  fun j => if (j 0).val < k then stAt x16 u (j 0).val (ix2 (j 1) (j 2)) else u j

theorem stAt_succ (x16 : Vec F S2048x128 .f32) (u : Vec F S64x256x128 .f32) (k : Fin k0_t2_loop.trips) :
    stAt x16 u (k.val + 1) = k0_pay20 (stAt x16 u k.val)
      (View.ld x16 (Rect.unit (s := S2048x128) (k0_off4 k) S1x128.size (k0_off4_inb k)))
      (View.ld u (Rect.unit (s := S64x256x128) (k0_off5 k) S1x256x128.size (k0_off5_inb k))) := by
  rw [stAt, dif_pos k.isLt]

/-- A store of slot `k` over an array, read as an array. -/
theorem read_slot (v : View sig .tc .vmem S64x256x128 .f32) (f : v.ty.Contents (Elt F)) (off : Fin 3 → ℕ) (k : ℕ)
    (inb : ∀ a, off a + S1x256x128.size a ≤ S64x256x128.size a) (w : FVec F S1x256x128 .f32) (hoff : off = ![k, 0, 0])
    (j : S64x256x128.Idx) :
    v.read (Elt F) (v.writes (Elt F) f [⟨Rect.unit (s := S64x256x128) off S1x256x128.size inb, w⟩]) j
      = if (j 0).val = k then w (ix3 0 (j 1) (j 2)) else v.read (Elt F) f j := by
  by_cases h : (j 0).val = k
  · rw [if_pos h]
    refine View.read_writes_cons_unit_of_mem v f inb w [] j (ix3 0 (j 1) (j 2)) hoff fun a => ?_
    fin_cases a
    · exact h.trans (Nat.add_zero k).symm
    · exact (Nat.zero_add _).symm
    · exact (Nat.zero_add _).symm
  · rw [if_neg h]
    refine (View.read_writes_cons_unit_of_not_mem v f inb w [] j hoff 0 ?_).trans rfl
    show (j 0).val < k ∨ k + 1 ≤ (j 0).val
    omega

/-- One more trip of the first loop. -/
theorem updArr_succ (x4 : Vec F S2048x256 .bf16) (x15 : Vec F S2048x128 .bf16) (g : Vec F S64x256x128 .f32) (k : Fin k0_t1_loop.trips) (j : S64x256x128.Idx) :
    (if (j 0).val = k.val then upd x4 x15 k (ix3 0 (j 1) (j 2)) else updArr x4 x15 g k.val j) = updArr x4 x15 g (k.val + 1) j := by
  unfold updArr
  by_cases h : (j 0).val = k.val
  · rw [if_pos h, if_pos (by omega)]
    congr 2
    exact Fin.ext h.symm
  · rw [if_neg h]
    by_cases h' : (j 0).val < k.val
    · rw [if_pos h', if_pos (by omega)]
    · rw [if_neg h', if_neg (by omega)]

/-- One more trip of the second loop. -/
theorem stArr_succ (x16 : Vec F S2048x128 .f32) (u : Vec F S64x256x128 .f32) (k : ℕ) (j : S64x256x128.Idx) :
    (if (j 0).val = k then k0_pay21 (stAt x16 u k) (ix3 0 (j 1) (j 2)) else stArr x16 u k j) = stArr x16 u (k + 1) j := by
  unfold stArr
  by_cases h : (j 0).val = k
  · rw [if_pos h, if_pos (by omega), h]
    pointwise [k0_pay21]
  · rw [if_neg h]
    by_cases h' : (j 0).val < k
    · rw [if_pos h', if_pos (by omega)]
    · rw [if_neg h', if_neg (by omega)]

/-- Slot `k` is still the first loop's when trip `k` of the second loads it. -/
theorem ld_stArr (x16 : Vec F S2048x128 .f32) (u : Vec F S64x256x128 .f32) (k : Fin k0_t2_loop.trips) :
    View.ld (stArr x16 u k.val) (Rect.unit (s := S64x256x128) (k0_off5 k) S1x256x128.size (k0_off5_inb k))
      = View.ld u (Rect.unit (s := S64x256x128) (k0_off5 k) S1x256x128.size (k0_off5_inb k)) := by
  funext x
  refine if_neg ?_
  show ¬ (k0_off5 k 0 + 1 * (x 0).val < k.val)
  have h0 : k0_off5 k 0 = k.val := congrFun (k0_off5_eq k) 0
  omega

/-- The state buffer's contents after `k` trips, given as an array from the first trip on. -/
def bufAt {arg17 : Memref sig .tc .vmem S64x256x128 .f32} (harg17 : arg17.IsWhole) (G : BufTy.Contents (Elt F) arg17.view.ty)
    (A : ℕ → Vec F S64x256x128 .f32) : ℕ → BufTy.Contents (Elt F) arg17.view.ty
  | 0 => G
  | k + 1 => harg17.unread (A (k + 1))

theorem read_bufAt {arg17 : Memref sig .tc .vmem S64x256x128 .f32} (harg17 : arg17.IsWhole) (G : BufTy.Contents (Elt F) arg17.view.ty)
    (A : ℕ → Vec F S64x256x128 .f32) (h0 : A 0 = arg17.view.read (Elt F) G) (k : ℕ) : arg17.view.read (Elt F) (bufAt harg17 G A k) = A k := by
  cases k with
  | zero => exact h0.symm
  | succ k => exact harg17.read_unread _

theorem updArr_zero (x4 : Vec F S2048x256 .bf16) (x15 : Vec F S2048x128 .bf16) (g : Vec F S64x256x128 .f32) : updArr x4 x15 g 0 = g := by
  funext j; exact if_neg (by omega)

theorem stArr_zero (x16 : Vec F S2048x128 .f32) (u : Vec F S64x256x128 .f32) : stArr x16 u 0 = u := by
  funext j; exact if_neg (by omega)

section Run
variable (𝒱 : Variants) (c : Dev nD) (bd : Option 𝒱.V) (E : Set ℕ) (i : grid0.Coords)
variable (arg2 : Memref sig .tc .vmem S2048x128 .f32) (harg2 : arg2.IsWhole) (arg3 : Memref sig .tc .vmem S2048x128 .f32) (harg3 : arg3.IsWhole) (arg4 : Memref sig .tc .vmem S2048x256 .bf16) (harg4 : arg4.IsWhole) (arg5 : Memref sig .tc .vmem S2048x256 .f32) (harg5 : arg5.IsWhole) (arg6 : Memref sig .tc .vmem S2048x128 .f32) (harg6 : arg6.IsWhole) (arg7 : Memref sig .tc .vmem S16x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S2048x256 .bf16) (harg10 : arg10.IsWhole) (arg11 : Memref sig .tc .vmem S1x1x128x256 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S64x256x128 .f32) (harg17 : arg17.IsWhole)
variable (c0_i32_38 : BitVec 32) (c64_i32 : BitVec 32)

set_option maxHeartbeats 4000000 in
set_option warn.classDefReducibility false in
/-- The first loop by its invariant. -/
@[sl_loop] def loop1 (X4 : BufTy.Contents (Elt F) arg4.view.ty) (X15 : BufTy.Contents (Elt F) arg15.view.ty) (G : BufTy.Contents (Elt F) arg17.view.ty) :
    Idealize.ShloMosaic.LoopInv (M := 𝕄) Idealize.ShloMosaic.frame (wpE defs₀ 𝒱 (c : Thread nD τ) bd) E
      k0_t1_loop.lb k0_t1_loop.ub k0_t1_loop.st k0_t1_ok () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_38 c64_i32) where
  inv k _ := iprop((arg4.view.loc (c : Thread nD τ) ↦[arg4.view.set]{fullShare} X4) ∗ (arg15.view.loc (c : Thread nD τ) ↦[arg15.view.set]{fullShare} X15)
    ∗ (∃ f, (arg17.view.loc (c : Thread nD τ) ↦[arg17.view.set]{fullShare} f)
      ∗ ⌜f = bufAt harg17 G (updArr (arg4.view.read (Elt F) X4) (arg15.view.read (Elt F) X15) (arg17.view.read (Elt F) G)) k⌝))
  step k acc := by
    have hk : k.val < 64 := Nat.lt_of_lt_of_le k.isLt k0_t1_abs.2.1
    iintro ⟨HR4, HR15, ⟨%f, HW, %hf⟩⟩
    unfold k0_t1_body
    sl_exec
    sl_step
    isplitl [HR4]; · iexact HR4
    isplitl [HR15]; · iexact HR15
    iexists _; isplitl [HW]; · iexact HW
    ipureintro
    refine harg17.eq_unread (funext fun j => ?_)
    refine (read_slot (F := F) _ _ _ k.val _ _ (k0_off3_eq k) j).trans ?_
    rw [hf, read_bufAt harg17 G _ (updArr_zero _ _ _)]
    exact updArr_succ _ _ _ k j

set_option maxHeartbeats 4000000 in
set_option warn.classDefReducibility false in
/-- The second loop by its invariant. -/
@[sl_loop] def loop2 (X16 : BufTy.Contents (Elt F) arg16.view.ty) (G : BufTy.Contents (Elt F) arg17.view.ty) :
    Idealize.ShloMosaic.LoopInv (M := 𝕄) Idealize.ShloMosaic.frame (wpE defs₀ 𝒱 (c : Thread nD τ) bd) E
      k0_t2_loop.lb k0_t2_loop.ub k0_t2_loop.st k0_t2_ok (k0_pay19 (F := F)) (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 c0_i32_38 c64_i32) where
  inv k acc := iprop((arg16.view.loc (c : Thread nD τ) ↦[arg16.view.set]{fullShare} X16)
    ∗ (∃ f, (arg17.view.loc (c : Thread nD τ) ↦[arg17.view.set]{fullShare} f)
      ∗ ⌜f = bufAt harg17 G (stArr (arg16.view.read (Elt F) X16) (arg17.view.read (Elt F) G)) k⌝)
    ∗ ⌜acc = stAt (arg16.view.read (Elt F) X16) (arg17.view.read (Elt F) G) k⌝)
  step k acc := by
    have hk : k.val < 64 := Nat.lt_of_lt_of_le k.isLt k0_t2_abs.2.1
    iintro ⟨HR16, ⟨%f, HW, %hf⟩, %hacc⟩
    unfold k0_t2_body
    sl_exec
    sl_step
    isplitl [HR16]; · iexact HR16
    isplitl [HW]
    · iexists _; isplitl [HW]; · iexact HW
      ipureintro
      refine harg17.eq_unread (funext fun j => ?_)
      refine (read_slot (F := F) _ _ _ k.val _ _ (k0_off5_eq k) j).trans ?_
      rw [hf, hacc, read_bufAt harg17 G _ (stArr_zero _ _)]
      exact stArr_succ _ _ k.val j
    · ipureintro
      rw [hacc, hf, stAt_succ]
      rw [View.readAt_eq_ld, View.readAt_eq_ld, read_bufAt harg17 G _ (stArr_zero _ _), ld_stArr]
end Run

end Cert.KernelIdeal.Gla

end
-- ==== Proof.Gla.Pure.lean ====
module

public import proofs.«01_k».proof.Proof.Gla.Loops

/-! What the gated-linear-attention kernel's body computes at a grid point, as functions of its loaded blocks: the gate and its
    in-chunk prefix sums, the scaled queries and keys, the state before every chunk, and the sixteen groups of four chunks. -/

@[expose] public section

set_option maxRecDepth 16384

noncomputable section

namespace Cert.KernelIdeal.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## The gate, its prefix sums, and the scaled queries and keys -/

def w32 : BitVec 32 := Scalar.select (Scalar.cmpi .eq 32#32 0#32) 1#32 32#32
def w39 : BitVec 1 := Scalar.cmpi .slt w32 0#32

/-- The log decay of every row and key channel. -/
def gate (x4 : Vec F S2048x128 .f32) (x5 : Vec F S16x128 .bf16) (x6 : Vec F S1x128 .f32) : FVec F S2048x128 .f32 :=
  k0_pay2 (View.ld x4 (Rect.unit (s := S2048x128) ![0, 48] S2048x16.size inb_S2048x128_S2048x16_0_48))
    (View.ld x5 (Rect.unit (s := S16x128) ![0, 0] S16x128.size inb_S16x128_S16x128_0_0))
    (View.ld x6 (Rect.unit (s := S1x128) ![0, 0] S1x128.size inb_S1x128_S1x128_0_0))

/-- The inclusive prefix sums of the gate within each chunk of 32 rows. -/
def cum (g : FVec F S2048x128 .f32) : FVec F S2048x128 .f32 := k0_pay6 g w32 k0_pay3 k0_pay4 k0_pay5 w39
/-- Each row's chunk's whole gate sum. -/
def cumLast (g : FVec F S2048x128 .f32) : FVec F S2048x128 .f32 := k0_pay8 g w32 k0_pay3 k0_pay4 k0_pay5 w39
/-- Each chunk's gate sum to its middle. -/
def cumMid (g : FVec F S2048x128 .f32) : FVec F S64x32x128 .f32 := k0_pay9 g w32 k0_pay3 k0_pay4 k0_pay5 w39

/-- A whole load of a `2048 × 128` block. -/
def ldQ (x : Vec F S2048x128 .f32) : Vec F S2048x128 .f32 :=
  View.ld x (Rect.unit (s := S2048x128) ![0, 0] S2048x128.size inb_S2048x128_S2048x128_0_0)

def qeArr (g : FVec F S2048x128 .f32) (x0 : Vec F S2048x128 .f32) : FVec F S2048x128 .bf16 := k0_pay13 (cum g) (ldQ x0)
def qtArr (g : FVec F S2048x128 .f32) (x0 : Vec F S2048x128 .f32) : FVec F S2048x128 .bf16 := k0_pay14 (cum g) (cumMid g) (ldQ x0)
def ktArr (g : FVec F S2048x128 .f32) (x1 : Vec F S2048x128 .f32) : FVec F S2048x128 .bf16 := k0_pay15 (cum g) (cumMid g) (ldQ x1)
def khArr (g : FVec F S2048x128 .f32) (x1 : Vec F S2048x128 .f32) : FVec F S2048x128 .bf16 := k0_pay16 (cum g) (cumLast g) (ldQ x1)
def dArr (g : FVec F S2048x128 .f32) : FVec F S2048x128 .f32 := k0_pay17 (cumLast g)

/-! ## The state buffer after both loops -/

/-- Slot `i`: chunk `i`'s product of values and decayed keys. -/
def uArr (x2 : Vec F S2048x256 .bf16) (kh : Vec F S2048x128 .bf16) : Vec F S64x256x128 .f32 :=
  fun j => upd x2 kh ⟨(j 0).val, trips1 ▸ (j 0).isLt⟩ (ix3 0 (j 1) (j 2))

/-- Slot `i`: the state before chunk `i`. -/
def sArr (d : Vec F S2048x128 .f32) (u : Vec F S64x256x128 .f32) : Vec F S64x256x128 .f32 :=
  fun j => stAt d u (j 0).val (ix2 (j 1) (j 2))

theorem updArr_trips (x2 : Vec F S2048x256 .bf16) (kh : Vec F S2048x128 .bf16) (g : Vec F S64x256x128 .f32) :
    updArr x2 kh g k0_t1_loop.trips = uArr x2 kh := by
  rw [trips1]; funext j; exact if_pos (j 0).isLt

theorem stArr_trips (d : Vec F S2048x128 .f32) (u : Vec F S64x256x128 .f32) : stArr d u k0_t2_loop.trips = sArr d u := by
  rw [trips2]; funext j; exact if_pos (j 0).isLt

/-! ## A group of four chunks -/

/-- Which pairs of rows of a group attend: the same chunk, and not a later row. -/
def keepMask : IVec S128x128 1 :=
  k0_pay26 (iota .tc S128x128 32 [0] iota_S128x128_d0_w32) (iota .tc S128x128 32 [1] iota_S128x128_d1_w32) k0_pay23 32#32 k0_pay24 k0_pay25

/-- The group's output before the norm. -/
def groupO (qt kt : Vec F S128x128 .bf16) (v : Vec F S128x256 .bf16) (qe0 qe1 qe2 qe3 : Vec F S32x128 .bf16) (u0 u1 u2 u3 : Vec F S1x256x128 .f32) :
    FVec F S128x256 .f32 :=
  addf (k0_pay28 (iota .tc S128x128 32 [0] iota_S128x128_d0_w32) (iota .tc S128x128 32 [1] iota_S128x128_d1_w32) k0_pay23 32#32 k0_pay24 k0_pay25 qt kt v)
    (concatenate S128x256 0 [⟨S32x256, k0_pay29 qe0 u0⟩, ⟨S32x256, k0_pay30 qe1 u1⟩, ⟨S32x256, k0_pay31 qe2 u2⟩, ⟨S32x256, k0_pay31 qe3 u3⟩]
      concatenates_S32x256_S32x256_S32x256_S32x256_S128x256_d0)

/-- The group's norm and gate. -/
def finish (ng : Vec F S1x256 .f32) (o : FVec F S128x256 .f32) (rr : Vec F S128x256 .f32) : FVec F S128x256 .bf16 :=
  let m : FVec F S128x1 .f32 := shapeCast S128x1 (multiReduction .add [1] S128 (mulf o o) 0x00000000#32 reduces_S128x256_S128 (.inl rfl) rfl) shapeCasts_S128_S128x1
  let n : FVec F S128x1 .f32 := rsqrt (addf (divf m (broadcast S128x1 (Scalar.ofBits .f32 0x43800000#32))) (broadcast S128x1 (Scalar.ofBits .f32 0x358637BD#32)))
  let s : FVec F S128x256 .f32 := shapeCast S128x256 rr shapeCasts_S128x256_S128x256
  truncf .bf16 (mulf (mulf (mulf o (broadcastTo S128x256 n broadcasts_S128x1_S128x256))
      (broadcastTo S128x256 (shapeCast S1x256 ng shapeCasts_S1x256_S1x256) broadcasts_S1x256_S128x256)) (mulf s (logistic s))) bitsLt_bf16_f32

theorem inbRow (r : Fin 16) : ∀ a, (![128 * r.val, 0] : Fin 2 → ℕ) a + S128x128.size a ≤ S2048x128.size a := by
  intro a; fin_cases a
  · show 128 * r.val + 128 ≤ 2048; omega
  · show 0 + 128 ≤ 128; omega
theorem inbRowV (r : Fin 16) : ∀ a, (![128 * r.val, 0] : Fin 2 → ℕ) a + S128x256.size a ≤ S2048x256.size a := by
  intro a; fin_cases a
  · show 128 * r.val + 128 ≤ 2048; omega
  · show 0 + 256 ≤ 256; omega
theorem inbQe (r : Fin 16) (j : Fin 4) : ∀ a, (![128 * r.val + 32 * j.val, 0] : Fin 2 → ℕ) a + S32x128.size a ≤ S2048x128.size a := by
  intro a; fin_cases a
  · show 128 * r.val + 32 * j.val + 32 ≤ 2048; omega
  · show 0 + 128 ≤ 128; omega
theorem inbSlot (r : Fin 16) (j : Fin 4) : ∀ a, (![4 * r.val + j.val, 0, 0] : Fin 3 → ℕ) a + S1x256x128.size a ≤ S64x256x128.size a := by
  intro a; fin_cases a
  · show 4 * r.val + j.val + 1 ≤ 64; omega
  · show 0 + 256 ≤ 256; omega
  · show 0 + 128 ≤ 128; omega

/-- Rows `128 r …` of the group `r`'s output before the norm. -/
def rowO (qt kt qe : Vec F S2048x128 .bf16) (v : Vec F S2048x256 .bf16) (u : Vec F S64x256x128 .f32) (r : Fin 16) : FVec F S128x256 .f32 :=
  groupO (View.ld qt (Rect.unit (s := S2048x128) ![128 * r.val, 0] S128x128.size (inbRow r)))
    (View.ld kt (Rect.unit (s := S2048x128) ![128 * r.val, 0] S128x128.size (inbRow r)))
    (View.ld v (Rect.unit (s := S2048x256) ![128 * r.val, 0] S128x256.size (inbRowV r)))
    (View.ld qe (Rect.unit (s := S2048x128) ![128 * r.val + 32 * (0 : Fin 4).val, 0] S32x128.size (inbQe r 0)))
    (View.ld qe (Rect.unit (s := S2048x128) ![128 * r.val + 32 * (1 : Fin 4).val, 0] S32x128.size (inbQe r 1)))
    (View.ld qe (Rect.unit (s := S2048x128) ![128 * r.val + 32 * (2 : Fin 4).val, 0] S32x128.size (inbQe r 2)))
    (View.ld qe (Rect.unit (s := S2048x128) ![128 * r.val + 32 * (3 : Fin 4).val, 0] S32x128.size (inbQe r 3)))
    (View.ld u (Rect.unit (s := S64x256x128) ![4 * r.val + (0 : Fin 4).val, 0, 0] S1x256x128.size (inbSlot r 0)))
    (View.ld u (Rect.unit (s := S64x256x128) ![4 * r.val + (1 : Fin 4).val, 0, 0] S1x256x128.size (inbSlot r 1)))
    (View.ld u (Rect.unit (s := S64x256x128) ![4 * r.val + (2 : Fin 4).val, 0, 0] S1x256x128.size (inbSlot r 2)))
    (View.ld u (Rect.unit (s := S64x256x128) ![4 * r.val + (3 : Fin 4).val, 0, 0] S1x256x128.size (inbSlot r 3)))

/-- What group `r` stores. -/
def rowOut (qt kt qe : Vec F S2048x128 .bf16) (v : Vec F S2048x256 .bf16) (u : Vec F S64x256x128 .f32) (rr : Vec F S2048x256 .f32) (ng : Vec F S1x256 .f32)
    (r : Fin 16) : FVec F S128x256 .bf16 :=
  finish (View.ld ng (Rect.unit (s := S1x256) ![0, 0] S1x256.size inb_S1x256_S1x256_0_0)) (rowO qt kt qe v u r)
    (View.ld rr (Rect.unit (s := S2048x256) ![128 * r.val, 0] S128x256.size (inbRowV r)))

/-- Sixteen blocks of 128 rows as one array. -/
def stack16 (P : Fin 16 → FVec F S128x256 .bf16) : Vec F S2048x256 .bf16 :=
  fun j => P ⟨(j 0).val / 128, by have : (j 0).val < 2048 := (j 0).isLt; omega⟩ (ix2 ⟨(j 0).val % 128, Nat.mod_lt _ (by decide)⟩ (j 1))

theorem read_cons16 (v : View sig .tc .vmem S2048x256 .bf16) (f : v.ty.Contents (Elt F)) (P : Fin 16 → FVec F S128x256 .bf16) (L : List (View.Piece (Elt F) S2048x256 .bf16))
    (j : S2048x256.Idx) (o : Fin 2 → ℕ) (inb : ∀ a, o a + S128x256.size a ≤ S2048x256.size a) (r : Fin 16) (ho : o = ![128 * r.val, 0])
    (h : v.read (Elt F) (v.writes (Elt F) f L) j = stack16 P j ∨ (j 0).val / 128 = r.val) :
    v.read (Elt F) (v.writes (Elt F) f (⟨Rect.unit (s := S2048x256) o S128x256.size inb, P r⟩ :: L)) j = stack16 P j := by
  by_cases hr : (j 0).val / 128 = r.val
  · refine (View.read_writes_cons_rows_of_mem v f inb (P r) L j (ix2 ⟨(j 0).val % 128, Nat.mod_lt _ (by decide)⟩ (j 1)) ho ?_ rfl).trans ?_
    · show (j 0).val = 128 * r.val + (j 0).val % 128
      omega
    · unfold stack16
      congr 2
      exact Fin.ext hr.symm
  · refine (View.read_writes_cons_rows_of_not_mem v f inb (P r) L j ho (W := 128) rfl ?_).trans (h.resolve_right hr)
    omega

/-- The sixteen stores of the rows, read as one array. -/
theorem read_stack16 (v : View sig .tc .vmem S2048x256 .bf16) (f : v.ty.Contents (Elt F)) (P : Fin 16 → FVec F S128x256 .bf16) :
    v.read (Elt F) (v.writes (Elt F) f
      [ ⟨Rect.unit (s := S2048x256) ![1920, 0] S128x256.size (inbRowV 15), P 15⟩,
        ⟨Rect.unit (s := S2048x256) ![1792, 0] S128x256.size (inbRowV 14), P 14⟩,
        ⟨Rect.unit (s := S2048x256) ![1664, 0] S128x256.size (inbRowV 13), P 13⟩,
        ⟨Rect.unit (s := S2048x256) ![1536, 0] S128x256.size (inbRowV 12), P 12⟩,
        ⟨Rect.unit (s := S2048x256) ![1408, 0] S128x256.size (inbRowV 11), P 11⟩,
        ⟨Rect.unit (s := S2048x256) ![1280, 0] S128x256.size (inbRowV 10), P 10⟩,
        ⟨Rect.unit (s := S2048x256) ![1152, 0] S128x256.size (inbRowV 9), P 9⟩,
        ⟨Rect.unit (s := S2048x256) ![1024, 0] S128x256.size (inbRowV 8), P 8⟩,
        ⟨Rect.unit (s := S2048x256) ![896, 0] S128x256.size (inbRowV 7), P 7⟩,
        ⟨Rect.unit (s := S2048x256) ![768, 0] S128x256.size (inbRowV 6), P 6⟩,
        ⟨Rect.unit (s := S2048x256) ![640, 0] S128x256.size (inbRowV 5), P 5⟩,
        ⟨Rect.unit (s := S2048x256) ![512, 0] S128x256.size (inbRowV 4), P 4⟩,
        ⟨Rect.unit (s := S2048x256) ![384, 0] S128x256.size (inbRowV 3), P 3⟩,
        ⟨Rect.unit (s := S2048x256) ![256, 0] S128x256.size (inbRowV 2), P 2⟩,
        ⟨Rect.unit (s := S2048x256) ![128, 0] S128x256.size (inbRowV 1), P 1⟩,
        ⟨Rect.unit (s := S2048x256) ![0, 0] S128x256.size (inbRowV 0), P 0⟩ ])
      = stack16 P := by
  funext j
  have hj : (j 0).val < 2048 := (j 0).isLt
  have hd : (j 0).val / 128 < 16 := by omega
  repeat (refine read_cons16 v f P _ j _ _ _ rfl ?_; refine or_iff_not_imp_right.mpr fun _ => ?_)
  omega

/-! ## The two outputs -/

/-- The state buffer after the loops, from the loaded blocks. -/
def uOf (x1 : Vec F S2048x128 .f32) (x2 : Vec F S2048x256 .bf16) (g : FVec F S2048x128 .f32) : Vec F S64x256x128 .f32 := uArr x2 (khArr g x1)

/-- The block of outputs. -/
def outO (x0 x1 : Vec F S2048x128 .f32) (x2 : Vec F S2048x256 .bf16) (x3 : Vec F S2048x256 .f32) (g : FVec F S2048x128 .f32) (x7 : Vec F S1x256 .f32) : Vec F S2048x256 .bf16 :=
  stack16 (rowOut (qtArr g x0) (ktArr g x1) (qeArr g x0) x2 (sArr (dArr g) (uOf x1 x2 g)) x3 x7)

/-- The final state. -/
def outS (x1 : Vec F S2048x128 .f32) (x2 : Vec F S2048x256 .bf16) (g : FVec F S2048x128 .f32) : FVec F S1x1x128x256 .f32 :=
  k0_pay22 (stAt (dArr g) (uOf x1 x2 g) 64)

end Cert.KernelIdeal.Gla

end
-- ==== Proof.Gla.Run.lean ====
module

public import proofs.«01_k».proof.Proof.Gla.Pure
public import Idealize.ShloMosaic.Lib.VecWindow

/-! The body of the gated-linear-attention kernel, run once at any grid point. -/

@[expose] public section

set_option maxRecDepth 16384

noncomputable section

namespace Cert.KernelIdeal.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 6400000 in
theorem body_run (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x256 .bf16) (harg4 : arg4.IsWhole) (arg5 : Memref sig .tc .vmem S2048x256 .f32) (harg5 : arg5.IsWhole) (arg6 : Memref sig .tc .vmem S2048x128 .f32) (harg6 : arg6.IsWhole) (arg7 : Memref sig .tc .vmem S16x128 .bf16) (harg7 : arg7.IsWhole) (arg8 : Memref sig .tc .vmem S1x128 .f32) (harg8 : arg8.IsWhole) (arg9 : Memref sig .tc .vmem S1x256 .f32) (harg9 : arg9.IsWhole) (arg10 : Memref sig .tc .vmem S2048x256 .bf16) (harg10 : arg10.IsWhole) (arg11 : Memref sig .tc .vmem S1x1x128x256 .f32) (harg11 : arg11.IsWhole) (arg12 : Memref sig .tc .vmem S2048x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S2048x128 .f32) (harg16 : arg16.IsWhole) (arg17 : Memref sig .tc .vmem S64x256x128 .f32) (harg17 : arg17.IsWhole)
    (x0 : Vec F S2048x128 .f32) (x1 : Vec F S2048x128 .f32) (x2 : Vec F S2048x256 .bf16) (x3 : Vec F S2048x256 .f32) (x4 : Vec F S2048x128 .f32) (x5 : Vec F S16x128 .bf16) (x6 : Vec F S1x128 .f32) (x7 : Vec F S1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outO x0 x1 x2 x3 (gate x4 x5 x6) x7) ∗ owns (c : Thread nD τ) arg11 fullShare (outS x1 x2 (gate x4 x5 x6)) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0__gla_prompt_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0__gla_prompt_kernel_eq_skeleton]; unfold cc0__gla_prompt_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg4.read_unread _
    isplitl [H3]
    · iexists _; isplitr; swap; · iexact H3
      ipureintro; exact harg5.read_unread _
    isplitl [H4]
    · iexists _; isplitr; swap; · iexact H4
      ipureintro; exact harg6.read_unread _
    isplitl [H5]
    · iexists _; isplitr; swap; · iexact H5
      ipureintro; exact harg7.read_unread _
    isplitl [H6]
    · iexists _; isplitr; swap; · iexact H6
      ipureintro; exact harg8.read_unread _
    isplitl [H7]
    · iexists _; isplitr; swap; · iexact H7
      ipureintro; exact harg9.read_unread _
    isplitl [H8]
    · iexists _; isplitr; swap; · iexact H8
      ipureintro
      have e15 : arg15.view.read (Elt F) (arg15.view.writes (Elt F) arg15.view.junk (body_run.sl.HS3_1 c arg3 harg3 arg6 harg6 arg7 harg7 arg8 harg8 x1 x4 x5 x6)) = khArr (gate x4 x5 x6) x1 := by
        refine (View.read_writes_full _ _ _ _ _).trans ?_
        show khArr (gate (arg6.view.read (Elt F) (harg6.unread x4)) (arg7.view.read (Elt F) (harg7.unread x5)) (arg8.view.read (Elt F) (harg8.unread x6))) (arg3.view.read (Elt F) (harg3.unread x1)) = _
        rw [hf1, hf4, hf5, hf6]
      have e16 : arg16.view.read (Elt F) (arg16.view.writes (Elt F) arg16.view.junk (body_run.sl.HS4_1 c arg6 harg6 arg7 harg7 arg8 harg8 x4 x5 x6)) = dArr (gate x4 x5 x6) := by
        refine (View.read_writes_full _ _ _ _ _).trans ?_
        show dArr (gate (arg6.view.read (Elt F) (harg6.unread x4)) (arg7.view.read (Elt F) (harg7.unread x5)) (arg8.view.read (Elt F) (harg8.unread x6))) = _
        rw [hf4, hf5, hf6]
      have eu : ∀ X15, arg17.view.read (Elt F) (bufAt harg17 fs5 (updArr (arg4.view.read (Elt F) (harg4.unread x2)) X15 (arg17.view.read (Elt F) fs5)) k0_t1_loop.trips) = uArr x2 X15 := by
        intro X15
        rw [read_bufAt harg17 _ _ (updArr_zero _ _ _), updArr_trips, hf2]
      have e12 : arg12.view.read (Elt F) (arg12.view.writes (Elt F) arg12.view.junk (body_run.sl.HS0_1 c arg2 harg2 arg6 harg6 arg7 harg7 arg8 harg8 x0 x4 x5 x6)) = qeArr (gate x4 x5 x6) x0 := by
        refine (View.read_writes_full _ _ _ _ _).trans ?_
        show qeArr (gate (arg6.view.read (Elt F) (harg6.unread x4)) (arg7.view.read (Elt F) (harg7.unread x5)) (arg8.view.read (Elt F) (harg8.unread x6))) (arg2.view.read (Elt F) (harg2.unread x0)) = _
        rw [hf0, hf4, hf5, hf6]
      have e13 : arg13.view.read (Elt F) (arg13.view.writes (Elt F) arg13.view.junk (body_run.sl.HS1_1 c arg2 harg2 arg6 harg6 arg7 harg7 arg8 harg8 x0 x4 x5 x6)) = qtArr (gate x4 x5 x6) x0 := by
        refine (View.read_writes_full _ _ _ _ _).trans ?_
        show qtArr (gate (arg6.view.read (Elt F) (harg6.unread x4)) (arg7.view.read (Elt F) (harg7.unread x5)) (arg8.view.read (Elt F) (harg8.unread x6))) (arg2.view.read (Elt F) (harg2.unread x0)) = _
        rw [hf0, hf4, hf5, hf6]
      have e14 : arg14.view.read (Elt F) (arg14.view.writes (Elt F) arg14.view.junk (body_run.sl.HS2_1 c arg3 harg3 arg6 harg6 arg7 harg7 arg8 harg8 x1 x4 x5 x6)) = ktArr (gate x4 x5 x6) x1 := by
        refine (View.read_writes_full _ _ _ _ _).trans ?_
        show ktArr (gate (arg6.view.read (Elt F) (harg6.unread x4)) (arg7.view.read (Elt F) (harg7.unread x5)) (arg8.view.read (Elt F) (harg8.unread x6))) (arg3.view.read (Elt F) (harg3.unread x1)) = _
        rw [hf1, hf4, hf5, hf6]
      let X15 := arg15.view.read (Elt F) (arg15.view.writes (Elt F) arg15.view.junk (body_run.sl.HS3_1 c arg3 harg3 arg6 harg6 arg7 harg7 arg8 harg8 x1 x4 x5 x6))
      let X16 := arg16.view.read (Elt F) (arg16.view.writes (Elt F) arg16.view.junk (body_run.sl.HS4_1 c arg6 harg6 arg7 harg7 arg8 harg8 x4 x5 x6))
      let B1 := bufAt harg17 fs5 (updArr (arg4.view.read (Elt F) (harg4.unread x2)) X15 (arg17.view.read (Elt F) fs5)) k0_t1_loop.trips
      let U := arg17.view.read (Elt F) (bufAt harg17 B1 (stArr X16 (arg17.view.read (Elt F) B1)) k0_t2_loop.trips)
      have eU : U = sArr (dArr (gate x4 x5 x6)) (uOf x1 x2 (gate x4 x5 x6)) := by
        refine (read_bufAt harg17 _ _ (stArr_zero _ _) _).trans ?_
        rw [stArr_trips, show arg17.view.read (Elt F) B1 = uArr x2 X15 from eu X15, show X16 = _ from e16, show X15 = _ from e15]
        rfl
      refine (read_stack16 arg10.view f8 (rowOut
        (arg13.view.read (Elt F) (arg13.view.writes (Elt F) arg13.view.junk (body_run.sl.HS1_1 c arg2 harg2 arg6 harg6 arg7 harg7 arg8 harg8 x0 x4 x5 x6)))
        (arg14.view.read (Elt F) (arg14.view.writes (Elt F) arg14.view.junk (body_run.sl.HS2_1 c arg3 harg3 arg6 harg6 arg7 harg7 arg8 harg8 x1 x4 x5 x6)))
        (arg12.view.read (Elt F) (arg12.view.writes (Elt F) arg12.view.junk (body_run.sl.HS0_1 c arg2 harg2 arg6 harg6 arg7 harg7 arg8 harg8 x0 x4 x5 x6)))
        (arg4.view.read (Elt F) (harg4.unread x2)) U (arg5.view.read (Elt F) (harg5.unread x3)) (arg9.view.read (Elt F) (harg9.unread x7)))).trans ?_
      rw [e12, e13, e14, eU, hf2, hf3, hf7]
      rfl
    isplitl [H9]
    · iexists _; isplitr; swap; · iexact H9
      ipureintro
      have e15 : arg15.view.read (Elt F) (arg15.view.writes (Elt F) arg15.view.junk (body_run.sl.HS3_1 c arg3 harg3 arg6 harg6 arg7 harg7 arg8 harg8 x1 x4 x5 x6)) = khArr (gate x4 x5 x6) x1 := by
        refine (View.read_writes_full _ _ _ _ _).trans ?_
        show khArr (gate (arg6.view.read (Elt F) (harg6.unread x4)) (arg7.view.read (Elt F) (harg7.unread x5)) (arg8.view.read (Elt F) (harg8.unread x6))) (arg3.view.read (Elt F) (harg3.unread x1)) = _
        rw [hf1, hf4, hf5, hf6]
      have e16 : arg16.view.read (Elt F) (arg16.view.writes (Elt F) arg16.view.junk (body_run.sl.HS4_1 c arg6 harg6 arg7 harg7 arg8 harg8 x4 x5 x6)) = dArr (gate x4 x5 x6) := by
        refine (View.read_writes_full _ _ _ _ _).trans ?_
        show dArr (gate (arg6.view.read (Elt F) (harg6.unread x4)) (arg7.view.read (Elt F) (harg7.unread x5)) (arg8.view.read (Elt F) (harg8.unread x6))) = _
        rw [hf4, hf5, hf6]
      have eu : ∀ X15, arg17.view.read (Elt F) (bufAt harg17 fs5 (updArr (arg4.view.read (Elt F) (harg4.unread x2)) X15 (arg17.view.read (Elt F) fs5)) k0_t1_loop.trips) = uArr x2 X15 := by
        intro X15
        rw [read_bufAt harg17 _ _ (updArr_zero _ _ _), updArr_trips, hf2]
      refine (View.read_writes_full _ _ _ _ _).trans ?_
      show k0_pay22 (stAt (arg16.view.read (Elt F) (arg16.view.writes (Elt F) arg16.view.junk (body_run.sl.HS4_1 c arg6 harg6 arg7 harg7 arg8 harg8 x4 x5 x6)))
        (arg17.view.read (Elt F) (bufAt harg17 fs5 (updArr (arg4.view.read (Elt F) (harg4.unread x2)) (arg15.view.read (Elt F) (arg15.view.writes (Elt F) arg15.view.junk (body_run.sl.HS3_1 c arg3 harg3 arg6 harg6 arg7 harg7 arg8 harg8 x1 x4 x5 x6))) (arg17.view.read (Elt F) fs5)) k0_t1_loop.trips)) k0_t2_loop.trips) = _
      rw [eu, e15, e16, trips2]
      rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Gla

end
-- ==== Proof.Gla.Data.lean ====
module

public import proofs.«01_k».proof.Proof.Gla.Run
public import Idealize.ShloMosaic.Lib.Claim

/-! The gated-linear-attention kernel's run over its grid: every staged block read, the two results' blocks written at every point. -/

@[expose] public section

set_option maxRecDepth 16384

noncomputable section

namespace Cert.KernelIdeal.Gla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What each window's buffer holds after the body at a point: an input its block, an output what the body computes of them. -/
def after0 (c : Dev nD) (w : Fin cfg0.W) (t : Fin cfg0.N) : ((cfg0.win w).block).Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => outO (iblk m c 0 t) (iblk m c 1 t) (iblk m c 2 t) (iblk m c 3 t) (gate (iblk m c 4 t) (iblk m c 5 t) (iblk m c 6 t)) (iblk m c 7 t)
  | ⟨9, _⟩ => outS (iblk m c 1 t) (iblk m c 2 t) (gate (iblk m c 4 t) (iblk m c 5 t) (iblk m c 6 t))

/-- The proof data of the pipeline. -/
def dats : (p : Fin 1) → (c : Dev nD) → Dat τ (Elt F) Unit ℕ (UR sig nD τ) ℕ (cfgs p) c := fun _ c =>
  { A := fun w => V m c (Pipeline.arrRef spec0 w)
    after := after0 m c
    Φ := fun _ => Pipeline.ΦA spec0 c
    q := fun _ => fullShare
    owed := fun _ => 0 }

theorem A_eq (c : Dev nD) (w : Fin cfg0.W) : (dats m 0 c).A w = V m c (Pipeline.arrRef spec0 w) := rfl

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = outO (iblk m c 0 t) (iblk m c 1 t) (iblk m c 2 t) (iblk m c 3 t) (gate (iblk m c 4 t) (iblk m c 5 t) (iblk m c 6 t)) (iblk m c 7 t) := rfl
theorem after_9 (c : Dev nD) (t : Fin cfg0.N) : (dats m 0 c).after 9 t = outS (iblk m c 1 t) (iblk m c 2 t) (gate (iblk m c 4 t) (iblk m c 5 t) (iblk m c 6 t)) := rfl
theorem before_0 (c : Dev nD) (t : Fin cfg0.N) (d) : (dats m 0 c).before 0 t d = iblk m c 0 t :=
  before0_0_of m (dats m 0 c) (A_eq m c 0) (fun t => after_0 m c t) t d
theorem before_1 (c : Dev nD) (t : Fin cfg0.N) (d) : (dats m 0 c).before 1 t d = iblk m c 1 t :=
  before0_1_of m (dats m 0 c) (A_eq m c 1) (fun t => after_1 m c t) t d
theorem before_2 (c : Dev nD) (t : Fin cfg0.N) (d) : (dats m 0 c).before 2 t d = iblk m c 2 t :=
  before0_2_of m (dats m 0 c) (A_eq m c 2) (fun t => after_2 m c t) t d
theorem before_3 (c : Dev nD) (t : Fin cfg0.N) (d) : (dats m 0 c).before 3 t d = iblk m c 3 t :=
  before0_3_of m (dats m 0 c) (A_eq m c 3) (fun t => after_3 m c t) t d
theorem before_4 (c : Dev nD) (t : Fin cfg0.N) (d) : (dats m 0 c).before 4 t d = iblk m c 4 t :=
  before0_4_of m (dats m 0 c) (A_eq m c 4) (fun t => after_4 m c t) t d
theorem before_5 (c : Dev nD) (t : Fin cfg0.N) (d) : (dats m 0 c).before 5 t d = iblk m c 5 t :=
  before0_5_of m (dats m 0 c) (A_eq m c 5) (fun t => after_5 m c t) t d
theorem before_6 (c : Dev nD) (t : Fin cfg0.N) (d) : (dats m 0 c).before 6 t d = iblk m c 6 t :=
  before0_6_of m (dats m 0 c) (A_eq m c 6) (fun t => after_6 m c t) t d
theorem before_7 (c : Dev nD) (t : Fin cfg0.N) (d) : (dats m 0 c).before 7 t d = iblk m c 7 t :=
  before0_7_of m (dats m 0 c) (A_eq m c 7) (fun t => after_7 m c t) t d

/-- What the body is handed at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

/-- What the body hands back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ ∃ r, prngReg c r) := by
  unfold Pipeline.ΦA
  rw [scopedRest0_eq]
  simp only [owns_whole]
  try rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).Φ t.succ = (dats m 0 c).Φ t.castSucc from rfl, show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, PhiA_eq]
  iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, S0, S1, S2, S3, S4, S5⟩
  isplitl [S0 S1 S2 S3 S4 S5 Hg]
  · isplitr [Hg]; swap; · iexact Hg
    isplitl [S0]; · iexact S0
    isplitl [S1]; · iexact S1
    isplitl [S2]; · iexact S2
    isplitl [S3]; · iexact S3
    isplitl [S4]; · iexact S4
    iexact S5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 1000000 in
theorem body_obligation (c : Dev nD) : BodyObligation (dats m 0 c) (defs₀ (F := F)) Variants.none () Set.univ := by
  intro t
  rw [bigSep_W0, bigSep_W0]
  exact triple_restated (sound_body m c t) rfl .rfl fun _ => .rfl

set_option backward.isDefEq.respectTransparency.types false in
/-- Every run of the program ends, with the arrays at what the grid's write-backs leave and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run with the arguments unchanged and every semaphore at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
    ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Gla

end
-- ==== Proof.Gla.Frames.lean ====
module

public import proofs.«01_k».proof.Defs
public import proofs.«01_k».proof.Proof.Gen.Kernel
public import proofs.«01_k».proof.Proof.Gla.Data
public import proofs.«01_k».proof.Proof.Gen.ReferenceIdeal.Run

/-! The frames: the kernel at both readings by one run, the reference by its run. -/

@[expose] public section

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

theorem frame_ideal : quiescent_KernelIdeal := fun m g _ => Cert.KernelIdeal.Gla.frame_run m g

/-- The two printed body tables are one. -/
theorem defs₀_same : @Cert.Kernel.defs₀ Bits _ _ = @Cert.KernelIdeal.defs₀ Bits _ _ := by
  unfold Cert.Kernel.defs₀ Cert.KernelIdeal.defs₀
  refine congrArg Defs.onTc (funext fun b => funext fun a => ?_)
  match b, a with
  | 0, (t, s) => rfl
  | ⟨_ + 1, h⟩, _ => exact absurd h (Nat.not_lt.2 (Nat.le_add_left _ _))

theorem defs_same : @Cert.Kernel.defs Bits _ _ = @Cert.KernelIdeal.defs Bits _ _ :=
  congrArg (Pipeline.defs (Cert.Kernel.pcfgs (F := Bits))) defs₀_same

theorem frame_bits : quiescent_Kernel := fun m g _ => by
  rw [defs_same]
  exact Cert.KernelIdeal.Gla.frame_run (F := Bits) m g

theorem frame_ref : quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

end Cert.Proof

end
-- ==== Proof.Gla.Finite.lean ====
module

public import proofs.«01_k».proof.Pre_finite
public import Idealize.ShloMosaic.Lib.Claim
public import Idealize.ShloMosaic.Lib.ReduceAll
public import Idealize.ShloMosaic.Lib.Pointwise
public import Mathlib.Data.EReal.Operations

/-! The precondition read: every entry of six arguments is a real number. -/

@[expose] public section

set_option maxRecDepth 16384

noncomputable section

namespace Cert.Pre_finite

open Idealize.ShloMosaic

theorem facts : Facts :=
  ⟨by decide, by decide, by decide, by decide, by decide, by decide, by decide, by decide, by decide, by decide, by decide⟩

instance : Subsingleton S_.Idx := ⟨fun a b => funext fun i => i.elim0⟩

theorem both (a b : IVec S_ 1) (j : S_.Idx) (h : andi a b j = 1#1) : a j = 1#1 ∧ b j = 1#1 := by
  have key : ∀ x y : BitVec 1, x &&& y = 1#1 → x = 1#1 ∧ y = 1#1 := by decide
  exact key _ _ h

theorem real_of {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) :
    x i = ((EReal.toReal (x i) : ℝ) : EReal) := by
  have h := Host.reduce_andi_all _ _ hr hu j e i
  have ht : Ideal.ofBits .f32 0x7F800000#32 = ⊤ := by simp [Ideal.ofBits, Ideal.ieee]
  have h' : BitVec.ofBool (decide (max (x i : EReal) (-(x i : EReal)) < Ideal.ofBits .f32 0x7F800000#32)) = 1#1 := h
  rw [ht] at h'
  have hlt : max (x i : EReal) (-(x i : EReal)) < ⊤ := by
    by_contra hn
    rw [decide_eq_false hn] at h'
    exact absurd h' (by decide)
  have h1 : (x i : EReal) ≠ ⊤ := fun h => by rw [h] at hlt; simp at hlt
  have h2 : (x i : EReal) ≠ ⊥ := fun h => by rw [h] at hlt; simp at hlt
  exact (EReal.coe_toReal h1 h2).symm

variable [Facts]

theorem reals (a0 a1 : FVec Ideal S4x2048x512 .f32) (a2 a3 : FVec Ideal S4x2048x1024 .f32) (a4 : FVec Ideal S4x2048x16 .f32) (a5 : FVec Ideal S16x512 .f32)
    (a6 : FVec Ideal S512 .f32) (a7 : FVec Ideal S256 .f32) (h : fn (F := Ideal) a0 a1 a2 a3 a4 a5 a6 a7 = fun _ => 1#1) :
    (∀ i, a0 i = ((EReal.toReal (a0 i) : ℝ) : EReal)) ∧ (∀ i, a1 i = ((EReal.toReal (a1 i) : ℝ) : EReal)) ∧ (∀ i, a2 i = ((EReal.toReal (a2 i) : ℝ) : EReal))
    ∧ (∀ i, a4 i = ((EReal.toReal (a4 i) : ℝ) : EReal)) ∧ (∀ i, a5 i = ((EReal.toReal (a5 i) : ℝ) : EReal)) ∧ ∀ i, a6 i = ((EReal.toReal (a6 i) : ℝ) : EReal) := by
  have h5 := congrFun h (Shape.Idx.first Facts.h_S_)
  obtain ⟨h4, e6⟩ := both _ _ _ h5
  obtain ⟨h3, e5⟩ := both _ _ _ h4
  obtain ⟨h2, e4⟩ := both _ _ _ h3
  obtain ⟨h1, e2⟩ := both _ _ _ h2
  obtain ⟨e0, e1⟩ := both _ _ _ h1
  exact ⟨real_of a0 _ _ _ _ e0, real_of a1 _ _ _ _ e1, real_of a2 _ _ _ _ e2, real_of a4 _ _ _ _ e4, real_of a5 _ _ _ _ e5, real_of a6 _ _ _ _ e6⟩

end Cert.Pre_finite

end
-- ==== Proof.Gla.Math.lean ====
module

public import Idealize.ShloMosaic.Lib.Claim
public import Mathlib.Analysis.SpecialFunctions.Log.Basic
public import Mathlib.Data.EReal.Operations
public import Mathlib.Tactic.Ring

/-! Gated linear attention over the reals: the state as one sum over the rows before a time, how it passes from one chunk to the
    next, the doubling scan that makes the prefix sums, and sums over masked rows. -/

@[expose] public section

noncomputable section

namespace Cert.GlaMath

open Finset

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The sum of the first `T` log decays. -/
def pre (g : ℕ → ℝ) (T : ℕ) : ℝ := ∑ s ∈ range T, g s

/-- One entry of the state before row `T`. -/
def St (g k v : ℕ → ℝ) (T : ℕ) : ℝ := ∑ s ∈ range T, k s * Real.exp (pre g T - pre g (s + 1)) * v s

theorem St_zero (g k v : ℕ → ℝ) : St g k v 0 = 0 := by simp [St]

theorem St_add (g k v : ℕ → ℝ) (T C : ℕ) :
    St g k v (T + C) = Real.exp (pre g (T + C) - pre g T) * St g k v T
      + ∑ r ∈ range C, k (T + r) * Real.exp (pre g (T + C) - pre g (T + r + 1)) * v (T + r) := by
  unfold St
  rw [Finset.sum_range_add, Finset.mul_sum]
  congr 1
  refine Finset.sum_congr rfl fun s _ => ?_
  rw [show pre g (T + C) - pre g (s + 1) = (pre g (T + C) - pre g T) + (pre g T - pre g (s + 1)) by ring, Real.exp_add]
  ring

/-- The output of row `t`: its query with the state that includes the row. -/
def Ot {ι : Type} [Fintype ι] (q g k : ι → ℕ → ℝ) (v : ℕ → ℝ) (t : ℕ) : ℝ := ∑ d, q d t * St (g d) (k d) v (t + 1)

/-- The output of row `T + i` from the state before row `T` and the rows `T … T + i`, the decay between two rows cut at any `m`. -/
theorem Ot_chunk {ι : Type} [Fintype ι] (q g k : ι → ℕ → ℝ) (v : ℕ → ℝ) (T i : ℕ) (m : ι → ℝ) :
    Ot q g k v (T + i) = (∑ r ∈ range (i + 1), (∑ d, (q d (T + i) * Real.exp (pre (g d) (T + i + 1) - pre (g d) T - m d))
        * (k d (T + r) * Real.exp (m d - (pre (g d) (T + r + 1) - pre (g d) T)))) * v (T + r))
      + ∑ d, (q d (T + i) * Real.exp (pre (g d) (T + i + 1) - pre (g d) T)) * St (g d) (k d) v T := by
  unfold Ot
  simp only [add_assoc T i 1, St_add, mul_add, Finset.sum_add_distrib, Finset.mul_sum, Finset.sum_mul]
  rw [add_comm, Finset.sum_comm]
  congr 1
  · refine Finset.sum_congr rfl fun r _ => Finset.sum_congr rfl fun d _ => ?_
    rw [show pre (g d) (T + (i + 1)) - pre (g d) (T + r + 1)
        = (pre (g d) (T + (i + 1)) - pre (g d) T - m d) + (m d - (pre (g d) (T + r + 1) - pre (g d) T)) by ring, Real.exp_add]
    ring
  · refine Finset.sum_congr rfl fun d _ => ?_
    ring

/-- The sum of the `n` entries that end at `t`. -/
def win (g : ℕ → ℝ) (t n : ℕ) : ℝ := ∑ i ∈ range n, g (t - i)

theorem win_one (g : ℕ → ℝ) (t : ℕ) : win g t 1 = g t := by simp [win]

theorem win_split (g : ℕ → ℝ) (t a b : ℕ) (h : a ≤ t) : win g t a + win g (t - a) b = win g t (a + b) := by
  unfold win
  rw [Finset.sum_range_add]
  congr 1
  refine Finset.sum_congr rfl fun i _ => ?_
  rw [Nat.sub_sub]

theorem win_pre (g : ℕ → ℝ) (t n : ℕ) (h : n ≤ t + 1) : win g t n = pre g (t + 1) - pre g (t + 1 - n) := by
  induction n with
  | zero => simp [win]
  | succ n ih =>
      have e : win g t (n + 1) = win g t n + g (t - n) := by unfold win; rw [Finset.sum_range_succ]
      rw [e, ih (by omega)]
      have h1 : pre g (t + 1 - n) = pre g (t + 1 - (n + 1)) + g (t - n) := by
        unfold pre
        rw [show t + 1 - n = (t + 1 - (n + 1)) + 1 by omega, Finset.sum_range_succ]
        congr 2
        omega
      rw [h1]; ring

/-- One step of the doubling scan within chunks of 32. -/
theorem scan_step (g : ℕ → ℝ) (t n : ℕ) :
    win g t (min (t % 32 + 1) n) + (if n ≤ t % 32 then win g (t - n) (min ((t - n) % 32 + 1) n) else 0) = win g t (min (t % 32 + 1) (2 * n)) := by
  by_cases h : n ≤ t % 32
  · rw [if_pos h, Nat.min_eq_right (by omega), show (t - n) % 32 = t % 32 - n by omega, win_split g t n _ (by omega)]
    congr 1
    omega
  · rw [if_neg h, add_zero]
    congr 1
    omega

/-- The rows of a group of 128 that chunk `j`'s row `i` attends to. -/
theorem sum_keep (f : ℕ → ℝ) (j i : ℕ) (hj : j < 4) (hi : i < 32) :
    ∑ s ∈ range 128, (if s / 32 = j ∧ s ≤ 32 * j + i then f s else 0) = ∑ r ∈ range (i + 1), f (32 * j + r) := by
  rw [← Finset.sum_filter]
  symm
  refine Finset.sum_nbij (fun r => 32 * j + r) ?_ ?_ ?_ fun _ _ => rfl
  · intro r hr
    simp only [Finset.mem_range, Finset.mem_filter] at hr ⊢
    omega
  · intro a _ b _ h
    simp only at h
    omega
  · intro s hs
    simp only [Finset.coe_filter, Finset.mem_range, Set.mem_setOf_eq] at hs
    refine ⟨s - 32 * j, ?_, ?_⟩
    · simp only [Finset.coe_range, Set.mem_Iio]; omega
    · simp only; omega

/-- The rows of a chunk of 16 that row `i` attends to. -/
theorem sum_causal (f : ℕ → ℝ) (i : ℕ) (hi : i < 16) :
    ∑ s ∈ range 16, (if s ≤ i then f s else 0) = ∑ r ∈ range (i + 1), f r := by
  rw [← Finset.sum_filter]
  refine Finset.sum_congr ?_ fun _ _ => rfl
  ext s
  simp only [Finset.mem_range, Finset.mem_filter]
  omega

/-- A sixteenth of the logarithm of the sigmoid, as the layer writes it. -/
def lsig (x : ℝ) : ℝ := -(max (-x) 0 + Real.log (1 + Real.exp (-|(-x)|))) * (1 / 16)

end Cert.GlaMath

end
-- ==== Proof.Gla.Scan.lean ====
module

public import proofs.«01_k».proof.Proof.Gla.Pure
public import proofs.«01_k».proof.Proof.Gla.Math
public import Idealize.ShloMosaic.Lib.Pointwise
public import Idealize.ShloMosaic.Lib.Routing.Words

/-! The prefix sums and the masks of the gated-linear-attention kernel, read at an index. -/

@[expose] public section

set_option maxRecDepth 16384

noncomputable section

namespace Cert.KernelIdeal.Gla

open Idealize.ShloMosaic
open Cert.KernelIdeal Cert.KernelIdeal.Gen Cert.GlaMath

/-- A row's place in its chunk. -/
def inChunk : IVec S2048x128 32 :=
  select (andi (xori k0_pay5 (broadcastTo S2048x128 (broadcast S2048x128 w39) broadcasts_S2048x128_S2048x128)) k0_pay4)
    (addi k0_pay3 (broadcast S2048x128 w32)) k0_pay3

theorem inChunk_at (r : Fin 2048) (l : Fin 128) : inChunk (ix2 r l) = BitVec.ofNat 32 (r.val % 32) := by
  unfold inChunk k0_pay5 k0_pay4 k0_pay3 w39 w32
  pointwise
  have hw : Scalar.select (Scalar.cmpi .eq 32#32 0#32) 1#32 32#32 = 32#32 := by decide
  have hr : IntOp.remsi .vector (BitVec.ofNat 32 r.val) 32#32 = BitVec.ofNat 32 (r.val % 32) :=
    Routing.remsi_word .vector (a := r.val) (b := 32) (by omega) (by decide) (by decide)
  rw [hw, hr]
  have key : ∀ n : Fin 32, Scalar.select (IntOp.andi (IntOp.xori (IntOp.cmpi .slt (BitVec.ofNat 32 n.val) 0#32) (Scalar.cmpi .slt 32#32 0#32))
      (IntOp.cmpi .ne (BitVec.ofNat 32 n.val) 0#32)) (IntOp.addi (BitVec.ofNat 32 n.val) 32#32) (BitVec.ofNat 32 n.val) = BitVec.ofNat 32 n.val := by decide +kernel
  exact key ⟨r.val % 32, Nat.mod_lt _ (by decide)⟩

/-- One step of the doubling scan. -/
def scanStep (sh : BitVec 32) (v : FVec Ideal S2048x128 .f32) : FVec Ideal S2048x128 .f32 :=
  addf v (select (cmpi .sge inChunk (broadcast S2048x128 sh)) (dynamicRotate 0 sh none v rotates_S2048x128_d0)
    (broadcast S2048x128 (Scalar.ofBits .f32 0x00000000#32)))

theorem cum_eq (g : FVec Ideal S2048x128 .f32) :
    cum g = scanStep 16#32 (scanStep 8#32 (scanStep 4#32 (scanStep 2#32 (scanStep 1#32 g)))) := rfl

theorem sge_at (n : Fin 32) (m : Fin 32) : IntOp.cmpi .sge (BitVec.ofNat 32 n.val) (BitVec.ofNat 32 m.val) = BitVec.ofBool (decide (m.val ≤ n.val)) := by
  revert n m; decide +kernel

theorem select_ofBool {α : Type} (p : Prop) [Decidable p] (a b : α) : Scalar.select (BitVec.ofBool (decide p)) a b = if p then a else b := by
  by_cases h : p
  · rw [if_pos h]; simp only [h, decide_true]; rfl
  · rw [if_neg h]; simp only [h, decide_false]; rfl

theorem scanStep_at (n : Fin 32) (hn : 0 < n.val) (g : ℕ → ℝ) (v : FVec Ideal S2048x128 .f32) (l : Fin 128)
    (hv : ∀ r : Fin 2048, v (ix2 r l) = ((win g r.val (min (r.val % 32 + 1) n.val) : ℝ) : EReal)) (r : Fin 2048) :
    scanStep (BitVec.ofNat 32 n.val) v (ix2 r l) = ((win g r.val (min (r.val % 32 + 1) (2 * n.val)) : ℝ) : EReal) := by
  have hc := sge_at ⟨r.val % 32, Nat.mod_lt _ (by decide)⟩ n
  simp only at hc
  unfold scanStep
  pointwise [inChunk_at]
  rw [hc, select_ofBool, hv, hv, ← scan_step, EReal.coe_add]
  congr 1
  by_cases h : n.val ≤ r.val % 32
  · rw [if_pos h, if_pos h]
    have e : (r.val + 2048 - (BitVec.ofNat 32 n.val).toNat % 2048) % 2048 = r.val - n.val := by
      have := n.isLt
      have h1 : (BitVec.ofNat 32 n.val).toNat = n.val := by rw [BitVec.toNat_ofNat]; omega
      rw [h1]; omega
    simp only [e]
  · rw [if_neg h, if_neg h, EReal.coe_zero]

/-- The in-chunk prefix sums of a real gate. -/
theorem cum_at (g : ℕ → ℝ) (x : FVec Ideal S2048x128 .f32) (l : Fin 128) (hx : ∀ r : Fin 2048, x (ix2 r l) = ((g r.val : ℝ) : EReal)) (r : Fin 2048) :
    cum x (ix2 r l) = ((pre g (r.val + 1) - pre g (32 * (r.val / 32)) : ℝ) : EReal) := by
  rw [cum_eq]
  have h1 := scanStep_at 1 (by decide) g x l (fun r => by
    rw [hx, Nat.min_eq_right (by show 1 ≤ _; omega)]; exact congrArg _ (win_one g r.val).symm)
  have h2 := scanStep_at 2 (by decide) g _ l h1
  have h4 := scanStep_at 4 (by decide) g _ l h2
  have h8 := scanStep_at 8 (by decide) g _ l h4
  have h16 := scanStep_at 16 (by decide) g _ l h8 r
  refine h16.trans ?_
  have : min (r.val % 32 + 1) (2 * (16 : Fin 32).val) = r.val % 32 + 1 := by
    show min (r.val % 32 + 1) (2 * 16) = _
    omega
  rw [this, win_pre _ _ _ (by omega)]
  congr 3
  omega

theorem rowChunk (r : Fin 128) :
    Scalar.select (IntOp.andi (IntOp.cmpi .ne (IntOp.subi (BitVec.setWidth 32 (IntOp.cmpi .sgt (BitVec.ofNat 32 r.val) 0#32))
        (BitVec.setWidth 32 (IntOp.cmpi .slt (BitVec.ofNat 32 r.val) 0#32)))
        (Scalar.subi (Scalar.extui (Scalar.cmpi .sgt 32#32 0#32)) (Scalar.extui (Scalar.cmpi .slt 32#32 0#32))))
      (IntOp.cmpi .ne (IntOp.remsi .vector (BitVec.ofNat 32 r.val) 32#32) 0#32))
      (IntOp.subi (IntOp.divsi .vector (BitVec.ofNat 32 r.val) 32#32) 1#32) (IntOp.divsi .vector (BitVec.ofNat 32 r.val) 32#32)
      = BitVec.ofNat 32 (r.val / 32) := by
  revert r; decide +kernel

theorem keepBits (r s : Fin 128) :
    IntOp.andi (IntOp.cmpi .eq (BitVec.ofNat 32 (r.val / 32)) (BitVec.ofNat 32 (s.val / 32))) (IntOp.cmpi .sge (BitVec.ofNat 32 r.val) (BitVec.ofNat 32 s.val))
      = BitVec.ofBool (decide (s.val / 32 = r.val / 32 ∧ s.val ≤ r.val)) := by
  revert r s; decide +kernel

theorem keepMask_at (r s : Fin 128) : keepMask (ix2 r s) = BitVec.ofBool (decide (s.val / 32 = r.val / 32 ∧ s.val ≤ r.val)) := by
  unfold keepMask k0_pay26 k0_pay25 k0_pay24 k0_pay23
  pointwise
  rw [rowChunk, rowChunk, keepBits]

/-- The pre-norm rows of a chunk read the chunk's last prefix sum … -/
theorem cumLast_at (x : FVec Ideal S2048x128 .f32) (r : Fin 2048) (l : Fin 128) :
    cumLast x (ix2 r l) = cum x (ix2 ⟨32 * (r.val / 32) + 31, by omega⟩ l) := by
  have e : cumLast x = k0_pay8 x w32 k0_pay3 k0_pay4 k0_pay5 w39 := rfl
  rw [e]
  unfold k0_pay8 k0_pay7
  rw [show k0_pay6 x w32 k0_pay3 k0_pay4 k0_pay5 w39 = cum x from rfl]
  generalize cum x = y
  pointwise
  simp only [Nat.mul_comm]

/-- … and its middle one. -/
theorem cumMid_at (x : FVec Ideal S2048x128 .f32) (r : Fin 2048) (l : Fin 128) :
    k0_pay10 (cumMid x) (ix2 r l) = cum x (ix2 ⟨32 * (r.val / 32) + 15, by omega⟩ l) := by
  have e : cumMid x = k0_pay9 x w32 k0_pay3 k0_pay4 k0_pay5 w39 := rfl
  rw [e]
  unfold k0_pay10 k0_pay9 k0_pay7
  rw [show k0_pay6 x w32 k0_pay3 k0_pay4 k0_pay5 w39 = cum x from rfl]
  generalize cum x = y
  pointwise
  simp only [Nat.mul_comm]

end Cert.KernelIdeal.Gla

end
-- ==== Proof.Gla.KernelVal.lean ====
module

public import proofs.«01_k».proof.Proof.Gla.Scan
public import Mathlib.Tactic.Linarith

/-! The gated-linear-attention kernel's blocks over real inputs: the state before every chunk and the outputs before the norm. -/

@[expose] public section

set_option maxRecDepth 16384

noncomputable section

namespace Cert.KernelIdeal.Gla

open Idealize.ShloMosaic
open Cert.KernelIdeal Cert.KernelIdeal.Gen Cert.GlaMath

/-- The log gate of a real pre-activation. -/
theorem gate_scalar (x : ℝ) :
    Ideal.div (0 - (max (0 - (x : EReal)) 0 + Ideal.log1p (Ideal.exp (0 - max (0 - (x : EReal)) (-(0 - (x : EReal))))))) (Ideal.ofBits .f32 1098907648#32)
      = ((lsig x : ℝ) : EReal) := by
  have h16 : Ideal.ofBits .f32 1098907648#32 = ((16 : ℝ) : EReal) := by
    simp [Ideal.ofBits, Ideal.ieee]
    rw [← EReal.coe_mul]
    norm_num
  have e1 : (0 : EReal) - (x : EReal) = ((-x : ℝ) : EReal) := by rw [zero_sub, EReal.coe_neg]
  have emax : ∀ a b : ℝ, max (a : EReal) (b : EReal) = ((max a b : ℝ) : EReal) := fun a b => EReal.coe_strictMono.monotone.map_max.symm
  rw [h16, e1, ← EReal.coe_neg, emax, ← EReal.coe_zero, emax, ← EReal.coe_sub, Ideal.exp_coe, Ideal.log1p, ← EReal.coe_one, ← EReal.coe_add, Ideal.log_coe,
    if_neg (by have := Real.exp_pos (0 - max (-x) (- -x)); linarith), ← EReal.coe_add, ← EReal.coe_sub, Ideal.div_coe (by norm_num), ← EReal.coe_mul]
  unfold lsig
  rw [abs_eq_max_neg, zero_sub, zero_sub]

theorem gate_at (x4 : Vec Ideal S2048x128 .f32) (x5 : Vec Ideal S16x128 .bf16) (x6 : Vec Ideal S1x128 .f32) (r : Fin 2048) (l : Fin 128)
    (lr w : Fin 16 → ℝ) (b : ℝ) (h4 : ∀ k : Fin 16, x4 (ix2 r ⟨48 + k.val, by omega⟩) = ((lr k : ℝ) : EReal))
    (h5 : ∀ k : Fin 16, x5 (ix2 k l) = ((w k : ℝ) : EReal)) (h6 : x6 (ix2 0 l) = ((b : ℝ) : EReal)) :
    gate x4 x5 x6 (ix2 r l) = ((lsig (∑ k, lr k * w k + b) : ℝ) : EReal) := by
  unfold gate k0_pay2
  pointwise
  have hs : (∑ k : Fin 16, x4 (ix2 r ⟨48 + k.val, by omega⟩) * x5 (ix2 k l) + x6 (ix2 0 l) : EReal) = ((∑ k, lr k * w k + b : ℝ) : EReal) := by
    rw [EReal.coe_add, ← coe_sum, h6]
    congr 1
    exact Finset.sum_congr rfl fun k _ => by rw [h4, h5, EReal.coe_mul]
  rw [hs, if_neg (fun h => h rfl)]
  exact gate_scalar _

variable (q k g : Fin 128 → ℕ → ℝ) (v : Fin 256 → ℕ → ℝ)
variable (G x0 x1 : FVec Ideal S2048x128 .f32) (x2 : FVec Ideal S2048x256 .bf16)

/-- The gate's sum from the chunk's start to its middle. -/
def half (g : ℕ → ℝ) (c : ℕ) : ℝ := pre g (32 * c + 15 + 1) - pre g (32 * c)

theorem cumMid_real (l : Fin 128) (hG : ∀ r : Fin 2048, G (ix2 r l) = ((g l r.val : ℝ) : EReal)) (r : Fin 2048) :
    k0_pay10 (cumMid G) (ix2 r l) = ((half (g l) (r.val / 32) : ℝ) : EReal) := by
  rw [cumMid_at, cum_at (g l) G l hG]
  unfold half
  rw [show (32 * (r.val / 32) + 15) / 32 = r.val / 32 by omega]

theorem cumLast_real (l : Fin 128) (hG : ∀ r : Fin 2048, G (ix2 r l) = ((g l r.val : ℝ) : EReal)) (r : Fin 2048) :
    cumLast G (ix2 r l) = ((pre (g l) (32 * (r.val / 32) + 32) - pre (g l) (32 * (r.val / 32)) : ℝ) : EReal) := by
  rw [cumLast_at, cum_at (g l) G l hG]
  rw [show (32 * (r.val / 32) + 31) / 32 = r.val / 32 by omega]

theorem qeArr_at (l : Fin 128) (hG : ∀ r : Fin 2048, G (ix2 r l) = ((g l r.val : ℝ) : EReal)) (r : Fin 2048)
    (h0 : x0 (ix2 r l) * Ideal.ofBits .f32 1035273459#32 = ((q l r.val : ℝ) : EReal)) :
    qeArr G x0 (ix2 r l) = ((q l r.val * Real.exp (pre (g l) (r.val + 1) - pre (g l) (32 * (r.val / 32))) : ℝ) : EReal) := by
  unfold qeArr k0_pay13 k0_pay11 ldQ
  pointwise
  rw [h0, cum_at (g l) G l hG, Ideal.exp_coe, ← EReal.coe_mul]

theorem qtArr_at (l : Fin 128) (hG : ∀ r : Fin 2048, G (ix2 r l) = ((g l r.val : ℝ) : EReal)) (r : Fin 2048)
    (h0 : x0 (ix2 r l) * Ideal.ofBits .f32 1035273459#32 = ((q l r.val : ℝ) : EReal)) :
    qtArr G x0 (ix2 r l) = ((q l r.val * Real.exp (pre (g l) (r.val + 1) - pre (g l) (32 * (r.val / 32)) - half (g l) (r.val / 32)) : ℝ) : EReal) := by
  have hm := cumMid_real g G l hG r
  unfold qtArr k0_pay14 k0_pay11 ldQ
  generalize k0_pay10 (cumMid G) = M at hm
  pointwise
  rw [h0, cum_at (g l) G l hG, hm, ← EReal.coe_sub, Ideal.exp_coe, ← EReal.coe_mul]

theorem ktArr_at (l : Fin 128) (hG : ∀ r : Fin 2048, G (ix2 r l) = ((g l r.val : ℝ) : EReal)) (r : Fin 2048)
    (h1 : x1 (ix2 r l) = ((k l r.val : ℝ) : EReal)) :
    ktArr G x1 (ix2 r l) = ((k l r.val * Real.exp (half (g l) (r.val / 32) - (pre (g l) (r.val + 1) - pre (g l) (32 * (r.val / 32)))) : ℝ) : EReal) := by
  have hm := cumMid_real g G l hG r
  unfold ktArr k0_pay15 k0_pay12 ldQ
  generalize k0_pay10 (cumMid G) = M at hm
  pointwise
  rw [h1, cum_at (g l) G l hG, hm, ← EReal.coe_sub, Ideal.exp_coe, ← EReal.coe_mul]

theorem khArr_at (l : Fin 128) (hG : ∀ r : Fin 2048, G (ix2 r l) = ((g l r.val : ℝ) : EReal)) (r : Fin 2048)
    (h1 : x1 (ix2 r l) = ((k l r.val : ℝ) : EReal)) :
    khArr G x1 (ix2 r l) = ((k l r.val * Real.exp (pre (g l) (32 * (r.val / 32) + 32) - pre (g l) (r.val + 1)) : ℝ) : EReal) := by
  have hm := cumLast_real g G l hG r
  unfold khArr k0_pay16 k0_pay12 ldQ
  generalize cumLast G = M at hm
  pointwise
  rw [h1, cum_at (g l) G l hG, hm, ← EReal.coe_sub, Ideal.exp_coe, ← EReal.coe_mul]
  congr 3
  ring

theorem dArr_at (l : Fin 128) (hG : ∀ r : Fin 2048, G (ix2 r l) = ((g l r.val : ℝ) : EReal)) (r : Fin 2048) :
    dArr G (ix2 r l) = ((Real.exp (pre (g l) (32 * (r.val / 32) + 32) - pre (g l) (32 * (r.val / 32))) : ℝ) : EReal) := by
  have hm := cumLast_real g G l hG r
  unfold dArr k0_pay17
  generalize cumLast G = M at hm
  pointwise
  rw [hm, Ideal.exp_coe]

theorem off1_eq : ∀ i : Fin k0_t1_loop.trips, k0_off1 i = ![32 * i.val, 0] := by decide +kernel
theorem off2_eq : ∀ i : Fin k0_t1_loop.trips, k0_off2 i = ![32 * i.val, 0] := by decide +kernel
theorem off4_eq : ∀ i : Fin k0_t2_loop.trips, k0_off4 i = ![32 * i.val, 0] := by decide +kernel
theorem off5_eq : ∀ i : Fin k0_t2_loop.trips, k0_off5 i = ![i.val, 0, 0] := by decide +kernel

theorem uArr_at (kh : FVec Ideal S2048x128 .bf16) (i : Fin 64) (e : Fin 256) (d : Fin 128) (kr : ℕ → ℝ) (vr : ℕ → ℝ)
    (hv : ∀ r : Fin 2048, x2 (ix2 r e) = ((vr r.val : ℝ) : EReal)) (hk : ∀ r : Fin 2048, kh (ix2 r d) = ((kr r.val : ℝ) : EReal)) :
    uArr (F := Ideal) x2 kh (ix3 i e d) = ((∑ r ∈ Finset.range 32, kr (32 * i.val + r) * vr (32 * i.val + r) : ℝ) : EReal) := by
  unfold uArr upd k0_pay18
  pointwise
  rw [← coe_sum, ← Fin.sum_univ_eq_sum_range (fun r => ((kr (32 * i.val + r) * vr (32 * i.val + r) : ℝ) : EReal)) 32]
  refine Finset.sum_congr rfl fun r _ => ?_
  have hi : i.val < k0_t1_loop.trips := by rw [trips1]; exact i.isLt
  have h1 := off1_eq ⟨i.val, hi⟩
  have h2 := off2_eq ⟨i.val, hi⟩
  have e1 : k0_off1 ⟨i.val, hi⟩ 0 = 32 * i.val := congrFun h1 0
  have e2 : k0_off1 ⟨i.val, hi⟩ 1 = 0 := congrFun h1 1
  have e3 : k0_off2 ⟨i.val, hi⟩ 0 = 32 * i.val := congrFun h2 0
  have e4 : k0_off2 ⟨i.val, hi⟩ 1 = 0 := congrFun h2 1
  rw [EReal.coe_mul, mul_comm]
  exact Ideal.mul_congr ((congrArg kh (congrArg₂ ix2 (Fin.ext (show k0_off2 ⟨i.val, hi⟩ 0 + r.val = 32 * i.val + r.val by omega))
      (Fin.ext (show k0_off2 ⟨i.val, hi⟩ 1 + d.val = d.val by omega)))).trans (hk ⟨32 * i.val + r.val, by omega⟩))
    ((congrArg x2 (congrArg₂ ix2 (Fin.ext (show k0_off1 ⟨i.val, hi⟩ 0 + r.val = 32 * i.val + r.val by omega))
      (Fin.ext (show k0_off1 ⟨i.val, hi⟩ 1 + e.val = e.val by omega)))).trans (hv ⟨32 * i.val + r.val, by omega⟩))

theorem ix3_congr {n0 n1 n2 : ℕ} {a a' : Fin n0} {b b' : Fin n1} {c c' : Fin n2} (ha : a = a') (hb : b = b') (hc : c = c') :
    ix3 a b c = ix3 a' b' c' := by rw [ha, hb, hc]

theorem st_succ (d : FVec Ideal S2048x128 .f32) (u : FVec Ideal S64x256x128 .f32) (i : Fin 64) (e : Fin 256) (l : Fin 128) (s dr ur : ℝ)
    (hs : stAt (F := Ideal) d u i.val (ix2 e l) = ((s : ℝ) : EReal)) (hd : d (ix2 ⟨32 * i.val, by omega⟩ l) = ((dr : ℝ) : EReal)) (hu : u (ix3 i e l) = ((ur : ℝ) : EReal)) :
    stAt (F := Ideal) d u (i.val + 1) (ix2 e l) = ((dr * s + ur : ℝ) : EReal) := by
  have hi : i.val < k0_t2_loop.trips := by rw [trips2]; exact i.isLt
  have h := stAt_succ (F := Ideal) d u ⟨i.val, hi⟩
  simp only at h
  rw [h]
  unfold k0_pay20
  pointwise
  have h4 := off4_eq ⟨i.val, hi⟩
  have h5 := off5_eq ⟨i.val, hi⟩
  have e1 : k0_off4 ⟨i.val, hi⟩ 0 = 32 * i.val := congrFun h4 0
  have e2 : k0_off4 ⟨i.val, hi⟩ 1 = 0 := congrFun h4 1
  have e3 : k0_off5 ⟨i.val, hi⟩ 0 = i.val := congrFun h5 0
  have e4 : k0_off5 ⟨i.val, hi⟩ 1 = 0 := congrFun h5 1
  have e5 : k0_off5 ⟨i.val, hi⟩ 2 = 0 := congrFun h5 2
  rw [EReal.coe_add, EReal.coe_mul, mul_comm (dr : EReal)]
  exact Ideal.add_congr (Ideal.mul_congr hs ((congrArg d (congrArg₂ ix2 (Fin.ext (show k0_off4 ⟨i.val, hi⟩ 0 = 32 * i.val by omega))
      (Fin.ext (show k0_off4 ⟨i.val, hi⟩ 1 + l.val = l.val by omega)))).trans hd))
    ((congrArg u (ix3_congr (Fin.ext (show k0_off5 ⟨i.val, hi⟩ 0 = i.val by omega))
      (Fin.ext (show k0_off5 ⟨i.val, hi⟩ 1 + e.val = e.val by omega)) (Fin.ext (show k0_off5 ⟨i.val, hi⟩ 2 + l.val = l.val by omega)))).trans hu)

/-- The state before every chunk, and the final state. -/
theorem stAt_at (d : FVec Ideal S2048x128 .f32) (u : FVec Ideal S64x256x128 .f32) (e : Fin 256) (l : Fin 128) (g k v : ℕ → ℝ)
    (hd : ∀ r : Fin 2048, d (ix2 r l) = ((Real.exp (pre g (32 * (r.val / 32) + 32) - pre g (32 * (r.val / 32))) : ℝ) : EReal))
    (hu : ∀ i : Fin 64, u (ix3 i e l) = ((∑ r ∈ Finset.range 32, k (32 * i.val + r) * Real.exp (pre g (32 * i.val + 32) - pre g (32 * i.val + r + 1)) * v (32 * i.val + r) : ℝ) : EReal))
    (n : ℕ) (hn : n ≤ 64) : stAt (F := Ideal) d u n (ix2 e l) = ((St g k v (32 * n) : ℝ) : EReal) := by
  induction n with
  | zero =>
      rw [show stAt (F := Ideal) d u 0 = k0_pay19 from rfl]
      unfold k0_pay19
      pointwise
      rw [St_zero, EReal.coe_zero]
  | succ n ih =>
      have h := st_succ d u ⟨n, by omega⟩ e l _ _ _ (ih (by omega)) (hd ⟨32 * n, by omega⟩) (hu ⟨n, by omega⟩)
      refine h.trans ?_
      rw [Nat.mul_succ, St_add]
      simp only [show 32 * n / 32 = n by omega]

theorem state_at (e : Fin 256) (l : Fin 128) (hG : ∀ r : Fin 2048, G (ix2 r l) = ((g l r.val : ℝ) : EReal))
    (h1 : ∀ r : Fin 2048, x1 (ix2 r l) = ((k l r.val : ℝ) : EReal)) (h2 : ∀ r : Fin 2048, x2 (ix2 r e) = ((v e r.val : ℝ) : EReal)) (n : ℕ) (hn : n ≤ 64) :
    stAt (F := Ideal) (dArr G) (uOf x1 x2 G) n (ix2 e l) = ((St (g l) (k l) (v e) (32 * n) : ℝ) : EReal) := by
  refine stAt_at _ _ e l _ _ _ (dArr_at g G l hG) (fun i => ?_) n hn
  unfold uOf
  refine (uArr_at x2 _ i e l (fun s => k l s * Real.exp (pre (g l) (32 * (s / 32) + 32) - pre (g l) (s + 1))) (v e) h2
    (fun r => khArr_at k g G x1 l hG r (h1 r))).trans ?_
  refine congrArg _ (Finset.sum_congr rfl fun r hr => ?_)
  have := Finset.mem_range.1 hr
  simp only [show (32 * i.val + r) / 32 = i.val by omega]

/-- The group's rows before the norm: the attention within the chunk and the state before it. -/
theorem rowO_open (qt kt qe : FVec Ideal S2048x128 .bf16) (u : FVec Ideal S64x256x128 .f32) (r : Fin 16) (t : Fin 128) (e : Fin 256) :
    rowO (F := Ideal) qt kt qe x2 u r (ix2 t e)
      = (∑ s : Fin 128, (if s.val / 32 = t.val / 32 ∧ s.val ≤ t.val then
          (∑ d : Fin 128, qt (ix2 ⟨128 * r.val + t.val, by omega⟩ d) * kt (ix2 ⟨128 * r.val + s.val, by omega⟩ d)) * x2 (ix2 ⟨128 * r.val + s.val, by omega⟩ e) else 0)
        + ∑ d : Fin 128, qe (ix2 ⟨128 * r.val + t.val, by omega⟩ d) * u (ix3 ⟨4 * r.val + t.val / 32, by omega⟩ e d) : EReal) := by
  unfold rowO groupO k0_pay28 k0_pay29 k0_pay30 k0_pay31
  pointwise
  have hk : ∀ s : Fin 128, k0_pay26 (iota .tc S128x128 32 [0] iota_S128x128_d0_w32) (iota .tc S128x128 32 [1] iota_S128x128_d1_w32) k0_pay23 32#32 k0_pay24
      k0_pay25 (ix2 t s) = BitVec.ofBool (decide (s.val / 32 = t.val / 32 ∧ s.val ≤ t.val)) := fun s => keepMask_at t s
  simp only [hk, select_ofBool]
  refine Ideal.add_congr rfl ?_
  have ht := t.isLt
  by_cases h0 : t.val < 32
  · rw [dif_pos h0]
    simp only [show t.val / 32 = 0 by omega, add_zero]
  · rw [dif_neg h0]
    by_cases h1 : t.val - 32 < 32
    · rw [dif_pos h1]
      simp only [show t.val / 32 = 1 by omega, show 128 * r.val + 32 + (t.val - 32) = 128 * r.val + t.val by omega]
    · rw [dif_neg h1]
      by_cases h2 : t.val - 32 - 32 < 32
      · rw [dif_pos h2]
        simp only [show t.val / 32 = 2 by omega, show 128 * r.val + 64 + (t.val - 32 - 32) = 128 * r.val + t.val by omega]
      · rw [dif_neg h2]
        simp only [show t.val / 32 = 3 by omega, show 128 * r.val + 96 + (t.val - 32 - 32 - 32) = 128 * r.val + t.val by omega]

/-- Row `128 r + t` of the output before the norm. -/
theorem rowO_at (e : Fin 256) (hG : ∀ (l : Fin 128) (r : Fin 2048), G (ix2 r l) = ((g l r.val : ℝ) : EReal))
    (h0 : ∀ (l : Fin 128) (r : Fin 2048), x0 (ix2 r l) * Ideal.ofBits .f32 1035273459#32 = ((q l r.val : ℝ) : EReal))
    (h1 : ∀ (l : Fin 128) (r : Fin 2048), x1 (ix2 r l) = ((k l r.val : ℝ) : EReal)) (h2 : ∀ r : Fin 2048, x2 (ix2 r e) = ((v e r.val : ℝ) : EReal))
    (r : Fin 16) (t : Fin 128) :
    rowO (F := Ideal) (qtArr G x0) (ktArr G x1) (qeArr G x0) x2 (sArr (dArr G) (uOf x1 x2 G)) r (ix2 t e)
      = ((Ot q g k (v e) (128 * r.val + t.val) : ℝ) : EReal) := by
  rw [rowO_open]
  have hr := r.isLt
  have ht := t.isLt
  have hS : ∀ d : Fin 128, sArr (F := Ideal) (dArr G) (uOf x1 x2 G) (ix3 ⟨4 * r.val + t.val / 32, by omega⟩ e d)
      = ((St (g d) (k d) (v e) (32 * (4 * r.val + t.val / 32)) : ℝ) : EReal) := fun d =>
    state_at k g v G x1 x2 e d (hG d) (h1 d) h2 (4 * r.val + t.val / 32) (by omega)
  have hdiv : (128 * r.val + t.val) / 32 = 4 * r.val + t.val / 32 := by omega
  have hF : ∀ s : Fin 128, ((if s.val / 32 = t.val / 32 ∧ s.val ≤ t.val then
        (∑ d : Fin 128, qtArr G x0 (ix2 ⟨128 * r.val + t.val, by omega⟩ d) * ktArr G x1 (ix2 ⟨128 * r.val + s.val, by omega⟩ d)) * x2 (ix2 ⟨128 * r.val + s.val, by omega⟩ e) else 0 : EReal))
      = (((if s.val / 32 = t.val / 32 ∧ s.val ≤ 32 * (t.val / 32) + t.val % 32 then
        (∑ d : Fin 128, (q d (128 * r.val + t.val) * Real.exp (pre (g d) (128 * r.val + t.val + 1) - pre (g d) (32 * (4 * r.val + t.val / 32)) - half (g d) (4 * r.val + t.val / 32)))
            * (k d (128 * r.val + s.val) * Real.exp (half (g d) ((128 * r.val + s.val) / 32) - (pre (g d) (128 * r.val + s.val + 1) - pre (g d) (32 * ((128 * r.val + s.val) / 32))))))
          * v e (128 * r.val + s.val) else 0) : ℝ) : EReal) := by
    intro s
    rw [show 32 * (t.val / 32) + t.val % 32 = t.val by omega]
    by_cases h : s.val / 32 = t.val / 32 ∧ s.val ≤ t.val
    · rw [if_pos h, if_pos h, EReal.coe_mul, ← coe_sum]
      refine Ideal.mul_congr (Finset.sum_congr rfl fun d _ => ?_) (h2 _)
      rw [EReal.coe_mul, qtArr_at q g G x0 d (hG d) _ (h0 d _), ktArr_at k g G x1 d (hG d) _ (h1 d _)]
      simp only [hdiv]
    · rw [if_neg h, if_neg h, EReal.coe_zero]
  rw [Finset.sum_congr rfl fun s _ => hF s, coe_sum,
    Fin.sum_univ_eq_sum_range (fun s => (if s / 32 = t.val / 32 ∧ s ≤ 32 * (t.val / 32) + t.val % 32 then
        (∑ d : Fin 128, (q d (128 * r.val + t.val) * Real.exp (pre (g d) (128 * r.val + t.val + 1) - pre (g d) (32 * (4 * r.val + t.val / 32)) - half (g d) (4 * r.val + t.val / 32)))
            * (k d (128 * r.val + s) * Real.exp (half (g d) ((128 * r.val + s) / 32) - (pre (g d) (128 * r.val + s + 1) - pre (g d) (32 * ((128 * r.val + s) / 32))))))
          * v e (128 * r.val + s) else 0 : ℝ)) 128,
    sum_keep (fun s => (∑ d : Fin 128, (q d (128 * r.val + t.val) * Real.exp (pre (g d) (128 * r.val + t.val + 1) - pre (g d) (32 * (4 * r.val + t.val / 32)) - half (g d) (4 * r.val + t.val / 32)))
            * (k d (128 * r.val + s) * Real.exp (half (g d) ((128 * r.val + s) / 32) - (pre (g d) (128 * r.val + s + 1) - pre (g d) (32 * ((128 * r.val + s) / 32))))))
          * v e (128 * r.val + s)) _ _ (by omega) (by omega)]
  have hQ : ∀ d : Fin 128, (qeArr G x0 (ix2 ⟨128 * r.val + t.val, by omega⟩ d) * sArr (F := Ideal) (dArr G) (uOf x1 x2 G) (ix3 ⟨4 * r.val + t.val / 32, by omega⟩ e d) : EReal)
      = (((q d (128 * r.val + t.val) * Real.exp (pre (g d) (128 * r.val + t.val + 1) - pre (g d) (32 * (4 * r.val + t.val / 32)))) * St (g d) (k d) (v e) (32 * (4 * r.val + t.val / 32)) : ℝ) : EReal) := by
    intro d
    rw [EReal.coe_mul]
    refine Ideal.mul_congr ?_ (hS d)
    rw [qeArr_at q g G x0 d (hG d) _ (h0 d _)]
    simp only [hdiv]
  rw [Finset.sum_congr rfl fun d _ => hQ d, coe_sum, ← EReal.coe_add]
  refine congrArg _ ?_
  have hT : 128 * r.val + t.val = 32 * (4 * r.val + t.val / 32) + t.val % 32 := by omega
  have := Ot_chunk q g k (v e) (32 * (4 * r.val + t.val / 32)) (t.val % 32) (fun d => half (g d) (4 * r.val + t.val / 32))
  rw [← hT] at this
  rw [this]
  congr 1
  refine Finset.sum_congr rfl fun s hs => ?_
  have hs' := Finset.mem_range.1 hs
  simp only [show 128 * r.val + (32 * (t.val / 32) + s) = 32 * (4 * r.val + t.val / 32) + s by omega,
    show (32 * (4 * r.val + t.val / 32) + s) / 32 = 4 * r.val + t.val / 32 by omega]

/-- The final state. -/
theorem outS_at (hG : ∀ (l : Fin 128) (r : Fin 2048), G (ix2 r l) = ((g l r.val : ℝ) : EReal))
    (h1 : ∀ (l : Fin 128) (r : Fin 2048), x1 (ix2 r l) = ((k l r.val : ℝ) : EReal)) (h2 : ∀ (e : Fin 256) (r : Fin 2048), x2 (ix2 r e) = ((v e r.val : ℝ) : EReal))
    (l : Fin 128) (e : Fin 256) :
    outS (F := Ideal) x1 x2 G (ix4 0 0 l e) = ((St (g l) (k l) (v e) 2048 : ℝ) : EReal) := by
  have h := state_at k g v G x1 x2 e l (hG l) (h1 l) (h2 e) 64 le_rfl
  unfold outS k0_pay22
  generalize stAt (F := Ideal) (dArr G) (uOf x1 x2 G) 64 = y at h
  pointwise
  exact h

end Cert.KernelIdeal.Gla

end
-- ==== Proof.Gla.Spec.lean ====
module

public import proofs.«01_k».proof.Proof.Gla.Math
public import Idealize.ShloMosaic.Lib.Claim
public import Idealize.ShloMosaic.PureOps.Ideal

/-! The two results as functions of real arguments. -/

@[expose] public section

noncomputable section

namespace Cert.GlaSpec

open Idealize.ShloMosaic Cert.GlaMath

/-- Arrays of reals of the arguments' shapes. -/
structure Args where
  q : Fin 4 → Fin 2048 → Fin 512 → ℝ
  k : Fin 4 → Fin 2048 → Fin 512 → ℝ
  v : Fin 4 → Fin 2048 → Fin 1024 → ℝ
  lr : Fin 4 → Fin 2048 → Fin 16 → ℝ
  w : Fin 16 → Fin 512 → ℝ
  b : Fin 512 → ℝ
  s : ℝ

variable (a : Args) (b h : Fin 4)

/-- A row's number. -/
def row (t : ℕ) : Fin 2048 := ⟨t % 2048, Nat.mod_lt _ (by norm_num)⟩

/-- A lane of a head of 128 lanes. -/
def lane (h : Fin 4) (d : Fin 128) : Fin 512 := ⟨128 * h.val + d.val, by omega⟩

/-- A lane of a head of 256 lanes. -/
def laneV (h : Fin 4) (e : Fin 256) : Fin 1024 := ⟨256 * h.val + e.val, by omega⟩

/-- The scaled query of a head. -/
def qS (d : Fin 128) (t : ℕ) : ℝ := a.q b (row t) (lane h d) * a.s

/-- The key of a head. -/
def kS (d : Fin 128) (t : ℕ) : ℝ := a.k b (row t) (lane h d)

/-- The value of a head. -/
def vS (e : Fin 256) (t : ℕ) : ℝ := a.v b (row t) (laneV h e)

/-- The log gate of a head. -/
def gS (d : Fin 128) (t : ℕ) : ℝ := lsig (∑ j : Fin 16, a.lr b (row t) j * a.w j (lane h d) + a.b (lane h d))

/-- The recurrence's output of a head. -/
def oS (t : ℕ) (e : Fin 256) : ℝ := Ot (qS a b h) (gS a b h) (kS a b h) (vS a b h e) t

/-- The recurrence's last state of a head. -/
def stS (d : Fin 128) (e : Fin 256) : ℝ := St (gS a b h d) (kS a b h d) (vS a b h e) 2048

/-- The normalised and gated output at a lane. -/
def finS (o : Fin 256 → ℝ) (ng rr : EReal) (e : Fin 256) : EReal :=
  ((o e : ℝ) : EReal) * Ideal.rsqrt (Ideal.div (∑ j : Fin 256, ((o j : ℝ) : EReal) * ((o j : ℝ) : EReal)) (Ideal.ofBits .f32 0x43800000#32) + Ideal.ofBits .f32 0x358637BD#32) * ng
    * (rr * Ideal.logistic rr)

end Cert.GlaSpec

end
-- ==== Proof.Gla.KBlk.lean ====
module

public import proofs.«01_k».proof.Proof.Gla.KernelVal
public import proofs.«01_k».proof.Proof.Gla.Data
public import proofs.«01_k».proof.Proof.Gla.Spec
public import Idealize.ShloMosaic.Lib.Pipeline.ValueKit
public import Idealize.ShloMosaic.Lib.StableHlo.RunRead

/-! The blocks the gated-linear-attention kernel reads, at an index, over the arguments. -/

@[expose] public section

set_option maxRecDepth 16384

noncomputable section

namespace Cert.KernelIdeal.Gla

open Idealize.ShloMosaic Idealize.ShloMosaic.TcCoe Idealize.ShloMosaic.Tactic
open Idealize.ShloMosaic.StableHlo
open Cert.KernelIdeal Cert.KernelIdeal.Gen Cert.GlaMath Cert.GlaSpec

variable (m : (ℓ : Loc nD τ sig) → Buf (Elt Ideal) ℓ) (c : Dev nD)

theorem idx : ∀ t : Fin cfg0.N, win0_0.index t = ![t.val / 4, t.val % 4] ∧ win0_1.index t = ![t.val / 4, t.val % 4] ∧ win0_2.index t = ![t.val / 4, t.val % 4]
    ∧ win0_3.index t = ![t.val / 4, t.val % 4] ∧ win0_4.index t = ![t.val / 4, 0] ∧ win0_5.index t = ![0, t.val % 4] ∧ win0_6.index t = ![0, t.val % 4]
    ∧ win0_7.index t = ![0, 0] ∧ win0_8.index t = ![t.val / 4, t.val % 4] ∧ win0_9.index t = ![t.val / 4, t.val % 4, 0, 0] :=
  (by decide +kernel : ∀ t : Fin grid0.N, _)

theorem lt16 (t : Fin cfg0.N) : t.val < 16 := t.isLt

/-- The batch of a grid point. -/
def bOf (t : Fin cfg0.N) : Fin 4 := ⟨t.val / 4, by have := lt16 t; omega⟩
/-- The head of a grid point. -/
def hOf (t : Fin cfg0.N) : Fin 4 := ⟨t.val % 4, by omega⟩

theorem blk0 (t : Fin cfg0.N) (r : Fin 2048) (l : Fin 128) :
    (iblk m c 0 t : FVec Ideal S2048x128 .f32) (ix2 r l) = (m ((c.tc : Thread nD τ).loc main_arg0) : FVec Ideal S4x2048x512 .f32) (ix3 (bOf t) r (lane (hOf t) l)) := by
  have e : (win0_0.blk t).view.emb (ix2 r l) = (ix2 ⟨2048 * (bOf t).val + r.val, by omega⟩ (lane (hOf t) l) : S8192x512.Idx) := by
    blk_ext [idx t, bOf, hOf, lane, laneV]
  blk_simp [iblk]
  rw [e]
  entry_read
  pointwise

theorem blk1 (t : Fin cfg0.N) (r : Fin 2048) (l : Fin 128) :
    (iblk m c 1 t : FVec Ideal S2048x128 .f32) (ix2 r l) = (m ((c.tc : Thread nD τ).loc main_arg1) : FVec Ideal S4x2048x512 .f32) (ix3 (bOf t) r (lane (hOf t) l)) := by
  have e : (win0_1.blk t).view.emb (ix2 r l) = (ix2 ⟨2048 * (bOf t).val + r.val, by omega⟩ (lane (hOf t) l) : S8192x512.Idx) := by
    blk_ext [idx t, bOf, hOf, lane, laneV]
  blk_simp [iblk]
  rw [e]
  entry_read
  pointwise

theorem blk2 (t : Fin cfg0.N) (r : Fin 2048) (l : Fin 256) :
    (iblk m c 2 t : FVec Ideal S2048x256 .bf16) (ix2 r l) = (m ((c.tc : Thread nD τ).loc main_arg2) : FVec Ideal S4x2048x1024 .f32) (ix3 (bOf t) r (laneV (hOf t) l)) := by
  have e : (win0_2.blk t).view.emb (ix2 r l) = (ix2 ⟨2048 * (bOf t).val + r.val, by omega⟩ (laneV (hOf t) l) : S8192x1024.Idx) := by
    blk_ext [idx t, bOf, hOf, lane, laneV]
  blk_simp [iblk]
  rw [e]
  entry_read
  pointwise
  refine congrArg (m ((c.tc : Thread nD τ).loc main_arg2) : FVec Ideal S4x2048x1024 .f32) ?_
  rw [show (⟨(2048 * (bOf t).val + r.val) / 2048, by omega⟩ : Fin 4) = bOf t from Fin.ext (by show (2048 * (bOf t).val + r.val) / 2048 = (bOf t).val; omega),
    show (⟨(2048 * (bOf t).val + r.val) % 2048, by omega⟩ : Fin 2048) = r from Fin.ext (by show (2048 * (bOf t).val + r.val) % 2048 = r.val; omega)]

theorem blk3 (t : Fin cfg0.N) (r : Fin 2048) (l : Fin 256) :
    (iblk m c 3 t : FVec Ideal S2048x256 .f32) (ix2 r l) = (m ((c.tc : Thread nD τ).loc main_arg3) : FVec Ideal S4x2048x1024 .f32) (ix3 (bOf t) r (laneV (hOf t) l)) := by
  have e : (win0_3.blk t).view.emb (ix2 r l) = (ix2 ⟨2048 * (bOf t).val + r.val, by omega⟩ (laneV (hOf t) l) : S8192x1024.Idx) := by
    blk_ext [idx t, bOf, hOf, lane, laneV]
  blk_simp [iblk]
  rw [e]
  entry_read
  pointwise

/-- Three arrays side by side. -/
def beside (x : FVec Ideal S8192x48 .f32) (y : FVec Ideal S8192x16 .f32) (z : FVec Ideal S8192x64 .f32) : FVec Ideal S8192x128 .f32 :=
  concatenate S8192x128 1 [⟨S8192x48, x⟩, ⟨S8192x16, y⟩, ⟨S8192x64, z⟩] concatenates_S8192x48_S8192x16_S8192x64_S8192x128_d1

theorem beside_at (x : FVec Ideal S8192x48 .f32) (y : FVec Ideal S8192x16 .f32) (z : FVec Ideal S8192x64 .f32) (r : Fin 8192) (k : Fin 16) :
    beside x y z (ix2 r ⟨48 + k.val, by omega⟩) = y (ix2 r k) := by
  unfold beside
  refine concatenate_apply_piece (t := S8192x128) (1 : Fin 2) _ _ _ 1 ?_ S8192x16 y rfl rfl 48 ?_ (ix2 r k) (fun a ha => ?_) rfl
  · show 1 < 3
    decide
  · rfl
  · fin_cases a
    · rfl
    · exact absurd rfl ha

/-- The operations before the three arrays are joined. -/
abbrev opsA : List (HloOp τ sig (Elt Ideal)) := hostOps0.take 5

/-- The operations after. -/
abbrev opsB : List (HloOp τ sig (Elt Ideal)) := hostOps0.drop 6

/-- The buffers before the three arrays are joined. -/
abbrev VA : Valuation τ sig (Elt Ideal) := after opsA (fun b => m (c, b))

theorem VA1 : VA m c (Proc.devRef .tc main_v1) = shapeCast S8192x16 (m ((c.tc : Thread nD τ).loc main_arg4) : FVec Ideal S4x2048x16 .f32) shapeCasts_S4x2048x16_S8192x16 := by
  unfold VA
  after_reads_simp
  rfl

theorem cast16_at (x : FVec Ideal S4x2048x16 .f32) (b : Fin 4) (r : Fin 2048) (k : Fin 16) :
    shapeCast S8192x16 x shapeCasts_S4x2048x16_S8192x16 (ix2 ⟨2048 * b.val + r.val, by omega⟩ k) = x (ix3 b r k) := by
  pointwise

theorem V3 : V m c main_v3 = beside (VA m c (Proc.devRef .tc main_v0)) (VA m c (Proc.devRef .tc main_v1)) (VA m c (Proc.devRef .tc main_v2)) := by
  show after opsB ((hostOps0[5]'(by decide)).result (VA m c)) (Proc.devRef .tc main_v3) = _
  rw [after_of_forall_not_mem (b := Proc.devRef .tc main_v3) _ _ (List.forall_iff_forall_mem.mp (by
    show (opsB : List (HloOp τ sig (Elt Ideal))).Forall fun op => Proc.devRef .tc main_v3 ∉ op.writes
    simp only [opsB, hostOps0, List.drop_succ_cons, List.drop_zero, List.Forall, nary_writes, unary_writes, reshape_writes, Finset.mem_singleton]
    repeat' apply And.intro
    all_goals exact devRef_ne_of_ne (by decide)))]
  exact nary_result ![main_v0, main_v1, main_v2] main_v3 (fun u => beside (u 0) (u 1) (u 2)) (by decide) (by decide) (VA m c)

theorem blk4 (t : Fin cfg0.N) (r : Fin 2048) (k : Fin 16) :
    (iblk m c 4 t : FVec Ideal S2048x128 .f32) (ix2 r ⟨48 + k.val, by omega⟩) = (m ((c.tc : Thread nD τ).loc main_arg4) : FVec Ideal S4x2048x16 .f32) (ix3 (bOf t) r k) := by
  have e : (win0_4.blk t).view.emb (ix2 r ⟨48 + k.val, by omega⟩) = (ix2 ⟨2048 * (bOf t).val + r.val, by omega⟩ ⟨48 + k.val, by omega⟩ : S8192x128.Idx) := by
    blk_ext [idx t, bOf, hOf, lane, laneV]
  blk_simp [iblk]
  rw [e]
  rw [V3, beside_at, VA1]
  exact cast16_at _ _ _ _

theorem blk5 (t : Fin cfg0.N) (k : Fin 16) (l : Fin 128) :
    (iblk m c 5 t : FVec Ideal S16x128 .bf16) (ix2 k l) = (m ((c.tc : Thread nD τ).loc main_arg5) : FVec Ideal S16x512 .f32) (ix2 k (lane (hOf t) l)) := by
  have e : (win0_5.blk t).view.emb (ix2 k l) = (ix2 k (lane (hOf t) l) : S16x512.Idx) := by
    blk_ext [idx t, bOf, hOf, lane, laneV]
  blk_simp [iblk]
  rw [e]
  entry_read
  pointwise

theorem blk6 (t : Fin cfg0.N) (l : Fin 128) :
    (iblk m c 6 t : FVec Ideal S1x128 .f32) (ix2 0 l) = (m ((c.tc : Thread nD τ).loc main_arg6) : FVec Ideal S512 .f32) (ix1 (lane (hOf t) l)) := by
  have e : (win0_6.blk t).view.emb (ix2 0 l) = (ix2 0 (lane (hOf t) l) : S1x512.Idx) := by
    blk_ext [idx t, bOf, hOf, lane, laneV]
  blk_simp [iblk]
  rw [e]
  entry_read
  pointwise

theorem blk7 (t : Fin cfg0.N) (l : Fin 256) :
    (iblk m c 7 t : FVec Ideal S1x256 .f32) (ix2 0 l) = (m ((c.tc : Thread nD τ).loc main_arg7) : FVec Ideal S256 .f32) (ix1 l) := by
  have e : (win0_7.blk t).view.emb (ix2 0 l) = (ix2 0 l : S1x256.Idx) := by
    blk_ext [idx t, bOf, hOf, lane, laneV]
  blk_simp [iblk]
  rw [e]
  entry_read
  pointwise

end Cert.KernelIdeal.Gla

end
-- ==== Proof.Gla.KFin.lean ====
module

public import proofs.«01_k».proof.Proof.Gla.KBlk

/-! The gated-linear-attention kernel's results over real arguments. -/

@[expose] public section

set_option maxRecDepth 16384

noncomputable section

namespace Cert.KernelIdeal.Gla

open Idealize.ShloMosaic Idealize.ShloMosaic.TcCoe Idealize.ShloMosaic.Tactic
open Cert.KernelIdeal Cert.KernelIdeal.Gen Cert.GlaMath Cert.GlaSpec

theorem finish_at (ng : Vec Ideal S1x256 .f32) (o : FVec Ideal S128x256 .f32) (rr : Vec Ideal S128x256 .f32) (i : Fin 128) (e : Fin 256) (z : Fin 256 → ℝ)
    (h : ∀ e, o (ix2 i e) = ((z e : ℝ) : EReal)) :
    finish (F := Ideal) ng o rr (ix2 i e) = finS z (ng (ix2 0 e)) (rr (ix2 i e)) e := by
  unfold finish finS
  pointwise
  simp only [h]

theorem rowOut_at (qt kt qe : Vec Ideal S2048x128 .bf16) (v : Vec Ideal S2048x256 .bf16) (u : Vec Ideal S64x256x128 .f32) (rr : Vec Ideal S2048x256 .f32) (ng : Vec Ideal S1x256 .f32)
    (r : Fin 16) (i : Fin 128) (e : Fin 256) (z : Fin 256 → ℝ) (h : ∀ e, rowO (F := Ideal) qt kt qe v u r (ix2 i e) = ((z e : ℝ) : EReal)) :
    rowOut (F := Ideal) qt kt qe v u rr ng r (ix2 i e) = finS z (ng (ix2 0 e)) (rr (ix2 ⟨128 * r.val + i.val, by omega⟩ e)) e := by
  unfold rowOut
  rw [finish_at _ _ _ i e z h]
  congr 1
  · pointwise
  · pointwise

variable (m : (ℓ : Loc nD τ sig) → Buf (Elt Ideal) ℓ) (c : Dev nD) (a : Args)

/-- The queries. -/
def A0 : FVec Ideal S4x2048x512 .f32 := m ((c.tc : Thread nD τ).loc main_arg0)
/-- The keys. -/
def A1 : FVec Ideal S4x2048x512 .f32 := m ((c.tc : Thread nD τ).loc main_arg1)
/-- The values. -/
def A2 : FVec Ideal S4x2048x1024 .f32 := m ((c.tc : Thread nD τ).loc main_arg2)
/-- The output gate's input. -/
def A3 : FVec Ideal S4x2048x1024 .f32 := m ((c.tc : Thread nD τ).loc main_arg3)
/-- The gate's low-rank input. -/
def A4 : FVec Ideal S4x2048x16 .f32 := m ((c.tc : Thread nD τ).loc main_arg4)
/-- The gate's weights. -/
def A5 : FVec Ideal S16x512 .f32 := m ((c.tc : Thread nD τ).loc main_arg5)
/-- The gate's bias. -/
def A6 : FVec Ideal S512 .f32 := m ((c.tc : Thread nD τ).loc main_arg6)
/-- The norm's scale. -/
def A7 : FVec Ideal S256 .f32 := m ((c.tc : Thread nD τ).loc main_arg7)

variable (hs : Ideal.ofBits .f32 1035273459#32 = ((a.s : ℝ) : EReal))
variable (h0 : ∀ b t l, A0 m c (ix3 b t l) = ((a.q b t l : ℝ) : EReal))
variable (h1 : ∀ b t l, A1 m c (ix3 b t l) = ((a.k b t l : ℝ) : EReal))
variable (h2 : ∀ b t l, A2 m c (ix3 b t l) = ((a.v b t l : ℝ) : EReal))
variable (h4 : ∀ b t l, A4 m c (ix3 b t l) = ((a.lr b t l : ℝ) : EReal))
variable (h5 : ∀ t l, A5 m c (ix2 t l) = ((a.w t l : ℝ) : EReal))
variable (h6 : ∀ l, A6 m c (ix1 l) = ((a.b l : ℝ) : EReal))

theorem row_val (r : Fin 2048) : row r.val = r := Fin.ext (Nat.mod_eq_of_lt r.isLt)

/-- The gate of a grid point. -/
abbrev gt (t : Fin cfg0.N) : FVec Ideal S2048x128 .f32 := gate (F := Ideal) (iblk m c 4 t) (iblk m c 5 t) (iblk m c 6 t)

include h4 h5 h6 in
theorem gate_val (t : Fin cfg0.N) (l : Fin 128) (r : Fin 2048) : gt m c t (ix2 r l) = ((gS a (bOf t) (hOf t) l r.val : ℝ) : EReal) := by
  unfold gS
  rw [row_val]
  exact gate_at (iblk m c 4 t) (iblk m c 5 t) (iblk m c 6 t) r l (fun j => a.lr (bOf t) r j) (fun j => a.w j (lane (hOf t) l)) _
    (fun k => (blk4 m c t r k).trans (h4 _ _ _)) (fun k => (blk5 m c t k l).trans (h5 _ _)) ((blk6 m c t l).trans (h6 _))

/-- The queries' block of a grid point. -/
def Q0 (t : Fin cfg0.N) : FVec Ideal S2048x128 .f32 := iblk m c 0 t

include hs h0 in
theorem q_val (t : Fin cfg0.N) (l : Fin 128) (r : Fin 2048) :
    Q0 m c t (ix2 r l) * Ideal.ofBits .f32 1035273459#32 = ((qS a (bOf t) (hOf t) l r.val : ℝ) : EReal) := by
  rw [show Q0 m c t (ix2 r l) = ((a.q (bOf t) r (lane (hOf t) l) : ℝ) : EReal) from (blk0 m c t r l).trans (h0 _ _ _), hs]
  unfold qS
  rw [row_val, EReal.coe_mul]

include h1 in
theorem k_val (t : Fin cfg0.N) (l : Fin 128) (r : Fin 2048) :
    (iblk m c 1 t : FVec Ideal S2048x128 .f32) (ix2 r l) = ((kS a (bOf t) (hOf t) l r.val : ℝ) : EReal) := by
  rw [blk1]
  unfold kS
  rw [row_val]
  exact h1 _ _ _

include h2 in
theorem v_val (t : Fin cfg0.N) (e : Fin 256) (r : Fin 2048) :
    (iblk m c 2 t : FVec Ideal S2048x256 .bf16) (ix2 r e) = ((vS a (bOf t) (hOf t) e r.val : ℝ) : EReal) := by
  rw [blk2]
  unfold vS
  rw [row_val]
  exact h2 _ _ _

section
include hs h0 h1 h2 h4 h5 h6

theorem after8_at (t : Fin cfg0.N) (r : Fin 2048) (e : Fin 256) :
    outO (F := Ideal) (iblk m c 0 t) (iblk m c 1 t) (iblk m c 2 t) (iblk m c 3 t) (gt m c t) (iblk m c 7 t) (ix2 r e)
      = finS (oS a (bOf t) (hOf t) r.val) (A7 m c (ix1 e)) (A3 m c (ix3 (bOf t) r (laneV (hOf t) e))) e := by
  have hr : 128 * (r.val / 128) + r.val % 128 = r.val := by omega
  refine (rowOut_at _ _ _ _ _ _ _ ⟨r.val / 128, by omega⟩ ⟨r.val % 128, by omega⟩ e (oS a (bOf t) (hOf t) r.val) fun e => ?_).trans ?_
  · refine (rowO_at (qS a (bOf t) (hOf t)) (kS a (bOf t) (hOf t)) (gS a (bOf t) (hOf t)) (vS a (bOf t) (hOf t)) (gt m c t) (Q0 m c t) (iblk m c 1 t) (iblk m c 2 t) e
      (gate_val m c a h4 h5 h6 t) (q_val m c a hs h0 t) (k_val m c a h1 t) (v_val m c a h2 t e) _ _).trans ?_
    unfold oS
    show ((Ot _ _ _ _ (128 * (r.val / 128) + r.val % 128) : ℝ) : EReal) = _
    rw [hr]
  · rw [show (⟨128 * (⟨r.val / 128, by omega⟩ : Fin 16).val + (⟨r.val % 128, by omega⟩ : Fin 128).val, by show 128 * (r.val / 128) + r.val % 128 < 2048; omega⟩ : Fin 2048) = r from Fin.ext hr,
      blk7, blk3]
    rfl

theorem after9_at (t : Fin cfg0.N) (d : Fin 128) (e : Fin 256) :
    outS (F := Ideal) (iblk m c 1 t) (iblk m c 2 t) (gt m c t) (ix4 0 0 d e) = ((stS a (bOf t) (hOf t) d e : ℝ) : EReal) :=
  outS_at (kS a (bOf t) (hOf t)) (gS a (bOf t) (hOf t)) (vS a (bOf t) (hOf t)) (gt m c t) (iblk m c 1 t) (iblk m c 2 t)
    (gate_val m c a h4 h5 h6 t) (k_val m c a h1 t) (v_val m c a h2 t) d e

end

/-- The first result's array. -/
def outArr : FVec Ideal S8192x1024 .bf16 := fun j =>
  finS (oS a ⟨(j 0).val / 2048, by have : (j 0).val < 8192 := (j 0).isLt; omega⟩ ⟨(j 1).val / 256, by have : (j 1).val < 1024 := (j 1).isLt; omega⟩ ((j 0).val % 2048))
    (A7 m c (ix1 ⟨(j 1).val % 256, Nat.mod_lt _ (by norm_num)⟩))
    (A3 m c (ix3 ⟨(j 0).val / 2048, by have : (j 0).val < 8192 := (j 0).isLt; omega⟩ (row (j 0).val) (j 1))) ⟨(j 1).val % 256, Nat.mod_lt _ (by norm_num)⟩

/-- The second result's array. -/
def lastArr : FVec Ideal S4x4x128x256 .f32 := fun j => ((stS a (j 0) (j 1) (j 2) (j 3) : ℝ) : EReal)

theorem outArr_at (b h : Fin 4) (t : Fin 2048) (e : Fin 256) :
    outArr m c a (ix2 ⟨2048 * b.val + t.val, by omega⟩ ⟨256 * h.val + e.val, by omega⟩)
      = finS (oS a b h t.val) (A7 m c (ix1 e)) (A3 m c (ix3 b t (laneV h e))) e := by
  have e1 : (2048 * b.val + t.val) / 2048 = b.val := by omega
  have e2 : (2048 * b.val + t.val) % 2048 = t.val := by omega
  have e3 : (256 * h.val + e.val) / 256 = h.val := by omega
  have e4 : (256 * h.val + e.val) % 256 = e.val := by omega
  unfold outArr
  show finS (oS a ⟨(2048 * b.val + t.val) / 2048, _⟩ ⟨(256 * h.val + e.val) / 256, _⟩ ((2048 * b.val + t.val) % 2048)) (A7 m c (ix1 ⟨(256 * h.val + e.val) % 256, _⟩))
    (A3 m c (ix3 ⟨(2048 * b.val + t.val) / 2048, _⟩ ⟨(2048 * b.val + t.val) % 2048, _⟩ (laneV h e))) ⟨(256 * h.val + e.val) % 256, _⟩ = _
  simp only [e1, e2, e3, e4]

include hs h0 h1 h2 h4 h5 h6

theorem final8 : (dats m 0 c).arrAt 8 (cfgs 0).N = outArr m c a := by
  refine (dats m 0 c).arrAt_eq_of_covers 8 (outArr m c a) (by decide +kernel) fun t hf y => ?_
  obtain ⟨r, e, rfl⟩ : ∃ (r : Fin 2048) (e : Fin 256), y = (ix2 r e : S2048x256.Idx) := ⟨y 0, y 1, by funext i; fin_cases i <;> rfl⟩
  have he : (win0_8.blk t).view.emb (ix2 r e) = (ix2 ⟨2048 * (bOf t).val + r.val, by omega⟩ ⟨256 * (hOf t).val + e.val, by omega⟩ : S8192x1024.Idx) := by
    blk_ext [idx t, bOf, hOf]
  blk_simp
  rw [after_8]
  frame_out
  exact (after8_at m c a hs h0 h1 h2 h4 h5 h6 t r e).trans ((congrArg (outArr m c a) he).trans (outArr_at m c a (bOf t) (hOf t) r e)).symm

theorem final9 : (dats m 0 c).arrAt 9 (cfgs 0).N = lastArr a := by
  refine (dats m 0 c).arrAt_eq_of_covers 9 (lastArr a) (by decide +kernel) fun t hf y => ?_
  obtain ⟨d, e, rfl⟩ : ∃ (d : Fin 128) (e : Fin 256), y = (ix4 0 0 d e : S1x1x128x256.Idx) :=
    ⟨y 2, y 3, by
      funext i
      fin_cases i
      · exact Fin.ext (Nat.lt_one_iff.mp (y 0).isLt)
      · exact Fin.ext (Nat.lt_one_iff.mp (y 1).isLt)
      · rfl
      · rfl⟩
  have he : (win0_9.blk t).view.emb (ix4 0 0 d e) = (ix4 (bOf t) (hOf t) d e : S4x4x128x256.Idx) := by
    blk_ext [idx t, bOf, hOf]
  blk_simp
  rw [after_9]
  frame_out
  exact (after9_at m c a hs h0 h1 h2 h4 h5 h6 t d e).trans ((congrArg (lastArr a) he).trans rfl).symm

end Cert.KernelIdeal.Gla

end
-- ==== Proof.Gla.RefStep.lean ====
module

public import proofs.«01_k».proof.Proof.Gen.ReferenceIdeal.Run
public import proofs.«01_k».proof.Proof.Gla.Math
public import Idealize.ShloMosaic.Lib.Pointwise
public import Idealize.ShloMosaic.Lib.DynamicIndex
public import Mathlib.Tactic.Linarith
public import Mathlib.Tactic.IntervalCases

/-! One trip of the reference's scan over real inputs: what it makes of the running state and of the chunk's outputs. -/

@[expose] public section

set_option maxRecDepth 16384

noncomputable section

namespace Cert.ReferenceIdeal.Gla

open Idealize.ShloMosaic Idealize.ShloMosaic.TcCoe
open Cert.ReferenceIdeal Cert.ReferenceIdeal.Gen Cert.ReferenceIdeal.Value Cert.GlaMath

/-- The start of chunk `n` along the scan's axis. -/
theorem start_eq (i : IVec S_ 32) (n : ℕ) (hn : n < 128) (hi : i = fun _ => BitVec.ofNat 32 n) (a : Fin 5) :
    (((![i, constantI S_ 32 0#32, constantI S_ 32 0#32, constantI S_ 32 0#32, constantI S_ 32 0#32] : Fin 5 → IVec S_ 32) a (Shape.Idx.first h_S_)).toInt)
      = (((![n, 0, 0, 0, 0] : Fin 5 → ℕ) a : ℕ) : ℤ) := by
  subst hi
  match a with
  | ⟨0, _⟩ => exact toInt_ofNat_of_lt (by omega)
  | ⟨1, _⟩ => rfl
  | ⟨2, _⟩ => rfl
  | ⟨3, _⟩ => rfl
  | ⟨4, _⟩ => rfl

theorem fold_real (h : ℕ → ℝ) {N : ℕ} (L : List (Fin N)) (a : ℝ) :
    L.foldl (fun (r : EReal) (n : Fin N) => r + ((h n.val : ℝ) : EReal)) ((a : ℝ) : EReal) = ((a + (L.map fun n => h n.val).sum : ℝ) : EReal) := by
  induction L generalizing a with
  | nil => simp
  | cons x L ih =>
    rw [List.foldl_cons, ← EReal.coe_add, ih, List.map_cons, List.sum_cons, add_assoc]

theorem sum_prefix (f : ℕ → ℝ) (r : ℕ) (hr : r < 16) :
    ∑ w ∈ Finset.range 16, (if 15 ≤ r + w then f (r + w - 15) else 0) = ∑ s ∈ Finset.range (r + 1), f s := by
  interval_cases r <;> simp [Finset.sum_range_succ]

/-- A running sum along the chunk. -/
theorem cumsum_at (x : FVec Ideal S4x4x16x128 .f32) (init : FVec Ideal S_ .f32) (hinit : init (Shape.Idx.first h_S_) = (0 : EReal))
    (b h : Fin 4) (l : Fin 128) (f : ℕ → ℝ) (hx : ∀ c : Fin 16, x (ix4 b h c l) = ((f c.val : ℝ) : EReal)) (c : Fin 16) :
    Host.reduceWindowAdd (F := Ideal) ![1, 1, 16, 1] ![1, 1, 1, 1] ![0, 0, 15, 0] ![0, 0, 0, 0] x init
      reduceWindows_S4x4x16x128_S4x4x16x128_w1s1p0_0_w1s1p0_0_w16s1p15_0_w1s1p0_0 h_S_ (ix4 b h c l)
      = ((∑ s ∈ Finset.range (c.val + 1), f s : ℝ) : EReal) := by
  have hc := c.isLt
  show Host.reduceWindow (α := EReal) (u := ⟨0, ![]⟩) (· + ·) ![1, 1, 16, 1] ![1, 1, 1, 1] ![0, 0, 15, 0] ![0, 0, 0, 0] x (fun _ => init (Shape.Idx.first h_S_))
    reduceWindows_S4x4x16x128_S4x4x16x128_w1s1p0_0_w1s1p0_0_w16s1p15_0_w1s1p0_0 (by decide) (ix4 b h c l) = _
  rw [hinit]
  unfold Host.reduceWindow
  have hw : ∀ n : Fin (⟨4, ![1, 1, 16, 1]⟩ : Shape).numel, ((⟨4, ![1, 1, 16, 1]⟩ : Shape).rowMajor.symm n 0).val = 0 ∧ ((⟨4, ![1, 1, 16, 1]⟩ : Shape).rowMajor.symm n 1).val = 0
      ∧ ((⟨4, ![1, 1, 16, 1]⟩ : Shape).rowMajor.symm n 2).val = n.val ∧ ((⟨4, ![1, 1, 16, 1]⟩ : Shape).rowMajor.symm n 3).val = 0 := by decide +kernel
  have hN : (⟨4, ![1, 1, 16, 1]⟩ : Shape).numel = 16 := by decide
  have key := fold_real (fun w => if 15 ≤ c.val + w then f (c.val + w - 15) else 0) (List.finRange (⟨4, ![1, 1, 16, 1]⟩ : Shape).numel) 0
  rw [EReal.coe_zero, zero_add, ← Fin.sum_univ_def, Fin.sum_univ_eq_sum_range (fun w => if 15 ≤ c.val + w then f (c.val + w - 15) else 0), hN, sum_prefix f c.val hc] at key
  refine Eq.trans ?_ key
  dsimp only
  refine congrArg (fun F => List.foldl F (0 : EReal) (List.finRange (⟨4, ![1, 1, 16, 1]⟩ : Shape).numel)) ?_
  funext r n
  obtain ⟨h0, h1, h2, h3⟩ := hw n
  have hn : n.val < 16 := lt_of_lt_of_eq n.isLt hN
  refine congrArg (r + ·) ?_
  split
  · next hin =>
    have e2 := hin 2
    change 15 ≤ c.val * 1 + ((⟨4, ![1, 1, 16, 1]⟩ : Shape).rowMajor.symm n 2).val ∧ c.val * 1 + ((⟨4, ![1, 1, 16, 1]⟩ : Shape).rowMajor.symm n 2).val - 15 < 16 at e2
    rw [h2] at e2
    rw [if_pos (by omega)]
    refine (congrArg x (funext fun a => Fin.ext ?_)).trans (hx ⟨c.val + n.val - 15, by omega⟩)
    match a with
    | ⟨0, _⟩ =>
      show b.val * 1 + ((⟨4, ![1, 1, 16, 1]⟩ : Shape).rowMajor.symm n 0).val - 0 = b.val
      omega
    | ⟨1, _⟩ =>
      show h.val * 1 + ((⟨4, ![1, 1, 16, 1]⟩ : Shape).rowMajor.symm n 1).val - 0 = h.val
      omega
    | ⟨2, _⟩ =>
      show c.val * 1 + ((⟨4, ![1, 1, 16, 1]⟩ : Shape).rowMajor.symm n 2).val - 15 = c.val + n.val - 15
      omega
    | ⟨3, _⟩ =>
      show l.val * 1 + ((⟨4, ![1, 1, 16, 1]⟩ : Shape).rowMajor.symm n 3).val - 0 = l.val
      omega
  · next hin =>
    rw [if_neg, EReal.coe_zero]
    intro hle
    refine hin fun a => ?_
    match a with
    | ⟨0, _⟩ =>
      show 0 ≤ b.val * 1 + ((⟨4, ![1, 1, 16, 1]⟩ : Shape).rowMajor.symm n 0).val ∧ b.val * 1 + ((⟨4, ![1, 1, 16, 1]⟩ : Shape).rowMajor.symm n 0).val - 0 < 4
      omega
    | ⟨1, _⟩ =>
      show 0 ≤ h.val * 1 + ((⟨4, ![1, 1, 16, 1]⟩ : Shape).rowMajor.symm n 1).val ∧ h.val * 1 + ((⟨4, ![1, 1, 16, 1]⟩ : Shape).rowMajor.symm n 1).val - 0 < 4
      omega
    | ⟨2, _⟩ =>
      show 15 ≤ c.val * 1 + ((⟨4, ![1, 1, 16, 1]⟩ : Shape).rowMajor.symm n 2).val ∧ c.val * 1 + ((⟨4, ![1, 1, 16, 1]⟩ : Shape).rowMajor.symm n 2).val - 15 < 16
      omega
    | ⟨3, _⟩ =>
      show 0 ≤ l.val * 1 + ((⟨4, ![1, 1, 16, 1]⟩ : Shape).rowMajor.symm n 3).val ∧ l.val * 1 + ((⟨4, ![1, 1, 16, 1]⟩ : Shape).rowMajor.symm n 3).val - 0 < 128
      omega

/-- The chunk's slice of an array of lane width 128. -/
theorem slice128 (n : ℕ) (hn : n < 128) (st : Fin 5 → ℤ) (hst : ∀ a, st a = (((![n, 0, 0, 0, 0] : Fin 5 → ℕ) a : ℕ) : ℤ))
    (x : FVec Ideal S128x4x4x16x128 .f32) (b h : Fin 4) (c : Fin 16) (d : Fin 128) :
    shapeCast S4x4x16x128 (Host.dynamicSlice S1x4x4x16x128 x st sliceFits_S128x4x4x16x128_S1x4x4x16x128) shapeCasts_S1x4x4x16x128_S4x4x16x128 (ix4 b h c d)
      = x (ix5 ⟨n, hn⟩ b h c d) := by
  rw [Host.dynamicSlice_eq_extractStridedSlice S1x4x4x16x128 x st ![n, 0, 0, 0, 0] _ ⟨rfl, fun a => by
    match a with
    | ⟨0, _⟩ => show n + 1 ≤ 128; omega
    | ⟨1, _⟩ => show 0 + 4 ≤ 4; omega
    | ⟨2, _⟩ => show 0 + 4 ≤ 4; omega
    | ⟨3, _⟩ => show 0 + 16 ≤ 16; omega
    | ⟨4, _⟩ => show 0 + 128 ≤ 128; omega⟩ hst]
  pointwise

theorem slice256 (n : ℕ) (hn : n < 128) (st : Fin 5 → ℤ) (hst : ∀ a, st a = (((![n, 0, 0, 0, 0] : Fin 5 → ℕ) a : ℕ) : ℤ))
    (x : FVec Ideal S128x4x4x16x256 .f32) (b h : Fin 4) (c : Fin 16) (d : Fin 256) :
    shapeCast S4x4x16x256 (Host.dynamicSlice S1x4x4x16x256 x st sliceFits_S128x4x4x16x256_S1x4x4x16x256) shapeCasts_S1x4x4x16x256_S4x4x16x256 (ix4 b h c d)
      = x (ix5 ⟨n, hn⟩ b h c d) := by
  rw [Host.dynamicSlice_eq_extractStridedSlice S1x4x4x16x256 x st ![n, 0, 0, 0, 0] _ ⟨rfl, fun a => by
    match a with
    | ⟨0, _⟩ => show n + 1 ≤ 128; omega
    | ⟨1, _⟩ => show 0 + 4 ≤ 4; omega
    | ⟨2, _⟩ => show 0 + 4 ≤ 4; omega
    | ⟨3, _⟩ => show 0 + 16 ≤ 16; omega
    | ⟨4, _⟩ => show 0 + 256 ≤ 256; omega⟩ hst]
  pointwise

/-- The chunk's outputs written at its place. -/
theorem update_at (n : ℕ) (hn : n < 128) (st : Fin 5 → ℤ) (hst : ∀ a, st a = (((![n, 0, 0, 0, 0] : Fin 5 → ℕ) a : ℕ) : ℤ))
    (x : FVec Ideal S128x4x4x16x256 .f32) (y : FVec Ideal S1x4x4x16x256 .f32) (n' : Fin 128) (b h : Fin 4) (c : Fin 16) (e : Fin 256) :
    Host.dynamicUpdateSlice x y st updateFits_S128x4x4x16x256_S1x4x4x16x256 (ix5 n' b h c e)
      = if n'.val = n then y (ix5 0 b h c e) else x (ix5 n' b h c e) := by
  rw [Host.dynamicUpdateSlice_eq_updateSlice x y st _ ![n, 0, 0, 0, 0] (fun a => by
    rw [hst a]
    match a with
    | ⟨0, _⟩ => show (min (max ((n : ℕ) : ℤ) 0) ((128 - 1 : ℕ) : ℤ)).toNat = n; omega
    | ⟨1, _⟩ => show (min (max ((0 : ℕ) : ℤ) 0) ((4 - 4 : ℕ) : ℤ)).toNat = 0; omega
    | ⟨2, _⟩ => show (min (max ((0 : ℕ) : ℤ) 0) ((4 - 4 : ℕ) : ℤ)).toNat = 0; omega
    | ⟨3, _⟩ => show (min (max ((0 : ℕ) : ℤ) 0) ((16 - 16 : ℕ) : ℤ)).toNat = 0; omega
    | ⟨4, _⟩ => show (min (max ((0 : ℕ) : ℤ) 0) ((256 - 256 : ℕ) : ℤ)).toNat = 0; omega) ⟨rfl, fun a => by
    match a with
    | ⟨0, _⟩ => show n + 1 ≤ 128; omega
    | ⟨1, _⟩ => show 0 + 4 ≤ 4; omega
    | ⟨2, _⟩ => show 0 + 4 ≤ 4; omega
    | ⟨3, _⟩ => show 0 + 16 ≤ 16; omega
    | ⟨4, _⟩ => show 0 + 256 ≤ 256; omega⟩]
  pointwise
  have hn' := n'.isLt
  by_cases h1 : n'.val = n
  · rw [dif_pos ⟨by omega, by omega⟩, if_pos h1]
    exact congrArg y (congrArg (fun z => ix5 z b h c e) (Fin.ext (by show n'.val - n = 0; omega)))
  · rw [dif_neg (by omega), if_neg h1]

/-- The state after a chunk, of the state before it, the chunk's keys, values and running gate sums. -/
def newState (S : FVec Ideal S4x4x128x256 .f32) (k47 b50 : FVec Ideal S4x4x16x128 .f32) (v48 : FVec Ideal S4x4x16x256 .f32) : FVec Ideal S4x4x128x256 .f32 :=
  addf (mulf (broadcastInDim S4x4x128x256 ![0, 1, 2, 3] bcast_S4x4x128x1_S4x4x128x256_0_1_2_3 (broadcastInDim S4x4x128x1 ![0, 1, 2] bcast_S4x4x128_S4x4x128x1_0_1_2
    (shapeCast S4x4x128 (Host.exp (extractStridedSlice S4x4x1x128 ![0, 0, 15, 0] b50 slices_S4x4x16x128_S4x4x1x128_0_0_15_0)) shapeCasts_S4x4x1x128_S4x4x128))) S)
    (Host.dotGeneral dot_S4x4x16x128_S4x4x16x256_S4x4x128x256_2_2_3_3_01_01 none (mulf k47 (Host.exp (subf (broadcastInDim S4x4x16x128 ![0, 1, 2, 3]
      bcast_S4x4x1x128_S4x4x16x128_0_1_2_3 (extractStridedSlice S4x4x1x128 ![0, 0, 15, 0] b50 slices_S4x4x16x128_S4x4x1x128_0_0_15_0)) b50))) v48)

theorem newState_at (S : FVec Ideal S4x4x128x256 .f32) (k47 b50 : FVec Ideal S4x4x16x128 .f32) (v48 : FVec Ideal S4x4x16x256 .f32) (b h : Fin 4) (d : Fin 128) (e : Fin 256) :
    newState S k47 b50 v48 (ix4 b h d e) = (Ideal.exp (b50 (ix4 b h 15 d)) * S (ix4 b h d e)
      + ∑ s : Fin 16, k47 (ix4 b h s d) * Ideal.exp (b50 (ix4 b h 15 d) - b50 (ix4 b h s d)) * v48 (ix4 b h s e) : EReal) := by
  unfold newState
  pointwise

/-- The chunk's outputs. -/
def newOut (S : FVec Ideal S4x4x128x256 .f32) (q53 k47 b50 : FVec Ideal S4x4x16x128 .f32) (v48 : FVec Ideal S4x4x16x256 .f32) (mask : IVec S16x16 1) : FVec Ideal S4x4x16x256 .f32 :=
  addf (Host.dotGeneral dot_S4x4x16x128_S4x4x128x256_S4x4x16x256_3_2_2_3_01_01 none q53 S)
    (Host.dotGeneral dot_S4x4x16x16_S4x4x16x256_S4x4x16x256_3_2_2_3_01_01 none
      (select (broadcastInDim S4x4x16x16 ![2, 3] bcast_S16x16_S4x4x16x16_2_3 mask)
        (Host.dotGeneral dot_S4x4x16x128_S4x4x16x128_S4x4x16x16_3_3_2_2_01_01 none q53 (mulf k47 (Host.exp (Host.negf b50))) : FVec Ideal S4x4x16x16 .f32)
        (broadcastInDim S4x4x16x16 ![] bcast_S_S4x4x16x16 (id (constant S_ .f32 0x00000000#32)))) v48)

theorem newOut_at (S : FVec Ideal S4x4x128x256 .f32) (q53 k47 b50 : FVec Ideal S4x4x16x128 .f32) (v48 : FVec Ideal S4x4x16x256 .f32) (mask : IVec S16x16 1)
    (b h : Fin 4) (c : Fin 16) (e : Fin 256) :
    newOut S q53 k47 b50 v48 mask (ix4 b h c e) = (∑ d : Fin 128, q53 (ix4 b h c d) * S (ix4 b h d e)
      + ∑ s : Fin 16, Scalar.select (mask (ix2 c s)) (∑ d : Fin 128, q53 (ix4 b h c d) * (k47 (ix4 b h s d) * Ideal.exp (-(b50 (ix4 b h s d))))) 0 * v48 (ix4 b h s e) : EReal) := by
  unfold newOut
  simp only [id]
  pointwise

variable (V : Valuation τ sig (Elt Ideal)) (n : ℕ) (hn : n < 128)
variable (hc : V (Proc.devRef .tc main_v25_5) = fun _ => BitVec.ofNat 32 n)

/-- The trip's named values as plain arrays. -/
def K47 : FVec Ideal S4x4x16x128 .f32 := res_main_while0b_v47 V
def V48 : FVec Ideal S4x4x16x256 .f32 := res_main_while0b_v48 V
def B50 : FVec Ideal S4x4x16x128 .f32 := res_main_while0b_v50 V
def Q53 : FVec Ideal S4x4x16x128 .f32 := res_main_while0b_v53 V
def S6 : FVec Ideal S4x4x128x256 .f32 := V (Proc.devRef .tc main_v25_6)
def M4 : IVec S16x16 1 := V (Proc.devRef .tc main_v25_4)

theorem step6_eq : step_main_v25_6 V = newState (S6 V) (K47 V) (B50 V) (V48 V) := rfl

variable (q k g : Fin 4 → Fin 4 → Fin 128 → ℕ → ℝ) (v : Fin 4 → Fin 4 → Fin 256 → ℕ → ℝ)
variable (h0 : ∀ (n : Fin 128) (b h : Fin 4) (c : Fin 16) (d : Fin 128), (V (Proc.devRef .tc main_v25_0) : FVec Ideal S128x4x4x16x128 .f32) (ix5 n b h c d) = ((q b h d (16 * n.val + c.val) : ℝ) : EReal))
variable (h1 : ∀ (n : Fin 128) (b h : Fin 4) (c : Fin 16) (d : Fin 128), (V (Proc.devRef .tc main_v25_1) : FVec Ideal S128x4x4x16x128 .f32) (ix5 n b h c d) = ((k b h d (16 * n.val + c.val) : ℝ) : EReal))
variable (h2 : ∀ (n : Fin 128) (b h : Fin 4) (c : Fin 16) (e : Fin 256), (V (Proc.devRef .tc main_v25_2) : FVec Ideal S128x4x4x16x256 .f32) (ix5 n b h c e) = ((v b h e (16 * n.val + c.val) : ℝ) : EReal))
variable (h3 : ∀ (n : Fin 128) (b h : Fin 4) (c : Fin 16) (d : Fin 128), (V (Proc.devRef .tc main_v25_3) : FVec Ideal S128x4x4x16x128 .f32) (ix5 n b h c d) = ((g b h d (16 * n.val + c.val) : ℝ) : EReal))
variable (h4 : ∀ (c s : Fin 16), M4 V (ix2 c s) = BitVec.ofBool (decide (s.val ≤ c.val)))
variable (h6 : ∀ (b h : Fin 4) (d : Fin 128) (e : Fin 256), S6 V (ix4 b h d e) = ((St (g b h d) (k b h d) (v b h e) (16 * n) : ℝ) : EReal))

include hn hc h1 in
theorem v47_at (b h : Fin 4) (c : Fin 16) (d : Fin 128) : K47 V (ix4 b h c d) = ((k b h d (16 * n + c.val) : ℝ) : EReal) := by
  unfold K47 res_main_while0b_v47
  exact (slice128 n hn _ (start_eq _ n hn hc) _ b h c d).trans (h1 ⟨n, hn⟩ b h c d)

include hn hc h2 in
theorem v48_at (b h : Fin 4) (c : Fin 16) (e : Fin 256) : V48 V (ix4 b h c e) = ((v b h e (16 * n + c.val) : ℝ) : EReal) := by
  unfold V48 res_main_while0b_v48
  exact (slice256 n hn _ (start_eq _ n hn hc) _ b h c e).trans (h2 ⟨n, hn⟩ b h c e)

include hn hc h3 in
theorem v50_at (b h : Fin 4) (c : Fin 16) (d : Fin 128) : B50 V (ix4 b h c d)
    = ((pre (g b h d) (16 * n + c.val + 1) - pre (g b h d) (16 * n) : ℝ) : EReal) := by
  unfold B50 res_main_while0b_v50
  refine (cumsum_at _ _ (by pointwise) b h d (fun s => g b h d (16 * n + s)) (fun c =>
    (slice128 n hn _ (start_eq _ n hn hc) _ b h c d).trans (h3 ⟨n, hn⟩ b h c d)) c).trans ?_
  refine congrArg _ ?_
  unfold pre
  rw [show 16 * n + c.val + 1 = 16 * n + (c.val + 1) by omega]
  have := Finset.sum_range_add (g b h d) (16 * n) (c.val + 1)
  linarith

include hn hc h0 h3 in
theorem v53_at (b h : Fin 4) (c : Fin 16) (d : Fin 128) : Q53 V (ix4 b h c d)
    = ((q b h d (16 * n + c.val) * Real.exp (pre (g b h d) (16 * n + c.val + 1) - pre (g b h d) (16 * n)) : ℝ) : EReal) := by
  unfold Q53 res_main_while0b_v53
  rw [EReal.coe_mul]
  refine Ideal.mul_congr ?_ ?_
  · exact (slice128 n hn _ (start_eq _ n hn hc) _ b h c d).trans (h0 ⟨n, hn⟩ b h c d)
  · show Ideal.exp (B50 V (ix4 b h c d)) = _
    rw [v50_at V n hn hc g h3, Ideal.exp_coe]

include hn hc h1 h2 h3 h6 in
/-- The state after the chunk. -/
theorem step6_at (b h : Fin 4) (d : Fin 128) (e : Fin 256) :
    (step_main_v25_6 V : FVec Ideal S4x4x128x256 .f32) (ix4 b h d e) = ((St (g b h d) (k b h d) (v b h e) (16 * (n + 1)) : ℝ) : EReal) := by
  rw [step6_eq, newState_at, h6]
  have hs : ∀ s : Fin 16, (K47 V (ix4 b h s d)
      * Ideal.exp (B50 V (ix4 b h 15 d) - B50 V (ix4 b h s d))
      * V48 V (ix4 b h s e) : EReal)
      = ((k b h d (16 * n + s.val) * Real.exp (pre (g b h d) (16 * n + 16) - pre (g b h d) (16 * n + s.val + 1)) * v b h e (16 * n + s.val) : ℝ) : EReal) := by
    intro s
    have hz : pre (g b h d) (16 * n + (15 : Fin 16).val + 1) - pre (g b h d) (16 * n) - (pre (g b h d) (16 * n + s.val + 1) - pre (g b h d) (16 * n))
        = pre (g b h d) (16 * n + 16) - pre (g b h d) (16 * n + s.val + 1) := by
      show pre (g b h d) (16 * n + 15 + 1) - pre (g b h d) (16 * n) - (pre (g b h d) (16 * n + s.val + 1) - pre (g b h d) (16 * n)) = _
      rw [show 16 * n + 15 + 1 = 16 * n + 16 by omega]
      linarith
    rw [v47_at V n hn hc k h1, v50_at V n hn hc g h3, v50_at V n hn hc g h3, v48_at V n hn hc v h2, ← EReal.coe_sub, Ideal.exp_coe, hz, EReal.coe_mul, EReal.coe_mul]
  rw [Finset.sum_congr rfl fun s _ => hs s, coe_sum, v50_at V n hn hc g h3, Ideal.exp_coe, ← EReal.coe_mul, ← EReal.coe_add]
  refine congrArg _ ?_
  rw [show 16 * (n + 1) = 16 * n + 16 by omega, St_add, Fin.sum_univ_eq_sum_range (fun s => k b h d (16 * n + s) * Real.exp (pre (g b h d) (16 * n + 16) - pre (g b h d) (16 * n + s + 1)) * v b h e (16 * n + s)) 16]
  rfl

include hn hc h0 h1 h2 h3 h4 h6 in
/-- The chunk's outputs. -/
theorem newOut_real (b h : Fin 4) (c : Fin 16) (e : Fin 256) :
    newOut (S6 V) (Q53 V) (K47 V) (B50 V) (V48 V) (M4 V) (ix4 b h c e)
      = ((Ot (q b h) (g b h) (k b h) (v b h e) (16 * n + c.val) : ℝ) : EReal) := by
  rw [newOut_at]
  have e1 : ∀ d : Fin 128, (Q53 V (ix4 b h c d) * S6 V (ix4 b h d e) : EReal)
      = ((q b h d (16 * n + c.val) * Real.exp (pre (g b h d) (16 * n + c.val + 1) - pre (g b h d) (16 * n)) * St (g b h d) (k b h d) (v b h e) (16 * n) : ℝ) : EReal) := fun d => by
    rw [v53_at V n hn hc q g h0 h3, h6, ← EReal.coe_mul]
  have e2 : ∀ s : Fin 16, (Scalar.select (M4 V (ix2 c s)) (∑ d : Fin 128, Q53 V (ix4 b h c d)
        * (K47 V (ix4 b h s d) * Ideal.exp (-(B50 V (ix4 b h s d))))) 0
        * V48 V (ix4 b h s e) : EReal)
      = (((if s.val ≤ c.val then (∑ d : Fin 128, (q b h d (16 * n + c.val) * Real.exp (pre (g b h d) (16 * n + c.val + 1) - pre (g b h d) (16 * n) - 0))
          * (k b h d (16 * n + s.val) * Real.exp (0 - (pre (g b h d) (16 * n + s.val + 1) - pre (g b h d) (16 * n))))) * v b h e (16 * n + s.val) else 0) : ℝ) : EReal) := by
    intro s
    rw [h4, v48_at V n hn hc v h2]
    by_cases hs : s.val ≤ c.val
    · rw [if_pos hs, decide_eq_true hs, EReal.coe_mul, ← coe_sum]
      refine Ideal.mul_congr ((show ∀ a : EReal, Scalar.select (BitVec.ofBool true) a 0 = a from fun _ => rfl) _ |>.trans <| Finset.sum_congr rfl fun d _ => ?_) rfl
      rw [v53_at V n hn hc q g h0 h3, v47_at V n hn hc k h1, v50_at V n hn hc g h3, ← EReal.coe_neg, Ideal.exp_coe, ← EReal.coe_mul, ← EReal.coe_mul, sub_zero, zero_sub]
    · rw [if_neg hs, decide_eq_false hs, EReal.coe_zero]
      exact zero_mul _
  rw [Finset.sum_congr rfl fun d _ => e1 d, Finset.sum_congr rfl fun s _ => e2 s, coe_sum, coe_sum, ← EReal.coe_add]
  refine congrArg _ ?_
  rw [Ot_chunk (q b h) (g b h) (k b h) (v b h e) (16 * n) c.val (fun _ => 0), add_comm,
    Fin.sum_univ_eq_sum_range (fun s => if s ≤ c.val then (∑ d : Fin 128, (q b h d (16 * n + c.val) * Real.exp (pre (g b h d) (16 * n + c.val + 1) - pre (g b h d) (16 * n) - 0))
          * (k b h d (16 * n + s) * Real.exp (0 - (pre (g b h d) (16 * n + s + 1) - pre (g b h d) (16 * n))))) * v b h e (16 * n + s) else 0) 16]
  congr 1
  exact sum_causal _ c.val c.isLt

include hn hc h0 h1 h2 h3 h4 h6 in
/-- The outputs so far with the chunk's written in. -/
theorem step7_at (n' : Fin 128) (b h : Fin 4) (c : Fin 16) (e : Fin 256) :
    (step_main_v25_7 V : FVec Ideal S128x4x4x16x256 .f32) (ix5 n' b h c e)
      = if n'.val = n then ((Ot (q b h) (g b h) (k b h) (v b h e) (16 * n + c.val) : ℝ) : EReal) else (V (Proc.devRef .tc main_v25_7) : FVec Ideal S128x4x4x16x256 .f32) (ix5 n' b h c e) := by
  rw [show step_main_v25_7 V = Host.dynamicUpdateSlice (V (Proc.devRef .tc main_v25_7)) (broadcastInDim S1x4x4x16x256 ![1, 2, 3, 4] bcast_S4x4x16x256_S1x4x4x16x256_1_2_3_4
    (newOut (S6 V) (Q53 V) (K47 V) (B50 V) (V48 V) (M4 V)))
    (fun k => (((![V (Proc.devRef .tc main_v25_5), constantI S_ 32 0#32, constantI S_ 32 0#32, constantI S_ 32 0#32, constantI S_ 32 0#32] : Fin 5 → (⟨S_, .i32⟩ : BufTy).Contents (Elt Ideal))) k (Shape.Idx.first h_S_)).toInt) updateFits_S128x4x4x16x256_S1x4x4x16x256 from rfl]
  refine (update_at n hn _ (start_eq _ n hn hc) _ _ n' b h c e).trans ?_
  refine if_congr Iff.rfl ?_ rfl
  rw [← newOut_real V n hn hc q k g v h0 h1 h2 h3 h4 h6 b h c e]
  generalize newOut (S6 V) (Q53 V) (K47 V) (B50 V) (V48 V) (M4 V) = y
  pointwise

/-! ## The whole scan -/

variable (V0 : Valuation τ sig (Elt Ideal))
variable (e5 : V0 (Proc.devRef .tc main_v25_5) = fun _ => 0#32)
variable (e0 : ∀ (n : Fin 128) (b h : Fin 4) (c : Fin 16) (d : Fin 128), (V0 (Proc.devRef .tc main_v25_0) : FVec Ideal S128x4x4x16x128 .f32) (ix5 n b h c d) = ((q b h d (16 * n.val + c.val) : ℝ) : EReal))
variable (e1 : ∀ (n : Fin 128) (b h : Fin 4) (c : Fin 16) (d : Fin 128), (V0 (Proc.devRef .tc main_v25_1) : FVec Ideal S128x4x4x16x128 .f32) (ix5 n b h c d) = ((k b h d (16 * n.val + c.val) : ℝ) : EReal))
variable (e2 : ∀ (n : Fin 128) (b h : Fin 4) (c : Fin 16) (e : Fin 256), (V0 (Proc.devRef .tc main_v25_2) : FVec Ideal S128x4x4x16x256 .f32) (ix5 n b h c e) = ((v b h e (16 * n.val + c.val) : ℝ) : EReal))
variable (e3 : ∀ (n : Fin 128) (b h : Fin 4) (c : Fin 16) (d : Fin 128), (V0 (Proc.devRef .tc main_v25_3) : FVec Ideal S128x4x4x16x128 .f32) (ix5 n b h c d) = ((g b h d (16 * n.val + c.val) : ℝ) : EReal))
variable (e4 : ∀ (c s : Fin 16), M4 V0 (ix2 c s) = BitVec.ofBool (decide (s.val ≤ c.val)))
variable (e6 : ∀ (b h : Fin 4) (d : Fin 128) (e : Fin 256), S6 V0 (ix4 b h d e) = (0 : EReal))

/-- The outputs array of a valuation. -/
def O7 (V : Valuation τ sig (Elt Ideal)) : FVec Ideal S128x4x4x16x256 .f32 := V (Proc.devRef .tc main_v25_7)

/-- What holds of the carried buffers before trip `n`. -/
def Inv (V : Valuation τ sig (Elt Ideal)) (n : ℕ) : Prop :=
  V (Proc.devRef .tc main_v25_0) = V0 (Proc.devRef .tc main_v25_0) ∧ V (Proc.devRef .tc main_v25_1) = V0 (Proc.devRef .tc main_v25_1)
    ∧ V (Proc.devRef .tc main_v25_2) = V0 (Proc.devRef .tc main_v25_2) ∧ V (Proc.devRef .tc main_v25_3) = V0 (Proc.devRef .tc main_v25_3)
    ∧ V (Proc.devRef .tc main_v25_4) = V0 (Proc.devRef .tc main_v25_4) ∧ V (Proc.devRef .tc main_v25_5) = (fun _ => BitVec.ofNat 32 n)
    ∧ (∀ (b h : Fin 4) (d : Fin 128) (e : Fin 256), S6 V (ix4 b h d e) = ((St (g b h d) (k b h d) (v b h e) (16 * n) : ℝ) : EReal))
    ∧ ∀ (n' : Fin 128), n'.val < n → ∀ (b h : Fin 4) (c : Fin 16) (e : Fin 256), O7 V (ix5 n' b h c e) = ((Ot (q b h) (g b h) (k b h) (v b h e) (16 * n'.val + c.val) : ℝ) : EReal)

include e0 e1 e2 e3 e4 e5 e6 in
theorem inv_iter : ∀ n ≤ 128, Inv q k g v V0 (STEP^[n] V0) n
  | 0, _ => ⟨rfl, rfl, rfl, rfl, rfl, e5, fun b h d e => by rw [Function.iterate_zero, id, e6, Nat.mul_zero, St_zero, EReal.coe_zero], fun n' h => absurd h (Nat.not_lt_zero _)⟩
  | n + 1, hn1 => by
    obtain ⟨i0, i1, i2, i3, i4, i5, i6, i7⟩ := inv_iter n (by omega)
    have hn : n < 128 := by omega
    rw [Function.iterate_succ_apply']
    generalize STEP^[n] V0 = V at i0 i1 i2 i3 i4 i5 i6 i7
    refine ⟨(STEP_main_v25_0 V).trans i0, (STEP_main_v25_1 V).trans i1, (STEP_main_v25_2 V).trans i2, (STEP_main_v25_3 V).trans i3, (STEP_main_v25_4 V).trans i4, ?_, ?_, ?_⟩
    · rw [STEP_main_v25_5]
      unfold step_main_v25_5
      rw [i5]
      funext j
      show BitVec.ofNat 32 n + 1#32 = BitVec.ofNat 32 (n + 1)
      exact (BitVec.ofNat_add n 1).symm
    · intro b h d e
      refine (congrFun (STEP_main_v25_6 V) (ix4 b h d e)).trans ?_
      exact step6_at V n hn i5 k g v (fun n b h c d => (congrFun i1 _).trans (e1 n b h c d)) (fun n b h c d => (congrFun i2 _).trans (e2 n b h c d))
        (fun n b h c d => (congrFun i3 _).trans (e3 n b h c d)) i6 b h d e
    · intro n' hn' b h c e
      refine (congrFun (STEP_main_v25_7 V) (ix5 n' b h c e)).trans ?_
      refine (step7_at V n hn i5 q k g v (fun n b h c d => (congrFun i0 _).trans (e0 n b h c d)) (fun n b h c d => (congrFun i1 _).trans (e1 n b h c d))
        (fun n b h c d => (congrFun i2 _).trans (e2 n b h c d)) (fun n b h c d => (congrFun i3 _).trans (e3 n b h c d)) (fun c s => (congrFun i4 _).trans (e4 c s)) i6 n' b h c e).trans ?_
      by_cases hh : n'.val = n
      · rw [if_pos hh, hh]
      · rw [if_neg hh]
        exact i7 n' (by omega) b h c e

end Cert.ReferenceIdeal.Gla

end
-- ==== Proof.Gla.RefEntry.lean ====
module

public import proofs.«01_k».proof.Proof.Gla.RefStep

/-! The reference's buffers where its scan starts. -/

@[expose] public section

set_option maxRecDepth 16384

noncomputable section

namespace Cert.ReferenceIdeal.Gla

open Idealize.ShloMosaic Idealize.ShloMosaic.TcCoe Idealize.ShloMosaic.StableHlo
open Cert.ReferenceIdeal Cert.ReferenceIdeal.Gen Cert.ReferenceIdeal.Value Cert.GlaMath

/-- The chunked queries, scaled. -/
def qOf (x : FVec Ideal S4x2048x512 .f32) : FVec Ideal S128x4x4x16x128 .f32 :=
  transpose S128x4x4x16x128 [1, 0, 3, 2, 4] (shapeCast S4x128x16x4x128 (mulf (shapeCast S4x2048x4x128 x shapeCasts_S4x2048x512_S4x2048x4x128)
    (broadcastInDim S4x2048x4x128 ![] bcast_S_S4x2048x4x128 (constant (F := Ideal) S_ .f32 0x3DB504F3#32))) shapeCasts_S4x2048x4x128_S4x128x16x4x128) transposes_S4x128x16x4x128_S128x4x4x16x128_1_0_3_2_4

/-- The chunked keys. -/
def kOf (x : FVec Ideal S4x2048x512 .f32) : FVec Ideal S128x4x4x16x128 .f32 :=
  transpose S128x4x4x16x128 [1, 0, 3, 2, 4] (shapeCast S4x128x16x4x128 (shapeCast S4x2048x4x128 x shapeCasts_S4x2048x512_S4x2048x4x128) shapeCasts_S4x2048x4x128_S4x128x16x4x128) transposes_S4x128x16x4x128_S128x4x4x16x128_1_0_3_2_4

/-- The chunked values. -/
def vOf (x : FVec Ideal S4x2048x1024 .f32) : FVec Ideal S128x4x4x16x256 .f32 :=
  transpose S128x4x4x16x256 [1, 0, 3, 2, 4] (shapeCast S4x128x16x4x256 (shapeCast S4x2048x4x256 x shapeCasts_S4x2048x1024_S4x2048x4x256) shapeCasts_S4x2048x4x256_S4x128x16x4x256) transposes_S4x128x16x4x256_S128x4x4x16x256_1_0_3_2_4

/-- The gate's pre-activation. -/
def actOf (lr : FVec Ideal S4x2048x16 .f32) (w : FVec Ideal S16x512 .f32) (b : FVec Ideal S512 .f32) : FVec Ideal S4x2048x512 .f32 :=
  addf (Host.dotGeneral dot_S4x2048x16_S16x512_S4x2048x512_2_0_01_1_n_n none lr w)
    (broadcastInDim S4x2048x512 ![0, 1, 2] bcast_S1x1x512_S4x2048x512_0_1_2 (broadcastInDim S1x1x512 ![2] bcast_S512_S1x1x512_2 b))

/-- The log gate of the pre-activation. -/
def lsOf (x : FVec Ideal S4x2048x512 .f32) : FVec Ideal S4x2048x512 .f32 :=
  let z : FVec Ideal S4x2048x512 .f32 := broadcastInDim S4x2048x512 ![] bcast_S_S4x2048x512 (constant S_ .f32 0x00000000#32)
  let n := Host.negf x
  let d := subf n z
  Host.divf (Host.negf (select (cmpf .une d d) (addf n z) (addf (maximumf n z) (Host.log1p (Host.exp (Host.negf (Host.absf d)))))))
    (broadcastInDim S4x2048x512 ![] bcast_S_S4x2048x512 (constant S_ .f32 0x41800000#32))

/-- The chunked log gates. -/
def gOf (x : FVec Ideal S4x2048x512 .f32) : FVec Ideal S128x4x4x16x128 .f32 :=
  kOf x

/-- The causal mask of a chunk. -/
def tril : IVec S16x16 1 :=
  select (cmpi .sge (addi (iotaInDim S16x16 32 0) (broadcastInDim S16x16 ![] bcast_S_S16x16 (constantI S_ 32 0#32))) (iotaInDim S16x16 32 1))
    (broadcastInDim S16x16 ![] bcast_S_S16x16 (constantI S_ 1 1#1)) (broadcastInDim S16x16 ![] bcast_S_S16x16 (constantI S_ 1 0#1))

variable (m : (ℓ : Loc nD τ sig) → Buf (Elt Ideal) ℓ) (c : Dev nD)

theorem entry0 : entryContents preI m c (Proc.devRef .tc main_v25_0) = qOf (m ((c.tc : Thread nD τ).loc main_arg0)) := by
  simp only [entryContents, afterL_cons, afterL_nil]
  after_reads_simp
  rfl

theorem entry1 : entryContents preI m c (Proc.devRef .tc main_v25_1) = kOf (m ((c.tc : Thread nD τ).loc main_arg1)) := by
  simp only [entryContents, afterL_cons, afterL_nil]
  after_reads_simp
  rfl

theorem entry2 : entryContents preI m c (Proc.devRef .tc main_v25_2) = vOf (m ((c.tc : Thread nD τ).loc main_arg2)) := by
  simp only [entryContents, afterL_cons, afterL_nil]
  after_reads_simp
  rfl

theorem entry3 : entryContents preI m c (Proc.devRef .tc main_v25_3)
    = gOf (lsOf (actOf (m ((c.tc : Thread nD τ).loc main_arg4)) (m ((c.tc : Thread nD τ).loc main_arg5)) (m ((c.tc : Thread nD τ).loc main_arg6)))) := by
  simp only [entryContents, afterL_cons, afterL_nil]
  after_reads_simp
  rfl

theorem entry4 : entryContents preI m c (Proc.devRef .tc main_v25_4) = tril := by
  simp only [entryContents, afterL_cons, afterL_nil]
  after_reads_simp
  rfl

theorem entry6 (b h : Fin 4) (d : Fin 128) (e : Fin 256) : S6 (entryContents preI m c) (ix4 b h d e) = (0 : EReal) := by
  unfold S6
  have : entryContents preI m c (Proc.devRef .tc main_v25_6) = broadcastInDim S4x4x128x256 ![] bcast_S_S4x4x128x256 (constant (F := Ideal) S_ .f32 0x00000000#32) := by
    simp only [entryContents, afterL_cons, afterL_nil]
    after_reads_simp
    rfl
  rw [this]
  pointwise

theorem qOf_at (x : FVec Ideal S4x2048x512 .f32) (n : Fin 128) (b h : Fin 4) (r : Fin 16) (d : Fin 128) :
    qOf x (ix5 n b h r d) = (x (ix3 b ⟨16 * n.val + r.val, by omega⟩ ⟨128 * h.val + d.val, by omega⟩) * Ideal.ofBits .f32 1035273459#32 : EReal) := by
  unfold qOf
  pointwise
  simp only [Nat.mul_comm]

theorem kOf_at (x : FVec Ideal S4x2048x512 .f32) (n : Fin 128) (b h : Fin 4) (r : Fin 16) (d : Fin 128) :
    kOf x (ix5 n b h r d) = x (ix3 b ⟨16 * n.val + r.val, by omega⟩ ⟨128 * h.val + d.val, by omega⟩) := by
  unfold kOf
  pointwise
  simp only [Nat.mul_comm]

theorem vOf_at (x : FVec Ideal S4x2048x1024 .f32) (n : Fin 128) (b h : Fin 4) (r : Fin 16) (e : Fin 256) :
    vOf x (ix5 n b h r e) = x (ix3 b ⟨16 * n.val + r.val, by omega⟩ ⟨256 * h.val + e.val, by omega⟩) := by
  unfold vOf
  pointwise
  simp only [Nat.mul_comm]

theorem actOf_at (lr : FVec Ideal S4x2048x16 .f32) (w : FVec Ideal S16x512 .f32) (b : FVec Ideal S512 .f32) (i : Fin 4) (t : Fin 2048) (l : Fin 512) :
    actOf lr w b (ix3 i t l) = (∑ k : Fin 16, lr (ix3 i t k) * w (ix2 k l) + b (ix1 l) : EReal) := by
  unfold actOf
  pointwise

theorem lsOf_at (x : FVec Ideal S4x2048x512 .f32) (i : Fin 4) (t : Fin 2048) (l : Fin 512) (a : ℝ) (h : x (ix3 i t l) = ((a : ℝ) : EReal)) :
    lsOf x (ix3 i t l) = ((lsig a : ℝ) : EReal) := by
  unfold lsOf
  pointwise
  rw [h, if_neg (fun h => h rfl)]
  have h16 : Ideal.ofBits .f32 1098907648#32 = ((16 : ℝ) : EReal) := by
    simp [Ideal.ofBits, Ideal.ieee]
    rw [← EReal.coe_mul]
    norm_num
  have emax : ∀ a b : ℝ, max (a : EReal) (b : EReal) = ((max a b : ℝ) : EReal) := fun a b => EReal.coe_strictMono.monotone.map_max.symm
  have habs : FloatOps.absf (F := Ideal) (φ := .f32) (-(a : EReal)) = ((|(-a)| : ℝ) : EReal) := by
    show max (-(a : EReal)) (-(-(a : EReal))) = _
    rw [← EReal.coe_neg, ← EReal.coe_neg, emax, abs_eq_max_neg]
  rw [h16, habs, ← EReal.coe_neg, ← EReal.coe_neg, ← EReal.coe_zero, emax, Ideal.exp_coe, Ideal.log1p, ← EReal.coe_one, ← EReal.coe_add, Ideal.log_coe,
    if_neg (by have := Real.exp_pos (-|(-a)|); linarith), ← EReal.coe_add, ← EReal.coe_neg, Ideal.div_coe (by norm_num), ← EReal.coe_mul]
  unfold lsig
  norm_num

theorem tril_at (r s : Fin 16) : tril (ix2 r s) = BitVec.ofBool (decide (s.val ≤ r.val)) := by
  revert r s
  unfold tril
  decide +kernel

end Cert.ReferenceIdeal.Gla

end
-- ==== Proof.Gla.RefVal.lean ====
module

public import proofs.«01_k».proof.Proof.Gla.RefEntry
public import proofs.«01_k».proof.Proof.Gla.Spec

/-! The reference's results as functions of real arguments. -/

@[expose] public section

set_option maxRecDepth 16384

noncomputable section

namespace Cert.ReferenceIdeal.Gla

open Idealize.ShloMosaic Idealize.ShloMosaic.TcCoe Idealize.ShloMosaic.StableHlo
open Cert.ReferenceIdeal Cert.ReferenceIdeal.Gen Cert.ReferenceIdeal.Value Cert.GlaMath Cert.GlaSpec

/-- The reference's normalised and gated output. -/
def finR (O : FVec Ideal S128x4x4x16x256 .f32) (R : FVec Ideal S4x2048x1024 .f32) (N : FVec Ideal S256 .f32) : FVec Ideal S8192x1024 .bf16 :=
  let o : FVec Ideal S4x2048x4x256 .f32 := shapeCast S4x2048x4x256 (transpose S4x128x16x4x256 [1, 0, 3, 2, 4] O transposes_S128x4x4x16x256_S4x128x16x4x256_1_0_3_2_4) shapeCasts_S4x128x16x4x256_S4x2048x4x256
  let r : FVec Ideal S4x2048x4x256 .f32 := shapeCast S4x2048x4x256 R shapeCasts_S4x2048x1024_S4x2048x4x256
  let one : FVec Ideal S4x2048x4x256 .f32 := broadcastInDim S4x2048x4x256 ![] bcast_S_S4x2048x4x256 (constant S_ .f32 0x3F800000#32)
  let ss : FVec Ideal S4x2048x4x1 .f32 := broadcastInDim S4x2048x4x1 ![0, 1, 2] bcast_S4x2048x4_S4x2048x4x1_0_1_2 (Host.reduceAdd (mulf o o) (constant S_ .f32 0x00000000#32) reducesTo_S4x2048x4x256_S4x2048x4_d3 h_S_)
  let n : FVec Ideal S4x2048x4x1 .f32 := Host.rsqrt (addf (Host.divf ss (broadcastInDim S4x2048x4x1 ![] bcast_S_S4x2048x4x1 (constant S_ .f32 0x43800000#32))) (broadcastInDim S4x2048x4x1 ![] bcast_S_S4x2048x4x1 (constant S_ .f32 0x358637BD#32)))
  let g : FVec Ideal S4x2048x4x256 .f32 := broadcastInDim S4x2048x4x256 ![0, 1, 2, 3] bcast_S1x1x1x256_S4x2048x4x256_0_1_2_3 (broadcastInDim S1x1x1x256 ![3] bcast_S256_S1x1x1x256_3 N)
  truncf .bf16 (shapeCast S8192x1024 (mulf (mulf (mulf o (broadcastInDim S4x2048x4x256 ![0, 1, 2, 3] bcast_S4x2048x4x1_S4x2048x4x256_0_1_2_3 n)) g)
    (mulf r (Host.divf one (addf one (Host.exp (Host.negf r)))))) shapeCasts_S4x2048x4x256_S8192x1024) bitsLt_bf16_f32

theorem out_eq (V : Valuation τ sig (Elt Ideal)) :
    out_main_v45 V = finR (V (Proc.devRef .tc main_v25_7)) (V (Proc.devRef .tc main_arg3)) (V (Proc.devRef .tc main_arg7)) := by
  unfold out_main_v45
  rfl

theorem finR_at (O : FVec Ideal S128x4x4x16x256 .f32) (R : FVec Ideal S4x2048x1024 .f32) (N : FVec Ideal S256 .f32) (b h : Fin 4) (t : Fin 2048) (e : Fin 256)
    (o : Fin 256 → ℝ) (ho : ∀ e, O (ix5 ⟨t.val / 16, by omega⟩ b h ⟨t.val % 16, by omega⟩ e) = ((o e : ℝ) : EReal)) :
    finR O R N (ix2 ⟨2048 * b.val + t.val, by omega⟩ ⟨256 * h.val + e.val, by omega⟩) = finS o (N (ix1 e)) (R (ix3 b t (laneV h e))) e := by
  unfold finR finS
  pointwise
  simp only [ho, Nat.mul_comm h.val]
  rfl

variable (m : (ℓ : Loc nD τ sig) → Buf (Elt Ideal) ℓ) (c : Dev nD) (a : Args)

/-- The queries. -/
def A0 : FVec Ideal S4x2048x512 .f32 := m ((c.tc : Thread nD τ).loc main_arg0)
/-- The keys. -/
def A1 : FVec Ideal S4x2048x512 .f32 := m ((c.tc : Thread nD τ).loc main_arg1)
/-- The values. -/
def A2 : FVec Ideal S4x2048x1024 .f32 := m ((c.tc : Thread nD τ).loc main_arg2)
/-- The output gate's input. -/
def A3 : FVec Ideal S4x2048x1024 .f32 := m ((c.tc : Thread nD τ).loc main_arg3)
/-- The gate's low-rank input. -/
def A4 : FVec Ideal S4x2048x16 .f32 := m ((c.tc : Thread nD τ).loc main_arg4)
/-- The gate's weights. -/
def A5 : FVec Ideal S16x512 .f32 := m ((c.tc : Thread nD τ).loc main_arg5)
/-- The gate's bias. -/
def A6 : FVec Ideal S512 .f32 := m ((c.tc : Thread nD τ).loc main_arg6)
/-- The norm's scale. -/
def A7 : FVec Ideal S256 .f32 := m ((c.tc : Thread nD τ).loc main_arg7)

variable (hs : Ideal.ofBits .f32 1035273459#32 = ((a.s : ℝ) : EReal))
variable (h0 : ∀ b t l, A0 m c (ix3 b t l) = ((a.q b t l : ℝ) : EReal))
variable (h1 : ∀ b t l, A1 m c (ix3 b t l) = ((a.k b t l : ℝ) : EReal))
variable (h2 : ∀ b t l, A2 m c (ix3 b t l) = ((a.v b t l : ℝ) : EReal))
variable (h4 : ∀ b t l, A4 m c (ix3 b t l) = ((a.lr b t l : ℝ) : EReal))
variable (h5 : ∀ t l, A5 m c (ix2 t l) = ((a.w t l : ℝ) : EReal))
variable (h6 : ∀ l, A6 m c (ix1 l) = ((a.b l : ℝ) : EReal))

theorem row_of (n : Fin 128) (r : Fin 16) : (⟨16 * n.val + r.val, by omega⟩ : Fin 2048) = row (16 * n.val + r.val) :=
  Fin.ext (Nat.mod_eq_of_lt (by omega)).symm

include hs h0 h1 h2 h4 h5 h6

theorem inv_end : Inv (qS a) (kS a) (gS a) (vS a) (entryContents preI m c) (STEP^[128] (entryContents preI m c)) 128 := by
  refine inv_iter (qS a) (kS a) (gS a) (vS a) (entryContents preI m c) (ctr_entry m c) (fun n b h r d => ?_) (fun n b h r d => ?_)
    (fun n b h r e => ?_) (fun n b h r d => ?_) (fun r s => ?_) (fun b h d e => ?_) 128 (le_refl _)
  · rw [entry0]
    refine (qOf_at (A0 m c) n b h r d).trans ?_
    rw [h0, hs, ← EReal.coe_mul, row_of]
    rfl
  · rw [entry1]
    refine (kOf_at (A1 m c) n b h r d).trans ?_
    rw [h1, row_of]
    rfl
  · rw [entry2]
    refine (vOf_at (A2 m c) n b h r e).trans ?_
    rw [h2, row_of]
    rfl
  · rw [entry3]
    refine (kOf_at (lsOf (actOf (A4 m c) (A5 m c) (A6 m c))) n b h r d).trans ?_
    rw [row_of]
    refine lsOf_at _ _ _ _ _ ((actOf_at _ _ _ _ _ _).trans ?_)
    rw [h6, EReal.coe_add, ← coe_sum]
    congr 1
    exact Finset.sum_congr rfl fun k _ => by rw [h4, h5, EReal.coe_mul]; rfl
  · unfold M4
    rw [entry4]
    exact tril_at r s
  · exact entry6 m c b h d e

theorem state_val (b h : Fin 4) (d : Fin 128) (e : Fin 256) :
    S6 (STEP^[128] (entryContents preI m c)) (ix4 b h d e) = ((stS a b h d e : ℝ) : EReal) := by
  obtain ⟨-, -, -, -, -, -, i6, -⟩ := inv_end m c a hs h0 h1 h2 h4 h5 h6
  exact i6 b h d e

theorem out_val (b h : Fin 4) (t : Fin 2048) (e : Fin 256) :
    (out_main_v45 (STEP^[128] (entryContents preI m c)) : FVec Ideal S8192x1024 .bf16) (ix2 ⟨2048 * b.val + t.val, by omega⟩ ⟨256 * h.val + e.val, by omega⟩)
      = finS (oS a b h t.val) (A7 m c (ix1 e)) (A3 m c (ix3 b t (laneV h e))) e := by
  obtain ⟨-, -, -, -, -, -, -, i7⟩ := inv_end m c a hs h0 h1 h2 h4 h5 h6
  rw [out_eq, iter_main_arg3, iter_main_arg7]
  refine finR_at (O7 (STEP^[128] (entryContents preI m c))) (A3 m c) (A7 m c) b h t e (oS a b h t.val) fun e => ?_
  refine (i7 ⟨t.val / 16, by omega⟩ (by show t.val / 16 < 128; omega) b h ⟨t.val % 16, by omega⟩ e).trans ?_
  unfold oS
  show ((Ot _ _ _ _ (16 * (t.val / 16) + t.val % 16) : ℝ) : EReal) = _
  rw [show 16 * (t.val / 16) + t.val % 16 = t.val by omega]

end Cert.ReferenceIdeal.Gla

end
-- ==== Proof.Gla.Value.lean ====
module

public import proofs.«01_k».proof.Proof.Gla.Frames
public import proofs.«01_k».proof.Proof.Gla.Finite
public import proofs.«01_k».proof.Proof.Gla.KFin
public import proofs.«01_k».proof.Proof.Gla.RefVal

/-! The gated-linear-attention kernel and the reference compute the same two results. -/

@[expose] public section

set_option maxRecDepth 16384

noncomputable section

namespace Cert.Proof

open Idealize.ShloMosaic Idealize.SL.Sem Cert.GlaMath Cert.GlaSpec

instance : Cert.Pre_finite.Facts := Cert.Pre_finite.facts

/-- The scale of the queries is a real number. -/
theorem scale_real : ∃ s : ℝ, Ideal.ofBits .f32 1035273459#32 = ((s : ℝ) : EReal) := by
  refine ⟨(Ideal.ofBits .f32 1035273459#32).toReal, (EReal.coe_toReal ?_ ?_).symm⟩
  · simp [Ideal.ofBits, Ideal.ieee, ← EReal.coe_mul]
  · simp [Ideal.ofBits, Ideal.ieee, ← EReal.coe_mul]

section
variable (m : (ℓ : Loc Cert.KernelIdeal.nD Cert.KernelIdeal.τ Cert.KernelIdeal.sig) → Buf (Elt Ideal) ℓ) (c : Dev Cert.KernelIdeal.nD)

/-- The real arguments of a memory. -/
def argsOf (s : ℝ) : Args where
  q b t l := EReal.toReal (KernelIdeal.Gla.A0 m c (ix3 b t l))
  k b t l := EReal.toReal (KernelIdeal.Gla.A1 m c (ix3 b t l))
  v b t l := EReal.toReal (KernelIdeal.Gla.A2 m c (ix3 b t l))
  lr b t l := EReal.toReal (KernelIdeal.Gla.A4 m c (ix3 b t l))
  w t l := EReal.toReal (KernelIdeal.Gla.A5 m c (ix2 t l))
  b l := EReal.toReal (KernelIdeal.Gla.A6 m c (ix1 l))
  s := s

end

section
variable (m : (ℓ : Loc Cert.KernelIdeal.nD Cert.KernelIdeal.τ Cert.KernelIdeal.sig) → Buf (Elt Ideal) ℓ) (g : Dev Cert.KernelIdeal.nD → PrngReg)

/-- What the kernel leaves in its two result arrays. -/
theorem results_run : θ_run (Cert.KernelIdeal.defs (F := Ideal)) (onTc (τ := Cert.KernelIdeal.τ) (Cert.KernelIdeal.main (F := Ideal))) ⟨m, fun _ => 0, g⟩
    (fun r => ∀ c : Dev Cert.KernelIdeal.nD,
      r.2.mem ((c.tc : Thread KernelIdeal.nD KernelIdeal.τ).loc KernelIdeal.main_v12_0) = (KernelIdeal.Gla.dats m 0 c).arrAt 8 (KernelIdeal.cfgs 0).N
      ∧ r.2.mem ((c.tc : Thread KernelIdeal.nD KernelIdeal.τ).loc KernelIdeal.main_v12_1) = (KernelIdeal.Gla.dats m 0 c).arrAt 9 (KernelIdeal.cfgs 0).N) :=
  θ_run_mono (Cert.KernelIdeal.Gla.run_main m g) (fun _ h c => ⟨(h.1 c).1 8, (h.1 c).1 9⟩)

end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two memories hold the same arguments. -/
structure Same : Prop where
  e0 : ReferenceIdeal.Gla.A0 m' c = KernelIdeal.Gla.A0 m c
  e1 : ReferenceIdeal.Gla.A1 m' c = KernelIdeal.Gla.A1 m c
  e2 : ReferenceIdeal.Gla.A2 m' c = KernelIdeal.Gla.A2 m c
  e3 : ReferenceIdeal.Gla.A3 m' c = KernelIdeal.Gla.A3 m c
  e4 : ReferenceIdeal.Gla.A4 m' c = KernelIdeal.Gla.A4 m c
  e5 : ReferenceIdeal.Gla.A5 m' c = KernelIdeal.Gla.A5 m c
  e6 : ReferenceIdeal.Gla.A6 m' c = KernelIdeal.Gla.A6 m c
  e7 : ReferenceIdeal.Gla.A7 m' c = KernelIdeal.Gla.A7 m c

/-- The arguments the recurrence reads are the real arguments `a`. -/
structure Reals (a : Args) : Prop where
  hs : Ideal.ofBits .f32 1035273459#32 = ((a.s : ℝ) : EReal)
  h0 : ∀ b t l, KernelIdeal.Gla.A0 m c (ix3 b t l) = ((a.q b t l : ℝ) : EReal)
  h1 : ∀ b t l, KernelIdeal.Gla.A1 m c (ix3 b t l) = ((a.k b t l : ℝ) : EReal)
  h2 : ∀ b t l, KernelIdeal.Gla.A2 m c (ix3 b t l) = ((a.v b t l : ℝ) : EReal)
  h4 : ∀ b t l, KernelIdeal.Gla.A4 m c (ix3 b t l) = ((a.lr b t l : ℝ) : EReal)
  h5 : ∀ t l, KernelIdeal.Gla.A5 m c (ix2 t l) = ((a.w t l : ℝ) : EReal)
  h6 : ∀ l, KernelIdeal.Gla.A6 m c (ix1 l) = ((a.b l : ℝ) : EReal)

variable {m m' c}

theorem reals_of (hpre : Pre_KernelIdeal_finite m) {s : ℝ} (hs : Ideal.ofBits .f32 1035273459#32 = ((s : ℝ) : EReal)) : Reals m c (argsOf m c s) := by
  obtain ⟨r0, r1, r2, r4, r5, r6⟩ := Cert.Pre_finite.reals _ _ _ _ _ _ _ _ (hpre c)
  exact ⟨hs, fun b t l => r0 (ix3 b t l), fun b t l => r1 (ix3 b t l), fun b t l => r2 (ix3 b t l), fun b t l => r4 (ix3 b t l),
    fun t l => r5 (ix2 t l), fun l => r6 (ix1 l)⟩

/-- The two first results are equal. -/
theorem first_eq {a : Args} (h : Same m m' c) (r : Reals m c a) :
    (ReferenceIdeal.Value.out_main_v45 (ReferenceIdeal.Value.STEP^[128] (StableHlo.entryContents ReferenceIdeal.Value.preI m' c)) : FVec Ideal ReferenceIdeal.S8192x1024 .bf16)
      = KernelIdeal.Gla.outArr m c a := by
  obtain ⟨hs, h0, h1, h2, h4, h5, h6⟩ := r
  obtain ⟨e0, e1, e2, e3, e4, e5, e6, e7⟩ := h
  rw [← e0] at h0
  rw [← e1] at h1
  rw [← e2] at h2
  rw [← e4] at h4
  rw [← e5] at h5
  rw [← e6] at h6
  funext j
  obtain ⟨b, t, h, e, rfl⟩ : ∃ (b : Fin 4) (t : Fin 2048) (h : Fin 4) (e : Fin 256),
      j = (ix2 ⟨2048 * b.val + t.val, by omega⟩ ⟨256 * h.val + e.val, by omega⟩ : ReferenceIdeal.S8192x1024.Idx) := by
    have d0 : (j 0).val < 8192 := (j 0).isLt
    have d1 : (j 1).val < 1024 := (j 1).isLt
    refine ⟨⟨(j 0).val / 2048, by omega⟩, ⟨(j 0).val % 2048, by omega⟩, ⟨(j 1).val / 256, by omega⟩, ⟨(j 1).val % 256, by omega⟩, ?_⟩
    funext i
    fin_cases i
    · exact Fin.ext (show (j 0).val = 2048 * ((j 0).val / 2048) + (j 0).val % 2048 by omega)
    · exact Fin.ext (show (j 1).val = 256 * ((j 1).val / 256) + (j 1).val % 256 by omega)
  refine (ReferenceIdeal.Gla.out_val m' c a hs h0 h1 h2 h4 h5 h6 b h t e).trans ((KernelIdeal.Gla.outArr_at m c a b h t e).trans ?_).symm
  rw [e3, e7]

/-- The two second results are equal. -/
theorem second_eq {a : Args} (h : Same m m' c) (r : Reals m c a) :
    ReferenceIdeal.Gla.S6 (ReferenceIdeal.Value.STEP^[128] (StableHlo.entryContents ReferenceIdeal.Value.preI m' c)) = KernelIdeal.Gla.lastArr a := by
  obtain ⟨hs, h0, h1, h2, h4, h5, h6⟩ := r
  obtain ⟨e0, e1, e2, e3, e4, e5, e6, e7⟩ := h
  rw [← e0] at h0
  rw [← e1] at h1
  rw [← e2] at h2
  rw [← e4] at h4
  rw [← e5] at h5
  rw [← e6] at h6
  funext j
  obtain ⟨b, h, d, e, rfl⟩ : ∃ (b h : Fin 4) (d : Fin 128) (e : Fin 256), j = (ix4 b h d e : ReferenceIdeal.S4x4x128x256.Idx) :=
    ⟨j 0, j 1, j 2, j 3, by funext i; fin_cases i <;> rfl⟩
  exact ReferenceIdeal.Gla.state_val m' c a hs h0 h1 h2 h4 h5 h6 b h d e

end

theorem algebraic : algebraic_KernelIdeal_ReferenceIdeal_pre_finite := by
  intro m g m' g' hpre hagree
  obtain ⟨s, hs⟩ := scale_real
  have hsame : ∀ c, Same m m' c := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2⟩
  refine ⟨fun c => (KernelIdeal.Gla.dats m 0 c).arrAt 8 (KernelIdeal.cfgs 0).N, fun c => (KernelIdeal.Gla.dats m 0 c).arrAt 9 (KernelIdeal.cfgs 0).N,
    θ_run_mono (θ_run_and (results_run m g) (Cert.KernelIdeal.Gla.frame_run m g)) (fun _ h c => ⟨(h.1 c).1, (h.1 c).2, h.2.1 c⟩),
    θ_run_mono (Cert.ReferenceIdeal.Value.run m' g') (fun _ h c => ⟨(h c).1.trans ?_, (h c).2.1.trans ?_, (h c).2.2⟩)⟩
  · have r := reals_of (c := c) hpre hs
    exact (first_eq (hsame c) r).trans (KernelIdeal.Gla.final8 m c _ r.hs r.h0 r.h1 r.h2 r.h4 r.h5 r.h6).symm
  · have r := reals_of (c := c) hpre hs
    exact (second_eq (hsame c) r).trans (KernelIdeal.Gla.final9 m c _ r.hs r.h0 r.h1 r.h2 r.h4 r.h5 r.h6).symm

end Cert.Proof

end
-- ==== Proof.Mlp.Run.lean ====
module

public import proofs.«01_k».proof.Proof.Gen.MlpIdeal.Frame
public import proofs.«01_k».proof.Proof.Gen.MlpIdeal.Skeleton
public import Idealize.ShloMosaic.Lib.VecWindow

/-! The body of the channel-mixing kernel, run once at any grid point. -/

@[expose] public section

set_option maxRecDepth 16384

noncomputable section

namespace Cert.MlpIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlpIdeal Cert.MlpIdeal.Gen

variable {F : FTy → Type} [FloatOps F]

local notation "𝕄" => MT nD τ sig Unit (Elt F) ℕ (UR sig nD τ) ℕ

/-! ## The conditions, in the grid's coordinates -/

theorem cond1_iff (i : grid0.Coords) : Scalar.cmpi .ne (Scalar.extui (Scalar.cmpi .eq (BitVec.ofNat 32 (i 1).val) 0#32) : BitVec 32) 0#32 = 1#1 ↔ (i 1).val = 0 :=
  (by decide : ∀ a : Fin 16, Scalar.cmpi .ne (Scalar.extui (Scalar.cmpi .eq (BitVec.ofNat 32 a.val) 0#32) : BitVec 32) 0#32 = 1#1 ↔ a.val = 0) (i 1)
theorem cond4_iff (i : grid0.Coords) : Scalar.cmpi .ne (Scalar.extui (Scalar.cmpi .eq (BitVec.ofNat 32 (i 1).val) 15#32) : BitVec 32) 0#32 = 1#1 ↔ (i 1).val = 15 :=
  (by decide : ∀ a : Fin 16, Scalar.cmpi .ne (Scalar.extui (Scalar.cmpi .eq (BitVec.ofNat 32 a.val) 15#32) : BitVec 32) 0#32 = 1#1 ↔ a.val = 15) (i 1)
theorem cond3_iff (i : grid0.Coords) : k0_cond3 i = 1#1 ↔ (i 0).val = 0 :=
  (by decide : ∀ a : Fin 8, Scalar.cmpi .ne (Scalar.extui (Scalar.cmpi .eq (BitVec.ofNat 32 a.val) 0#32) : BitVec 32) 0#32 = 1#1 ↔ a.val = 0) (i 0)
theorem cond2_iff (i : grid0.Coords) : k0_cond2 i = 1#1 ↔ (i 1).val = 0 ∧ (i 0).val = 0 :=
  (by decide : ∀ (b : Fin 16) (a : Fin 8), Scalar.cmpi .ne (Scalar.extui (Scalar.andi (Scalar.cmpi .eq (BitVec.ofNat 32 b.val) 0#32) (Scalar.cmpi .eq (BitVec.ofNat 32 a.val) 0#32)) : BitVec 32) 0#32 = 1#1 ↔ b.val = 0 ∧ a.val = 0) (i 1) (i 0)
theorem cond5_iff (i : grid0.Coords) : k0_cond5 i = 1#1 ↔ (i 1).val = 15 ∧ (i 0).val = 0 :=
  (by decide : ∀ (b : Fin 16) (a : Fin 8), Scalar.cmpi .ne (Scalar.extui (Scalar.andi (Scalar.cmpi .eq (BitVec.ofNat 32 b.val) 15#32) (Scalar.cmpi .eq (BitVec.ofNat 32 a.val) 0#32)) : BitVec 32) 0#32 = 1#1 ↔ b.val = 15 ∧ a.val = 0) (i 1) (i 0)

/-! ## What the body leaves -/

/-- The scratch after the body: the normalised rows written at the first column of the grid. -/
def hNew (i : grid0.Coords) (x0 : Vec F S1024x2048 .f32) (x1 : Vec F S16x2048 .f32) (x2 : Vec F S1x2048 .f32) (h : Vec F S1040x2048 .bf16) : Vec F S1040x2048 .bf16 :=
  if (i 1).val = 0 then
    if (i 0).val = 0 then VecWindow.put (VecWindow.put h ![0, 0] S1024x2048.size (k0_pay2 x0 x2)) ![1024, 0] S16x2048.size (k0_pay3 x1 x2)
    else VecWindow.put h ![0, 0] S1024x2048.size (k0_pay2 x0 x2)
  else h

/-- The block of prompt rows after the body. -/
def yNew (i : grid0.Coords) (x0 : Vec F S1024x2048 .f32) (x3 : Vec F S2048x512 .f32) (x4 : Vec F S512x2048 .f32) (x5 : Vec F S1x2048 .f32) (h : Vec F S1040x2048 .bf16) (y : Vec F S1024x2048 .f32) : Vec F S1024x2048 .f32 :=
  if (i 1).val = 15 then k0_pay7 (k0_pay5 h x3 x4 (if (i 1).val = 0 then x0 else y)) x5
  else k0_pay5 h x3 x4 (if (i 1).val = 0 then x0 else y)

/-- The block of sample rows after the body: touched along the first row of the grid. -/
def zNew (i : grid0.Coords) (x1 : Vec F S16x2048 .f32) (x3 : Vec F S2048x512 .f32) (x4 : Vec F S512x2048 .f32) (x5 : Vec F S1x2048 .f32) (h : Vec F S1040x2048 .bf16) (z : Vec F S16x2048 .f32) : Vec F S16x2048 .f32 :=
  if (i 0).val = 0 then
    if (i 1).val = 15 then k0_pay1 (k0_pay6 h x3 x4 (if (i 1).val = 0 then x1 else z)) x5
    else k0_pay6 h x3 x4 (if (i 1).val = 0 then x1 else z)
  else z

/-- A whole-buffer load of a buffer holding `x` reads `x`. -/
theorem rd {s : Shape} {e : EltTy} {sp : Space} {a : Memref sig .tc sp s e} (ha : a.IsWhole) (x : Vec F s e) {off : Fin s.rank → ℕ} (inb : ∀ a, off a + s.size a ≤ s.size a) :
    View.readAt (Elt F) a.view (Rect.unit off s.size inb).toLoadRect (ha.unread x) = x :=
  (View.readAt_full _ _ _).trans (ha.read_unread x)

/-- Two runs of whole rows that follow each other and fill the array, put over any two arrays, give the same. -/
theorem put_cover {d : Fin 2 → ℕ} {α : Type} (n k : ℕ) (hd : d 0 = n + k) (a b : (⟨2, d⟩ : Shape).Idx → α)
    (u v : Fin 2 → ℕ) (hu : u 0 = n) (hu1 : u 1 = d 1) (hv : v 0 = k) (hv1 : v 1 = d 1) (p : ((a : Fin 2) → Fin (u a)) → α) (q : ((a : Fin 2) → Fin (v a)) → α) :
    VecWindow.put (s := ⟨2, d⟩) (VecWindow.put (s := ⟨2, d⟩) a ![0, 0] u p) ![n, 0] v q
      = VecWindow.put (s := ⟨2, d⟩) (VecWindow.put (s := ⟨2, d⟩) b ![0, 0] u p) ![n, 0] v q := by
  funext y
  have h0 : (y (0 : Fin 2)).val < d 0 := (y (0 : Fin 2)).isLt
  have h1 : (y (1 : Fin 2)).val < d 1 := (y (1 : Fin 2)).isLt
  unfold VecWindow.put
  split
  · rfl
  · rename_i hn
    have hm : ∀ e : Fin 2, (![0, 0] : Fin 2 → ℕ) e ≤ (y e).val ∧ (y e).val < (![0, 0] : Fin 2 → ℕ) e + u e := by
      refine Fin.forall_fin_two.mpr ⟨⟨Nat.zero_le _, ?_⟩, ⟨Nat.zero_le _, ?_⟩⟩
      · show (y (0 : Fin 2)).val < 0 + u 0
        by_contra hc
        refine hn (Fin.forall_fin_two.mpr ⟨⟨?_, ?_⟩, ⟨Nat.zero_le _, ?_⟩⟩)
        · show n ≤ (y (0 : Fin 2)).val
          omega
        · show (y (0 : Fin 2)).val < n + v 0
          omega
        · show (y (1 : Fin 2)).val < 0 + v 1
          omega
      · show (y (1 : Fin 2)).val < 0 + u 1
        omega
    rw [dif_pos hm, dif_pos hm]

/-- The scratch after the first point's two stores, over whatever it held. -/
theorem scratch2 {a2 : Memref sig .tc .vmem S1024x2048 .f32} (h2 : a2.IsWhole) {a3 : Memref sig .tc .vmem S16x2048 .f32} (h3 : a3.IsWhole) {a4 : Memref sig .tc .vmem S1x2048 .f32} (h4 : a4.IsWhole)
    (a10 : Memref sig .tc .vmem S1040x2048 .bf16) (f : a10.view.ty.Contents (Elt F)) (h : Vec F S1040x2048 .bf16) (x0 : Vec F S1024x2048 .f32) (x1 : Vec F S16x2048 .f32) (x2 : Vec F S1x2048 .f32) :
    View.readAt (Elt F) a10.view (Rect.unit ![0, 0] S1040x2048.size inb_S1040x2048_S1040x2048_0_0).toLoadRect
      (a10.view.writes (Elt F) f
        [⟨Rect.unit (s := S1040x2048) ![1024, 0] S16x2048.size inb_S1040x2048_S16x2048_1024_0, k0_pay3 (View.readAt (Elt F) a3.view (Rect.unit ![0, 0] S16x2048.size inb_S16x2048_S16x2048_0_0).toLoadRect (h3.unread x1))
            (View.readAt (Elt F) a4.view (Rect.unit ![0, 0] S1x2048.size inb_S1x2048_S1x2048_0_0).toLoadRect (h4.unread x2))⟩,
         ⟨Rect.unit (s := S1040x2048) ![0, 0] S1024x2048.size inb_S1040x2048_S1024x2048_0_0, k0_pay2 (View.readAt (Elt F) a2.view (Rect.unit ![0, 0] S1024x2048.size inb_S1024x2048_S1024x2048_0_0).toLoadRect (h2.unread x0))
            (View.readAt (Elt F) a4.view (Rect.unit ![0, 0] S1x2048.size inb_S1x2048_S1x2048_0_0).toLoadRect (h4.unread x2))⟩])
      = VecWindow.put (VecWindow.put h ![0, 0] S1024x2048.size (k0_pay2 x0 x2)) ![1024, 0] S16x2048.size (k0_pay3 x1 x2) := by
  rw [rd h2, rd h3, rd h4, View.readAt_full, View.read_writes_cons_put _ _ _ _ _ rfl, View.read_writes_cons_put _ _ _ _ _ rfl]
  exact put_cover (d := ![1040, 2048]) 1024 16 rfl _ _ S1024x2048.size S16x2048.size rfl rfl rfl rfl _ _

/-- The scratch after a later row's store. -/
theorem scratch1 {a2 : Memref sig .tc .vmem S1024x2048 .f32} (h2 : a2.IsWhole) {a4 : Memref sig .tc .vmem S1x2048 .f32} (h4 : a4.IsWhole)
    {a10 : Memref sig .tc .vmem S1040x2048 .bf16} (h10 : a10.IsWhole) (h : Vec F S1040x2048 .bf16) (x0 : Vec F S1024x2048 .f32) (x2 : Vec F S1x2048 .f32) :
    View.readAt (Elt F) a10.view (Rect.unit ![0, 0] S1040x2048.size inb_S1040x2048_S1040x2048_0_0).toLoadRect
      (a10.view.writes (Elt F) (h10.unread h)
        [⟨Rect.unit (s := S1040x2048) ![0, 0] S1024x2048.size inb_S1040x2048_S1024x2048_0_0, k0_pay2 (View.readAt (Elt F) a2.view (Rect.unit ![0, 0] S1024x2048.size inb_S1024x2048_S1024x2048_0_0).toLoadRect (h2.unread x0))
            (View.readAt (Elt F) a4.view (Rect.unit ![0, 0] S1x2048.size inb_S1x2048_S1x2048_0_0).toLoadRect (h4.unread x2))⟩])
      = VecWindow.put h ![0, 0] S1024x2048.size (k0_pay2 x0 x2) := by
  rw [rd h2, rd h4, View.readAt_full, View.read_writes_cons_put _ _ _ _ _ rfl, View.writes_nil, h10.read_unread]

/-- The six ways through the body, from what its five conditions say. -/
theorem ways_of (a b : ℕ) (c1 c2 c3 c4 c5 : Prop) (h1 : c1 ↔ a = 0) (h2 : c2 ↔ a = 0 ∧ b = 0) (h3 : c3 ↔ b = 0) (h4 : c4 ↔ a = 15) (h5 : c5 ↔ a = 15 ∧ b = 0) :
    (a = 0 ∧ b = 0 ∧ ¬a = 15 ∧ c1 ∧ c2 ∧ c3 ∧ ¬c4 ∧ ¬c5)
    ∨ (a = 0 ∧ ¬b = 0 ∧ ¬a = 15 ∧ c1 ∧ ¬c2 ∧ ¬c3 ∧ ¬c4 ∧ ¬c5)
    ∨ (¬a = 0 ∧ b = 0 ∧ ¬a = 15 ∧ ¬c1 ∧ ¬c2 ∧ c3 ∧ ¬c4 ∧ ¬c5)
    ∨ (¬a = 0 ∧ ¬b = 0 ∧ ¬a = 15 ∧ ¬c1 ∧ ¬c2 ∧ ¬c3 ∧ ¬c4 ∧ ¬c5)
    ∨ (¬a = 0 ∧ b = 0 ∧ a = 15 ∧ ¬c1 ∧ ¬c2 ∧ c3 ∧ c4 ∧ c5)
    ∨ (¬a = 0 ∧ ¬b = 0 ∧ a = 15 ∧ ¬c1 ∧ ¬c2 ∧ ¬c3 ∧ c4 ∧ ¬c5) := by
  rw [h1, h2, h3, h4, h5]
  by_cases ha : a = 0 <;> by_cases hb : b = 0 <;> by_cases hc : a = 15 <;> first | (exfalso; omega) | simp only [ha, hb, hc, true_and, false_and, and_true, and_false, true_or, or_true, false_or, or_false, not_true_eq_false, not_false_eq_true, Nat.reduceEqDiff, reduceCtorEq]

set_option maxHeartbeats 1600000 in
/-- The body at any grid point: what it leaves in every buffer it is handed. -/
theorem body_run (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S1x2048 .f32) (harg4 : arg4.IsWhole) (arg5 : Memref sig .tc .vmem S2048x512 .f32) (harg5 : arg5.IsWhole) (arg6 : Memref sig .tc .vmem S512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S16x2048 .f32) (harg9 : arg9.IsWhole) (arg10 : Memref sig .tc .vmem S1040x2048 .bf16) (harg10 : arg10.IsWhole)
    (x0 : Vec F S1024x2048 .f32) (x1 : Vec F S16x2048 .f32) (x2 : Vec F S1x2048 .f32) (x3 : Vec F S2048x512 .f32) (x4 : Vec F S512x2048 .f32) (x5 : Vec F S1x2048 .f32) (y : Vec F S1024x2048 .f32) (z : Vec F S16x2048 .f32) (h : Vec F S1040x2048 .bf16) (E : Set ℕ) (K : PUnit → sProp 𝕄):
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y ∗ owns (c : Thread nD τ) arg9 fullShare z ∗ owns (c : Thread nD τ) arg10 fullShare h
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (yNew i x0 x3 x4 x5 (hNew i x0 x1 x2 h) y) ∗ owns (c : Thread nD τ) arg9 fullShare (zNew i x1 x3 x4 x5 (hNew i x0 x1 x2 h) z) ∗ owns (c : Thread nD τ) arg10 fullShare (hNew i x0 x1 x2 h)) -∗ K ⟨⟩))
          ⊢ wp frame (wpE (defs₀ (F := F)) Variants.none c none) E (cc0__mlp_kernel i arg2 harg2 arg3 harg3 arg4 harg4 arg5 harg5 arg6 harg6 arg7 harg7 arg8 harg8 arg9 harg9 arg10 harg10) K := by
    simp only [cc0__mlp_kernel_eq_skeleton]; unfold cc0__mlp_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    rcases ways_of (i 1).val (i 0).val _ _ _ _ _ (cond1_iff i) (cond2_iff i) (cond3_iff i) (cond4_iff i) (cond5_iff i) with ⟨hj, hi, hl, h1, h2, h3, h4, h5⟩ | ⟨hj, hi, hl, h1, h2, h3, h4, h5⟩ | ⟨hj, hi, hl, h1, h2, h3, h4, h5⟩ | ⟨hj, hi, hl, h1, h2, h3, h4, h5⟩ | ⟨hj, hi, hl, h1, h2, h3, h4, h5⟩ | ⟨hj, hi, hl, h1, h2, h3, h4, h5⟩
    all_goals
      sl_exec
      sl_step
      iapply Hk
      isplitl [H0]
      · iexists _; isplitr; swap; · iexact H0
        ipureintro; exact harg2.read_unread _
      isplitl [H1]
      · iexists _; isplitr; swap; · iexact H1
        ipureintro; exact harg3.read_unread _
      isplitl [H2]
      · iexists _; isplitr; swap; · iexact H2
        ipureintro; exact harg4.read_unread _
      isplitl [H3]
      · iexists _; isplitr; swap; · iexact H3
        ipureintro; exact harg5.read_unread _
      isplitl [H4]
      · iexists _; isplitr; swap; · iexact H4
        ipureintro; exact harg6.read_unread _
      isplitl [H5]
      · iexists _; isplitr; swap; · iexact H5
        ipureintro; exact harg7.read_unread _
      isplitl [H6]
      rotate_left
      isplitl [H7]
      iexists _; isplitr
      rotate_left
      · iexact H7
      iexists _; isplitr
      rotate_left
      · iexact H8
      iexists _; isplitr
      rotate_left
      · iexact H6
      all_goals ipureintro
    · rw [zNew, if_pos hi, if_neg hl, if_pos hj, hNew, if_pos hj, if_pos hi]
      refine (View.read_writes_full _ _ _ _ _).trans ?_
      refine congr (congr (congr (congrArg k0_pay6 ?_) (rd harg5 x3 _)) (rd harg6 x4 _)) ?_
      · exact scratch2 harg2 harg3 harg4 arg10 _ h x0 x1 x2
      · exact (View.readAt_writes_full _ _ _ _ _ _).trans (rd harg3 x1 _)
    · rw [hNew, if_pos hj, if_pos hi]
      refine (View.readAt_full arg10.view _ inb_S1040x2048_S1040x2048_0_0).symm.trans ?_
      exact scratch2 harg2 harg3 harg4 arg10 _ h x0 x1 x2
    · rw [yNew, if_neg hl, if_pos hj, hNew, if_pos hj, if_pos hi]
      refine (View.read_writes_full _ _ _ _ _).trans ?_
      refine congr (congr (congr (congrArg k0_pay5 ?_) (rd harg5 x3 _)) (rd harg6 x4 _)) ?_
      · exact scratch2 harg2 harg3 harg4 arg10 _ h x0 x1 x2
      · exact (View.readAt_writes_full _ _ _ _ _ _).trans (rd harg2 x0 _)
    · rw [zNew, if_neg hi]
      exact harg9.read_unread z
    · rw [hNew, if_pos hj, if_neg hi]
      refine (View.readAt_full arg10.view _ inb_S1040x2048_S1040x2048_0_0).symm.trans ?_
      exact scratch1 harg2 harg4 harg10 h x0 x2
    · rw [yNew, if_neg hl, if_pos hj, hNew, if_pos hj, if_neg hi]
      refine (View.read_writes_full _ _ _ _ _).trans ?_
      refine congr (congr (congr (congrArg k0_pay5 ?_) (rd harg5 x3 _)) (rd harg6 x4 _)) ?_
      · exact scratch1 harg2 harg4 harg10 h x0 x2
      · exact (View.readAt_writes_full _ _ _ _ _ _).trans (rd harg2 x0 _)
    · rw [zNew, if_pos hi, if_neg hl, if_neg hj, hNew, if_neg hj]
      refine (View.read_writes_full _ _ _ _ _).trans ?_
      refine congr (congr (congr (congrArg k0_pay6 ?_) (rd harg5 x3 _)) (rd harg6 x4 _)) ?_
      · exact rd harg10 h _
      · exact rd harg9 z _
    · rw [hNew, if_neg hj]
      exact harg10.read_unread h
    · rw [yNew, if_neg hl, if_neg hj, hNew, if_neg hj]
      refine (View.read_writes_full _ _ _ _ _).trans ?_
      refine congr (congr (congr (congrArg k0_pay5 ?_) (rd harg5 x3 _)) (rd harg6 x4 _)) ?_
      · exact rd harg10 h _
      · exact rd harg8 y _
    · rw [zNew, if_neg hi]
      exact harg9.read_unread z
    · rw [hNew, if_neg hj]
      exact harg10.read_unread h
    · rw [yNew, if_neg hl, if_neg hj, hNew, if_neg hj]
      refine (View.read_writes_full _ _ _ _ _).trans ?_
      refine congr (congr (congr (congrArg k0_pay5 ?_) (rd harg5 x3 _)) (rd harg6 x4 _)) ?_
      · exact rd harg10 h _
      · exact rd harg8 y _
    · rw [zNew, if_pos hi, if_pos hl, if_neg hj, hNew, if_neg hj]
      refine (View.read_writes_full _ _ _ _ _).trans ?_
      refine congr (congrArg k0_pay1 ?_) (rd harg7 x5 _)
      refine (View.readAt_writes_full _ _ _ _ _ _).trans ?_
      refine congr (congr (congr (congrArg k0_pay6 ?_) (rd harg5 x3 _)) (rd harg6 x4 _)) ?_
      · exact rd harg10 h _
      · exact rd harg9 z _
    · rw [hNew, if_neg hj]
      exact harg10.read_unread h
    · rw [yNew, if_pos hl, if_neg hj, hNew, if_neg hj]
      refine (View.read_writes_full _ _ _ _ _).trans ?_
      refine congr (congrArg k0_pay7 ?_) (rd harg7 x5 _)
      refine (View.readAt_writes_full _ _ _ _ _ _).trans ?_
      refine congr (congr (congr (congrArg k0_pay5 ?_) (rd harg5 x3 _)) (rd harg6 x4 _)) ?_
      · exact rd harg10 h _
      · exact rd harg8 y _
    · rw [zNew, if_neg hi]
      exact harg9.read_unread z
    · rw [hNew, if_neg hj]
      exact harg10.read_unread h
    · rw [yNew, if_pos hl, if_neg hj, hNew, if_neg hj]
      refine (View.read_writes_full _ _ _ _ _).trans ?_
      refine congr (congrArg k0_pay7 ?_) (rd harg7 x5 _)
      refine (View.readAt_writes_full _ _ _ _ _ _).trans ?_
      refine congr (congr (congr (congrArg k0_pay5 ?_) (rd harg5 x3 _)) (rd harg6 x4 _)) ?_
      · exact rd harg10 h _
      · exact rd harg8 y _

end Cert.MlpIdeal.Mlp

end
-- ==== Proof.Mlp.Data.lean ====
module

public import proofs.«01_k».proof.Proof.Mlp.Run
public import Idealize.ShloMosaic.Lib.Claim

/-! The channel-mixing kernel's run over its grid: what the scratch and the two results' buffers hold after every point. -/

@[expose] public section

set_option maxRecDepth 16384

noncomputable section

namespace Cert.MlpIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MlpIdeal Cert.MlpIdeal.Gen
open Idealize.ShloMosaic.Pipeline (Dat Cfg Window BodyObligation)

variable {F : FTy → Type} [FloatOps F]

local notation "𝕄" => MT nD τ sig Unit (Elt F) ℕ (UR sig nD τ) ℕ

/-! ## The grid's points -/

/-- The `n`-th point of the grid. -/
def pt (n : ℕ) : Fin cfg0.N := ⟨n % 128, Nat.lt_of_lt_of_eq (Nat.mod_lt _ (by decide)) N_0.symm⟩

theorem pt_val (t : Fin cfg0.N) : pt t.val = t := Fin.ext (Nat.mod_eq_of_lt (Nat.lt_of_lt_of_eq t.isLt N_0))

theorem coords_0 : ∀ t : Fin cfg0.N, (grid0.coords t 0).val = t.val / 16 := by decide +kernel
theorem coords_1 : ∀ t : Fin cfg0.N, (grid0.coords t 1).val = t.val % 16 := by decide +kernel

variable (m : (ℓ : Loc nD τ sig) → Buf (Elt F) ℓ) (ρ : Dev nD → PrngReg)

/-! ## The buffers after each point -/

/-- The scratch after point `t`, from what it held before. -/
def hAt (c : Dev nD) (t : Fin cfg0.N) (h : Vec F S1040x2048 .bf16) : Vec F S1040x2048 .bf16 :=
  hNew (grid0.coords t) (iblk m c 0 t) (iblk m c 1 t) (iblk m c 2 t) h

/-- The scratch after the points up to the `n`-th. -/
def hAft (c : Dev nD) : ℕ → Vec F S1040x2048 .bf16
  | 0 => hAt m c (pt 0) fun _ => (Elt.nonempty F .bf16).some
  | n + 1 => hAt m c (pt (n + 1)) (hAft c n)

/-- The block of prompt rows after point `t`, from what the buffer held before. -/
def yAt (c : Dev nD) (t : Fin cfg0.N) (y : Vec F S1024x2048 .f32) : Vec F S1024x2048 .f32 :=
  yNew (grid0.coords t) (iblk m c 0 t) (iblk m c 3 t) (iblk m c 4 t) (iblk m c 5 t) (hAft m c t.val) y

def yAft (c : Dev nD) : ℕ → Vec F S1024x2048 .f32
  | 0 => yAt m c (pt 0) fun _ => (Elt.nonempty F .f32).some
  | n + 1 => yAt m c (pt (n + 1)) (yAft c n)

/-- The block of sample rows after point `t`, from what the buffer held before. -/
def zAt (c : Dev nD) (t : Fin cfg0.N) (z : Vec F S16x2048 .f32) : Vec F S16x2048 .f32 :=
  zNew (grid0.coords t) (iblk m c 1 t) (iblk m c 3 t) (iblk m c 4 t) (iblk m c 5 t) (hAft m c t.val) z

def zAft (c : Dev nD) : ℕ → Vec F S16x2048 .f32
  | 0 => zAt m c (pt 0) fun _ => (Elt.nonempty F .f32).some
  | n + 1 => zAt m c (pt (n + 1)) (zAft c n)

/-- At the first point the scratch is overwritten whole. -/
theorem hAt_zero (c : Dev nD) (t : Fin cfg0.N) (ht : t.val = 0) (h : Vec F S1040x2048 .bf16) : hAt m c t h = hAft m c t.val := by
  obtain rfl : t = pt 0 := Fin.ext ht
  have e0 : (grid0.coords (pt 0) 0).val = 0 := coords_0 (pt 0)
  have e1 : (grid0.coords (pt 0) 1).val = 0 := coords_1 (pt 0)
  show hAt m c (pt 0) h = hAt m c (pt 0) _
  unfold hAt
  rw [hNew, if_pos e1, if_pos e0, hNew, if_pos e1, if_pos e0]
  exact put_cover (d := ![1040, 2048]) 1024 16 rfl _ _ S1024x2048.size S16x2048.size rfl rfl rfl rfl _ _

theorem hAt_succ (c : Dev nD) (t : Fin cfg0.N) (ht : t.val ≠ 0) : hAt m c t (hAft m c (t.val - 1)) = hAft m c t.val := by
  obtain ⟨n, hn⟩ := Nat.exists_eq_succ_of_ne_zero ht
  rw [hn]
  show hAt m c t (hAft m c n) = hAt m c (pt (n + 1)) (hAft m c n)
  rw [show pt (n + 1) = t from by rw [← Nat.succ_eq_add_one, ← hn]; exact pt_val t]

/-- At a column's first point the block of prompt rows is overwritten. -/
theorem yAt_first (c : Dev nD) (t : Fin cfg0.N) (ht : t.val % 16 = 0) (y : Vec F S1024x2048 .f32) : yAt m c t y = yAft m c t.val := by
  have e1 : (grid0.coords t 1).val = 0 := (coords_1 t).trans ht
  have hi : ∀ y', yAt m c t y = yAt m c t y' := fun y' => by
    unfold yAt
    simp only [yNew, if_pos e1]
  rcases Nat.eq_zero_or_pos t.val with h0 | hp
  · obtain rfl : t = pt 0 := Fin.ext h0
    exact hi _
  · obtain ⟨n, hn⟩ := Nat.exists_eq_succ_of_ne_zero hp.ne'
    rw [hn]
    show yAt m c t y = yAt m c (pt (n + 1)) (yAft m c n)
    rw [show pt (n + 1) = t from by rw [← Nat.succ_eq_add_one, ← hn]; exact pt_val t]
    exact hi _

theorem yAt_succ (c : Dev nD) (t : Fin cfg0.N) (ht : t.val ≠ 0) : yAt m c t (yAft m c (t.val - 1)) = yAft m c t.val := by
  obtain ⟨n, hn⟩ := Nat.exists_eq_succ_of_ne_zero ht
  rw [hn]
  show yAt m c t (yAft m c n) = yAt m c (pt (n + 1)) (yAft m c n)
  rw [show pt (n + 1) = t from by rw [← Nat.succ_eq_add_one, ← hn]; exact pt_val t]

/-- At the first point the block of sample rows is overwritten. -/
theorem zAt_zero (c : Dev nD) (t : Fin cfg0.N) (ht : t.val = 0) (z : Vec F S16x2048 .f32) : zAt m c t z = zAft m c t.val := by
  obtain rfl : t = pt 0 := Fin.ext ht
  have e1 : (grid0.coords (pt 0) 1).val = 0 := coords_1 (pt 0)
  show zAt m c (pt 0) z = zAt m c (pt 0) _
  unfold zAt
  have e0 : (grid0.coords (pt 0) 0).val = 0 := coords_0 (pt 0)
  simp only [zNew, if_pos e0, if_pos e1]

theorem zAt_succ (c : Dev nD) (t : Fin cfg0.N) (ht : t.val ≠ 0) : zAt m c t (zAft m c (t.val - 1)) = zAft m c t.val := by
  obtain ⟨n, hn⟩ := Nat.exists_eq_succ_of_ne_zero ht
  rw [hn]
  show zAt m c t (zAft m c n) = zAt m c (pt (n + 1)) (zAft m c n)
  rw [show pt (n + 1) = t from by rw [← Nat.succ_eq_add_one, ← hn]; exact pt_val t]

/-- After the grid's first row the block of sample rows is left alone. -/
theorem zAft_later (c : Dev nD) (t : Fin cfg0.N) (ht : 16 ≤ t.val) : zAft m c t.val = zAft m c (t.val - 1) := by
  rw [← zAt_succ m c t (by omega)]
  have e0 : ¬(grid0.coords t 0).val = 0 := by rw [coords_0 t]; omega
  unfold zAt
  rw [zNew, if_neg e0]

/-! ## The proof data -/

/-- What each window's buffer holds after the body at a point. -/
def after0 (c : Dev nD) (w : Fin cfg0.W) (t : Fin cfg0.N) : ((cfg0.win w).block).Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => yAft m c t.val
  | ⟨7, _⟩ => zAft m c t.val

/-- What is carried from point to point: the scratch. -/
def Phi (c : Dev nD) : ℕ → sProp 𝕄
  | 0 => Pipeline.ΦA spec0 c
  | n + 1 => iprop(owns (c : Thread nD τ) (Memref.whole cc0_scratch0) fullShare (hAft m c n) ∗ ∃ r, prngReg c r)

/-- The proof data of the pipeline. -/
def dats : (p : Fin 1) → (c : Dev nD) → Dat τ (Elt F) Unit ℕ (UR sig nD τ) ℕ (cfgs p) c := fun _ c =>
  { A := fun w => V m c (Pipeline.arrRef spec0 w)
    after := after0 m c
    Φ := fun t => Phi m c t.val
    q := fun _ => fullShare
    owed := fun _ => 0 }

theorem A_eq (c : Dev nD) (w : Fin cfg0.W) : (dats m 0 c).A w = V m c (Pipeline.arrRef spec0 w) := rfl

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = yAft m c t.val := rfl
theorem after_7 (c : Dev nD) (t : Fin cfg0.N) : (dats m 0 c).after 7 t = zAft m c t.val := rfl
theorem before_0 (c : Dev nD) (t : Fin cfg0.N) (d) : (dats m 0 c).before 0 t d = iblk m c 0 t :=
  before0_0_of m (dats m 0 c) (A_eq m c 0) (fun t => after_0 m c t) t d
theorem before_1 (c : Dev nD) (t : Fin cfg0.N) (d) : (dats m 0 c).before 1 t d = iblk m c 1 t :=
  before0_1_of m (dats m 0 c) (A_eq m c 1) (fun t => after_1 m c t) t d
theorem before_2 (c : Dev nD) (t : Fin cfg0.N) (d) : (dats m 0 c).before 2 t d = iblk m c 2 t :=
  before0_2_of m (dats m 0 c) (A_eq m c 2) (fun t => after_2 m c t) t d
theorem before_3 (c : Dev nD) (t : Fin cfg0.N) (d) : (dats m 0 c).before 3 t d = iblk m c 3 t :=
  before0_3_of m (dats m 0 c) (A_eq m c 3) (fun t => after_3 m c t) t d
theorem before_4 (c : Dev nD) (t : Fin cfg0.N) (d) : (dats m 0 c).before 4 t d = iblk m c 4 t :=
  before0_4_of m (dats m 0 c) (A_eq m c 4) (fun t => after_4 m c t) t d
theorem before_5 (c : Dev nD) (t : Fin cfg0.N) (d) : (dats m 0 c).before 5 t d = iblk m c 5 t :=
  before0_5_of m (dats m 0 c) (A_eq m c 5) (fun t => after_5 m c t) t d

/-- The block of prompt rows as the body finds it, run through the body. -/
theorem step_6 (c : Dev nD) (t : Fin cfg0.N) (d) : yAt m c t ((dats m 0 c).before 6 t d) = yAft m c t.val := by
  by_cases h : t.val % 16 = 0
  · exact yAt_first m c t h _
  · have h0 : t.val ≠ 0 := fun e => h (by rw [e])
    have hfl : (cfg0.win 6).flush ⟨t.val - 1, Nat.lt_of_le_of_lt (Nat.sub_le _ _) t.isLt⟩ = false := by
      rw [Bool.eq_false_iff]
      intro hf
      have := (flush0_6 _).mp hf
      dsimp only at this
      omega
    rw [(dats m 0 c).before_out_kept 6 rfl t h0 hfl (fun _ => rfl) (fun _ _ => rfl) d, after_6]
    exact yAt_succ m c t h0

theorem idle_7 (t : Fin cfg0.N) : cfg0.idle 7 (cfg0.grid.coords t) = true ↔ 16 ≤ t.val := by
  revert t
  decide +kernel

/-- The block of sample rows as the body finds it after the first point. -/
theorem before_7 (c : Dev nD) (d) (n : ℕ) (hn : n + 1 < cfg0.N) : (dats m 0 c).before 7 ⟨n + 1, hn⟩ d = zAft m c n := by
  induction n with
  | zero =>
    have hfl : (cfg0.win 7).flush ⟨0, Nat.lt_of_succ_lt hn⟩ = false := Bool.eq_false_iff.mpr fun hf => absurd ((flush0_7 _).mp hf) (by show ¬0 % 128 = 127; decide)
    have hi : cfg0.idle 7 (cfg0.grid.coords ⟨0, Nat.lt_of_succ_lt hn⟩) = false := Bool.eq_false_iff.mpr fun e => absurd ((idle_7 _).mp e) (by show ¬16 ≤ 0; decide)
    rw [(dats m 0 c).before_of_pos 7 ⟨0 + 1, hn⟩ (Nat.succ_ne_zero 0) ((cfg0.win 7).fetch_out rfl _) d]
    show (if (cfg0.win 7).flush ⟨0, Nat.lt_of_succ_lt hn⟩ = true then d else (dats m 0 c).left 7 ⟨0, Nat.lt_of_succ_lt hn⟩ d) = _
    rw [hfl, if_neg Bool.false_ne_true]
    unfold Dat.left
    rw [hi]
    rfl
  | succ n ih =>
    have hl : n + 1 < cfg0.N := Nat.lt_of_succ_lt hn
    have hfl : (cfg0.win 7).flush ⟨n + 1, hl⟩ = false := by
      rw [Bool.eq_false_iff]
      intro hf
      have := (flush0_7 _).mp hf
      have hN : n + 1 + 1 < 128 := Nat.lt_of_lt_of_eq hn N_0
      dsimp only at this
      omega
    rw [(dats m 0 c).before_of_pos 7 ⟨n + 1 + 1, hn⟩ (Nat.succ_ne_zero _) ((cfg0.win 7).fetch_out rfl _) d]
    show (if (cfg0.win 7).flush ⟨n + 1, hl⟩ = true then d else (dats m 0 c).left 7 ⟨n + 1, hl⟩ d) = _
    rw [hfl, if_neg Bool.false_ne_true]
    unfold Dat.left
    by_cases h16 : 16 ≤ n + 1
    · rw [(idle_7 ⟨n + 1, hl⟩).mpr h16]
      exact (ih hl).trans (zAft_later m c ⟨n + 1, hl⟩ h16).symm
    · rw [Bool.eq_false_iff.mpr fun e => h16 ((idle_7 ⟨n + 1, hl⟩).mp e)]
      rfl

/-- The block of sample rows as the body finds it, run through the body. -/
theorem step_7 (c : Dev nD) (t : Fin cfg0.N) (d) : zAt m c t ((dats m 0 c).before 7 t d) = zAft m c t.val := by
  obtain ⟨n, hn⟩ := t
  cases n with
  | zero => exact zAt_zero m c _ rfl _
  | succ n => rw [before_7]; exact zAt_succ m c ⟨n + 1, hn⟩ (Nat.succ_ne_zero n)

/-- What the body owes of the last window's buffer: at a point that leaves it alone and does not write it back, what it found. -/
def owe7 (c : Dev nD) (t : Fin cfg0.N) : sProp 𝕄 :=
  match cfg0.idle 7 (cfg0.grid.coords t) with
  | true =>
    match (cfg0.win 7).flush t with
    | false => iprop(∃ d, owns (c : Thread nD τ) (st0_7 t) fullShare ((dats m 0 c).before 7 t d))
    | true => owns (c : Thread nD τ) (st0_7 t) fullShare ((dats m 0 c).after 7 t)
  | false => owns (c : Thread nD τ) (st0_7 t) fullShare ((dats m 0 c).after 7 t)

theorem owe7_of (c : Dev nD) (t : Fin cfg0.N) (d) :
    owns (c : Thread nD τ) (st0_7 t) fullShare (zAt m c t ((dats m 0 c).before 7 t d)) ⊢ owe7 m c t := by
  unfold owe7
  by_cases h16 : 16 ≤ t.val
  · rw [(idle_7 t).mpr h16]
    cases (cfg0.win 7).flush t
    · have e0 : ¬(grid0.coords t 0).val = 0 := by rw [coords_0 t]; omega
      have e : zAt m c t ((dats m 0 c).before 7 t d) = (dats m 0 c).before 7 t d := by
        unfold zAt
        rw [zNew, if_neg e0]
      rw [e]
      iintro H
      iexists d
      iexact H
    · rw [step_7, after_7]
  · rw [Bool.eq_false_iff.mpr fun e => h16 ((idle_7 t).mp e), step_7]
    rfl

/-- What the body is handed at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))

/-- What the body hands back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owe7 m c t)

theorem PhiA_eq (c : Dev nD) : (Pipeline.ΦA spec0 c : sProp 𝕄)
    = iprop((∃ d, owns (c : Thread nD τ) (Memref.whole cc0_scratch0) fullShare d) ∗ ∃ r, prngReg c r) := by
  unfold Pipeline.ΦA
  rw [scopedRest0_eq]
  simp only [owns_whole]
  try rfl

/-- Before a point the scratch holds what takes it, through the body, to what it holds after. -/
theorem Phi_open (c : Dev nD) (t : Fin cfg0.N) :
    (Phi m c t.val : sProp 𝕄) ⊢ iprop((∃ h, ⌜hAt m c t h = hAft m c t.val⌝ ∗ owns (c : Thread nD τ) (Memref.whole cc0_scratch0) fullShare h) ∗ ∃ r, prngReg c r) := by
  rcases Nat.eq_zero_or_pos t.val with h0 | hp
  · rw [h0]
    show Pipeline.ΦA spec0 c ⊢ _
    rw [PhiA_eq]
    iintro ⟨⟨%d, H⟩, Hg⟩
    isplitl [H]; swap; · iexact Hg
    iexists d
    isplitr; swap; · iexact H
    ipureintro
    rw [← h0]
    exact hAt_zero m c t h0 d
  · obtain ⟨n, hn⟩ := Nat.exists_eq_succ_of_ne_zero hp.ne'
    have e := hAt_succ m c t hp.ne'
    rw [hn] at e ⊢
    show iprop(owns (c : Thread nD τ) (Memref.whole cc0_scratch0) fullShare (hAft m c n) ∗ ∃ r, prngReg c r) ⊢ _
    iintro ⟨H, Hg⟩
    isplitl [H]; swap; · iexact Hg
    iexists hAft m c n
    isplitr; swap; · iexact H
    ipureintro
    exact e

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6]
  rw [show (dats m 0 c).Φ t.castSucc = Phi m c t.val from rfl,
    show (dats m 0 c).Φ t.succ = iprop(owns (c : Thread nD τ) (Memref.whole cc0_scratch0) fullShare (hAft m c t.val) ∗ ∃ r, prngReg c r) from rfl]
  refine (sep_mono_left (Phi_open m c t)).trans ?_
  iintro ⟨⟨⟨%h, %hh, S0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ (iblk m c 0 t) (iblk m c 1 t) (iblk m c 2 t) (iblk m c 3 t) (iblk m c 4 t) (iblk m c 5 t) ((dats m 0 c).before 6 t d6) ((dats m 0 c).before 7 t d7) h Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  rw [show hNew (grid0.coords t) (iblk m c 0 t) (iblk m c 1 t) (iblk m c 2 t) h = hAft m c t.val from hh]
  rw [show yNew (grid0.coords t) (iblk m c 0 t) (iblk m c 3 t) (iblk m c 4 t) (iblk m c 5 t) (hAft m c t.val) ((dats m 0 c).before 6 t d6) = yAft m c t.val from step_6 m c t d6]
  iintro ⟨H0, H1, H2, H3, H4, H5, H6, H7, S0⟩
  isplitl [S0 Hg]
  · isplitr [Hg]; swap; · iexact Hg
    iexact S0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (owe7_of m c t d7)
  iexact H7

set_option maxHeartbeats 1000000 in
theorem body_obligation (c : Dev nD) : BodyObligation (dats m 0 c) (defs₀ (F := F)) Variants.none () Set.univ := by
  intro t
  rw [bigSep_W0, bigSep_W0]
  exact triple_restated (sound_body m c t) rfl .rfl fun _ => .rfl

set_option backward.isDefEq.respectTransparency.types false in
/-- Every run of the program ends, with the arrays at what the grid's write-backs leave and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl)
    (hout := fun c => by
      rw [PhiA_eq]
      show Phi m c 128 ⊢ _
      show iprop(owns (c : Thread nD τ) (Memref.whole cc0_scratch0) fullShare (hAft m c 127) ∗ ∃ r, prngReg c r) ⊢ _
      iintro ⟨H, Hg⟩
      isplitl [H]; swap; · iexact Hg
      iexists _
      iexact H)

/-- The run with the arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
    ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.MlpIdeal.Mlp

end
-- ==== Proof.Mlp.Frames.lean ====
module

public import proofs.«01_k».proof.Defs
public import proofs.«01_k».proof.Proof.Gen.Mlp
public import proofs.«01_k».proof.Proof.Mlp.Data
public import proofs.«01_k».proof.Proof.Gen.MlpReferenceIdeal.Run

/-! The channel-mixing call's frames: the kernel at both readings by one run, the reference by its run. -/

@[expose] public section

set_option maxRecDepth 16384

noncomputable section

namespace Cert.Proof

open Idealize.ShloMosaic Idealize.SL.Sem

instance mlp_facts : Cert.Mlp.Facts := Cert.Mlp.Gen.facts
instance mlpIdeal_facts : Cert.MlpIdeal.Facts := Cert.MlpIdeal.Gen.facts
instance mlpReference_facts : Cert.MlpReferenceIdeal.Facts := Cert.MlpReferenceIdeal.Gen.facts

theorem mlp_frame_ideal : quiescent_MlpIdeal := fun m g _ => Cert.MlpIdeal.Mlp.frame_run m g

/-- The two printed body tables are one. -/
theorem mlp_bodies_same : @Cert.Mlp.defs₀ Bits _ _ = @Cert.MlpIdeal.defs₀ Bits _ _ := by
  unfold Cert.Mlp.defs₀ Cert.MlpIdeal.defs₀
  refine congrArg Defs.onTc (funext fun b => funext fun a => ?_)
  match b, a with
  | 0, (t, s) => rfl
  | ⟨_ + 1, h⟩, _ => exact absurd h (Nat.not_lt.2 (Nat.le_add_left _ _))

theorem mlp_defs_same : @Cert.Mlp.defs Bits _ _ = @Cert.MlpIdeal.defs Bits _ _ :=
  congrArg (Pipeline.defs (Cert.Mlp.pcfgs (F := Bits))) mlp_bodies_same

theorem mlp_frame_bits : quiescent_Mlp := fun m g _ => by
  rw [mlp_defs_same]
  exact Cert.MlpIdeal.Mlp.frame_run (F := Bits) m g

theorem mlp_frame_ref : quiescent_MlpReferenceIdeal := fun m g _ =>
  (θ_run Cert.MlpReferenceIdeal.defs _ _).mono
    (fun r h => ⟨fun c => (h c).2.2, sem_eq_zero_of_no_sems (by decide) r.2⟩) (Cert.MlpReferenceIdeal.Value.run m g)

end Cert.Proof

end
-- ==== Proof.Mlp.Pay.lean ====
module

public import proofs.«01_k».proof.Proof.Mlp.Data
public import Idealize.ShloMosaic.Lib.Pointwise
public import Idealize.ShloMosaic.PureOps.Ideal

/-! The channel mixing over extended reals, row by row, and the kernel's block operations at an index. -/

@[expose] public section

set_option maxRecDepth 16384

noncomputable section

namespace Cert.MlpSpec

open Idealize.ShloMosaic

/-- A row over the square root of its mean square, scaled by `g`. -/
def nrm (x g : Fin 2048 → EReal) (d : Fin 2048) : EReal :=
  x d * Ideal.rsqrt (Ideal.div (∑ k, x k * x k) (Ideal.ofBits .f32 0x45000000#32) + Ideal.ofBits .f32 0x358637BD#32) * g d

/-- One hidden channel of a normed row: the squared positive part of its product with the channel's weights. -/
def act (h w : Fin 2048 → EReal) : EReal := max (∑ k, h k * w k) 0 * max (∑ k, h k * w k) 0

/-- A row with its mixed channels added. -/
def mix (x g : Fin 2048 → EReal) (u : Fin 2048 → Fin 8192 → EReal) (w : Fin 8192 → Fin 2048 → EReal) (d : Fin 2048) : EReal :=
  x d + ∑ f, act (nrm x g) (fun k => u k f) * w f d

/-- The share of one run of 512 channels in the mixing. -/
def part (x g : Fin 2048 → EReal) (u : Fin 2048 → Fin 8192 → EReal) (w : Fin 8192 → Fin 2048 → EReal) (d : Fin 2048) (j : ℕ) : EReal :=
  ∑ f : Fin 512, act (nrm x g) (fun k => u k ⟨(j * 512 + f.val) % 8192, Nat.mod_lt _ (by norm_num)⟩) * w ⟨(j * 512 + f.val) % 8192, Nat.mod_lt _ (by norm_num)⟩ d

/-- A row's result: the mixed row, normed again. -/
def out (x g : Fin 2048 → EReal) (u : Fin 2048 → Fin 8192 → EReal) (w : Fin 8192 → Fin 2048 → EReal) (e : Fin 2048 → EReal) (d : Fin 2048) : EReal :=
  nrm (mix x g u w) e d

theorem mix_parts (x g : Fin 2048 → EReal) (u : Fin 2048 → Fin 8192 → EReal) (w : Fin 8192 → Fin 2048 → EReal) (d : Fin 2048) :
    mix x g u w d = x d + ∑ j ∈ Finset.range 16, part x g u w d j := by
  unfold mix part
  rw [← Fin.sum_univ_eq_sum_range (fun j => ∑ f : Fin 512, act (nrm x g) (fun k => u k ⟨(j * 512 + f.val) % 8192, Nat.mod_lt _ (by norm_num)⟩) * w ⟨(j * 512 + f.val) % 8192, Nat.mod_lt _ (by norm_num)⟩ d) 16]
  refine congrArg (x d + ·) ((Fin.sum_univ_tiles 16 512 rfl (fun f : Fin 8192 => act (nrm x g) (fun k => u k f) * w f d)).trans ?_)
  refine Finset.sum_congr rfl fun j _ => Finset.sum_congr rfl fun f _ => ?_
  have e : (⟨(j.val * 512 + f.val) % 8192, Nat.mod_lt _ (by norm_num)⟩ : Fin 8192) = ⟨j.val * 512 + f.val, by omega⟩ :=
    Fin.ext (Nat.mod_eq_of_lt (by omega))
  rw [e]

end Cert.MlpSpec

namespace Cert.MlpIdeal.Mlp

open Idealize.ShloMosaic
open Cert.MlpIdeal Cert.MlpIdeal.Gen Cert.MlpSpec

theorem pay1_at (x : Vec Ideal S16x2048 .f32) (g : Vec Ideal S1x2048 .f32) (r : Fin 16) (d : Fin 2048) :
    k0_pay1 (F := Ideal) x g (ix2 r d) = nrm (fun k => x (ix2 r k)) (fun k => g (ix2 0 k)) d := by
  unfold nrm
  pointwise [k0_pay1]

theorem pay7_at (x : Vec Ideal S1024x2048 .f32) (g : Vec Ideal S1x2048 .f32) (r : Fin 1024) (d : Fin 2048) :
    k0_pay7 (F := Ideal) x g (ix2 r d) = nrm (fun k => x (ix2 r k)) (fun k => g (ix2 0 k)) d := by
  unfold nrm
  pointwise [k0_pay7]

theorem pay2_at (x : Vec Ideal S1024x2048 .f32) (g : Vec Ideal S1x2048 .f32) (r : Fin 1024) (d : Fin 2048) :
    k0_pay2 (F := Ideal) x g (ix2 r d) = nrm (fun k => x (ix2 r k)) (fun k => g (ix2 0 k)) d := by
  unfold nrm
  pointwise [k0_pay2]

theorem pay3_at (x : Vec Ideal S16x2048 .f32) (g : Vec Ideal S1x2048 .f32) (r : Fin 16) (d : Fin 2048) :
    k0_pay3 (F := Ideal) x g (ix2 r d) = nrm (fun k => x (ix2 r k)) (fun k => g (ix2 0 k)) d := by
  unfold nrm
  pointwise [k0_pay3]

theorem pay4_at (h : Vec Ideal S1040x2048 .bf16) (u : Vec Ideal S2048x512 .f32) (w : Vec Ideal S512x2048 .f32) (r : Fin 1040) (d : Fin 2048) :
    k0_pay4 (F := Ideal) h u w (ix2 r d) = ∑ f : Fin 512, act (fun k => h (ix2 r k)) (fun k => u (ix2 k f)) * w (ix2 f d) := by
  unfold act
  pointwise [k0_pay4]

theorem pay5_at (h : Vec Ideal S1040x2048 .bf16) (u : Vec Ideal S2048x512 .f32) (w : Vec Ideal S512x2048 .f32) (y : Vec Ideal S1024x2048 .f32) (r : Fin 1024) (d : Fin 2048) :
    k0_pay5 (F := Ideal) h u w y (ix2 r d)
      = y (ix2 r d) + ∑ f : Fin 512, act (fun k => h (ix2 ⟨r.val, by omega⟩ k)) (fun k => u (ix2 k f)) * w (ix2 f d) := by
  rw [← pay4_at]
  unfold k0_pay5
  generalize k0_pay4 (F := Ideal) h u w = p
  pointwise

theorem pay6_at (h : Vec Ideal S1040x2048 .bf16) (u : Vec Ideal S2048x512 .f32) (w : Vec Ideal S512x2048 .f32) (z : Vec Ideal S16x2048 .f32) (r : Fin 16) (d : Fin 2048) :
    k0_pay6 (F := Ideal) h u w z (ix2 r d)
      = z (ix2 r d) + ∑ f : Fin 512, act (fun k => h (ix2 ⟨1024 + r.val, by omega⟩ k)) (fun k => u (ix2 k f)) * w (ix2 f d) := by
  rw [← pay4_at]
  unfold k0_pay6
  generalize k0_pay4 (F := Ideal) h u w = p
  pointwise

end Cert.MlpIdeal.Mlp

end
-- ==== Proof.Mlp.KBlk.lean ====
module

public import proofs.«01_k».proof.Proof.Mlp.Pay
public import Idealize.ShloMosaic.Lib.Pipeline.ValueKit
public import Idealize.ShloMosaic.Lib.StableHlo.RunRead

/-! The blocks the channel-mixing kernel reads, and the scratch it fills, at an index, over the arguments. -/

@[expose] public section

set_option maxRecDepth 16384

noncomputable section

namespace Cert.MlpIdeal.Mlp

open Idealize.ShloMosaic Idealize.ShloMosaic.TcCoe Idealize.ShloMosaic.Tactic
open Idealize.ShloMosaic.StableHlo
open Cert.MlpIdeal Cert.MlpIdeal.Gen Cert.MlpSpec

variable (m : (ℓ : Loc nD τ sig) → Buf (Elt Ideal) ℓ) (c : Dev nD)

/-- The prompt rows. -/
def X0 : FVec Ideal S8192x2048 .f32 := m ((c.tc : Thread nD τ).loc main_arg0)
/-- The sample rows. -/
def X1 : FVec Ideal S16x2048 .f32 := m ((c.tc : Thread nD τ).loc main_arg1)
/-- The first norm's scale. -/
def G : FVec Ideal S2048 .f32 := m ((c.tc : Thread nD τ).loc main_arg2)
/-- The weights into the channels. -/
def U : FVec Ideal S2048x8192 .f32 := m ((c.tc : Thread nD τ).loc main_arg3)
/-- The weights out of the channels. -/
def W : FVec Ideal S8192x2048 .f32 := m ((c.tc : Thread nD τ).loc main_arg4)
/-- The last norm's scale. -/
def E : FVec Ideal S2048 .f32 := m ((c.tc : Thread nD τ).loc main_arg5)

theorem idx : ∀ t : Fin cfg0.N, win0_0.index t = ![t.val / 16, 0] ∧ win0_1.index t = ![0, 0] ∧ win0_2.index t = ![0, 0]
    ∧ win0_3.index t = ![0, t.val % 16] ∧ win0_4.index t = ![t.val % 16, 0] ∧ win0_5.index t = ![0, 0] ∧ win0_6.index t = ![t.val / 16, 0]
    ∧ win0_7.index t = ![0, 0] :=
  (by decide +kernel : ∀ t : Fin grid0.N, _)

theorem lt128 (t : Fin cfg0.N) : t.val < 128 := Nat.lt_of_lt_of_eq t.isLt N_0

/-- A prompt row of a grid point's block. -/
def rowOf (t : Fin cfg0.N) (r : Fin 1024) : Fin 8192 := ⟨1024 * (t.val / 16) + r.val, by have := lt128 t; omega⟩

/-- A channel of a grid point's block. -/
def chOf (t : Fin cfg0.N) (f : Fin 512) : Fin 8192 := ⟨(t.val % 16 * 512 + f.val) % 8192, Nat.mod_lt _ (by norm_num)⟩

theorem blk0 (t : Fin cfg0.N) (r : Fin 1024) (k : Fin 2048) : (iblk m c 0 t : FVec Ideal S1024x2048 .f32) (ix2 r k) = X0 m c (ix2 (rowOf t r) k) := by
  have e : (win0_0.blk t).view.emb (ix2 r k) = (ix2 (rowOf t r) k : S8192x2048.Idx) := by
    blk_ext [idx t, rowOf]
  blk_simp [iblk]
  rw [e]
  entry_read
  rfl

theorem blk1 (t : Fin cfg0.N) (r : Fin 16) (k : Fin 2048) : (iblk m c 1 t : FVec Ideal S16x2048 .f32) (ix2 r k) = X1 m c (ix2 r k) := by
  have e : (win0_1.blk t).view.emb (ix2 r k) = (ix2 r k : S16x2048.Idx) := by
    blk_ext [idx t]
  blk_simp [iblk]
  rw [e]
  entry_read
  rfl

theorem blk2 (t : Fin cfg0.N) (k : Fin 2048) : (iblk m c 2 t : FVec Ideal S1x2048 .f32) (ix2 0 k) = G m c (ix1 k) := by
  have e : (win0_2.blk t).view.emb (ix2 0 k) = (ix2 0 k : S1x2048.Idx) := by
    blk_ext [idx t]
  blk_simp [iblk]
  rw [e]
  entry_read
  pointwise
  rfl

theorem blk3 (t : Fin cfg0.N) (k : Fin 2048) (f : Fin 512) : (iblk m c 3 t : FVec Ideal S2048x512 .f32) (ix2 k f) = U m c (ix2 k (chOf t f)) := by
  have e : (win0_3.blk t).view.emb (ix2 k f) = (ix2 k (chOf t f) : S2048x8192.Idx) := by
    blk_ext [idx t, chOf]
  blk_simp [iblk]
  rw [e]
  entry_read
  rfl

theorem blk4 (t : Fin cfg0.N) (f : Fin 512) (d : Fin 2048) : (iblk m c 4 t : FVec Ideal S512x2048 .f32) (ix2 f d) = W m c (ix2 (chOf t f) d) := by
  have e : (win0_4.blk t).view.emb (ix2 f d) = (ix2 (chOf t f) d : S8192x2048.Idx) := by
    blk_ext [idx t, chOf]
  blk_simp [iblk]
  rw [e]
  entry_read
  rfl

theorem blk5 (t : Fin cfg0.N) (k : Fin 2048) : (iblk m c 5 t : FVec Ideal S1x2048 .f32) (ix2 0 k) = E m c (ix1 k) := by
  have e : (win0_5.blk t).view.emb (ix2 0 k) = (ix2 0 k : S1x2048.Idx) := by
    blk_ext [idx t]
  blk_simp [iblk]
  rw [e]
  entry_read
  pointwise
  rfl

/-! ## The scratch -/

section
variable {n l k o : ℕ} {α : Type} (h : (⟨2, ![n, l]⟩ : Shape).Idx → α) (p : (⟨2, ![k, l]⟩ : Shape).Idx → α)

/-- A row inside the rows put over an array. -/
theorem put_in (r : Fin n) (d : Fin l) (q : Fin k) (hr : r.val = o + q.val) :
    VecWindow.put (s := ⟨2, ![n, l]⟩) h ![o, 0] (⟨2, ![k, l]⟩ : Shape).size p (ix2 r d) = p (ix2 q d) := by
  have hq := q.isLt
  have hd := d.isLt
  have hm : ∀ a : Fin 2, (![o, 0] : Fin 2 → ℕ) a ≤ ((ix2 r d : (⟨2, ![n, l]⟩ : Shape).Idx) a).val
      ∧ ((ix2 r d : (⟨2, ![n, l]⟩ : Shape).Idx) a).val < (![o, 0] : Fin 2 → ℕ) a + (⟨2, ![k, l]⟩ : Shape).size a :=
    Fin.forall_fin_two.mpr ⟨⟨show o ≤ r.val by omega, show r.val < o + k by omega⟩, ⟨Nat.zero_le _, show d.val < 0 + l by omega⟩⟩
  unfold VecWindow.put
  rw [dif_pos hm]
  refine congrArg p (funext fun a => ?_)
  fin_cases a
  · exact Fin.ext (show r.val - o = q.val by omega)
  · exact Fin.ext (show d.val - 0 = d.val by omega)

/-- A row outside the rows put over an array. -/
theorem put_out (r : Fin n) (d : Fin l) (hr : r.val < o ∨ o + k ≤ r.val) :
    VecWindow.put (s := ⟨2, ![n, l]⟩) h ![o, 0] (⟨2, ![k, l]⟩ : Shape).size p (ix2 r d) = h (ix2 r d) := by
  unfold VecWindow.put
  refine dif_neg fun hm => ?_
  have h1 : o ≤ r.val := (hm (0 : Fin 2)).1
  have h2 : r.val < o + k := (hm (0 : Fin 2)).2
  omega

end

/-- What the scratch holds after a point, from what it held after the one before. -/
theorem hAft_from (t : Fin cfg0.N) : ∃ h, hAft m c t.val = hAt m c t h ∧ (t.val ≠ 0 → h = hAft m c (t.val - 1)) := by
  by_cases ht : t.val = 0
  · exact ⟨hAft m c t.val, (hAt_zero m c t ht _).symm, fun hn => absurd ht hn⟩
  · exact ⟨_, (hAt_succ m c t ht).symm, fun _ => rfl⟩

/-- At a column's first point the scratch's first rows become the point's normed prompt rows. -/
theorem h_put (t : Fin cfg0.N) (h0 : t.val % 16 = 0) (r : Fin 1024) (k : Fin 2048) :
    hAft m c t.val (ix2 ⟨r.val, by omega⟩ k) = nrm (fun k => X0 m c (ix2 (rowOf t r) k)) (fun k => G m c (ix1 k)) k := by
  obtain ⟨h, e, hp⟩ := hAft_from m c t
  have e1 : (grid0.coords t 1).val = 0 := (coords_1 t).trans h0
  have key : ∀ hh, VecWindow.put (s := S1040x2048) hh ![0, 0] S1024x2048.size (k0_pay2 (F := Ideal) (iblk m c 0 t) (iblk m c 2 t)) (ix2 ⟨r.val, by omega⟩ k)
      = nrm (fun k => X0 m c (ix2 (rowOf t r) k)) (fun k => G m c (ix1 k)) k := fun hh => by
    refine (put_in hh _ ⟨r.val, by omega⟩ k r (Nat.zero_add _).symm).trans ((pay2_at _ _ r k).trans ?_)
    rw [show (fun k => (iblk m c 0 t : FVec Ideal S1024x2048 .f32) (ix2 r k)) = fun k => X0 m c (ix2 (rowOf t r) k) from funext fun k => blk0 m c t r k,
      show (fun k => (iblk m c 2 t : FVec Ideal S1x2048 .f32) (ix2 0 k)) = fun k => G m c (ix1 k) from funext fun k => blk2 m c t k]
  rw [e]
  unfold hAt hNew
  rw [if_pos e1]
  by_cases e0 : (grid0.coords t 0).val = 0
  · rw [if_pos e0]
    refine (put_out (k := 16) (VecWindow.put (s := S1040x2048) h ![0, 0] S1024x2048.size (k0_pay2 (F := Ideal) (iblk m c 0 t) (iblk m c 2 t))) (k0_pay3 (F := Ideal) (iblk m c 1 t) (iblk m c 2 t)) ⟨r.val, by omega⟩ k (.inl r.isLt)).trans ?_
    exact key h
  · rw [if_neg e0]
    exact key _

/-- The scratch's first rows hold the point's normed prompt rows. -/
theorem h_prompt (n : ℕ) : ∀ t : Fin cfg0.N, t.val = n → ∀ (r : Fin 1024) (k : Fin 2048),
    hAft m c t.val (ix2 ⟨r.val, by omega⟩ k) = nrm (fun k => X0 m c (ix2 (rowOf t r) k)) (fun k => G m c (ix1 k)) k := by
  induction n with
  | zero => exact fun t ht r k => h_put m c t (by omega) r k
  | succ n ih =>
    intro t ht r k
    by_cases h0 : t.val % 16 = 0
    · exact h_put m c t h0 r k
    · obtain ⟨h, e, hp⟩ := hAft_from m c t
      have e1 : ¬(grid0.coords t 1).val = 0 := by rw [coords_1 t]; exact h0
      have hl := ih ⟨t.val - 1, by have := t.isLt; omega⟩ (by show t.val - 1 = n; omega) r k
      rw [show rowOf ⟨t.val - 1, by have := t.isLt; omega⟩ r = rowOf t r from Fin.ext (by show 1024 * ((t.val - 1) / 16) + r.val = 1024 * (t.val / 16) + r.val; omega)] at hl
      rw [e, hp (by omega)]
      unfold hAt hNew
      rw [if_neg e1]
      exact hl

/-- The scratch's last rows hold the normed sample rows. -/
theorem h_sample (n : ℕ) : ∀ t : Fin cfg0.N, t.val = n → ∀ (r : Fin 16) (k : Fin 2048),
    hAft m c t.val (ix2 ⟨1024 + r.val, by omega⟩ k) = nrm (fun k => X1 m c (ix2 r k)) (fun k => G m c (ix1 k)) k := by
  induction n with
  | zero =>
    intro t ht r k
    have e0 : (grid0.coords t 0).val = 0 := (coords_0 t).trans (by omega)
    have e1 : (grid0.coords t 1).val = 0 := (coords_1 t).trans (by omega)
    obtain ⟨h, e, hp⟩ := hAft_from m c t
    rw [e]
    unfold hAt hNew
    rw [if_pos e1, if_pos e0]
    refine (put_in _ _ ⟨1024 + r.val, by omega⟩ k r rfl).trans ((pay3_at _ _ r k).trans ?_)
    rw [show (fun k => (iblk m c 1 t : FVec Ideal S16x2048 .f32) (ix2 r k)) = fun k => X1 m c (ix2 r k) from funext fun k => blk1 m c t r k,
      show (fun k => (iblk m c 2 t : FVec Ideal S1x2048 .f32) (ix2 0 k)) = fun k => G m c (ix1 k) from funext fun k => blk2 m c t k]
  | succ n ih =>
    intro t ht r k
    obtain ⟨h, e, hp⟩ := hAft_from m c t
    have hl := ih ⟨t.val - 1, by have := t.isLt; omega⟩ (by show t.val - 1 = n; omega) r k
    rw [e, hp (by omega)]
    unfold hAt hNew
    by_cases e1 : (grid0.coords t 1).val = 0
    · have e0 : ¬(grid0.coords t 0).val = 0 := by
        rw [coords_1 t] at e1
        rw [coords_0 t]
        omega
      rw [if_pos e1, if_neg e0]
      exact (put_out (k := 1024) (hAft m c (t.val - 1)) (k0_pay2 (F := Ideal) (iblk m c 0 t) (iblk m c 2 t)) ⟨1024 + r.val, by omega⟩ k (.inr (Nat.le_trans (Nat.le_of_eq (Nat.zero_add 1024)) (Nat.le_add_right _ _)))).trans hl
    · rw [if_neg e1]
      exact hl

end Cert.MlpIdeal.Mlp

end
-- ==== Proof.Mlp.KVal.lean ====
module

public import proofs.«01_k».proof.Proof.Mlp.KBlk

/-! The channel-mixing kernel's results over its arguments. -/

@[expose] public section

set_option maxRecDepth 16384

noncomputable section

namespace Cert.MlpIdeal.Mlp

open Idealize.ShloMosaic Idealize.ShloMosaic.TcCoe Idealize.ShloMosaic.Tactic
open Cert.MlpIdeal Cert.MlpIdeal.Gen Cert.MlpSpec

variable (m : (ℓ : Loc nD τ sig) → Buf (Elt Ideal) ℓ) (c : Dev nD)

/-- A prompt row. -/
abbrev xr (r : Fin 8192) : Fin 2048 → EReal := fun k => X0 m c (ix2 r k)
/-- A sample row. -/
abbrev sr (r : Fin 16) : Fin 2048 → EReal := fun k => X1 m c (ix2 r k)
/-- The first norm's scale. -/
abbrev gv : Fin 2048 → EReal := fun k => G m c (ix1 k)
/-- The weights into the channels. -/
abbrev um : Fin 2048 → Fin 8192 → EReal := fun k f => U m c (ix2 k f)
/-- The weights out of the channels. -/
abbrev wm : Fin 8192 → Fin 2048 → EReal := fun f d => W m c (ix2 f d)
/-- The last norm's scale. -/
abbrev ev : Fin 2048 → EReal := fun k => E m c (ix1 k)

/-- A row with its first `n` runs of channels added. -/
def acc (x g : Fin 2048 → EReal) (u : Fin 2048 → Fin 8192 → EReal) (w : Fin 8192 → Fin 2048 → EReal) (n : ℕ) (d : Fin 2048) : EReal :=
  x d + ∑ j ∈ Finset.range n, part x g u w d j

theorem acc_zero (x g : Fin 2048 → EReal) (u : Fin 2048 → Fin 8192 → EReal) (w : Fin 8192 → Fin 2048 → EReal) (d : Fin 2048) : acc x g u w 0 d = x d := by
  unfold acc
  rw [Finset.range_zero, Finset.sum_empty, add_zero]

theorem acc_succ (x g : Fin 2048 → EReal) (u : Fin 2048 → Fin 8192 → EReal) (w : Fin 8192 → Fin 2048 → EReal) (n : ℕ) (d : Fin 2048) :
    acc x g u w n d + part x g u w d n = acc x g u w (n + 1) d := by
  unfold acc
  rw [Finset.sum_range_succ, add_assoc]

theorem acc_all (x g : Fin 2048 → EReal) (u : Fin 2048 → Fin 8192 → EReal) (w : Fin 8192 → Fin 2048 → EReal) : acc x g u w 16 = mix x g u w :=
  funext fun d => (mix_parts x g u w d).symm

/-- The share a grid point's channels have in a row, over a scratch row that holds the normed row. -/
theorem share_at (t : Fin cfg0.N) (hrow x : Fin 2048 → EReal) (hh : ∀ k, hrow k = nrm x (gv m c) k) (d : Fin 2048) :
    (∑ f : Fin 512, act hrow (fun k => (iblk m c 3 t : FVec Ideal S2048x512 .f32) (ix2 k f)) * (iblk m c 4 t : FVec Ideal S512x2048 .f32) (ix2 f d))
      = part x (gv m c) (um m c) (wm m c) d (t.val % 16) := by
  obtain rfl : hrow = nrm x (gv m c) := funext hh
  unfold part
  refine Finset.sum_congr rfl fun f _ => ?_
  rw [blk4 m c t f d, show (fun k => (iblk m c 3 t : FVec Ideal S2048x512 .f32) (ix2 k f)) = fun k => U m c (ix2 k (chOf t f)) from funext fun k => blk3 m c t k f]
  rfl

/-! ## The prompt rows -/

theorem y_step (t : Fin cfg0.N) (y : Vec Ideal S1024x2048 .f32) (r : Fin 1024)
    (hy : t.val % 16 ≠ 0 → ∀ d, y (ix2 r d) = acc (xr m c (rowOf t r)) (gv m c) (um m c) (wm m c) (t.val % 16) d) (d : Fin 2048) :
    k0_pay5 (F := Ideal) (hAft m c t.val) (iblk m c 3 t) (iblk m c 4 t) (if (grid0.coords t 1).val = 0 then iblk m c 0 t else y) (ix2 r d)
      = acc (xr m c (rowOf t r)) (gv m c) (um m c) (wm m c) (t.val % 16 + 1) d := by
  refine (pay5_at _ _ _ _ r d).trans ?_
  rw [← acc_succ]
  refine congrArg₂ (· + ·) ?_ (share_at m c t _ (xr m c (rowOf t r)) (fun k => h_prompt m c t.val t rfl r k) d)
  by_cases h0 : t.val % 16 = 0
  · rw [if_pos ((coords_1 t).trans h0), h0, acc_zero]
    exact blk0 m c t r d
  · rw [if_neg (by rw [coords_1 t]; exact h0)]
    exact hy h0 d

theorem y_from (t : Fin cfg0.N) : ∃ y, yAft m c t.val = yAt m c t y ∧ (t.val % 16 ≠ 0 → y = yAft m c (t.val - 1)) := by
  by_cases ht : t.val % 16 = 0
  · exact ⟨yAft m c t.val, (yAt_first m c t ht _).symm, fun hn => absurd ht hn⟩
  · exact ⟨_, (yAt_succ m c t (by omega)).symm, fun _ => rfl⟩

theorem y_partial (n : ℕ) : ∀ t : Fin cfg0.N, t.val = n → t.val % 16 ≠ 15 → ∀ (r : Fin 1024) (d : Fin 2048),
    yAft m c t.val (ix2 r d) = acc (xr m c (rowOf t r)) (gv m c) (um m c) (wm m c) (t.val % 16 + 1) d := by
  induction n with
  | zero =>
    intro t ht h15 r d
    obtain ⟨y, e, hp⟩ := y_from m c t
    rw [e]
    unfold yAt yNew
    rw [if_neg (by rw [coords_1 t]; exact h15)]
    exact y_step m c t y r (fun hn => absurd (by omega) hn) d
  | succ n ih =>
    intro t ht h15 r d
    obtain ⟨y, e, hp⟩ := y_from m c t
    rw [e]
    unfold yAt yNew
    rw [if_neg (by rw [coords_1 t]; exact h15)]
    refine y_step m c t y r (fun hn d => ?_) d
    have hl := ih ⟨t.val - 1, by have := t.isLt; omega⟩ (by show t.val - 1 = n; omega) (by show (t.val - 1) % 16 ≠ 15; omega) r d
    rw [show rowOf ⟨t.val - 1, by have := t.isLt; omega⟩ r = rowOf t r from Fin.ext (by show 1024 * ((t.val - 1) / 16) + r.val = 1024 * (t.val / 16) + r.val; omega),
      show (⟨t.val - 1, by have := t.isLt; omega⟩ : Fin cfg0.N).val % 16 + 1 = t.val % 16 from by show (t.val - 1) % 16 + 1 = t.val % 16; omega] at hl
    rw [hp hn]
    exact hl

theorem y_last (t : Fin cfg0.N) (h15 : t.val % 16 = 15) (r : Fin 1024) (d : Fin 2048) :
    yAft m c t.val (ix2 r d) = out (xr m c (rowOf t r)) (gv m c) (um m c) (wm m c) (ev m c) d := by
  have hp : ∀ d, yAft m c (t.val - 1) (ix2 r d) = acc (xr m c (rowOf t r)) (gv m c) (um m c) (wm m c) (t.val % 16) d := fun d => by
    have hl := y_partial m c (t.val - 1) ⟨t.val - 1, by have := t.isLt; omega⟩ rfl (by show (t.val - 1) % 16 ≠ 15; omega) r d
    rw [show rowOf ⟨t.val - 1, by have := t.isLt; omega⟩ r = rowOf t r from Fin.ext (by show 1024 * ((t.val - 1) / 16) + r.val = 1024 * (t.val / 16) + r.val; omega),
      show (⟨t.val - 1, by have := t.isLt; omega⟩ : Fin cfg0.N).val % 16 + 1 = t.val % 16 from by show (t.val - 1) % 16 + 1 = t.val % 16; omega] at hl
    exact hl
  rw [← yAt_succ m c t (by omega)]
  unfold yAt yNew
  rw [if_pos ((coords_1 t).trans h15)]
  refine (pay7_at _ _ r d).trans ?_
  unfold out
  rw [← acc_all]
  refine congrFun (congrArg₂ nrm (funext fun k => ?_) (funext fun k => blk5 m c t k)) d
  refine (y_step m c t _ r (fun _ => hp) k).trans ?_
  rw [h15]

/-- The prompt rows' result. -/
def outArr : FVec Ideal S8192x2048 .f32 := fun i => out (xr m c (i 0)) (gv m c) (um m c) (wm m c) (ev m c) (i 1)

theorem final6 : (dats m 0 c).arrAt 6 (cfgs 0).N = outArr m c := by
  refine (dats m 0 c).arrAt_eq_of_covers 6 (outArr m c) (by decide +kernel) fun t hf y => ?_
  have h15 : t.val % 16 = 15 := (flush0_6 t).mp hf
  obtain ⟨r, d, rfl⟩ : ∃ (r : Fin 1024) (d : Fin 2048), y = (ix2 r d : S1024x2048.Idx) := ⟨y 0, y 1, by funext i; fin_cases i <;> rfl⟩
  have he : (win0_6.blk t).view.emb (ix2 r d) = (ix2 (rowOf t r) d : S8192x2048.Idx) := by
    blk_ext [idx t, rowOf]
  blk_simp
  exact (y_last m c t h15 r d).trans (congrArg (outArr m c) he).symm

/-! ## The sample rows -/

theorem z_step (t : Fin cfg0.N) (z : Vec Ideal S16x2048 .f32) (r : Fin 16)
    (hz : t.val % 16 ≠ 0 → ∀ d, z (ix2 r d) = acc (sr m c r) (gv m c) (um m c) (wm m c) (t.val % 16) d) (d : Fin 2048) :
    k0_pay6 (F := Ideal) (hAft m c t.val) (iblk m c 3 t) (iblk m c 4 t) (if (grid0.coords t 1).val = 0 then iblk m c 1 t else z) (ix2 r d)
      = acc (sr m c r) (gv m c) (um m c) (wm m c) (t.val % 16 + 1) d := by
  refine (pay6_at _ _ _ _ r d).trans ?_
  rw [← acc_succ]
  refine congrArg₂ (· + ·) ?_ (share_at m c t _ (sr m c r) (fun k => h_sample m c t.val t rfl r k) d)
  by_cases h0 : t.val % 16 = 0
  · rw [if_pos ((coords_1 t).trans h0), h0, acc_zero]
    exact blk1 m c t r d
  · rw [if_neg (by rw [coords_1 t]; exact h0)]
    exact hz h0 d

theorem z_from (t : Fin cfg0.N) : ∃ z, zAft m c t.val = zAt m c t z ∧ (t.val ≠ 0 → z = zAft m c (t.val - 1)) := by
  by_cases ht : t.val = 0
  · exact ⟨zAft m c t.val, (zAt_zero m c t ht _).symm, fun hn => absurd ht hn⟩
  · exact ⟨_, (zAt_succ m c t ht).symm, fun _ => rfl⟩

theorem z_partial (n : ℕ) : ∀ t : Fin cfg0.N, t.val = n → t.val < 15 → ∀ (r : Fin 16) (d : Fin 2048),
    zAft m c t.val (ix2 r d) = acc (sr m c r) (gv m c) (um m c) (wm m c) (t.val + 1) d := by
  induction n with
  | zero =>
    intro t ht h15 r d
    obtain ⟨z, e, hp⟩ := z_from m c t
    rw [e]
    unfold zAt zNew
    rw [if_pos ((coords_0 t).trans (by omega)), if_neg (by rw [coords_1 t]; omega)]
    refine (z_step m c t z r (fun hn => absurd (by omega) hn) d).trans ?_
    rw [show t.val % 16 = t.val from Nat.mod_eq_of_lt (by omega)]
  | succ n ih =>
    intro t ht h15 r d
    obtain ⟨z, e, hp⟩ := z_from m c t
    rw [e]
    unfold zAt zNew
    rw [if_pos ((coords_0 t).trans (by omega)), if_neg (by rw [coords_1 t]; omega)]
    refine (z_step m c t z r (fun hn d => ?_) d).trans ?_
    · have hl := ih ⟨t.val - 1, by have := t.isLt; omega⟩ (by show t.val - 1 = n; omega) (by show t.val - 1 < 15; omega) r d
      rw [show (⟨t.val - 1, by have := t.isLt; omega⟩ : Fin cfg0.N).val + 1 = t.val % 16 from by show t.val - 1 + 1 = t.val % 16; omega] at hl
      rw [hp (by omega)]
      exact hl
    · rw [show t.val % 16 = t.val from Nat.mod_eq_of_lt (by omega)]

theorem z_row (t : Fin cfg0.N) (h15 : t.val = 15) (r : Fin 16) (d : Fin 2048) :
    zAft m c t.val (ix2 r d) = out (sr m c r) (gv m c) (um m c) (wm m c) (ev m c) d := by
  have hp : ∀ d, zAft m c (t.val - 1) (ix2 r d) = acc (sr m c r) (gv m c) (um m c) (wm m c) (t.val % 16) d := fun d => by
    have hl := z_partial m c (t.val - 1) ⟨t.val - 1, by have := t.isLt; omega⟩ rfl (by show t.val - 1 < 15; omega) r d
    rw [show (⟨t.val - 1, by have := t.isLt; omega⟩ : Fin cfg0.N).val + 1 = t.val % 16 from by show t.val - 1 + 1 = t.val % 16; omega] at hl
    exact hl
  rw [← zAt_succ m c t (by omega)]
  unfold zAt zNew
  rw [if_pos ((coords_0 t).trans (by omega)), if_pos ((coords_1 t).trans (by omega))]
  refine (pay1_at _ _ r d).trans ?_
  unfold out
  rw [← acc_all]
  refine congrFun (congrArg₂ nrm (funext fun k => ?_) (funext fun k => blk5 m c t k)) d
  refine (z_step m c t _ r (fun _ => hp) k).trans ?_
  rw [show t.val % 16 + 1 = 16 from by omega]

theorem z_last (n : ℕ) : ∀ t : Fin cfg0.N, t.val = 15 + n → ∀ (r : Fin 16) (d : Fin 2048),
    zAft m c t.val (ix2 r d) = out (sr m c r) (gv m c) (um m c) (wm m c) (ev m c) d := by
  induction n with
  | zero => exact fun t ht r d => z_row m c t ht r d
  | succ n ih =>
    intro t ht r d
    rw [zAft_later m c t (by omega)]
    exact ih ⟨t.val - 1, by have := t.isLt; omega⟩ (by show t.val - 1 = 15 + n; omega) r d

/-- The sample rows' result. -/
def outSample : FVec Ideal S16x2048 .f32 := fun i => out (sr m c (i 0)) (gv m c) (um m c) (wm m c) (ev m c) (i 1)

theorem final7 : (dats m 0 c).arrAt 7 (cfgs 0).N = outSample m c := by
  refine (dats m 0 c).arrAt_eq_of_covers 7 (outSample m c) (by decide +kernel) fun t hf y => ?_
  have h127 : t.val % 128 = 127 := (flush0_7 t).mp hf
  obtain ⟨r, d, rfl⟩ : ∃ (r : Fin 16) (d : Fin 2048), y = (ix2 r d : S16x2048.Idx) := ⟨y 0, y 1, by funext i; fin_cases i <;> rfl⟩
  have he : (win0_7.blk t).view.emb (ix2 r d) = (ix2 r d : S16x2048.Idx) := by
    blk_ext [idx t]
  blk_simp
  exact (z_last m c (t.val - 15) t (by omega) r d).trans (congrArg (outSample m c) he).symm

end Cert.MlpIdeal.Mlp

end
-- ==== Proof.Mlp.RefVal.lean ====
module

public import proofs.«01_k».proof.Proof.Mlp.Pay
public import proofs.«01_k».proof.Proof.Gen.MlpReferenceIdeal.Run

/-! The channel-mixing reference's results at an index. -/

@[expose] public section

set_option maxRecDepth 16384

noncomputable section

namespace Cert.MlpReferenceIdeal.Mlp

open Idealize.ShloMosaic Idealize.ShloMosaic.TcCoe
open Cert.MlpReferenceIdeal Cert.MlpReferenceIdeal.Gen Cert.MlpReferenceIdeal.Value Cert.MlpSpec

variable (m : (ℓ : Loc nD τ sig) → Buf (Elt Ideal) ℓ) (c : Dev nD)

/-- The prompt rows. -/
def X0 : FVec Ideal S8192x2048 .f32 := m ((c.tc : Thread nD τ).loc main_arg0)
/-- The sample rows. -/
def X1 : FVec Ideal S16x2048 .f32 := m ((c.tc : Thread nD τ).loc main_arg1)
/-- The first norm's scale. -/
def G : FVec Ideal S2048 .f32 := m ((c.tc : Thread nD τ).loc main_arg2)
/-- The weights into the channels. -/
def U : FVec Ideal S2048x8192 .f32 := m ((c.tc : Thread nD τ).loc main_arg3)
/-- The weights out of the channels. -/
def W : FVec Ideal S8192x2048 .f32 := m ((c.tc : Thread nD τ).loc main_arg4)
/-- The last norm's scale. -/
def E : FVec Ideal S2048 .f32 := m ((c.tc : Thread nD τ).loc main_arg5)

theorem prompt_at (r : Fin 8192) (d : Fin 2048) :
    (res_main_v30 m c : FVec Ideal S8192x2048 .f32) (ix2 r d)
      = out (fun k => X0 m c (ix2 r k)) (fun k => G m c (ix1 k)) (fun k f => U m c (ix2 k f)) (fun f e => W m c (ix2 f e)) (fun k => E m c (ix1 k)) d := by
  unfold res_main_v30
  change (_ : FVec Ideal S8192x2048 .f32) (ix2 r d) = _
  rw [show m ((c.tc : Thread nD τ).loc main_arg0) = X0 m c from rfl, show m ((c.tc : Thread nD τ).loc main_arg2) = G m c from rfl,
    show m ((c.tc : Thread nD τ).loc main_arg3) = U m c from rfl, show m ((c.tc : Thread nD τ).loc main_arg4) = W m c from rfl, show m ((c.tc : Thread nD τ).loc main_arg5) = E m c from rfl]
  generalize X0 m c = x
  generalize G m c = g
  generalize U m c = u
  generalize W m c = w
  generalize E m c = e
  unfold out mix act nrm
  pointwise

theorem sample_at (r : Fin 16) (d : Fin 2048) :
    (res_main_v61 m c : FVec Ideal S16x2048 .f32) (ix2 r d)
      = out (fun k => X1 m c (ix2 r k)) (fun k => G m c (ix1 k)) (fun k f => U m c (ix2 k f)) (fun f e => W m c (ix2 f e)) (fun k => E m c (ix1 k)) d := by
  unfold res_main_v61
  change (_ : FVec Ideal S16x2048 .f32) (ix2 r d) = _
  rw [show m ((c.tc : Thread nD τ).loc main_arg1) = X1 m c from rfl, show m ((c.tc : Thread nD τ).loc main_arg2) = G m c from rfl,
    show m ((c.tc : Thread nD τ).loc main_arg3) = U m c from rfl, show m ((c.tc : Thread nD τ).loc main_arg4) = W m c from rfl, show m ((c.tc : Thread nD τ).loc main_arg5) = E m c from rfl]
  generalize X1 m c = x
  generalize G m c = g
  generalize U m c = u
  generalize W m c = w
  generalize E m c = e
  unfold out mix act nrm
  pointwise

end Cert.MlpReferenceIdeal.Mlp

end
-- ==== Proof.Mlp.Value.lean ====
module

public import proofs.«01_k».proof.Proof.Mlp.Frames
public import proofs.«01_k».proof.Proof.Mlp.KVal
public import proofs.«01_k».proof.Proof.Mlp.RefVal

/-! The channel-mixing kernel and the reference compute the same two results. -/

@[expose] public section

set_option maxRecDepth 16384

noncomputable section

namespace Cert.Proof

open Idealize.ShloMosaic Idealize.SL.Sem Cert.MlpSpec

section
variable (m : (ℓ : Loc Cert.MlpIdeal.nD Cert.MlpIdeal.τ Cert.MlpIdeal.sig) → Buf (Elt Ideal) ℓ)
  (m' : (ℓ : Loc Cert.MlpReferenceIdeal.nD Cert.MlpReferenceIdeal.τ Cert.MlpReferenceIdeal.sig) → Buf (Elt Ideal) ℓ)
  (c : Dev Cert.MlpIdeal.nD)

/-- The two memories hold the same channel-mixing arguments. -/
structure MlpSame : Prop where
  e0 : MlpReferenceIdeal.Mlp.X0 m' c = MlpIdeal.Mlp.X0 m c
  e1 : MlpReferenceIdeal.Mlp.X1 m' c = MlpIdeal.Mlp.X1 m c
  e2 : MlpReferenceIdeal.Mlp.G m' c = MlpIdeal.Mlp.G m c
  e3 : MlpReferenceIdeal.Mlp.U m' c = MlpIdeal.Mlp.U m c
  e4 : MlpReferenceIdeal.Mlp.W m' c = MlpIdeal.Mlp.W m c
  e5 : MlpReferenceIdeal.Mlp.E m' c = MlpIdeal.Mlp.E m c

variable {m m' c}

theorem mlp_prompt_eq (h : MlpSame m m' c) :
    (MlpReferenceIdeal.Value.res_main_v30 m' c : FVec Ideal MlpReferenceIdeal.S8192x2048 .f32) = MlpIdeal.Mlp.outArr m c := by
  obtain ⟨e0, e1, e2, e3, e4, e5⟩ := h
  funext j
  obtain ⟨r, d, rfl⟩ : ∃ (r : Fin 8192) (d : Fin 2048), j = (ix2 r d : MlpReferenceIdeal.S8192x2048.Idx) := ⟨j 0, j 1, by funext i; fin_cases i <;> rfl⟩
  refine (MlpReferenceIdeal.Mlp.prompt_at m' c r d).trans ?_
  rw [e0, e2, e3, e4, e5]
  rfl

theorem mlp_sample_eq (h : MlpSame m m' c) :
    (MlpReferenceIdeal.Value.res_main_v61 m' c : FVec Ideal MlpReferenceIdeal.S16x2048 .f32) = MlpIdeal.Mlp.outSample m c := by
  obtain ⟨e0, e1, e2, e3, e4, e5⟩ := h
  funext j
  obtain ⟨r, d, rfl⟩ : ∃ (r : Fin 16) (d : Fin 2048), j = (ix2 r d : MlpReferenceIdeal.S16x2048.Idx) := ⟨j 0, j 1, by funext i; fin_cases i <;> rfl⟩
  refine (MlpReferenceIdeal.Mlp.sample_at m' c r d).trans ?_
  rw [e1, e2, e3, e4, e5]
  rfl

end

/-- What the channel-mixing kernel leaves in its two result arrays. -/
theorem mlp_results_run (m : (ℓ : Loc Cert.MlpIdeal.nD Cert.MlpIdeal.τ Cert.MlpIdeal.sig) → Buf (Elt Ideal) ℓ) (g : Dev Cert.MlpIdeal.nD → PrngReg) :
    θ_run (Cert.MlpIdeal.defs (F := Ideal)) (onTc (τ := Cert.MlpIdeal.τ) (Cert.MlpIdeal.main (F := Ideal))) ⟨m, fun _ => 0, g⟩
    (fun r => ∀ c : Dev Cert.MlpIdeal.nD,
      r.2.mem ((c.tc : Thread MlpIdeal.nD MlpIdeal.τ).loc MlpIdeal.main_v2_0) = (MlpIdeal.Mlp.dats m 0 c).arrAt 6 (MlpIdeal.cfgs 0).N
      ∧ r.2.mem ((c.tc : Thread MlpIdeal.nD MlpIdeal.τ).loc MlpIdeal.main_v2_1) = (MlpIdeal.Mlp.dats m 0 c).arrAt 7 (MlpIdeal.cfgs 0).N) :=
  θ_run_mono (Cert.MlpIdeal.Mlp.run_main m g) (fun _ h c => ⟨(h.1 c).1 6, (h.1 c).1 7⟩)

theorem mlp_algebraic : algebraic_MlpIdeal_MlpReferenceIdeal := by
  intro m g m' g' _ hagree
  have hsame : ∀ c, MlpSame m m' c := fun c =>
    ⟨(hagree c).1, (hagree c).2.1, (hagree c).2.2.1, (hagree c).2.2.2.1, (hagree c).2.2.2.2.1, (hagree c).2.2.2.2.2⟩
  refine ⟨fun c => (MlpIdeal.Mlp.dats m 0 c).arrAt 6 (MlpIdeal.cfgs 0).N, fun c => (MlpIdeal.Mlp.dats m 0 c).arrAt 7 (MlpIdeal.cfgs 0).N,
    θ_run_mono (θ_run_and (mlp_results_run m g) (Cert.MlpIdeal.Mlp.frame_run m g)) (fun _ h c => ⟨(h.1 c).1, (h.1 c).2, h.2.1 c⟩),
    θ_run_mono (Cert.MlpReferenceIdeal.Value.run m' g') (fun _ h c => ⟨(h c).1.trans ?_, (h c).2.1.trans ?_, (h c).2.2⟩)⟩
  · exact (mlp_prompt_eq (hsame c)).trans (MlpIdeal.Mlp.final6 m c).symm
  · exact (mlp_sample_eq (hsame c)).trans (MlpIdeal.Mlp.final7 m c).symm

end Cert.Proof

end
-- ==== Proof.Merge.Run.lean ====
module

public import proofs.«01_k».proof.Proof.Gen.MergeIdeal.Frame
public import proofs.«01_k».proof.Proof.Gen.MergeIdeal.Skeleton
public import Idealize.ShloMosaic.Lib.VecWindow

/-! The body of the kernel that merges the two branches, run once at any grid point. -/

@[expose] public section

set_option maxRecDepth 16384

noncomputable section

namespace Cert.MergeIdeal.Mrg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MergeIdeal Cert.MergeIdeal.Gen

variable {F : FTy → Type} [FloatOps F]

local notation "𝕄" => MT nD τ sig Unit (Elt F) ℕ (UR sig nD τ) ℕ

/-- The condition, in the grid's coordinate. -/
theorem cond1_iff (i : grid0.Coords) : k0_cond1 i = 1#1 ↔ (i 0).val = 0 :=
  (by decide : ∀ a : Fin 32, Scalar.cmpi .ne (Scalar.extui (Scalar.cmpi .eq (BitVec.ofNat 32 a.val) 0#32) : BitVec 32) 0#32 = 1#1 ↔ a.val = 0) (i 0)

/-! ## What the body leaves -/

/-- The upper half of the gates' weights: the first branch's. -/
def lo (x : Vec F S4096x2048 .bf16) : Vec F S2048x2048 .bf16 :=
  View.ld x (Rect.unit (s := S4096x2048) ![0, 0] S2048x2048.size inb_S4096x2048_S2048x2048_0_0)
/-- The lower half: the second branch's. -/
def hi (x : Vec F S4096x2048 .bf16) : Vec F S2048x2048 .bf16 :=
  View.ld x (Rect.unit (s := S4096x2048) ![2048, 0] S2048x2048.size inb_S4096x2048_S2048x2048_2048_0)

/-- The block of prompt rows after the body. -/
def yNew (x0 x1 : Vec F S256x1024 .bf16) (x2 : Vec F S256x2048 .f32) (x6 : Vec F S1x2048 .f32) (x7 : Vec F S4096x2048 .bf16) (x8 x9 : Vec F S1024x2048 .bf16) (x10 : Vec F S2048x2048 .bf16) : Vec F S256x2048 .f32 :=
  k0_pay1 x2 (k0_pay5 x0 x2 x6 (lo x7) x8) (k0_pay6 x1 x2 x6 (hi x7) x9) x10

/-- The block of sample rows, written at the grid's first point. -/
def zVal (x3 x4 : Vec F S16x1024 .bf16) (x5 : Vec F S16x2048 .f32) (x6 : Vec F S1x2048 .f32) (x7 : Vec F S4096x2048 .bf16) (x8 x9 : Vec F S1024x2048 .bf16) (x10 : Vec F S2048x2048 .bf16) : Vec F S16x2048 .f32 :=
  k0_pay2 x5 (k0_pay3 x3 x4 x5 x6 (lo x7) x8 (hi x7) x9) x10

/-- The block of sample rows after the body, from what the buffer held. -/
def zNew (i : grid0.Coords) (x3 x4 : Vec F S16x1024 .bf16) (x5 : Vec F S16x2048 .f32) (x6 : Vec F S1x2048 .f32) (x7 : Vec F S4096x2048 .bf16) (x8 x9 : Vec F S1024x2048 .bf16) (x10 : Vec F S2048x2048 .bf16) (z : Vec F S16x2048 .f32) : Vec F S16x2048 .f32 :=
  if (i 0).val = 0 then zVal x3 x4 x5 x6 x7 x8 x9 x10 else z

/-- A whole-buffer load of a buffer holding `x` reads `x`. -/
theorem rd {s : Shape} {e : EltTy} {sp : Space} {a : Memref sig .tc sp s e} (ha : a.IsWhole) (x : Vec F s e) {off : Fin s.rank → ℕ} (inb : ∀ a, off a + s.size a ≤ s.size a) :
    View.readAt (Elt F) a.view (Rect.unit off s.size inb).toLoadRect (ha.unread x) = x :=
  (View.readAt_full _ _ _).trans (ha.read_unread x)

theorem rd_lo {a : Memref sig .tc .vmem S4096x2048 .bf16} (ha : a.IsWhole) (x : Vec F S4096x2048 .bf16) :
    View.readAt (Elt F) a.view (Rect.unit (s := S4096x2048) ![0, 0] S2048x2048.size inb_S4096x2048_S2048x2048_0_0).toLoadRect (ha.unread x) = lo x := by
  rw [View.readAt_eq_ld, ha.read_unread]
  rfl

theorem rd_hi {a : Memref sig .tc .vmem S4096x2048 .bf16} (ha : a.IsWhole) (x : Vec F S4096x2048 .bf16) :
    View.readAt (Elt F) a.view (Rect.unit (s := S4096x2048) ![2048, 0] S2048x2048.size inb_S4096x2048_S2048x2048_2048_0).toLoadRect (ha.unread x) = hi x := by
  rw [View.readAt_eq_ld, ha.read_unread]
  rfl

set_option maxHeartbeats 1600000 in
/-- The body at any grid point: what it leaves in every buffer it is handed. -/
theorem body_run (c : Dev nD) (i : grid0.Coords) (arg1 : Memref sig .tc .vmem S256x1024 .bf16) (harg1 : arg1.IsWhole) (arg2 : Memref sig .tc .vmem S256x1024 .bf16) (harg2 : arg2.IsWhole) (arg3 : Memref sig .tc .vmem S256x2048 .f32) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S16x2048 .f32) (harg6 : arg6.IsWhole) (arg7 : Memref sig .tc .vmem S1x2048 .f32) (harg7 : arg7.IsWhole) (arg8 : Memref sig .tc .vmem S4096x2048 .bf16) (harg8 : arg8.IsWhole) (arg9 : Memref sig .tc .vmem S1024x2048 .bf16) (harg9 : arg9.IsWhole) (arg10 : Memref sig .tc .vmem S1024x2048 .bf16) (harg10 : arg10.IsWhole) (arg11 : Memref sig .tc .vmem S2048x2048 .bf16) (harg11 : arg11.IsWhole) (arg12 : Memref sig .tc .vmem S256x2048 .f32) (harg12 : arg12.IsWhole) (arg13 : Memref sig .tc .vmem S16x2048 .f32) (harg13 : arg13.IsWhole)
    (x0 : Vec F S256x1024 .bf16) (x1 : Vec F S256x1024 .bf16) (x2 : Vec F S256x2048 .f32) (x3 : Vec F S16x1024 .bf16) (x4 : Vec F S16x1024 .bf16) (x5 : Vec F S16x2048 .f32) (x6 : Vec F S1x2048 .f32) (x7 : Vec F S4096x2048 .bf16) (x8 : Vec F S1024x2048 .bf16) (x9 : Vec F S1024x2048 .bf16) (x10 : Vec F S2048x2048 .bf16) (y : Vec F S256x2048 .f32) (z : Vec F S16x2048 .f32) (E : Set ℕ) (K : PUnit → sProp 𝕄) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare y ∗ owns (c : Thread nD τ) arg13 fullShare z
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (yNew x0 x1 x2 x6 x7 x8 x9 x10) ∗ owns (c : Thread nD τ) arg13 fullShare (zNew i x3 x4 x5 x6 x7 x8 x9 x10 z)) -∗ K ⟨⟩))
          ⊢ wp frame (wpE (defs₀ (F := F)) Variants.none c none) E (cc0__merge_kernel i arg1 harg1 arg2 harg2 arg3 harg3 arg4 harg4 arg5 harg5 arg6 harg6 arg7 harg7 arg8 harg8 arg9 harg9 arg10 harg10 arg11 harg11 arg12 harg12 arg13 harg13) K := by
    simp only [cc0__merge_kernel_eq_skeleton]; unfold cc0__merge_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    rcases (by by_cases h : (i 0).val = 0
               · exact .inl ⟨h, (cond1_iff i).mpr h⟩
               · exact .inr ⟨h, fun e => h ((cond1_iff i).mp e)⟩ : ((i 0).val = 0 ∧ k0_cond1 i = 1#1) ∨ (¬(i 0).val = 0 ∧ ¬k0_cond1 i = 1#1)) with ⟨hi0, h1⟩ | ⟨hi0, h1⟩
    all_goals
      sl_exec
      sl_step
      iapply Hk
      isplitl [H0]
      · iexists _; isplitr; swap; · iexact H0
        ipureintro; exact harg1.read_unread _
      isplitl [H1]
      · iexists _; isplitr; swap; · iexact H1
        ipureintro; exact harg2.read_unread _
      isplitl [H2]
      · iexists _; isplitr; swap; · iexact H2
        ipureintro; exact harg3.read_unread _
      isplitl [H3]
      · iexists _; isplitr; swap; · iexact H3
        ipureintro; exact harg4.read_unread _
      isplitl [H4]
      · iexists _; isplitr; swap; · iexact H4
        ipureintro; exact harg5.read_unread _
      isplitl [H5]
      · iexists _; isplitr; swap; · iexact H5
        ipureintro; exact harg6.read_unread _
      isplitl [H6]
      · iexists _; isplitr; swap; · iexact H6
        ipureintro; exact harg7.read_unread _
      isplitl [H7]
      · iexists _; isplitr; swap; · iexact H7
        ipureintro; exact harg8.read_unread _
      isplitl [H8]
      · iexists _; isplitr; swap; · iexact H8
        ipureintro; exact harg9.read_unread _
      isplitl [H9]
      · iexists _; isplitr; swap; · iexact H9
        ipureintro; exact harg10.read_unread _
      isplitl [H10]
      · iexists _; isplitr; swap; · iexact H10
        ipureintro; exact harg11.read_unread _
      isplitl [H11]
      · iexists _; isplitr; swap; · iexact H11
        ipureintro
        refine (View.read_writes_full _ _ _ _ _).trans ?_
        rw [yNew]
        refine congr (congr (congr (congrArg k0_pay1 (rd harg3 x2 _)) ?_) ?_) (rd harg11 x10 _)
        · exact congr (congr (congr (congr (congrArg k0_pay5 (rd harg1 x0 _)) (rd harg3 x2 _)) (rd harg7 x6 _)) (rd_lo harg8 x7)) (rd harg9 x8 _)
        · exact congr (congr (congr (congr (congrArg k0_pay6 (rd harg2 x1 _)) (rd harg3 x2 _)) (rd harg7 x6 _)) (rd_hi harg8 x7)) (rd harg10 x9 _)
      iexists _; isplitr; swap; · iexact H12
      ipureintro
    · rw [zNew, if_pos hi0, zVal]
      refine (View.read_writes_full _ _ _ _ _).trans ?_
      refine congr (congr (congrArg k0_pay2 (rd harg6 x5 _)) ?_) (rd harg11 x10 _)
      exact congr (congr (congr (congr (congr (congr (congr (congrArg k0_pay3 (rd harg4 x3 _)) (rd harg5 x4 _)) (rd harg6 x5 _)) (rd harg7 x6 _)) (rd_lo harg8 x7)) (rd harg9 x8 _)) (rd_hi harg8 x7)) (rd harg10 x9 _)
    · rw [zNew, if_neg hi0]
      exact harg13.read_unread z

end Cert.MergeIdeal.Mrg

end
-- ==== Proof.Merge.Data.lean ====
module

public import proofs.«01_k».proof.Proof.Merge.Run
public import Idealize.ShloMosaic.Lib.Claim

/-! The merging kernel's run over its grid: what the two results' buffers hold after every point. -/

@[expose] public section

set_option maxRecDepth 16384

noncomputable section

namespace Cert.MergeIdeal.Mrg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.MergeIdeal Cert.MergeIdeal.Gen
open Idealize.ShloMosaic.Pipeline (Dat Cfg Window BodyObligation)

variable {F : FTy → Type} [FloatOps F]

local notation "𝕄" => MT nD τ sig Unit (Elt F) ℕ (UR sig nD τ) ℕ

theorem coords_0 : ∀ t : Fin cfg0.N, (grid0.coords t 0).val = t.val := by decide +kernel

/-- The grid's first point. -/
def pt0 : Fin cfg0.N := ⟨0, Nat.lt_of_lt_of_eq (by decide) N_0.symm⟩

variable (m : (ℓ : Loc nD τ sig) → Buf (Elt F) ℓ) (ρ : Dev nD → PrngReg)

/-! ## The buffers after each point -/

/-- The block of prompt rows after point `t`. -/
def yAt (c : Dev nD) (t : Fin cfg0.N) : Vec F S256x2048 .f32 :=
  yNew (iblk m c 0 t) (iblk m c 1 t) (iblk m c 2 t) (iblk m c 6 t) (iblk m c 7 t) (iblk m c 8 t) (iblk m c 9 t) (iblk m c 10 t)

/-- The block of sample rows after point `t`, from what the buffer held before. -/
def zAt (c : Dev nD) (t : Fin cfg0.N) (z : Vec F S16x2048 .f32) : Vec F S16x2048 .f32 :=
  zNew (grid0.coords t) (iblk m c 3 t) (iblk m c 4 t) (iblk m c 5 t) (iblk m c 6 t) (iblk m c 7 t) (iblk m c 8 t) (iblk m c 9 t) (iblk m c 10 t) z

/-- The block of sample rows from the first point on. -/
def zFin (c : Dev nD) : Vec F S16x2048 .f32 :=
  zVal (iblk m c 3 pt0) (iblk m c 4 pt0) (iblk m c 5 pt0) (iblk m c 6 pt0) (iblk m c 7 pt0) (iblk m c 8 pt0) (iblk m c 9 pt0) (iblk m c 10 pt0)

theorem zAt_zero (c : Dev nD) (t : Fin cfg0.N) (ht : t.val = 0) (z : Vec F S16x2048 .f32) : zAt m c t z = zFin m c := by
  obtain rfl : t = pt0 := Fin.ext ht
  unfold zAt zFin
  exact if_pos (coords_0 pt0)

theorem zAt_later (c : Dev nD) (t : Fin cfg0.N) (ht : t.val ≠ 0) (z : Vec F S16x2048 .f32) : zAt m c t z = z := by
  unfold zAt
  exact if_neg fun e => ht ((coords_0 t).symm.trans e)

/-! ## The proof data -/

/-- What each window's buffer holds after the body at a point. -/
def after0 (c : Dev nD) (w : Fin cfg0.W) (t : Fin cfg0.N) : ((cfg0.win w).block).Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => iblk m c 6 t
  | ⟨7, _⟩ => iblk m c 7 t
  | ⟨8, _⟩ => iblk m c 8 t
  | ⟨9, _⟩ => iblk m c 9 t
  | ⟨10, _⟩ => iblk m c 10 t
  | ⟨11, _⟩ => yAt m c t
  | ⟨12, _⟩ => zFin m c

/-- The proof data of the pipeline: nothing is carried from point to point. -/
def dats : (p : Fin 1) → (c : Dev nD) → Dat τ (Elt F) Unit ℕ (UR sig nD τ) ℕ (cfgs p) c := fun _ c =>
  { A := fun w => V m c (Pipeline.arrRef spec0 w)
    after := after0 m c
    Φ := fun _ => Pipeline.ΦA spec0 c
    q := fun _ => fullShare
    owed := fun _ => 0 }

theorem A_eq (c : Dev nD) (w : Fin cfg0.W) : (dats m 0 c).A w = V m c (Pipeline.arrRef spec0 w) := rfl

theorem after_0 (c : Dev nD) (t : Fin cfg0.N) : (dats m 0 c).after 0 t = iblk m c 0 t := rfl
theorem after_1 (c : Dev nD) (t : Fin cfg0.N) : (dats m 0 c).after 1 t = iblk m c 1 t := rfl
theorem after_2 (c : Dev nD) (t : Fin cfg0.N) : (dats m 0 c).after 2 t = iblk m c 2 t := rfl
theorem after_3 (c : Dev nD) (t : Fin cfg0.N) : (dats m 0 c).after 3 t = iblk m c 3 t := rfl
theorem after_4 (c : Dev nD) (t : Fin cfg0.N) : (dats m 0 c).after 4 t = iblk m c 4 t := rfl
theorem after_5 (c : Dev nD) (t : Fin cfg0.N) : (dats m 0 c).after 5 t = iblk m c 5 t := rfl
theorem after_6 (c : Dev nD) (t : Fin cfg0.N) : (dats m 0 c).after 6 t = iblk m c 6 t := rfl
theorem after_7 (c : Dev nD) (t : Fin cfg0.N) : (dats m 0 c).after 7 t = iblk m c 7 t := rfl
theorem after_8 (c : Dev nD) (t : Fin cfg0.N) : (dats m 0 c).after 8 t = iblk m c 8 t := rfl
theorem after_9 (c : Dev nD) (t : Fin cfg0.N) : (dats m 0 c).after 9 t = iblk m c 9 t := rfl
theorem after_10 (c : Dev nD) (t : Fin cfg0.N) : (dats m 0 c).after 10 t = iblk m c 10 t := rfl
theorem after_11 (c : Dev nD) (t : Fin cfg0.N) : (dats m 0 c).after 11 t = yAt m c t := rfl
theorem after_12 (c : Dev nD) (t : Fin cfg0.N) : (dats m 0 c).after 12 t = zFin m c := rfl
theorem before_0 (c : Dev nD) (t : Fin cfg0.N) (d) : (dats m 0 c).before 0 t d = iblk m c 0 t :=
  before0_0_of m (dats m 0 c) (A_eq m c 0) (fun t => after_0 m c t) t d
theorem before_1 (c : Dev nD) (t : Fin cfg0.N) (d) : (dats m 0 c).before 1 t d = iblk m c 1 t :=
  before0_1_of m (dats m 0 c) (A_eq m c 1) (fun t => after_1 m c t) t d
theorem before_2 (c : Dev nD) (t : Fin cfg0.N) (d) : (dats m 0 c).before 2 t d = iblk m c 2 t :=
  before0_2_of m (dats m 0 c) (A_eq m c 2) (fun t => after_2 m c t) t d
theorem before_3 (c : Dev nD) (t : Fin cfg0.N) (d) : (dats m 0 c).before 3 t d = iblk m c 3 t :=
  before0_3_of m (dats m 0 c) (A_eq m c 3) (fun t => after_3 m c t) t d
theorem before_4 (c : Dev nD) (t : Fin cfg0.N) (d) : (dats m 0 c).before 4 t d = iblk m c 4 t :=
  before0_4_of m (dats m 0 c) (A_eq m c 4) (fun t => after_4 m c t) t d
theorem before_5 (c : Dev nD) (t : Fin cfg0.N) (d) : (dats m 0 c).before 5 t d = iblk m c 5 t :=
  before0_5_of m (dats m 0 c) (A_eq m c 5) (fun t => after_5 m c t) t d
theorem before_6 (c : Dev nD) (t : Fin cfg0.N) (d) : (dats m 0 c).before 6 t d = iblk m c 6 t :=
  before0_6_of m (dats m 0 c) (A_eq m c 6) (fun t => after_6 m c t) t d
theorem before_7 (c : Dev nD) (t : Fin cfg0.N) (d) : (dats m 0 c).before 7 t d = iblk m c 7 t :=
  before0_7_of m (dats m 0 c) (A_eq m c 7) (fun t => after_7 m c t) t d
theorem before_8 (c : Dev nD) (t : Fin cfg0.N) (d) : (dats m 0 c).before 8 t d = iblk m c 8 t :=
  before0_8_of m (dats m 0 c) (A_eq m c 8) (fun t => after_8 m c t) t d
theorem before_9 (c : Dev nD) (t : Fin cfg0.N) (d) : (dats m 0 c).before 9 t d = iblk m c 9 t :=
  before0_9_of m (dats m 0 c) (A_eq m c 9) (fun t => after_9 m c t) t d
theorem before_10 (c : Dev nD) (t : Fin cfg0.N) (d) : (dats m 0 c).before 10 t d = iblk m c 10 t :=
  before0_10_of m (dats m 0 c) (A_eq m c 10) (fun t => after_10 m c t) t d

theorem idle_12 (t : Fin cfg0.N) : cfg0.idle 12 (cfg0.grid.coords t) = true ↔ 1 ≤ t.val := by
  revert t
  decide +kernel

/-- The block of sample rows as the body finds it after the first point. -/
theorem before_12 (c : Dev nD) (d) (n : ℕ) (hn : n + 1 < cfg0.N) : (dats m 0 c).before 12 ⟨n + 1, hn⟩ d = zFin m c := by
  induction n with
  | zero =>
    have hfl : (cfg0.win 12).flush ⟨0, Nat.lt_of_succ_lt hn⟩ = false := Bool.eq_false_iff.mpr fun hf => absurd ((flush0_12 _).mp hf) (by show ¬0 % 32 = 31; decide)
    have hi : cfg0.idle 12 (cfg0.grid.coords ⟨0, Nat.lt_of_succ_lt hn⟩) = false := Bool.eq_false_iff.mpr fun e => absurd ((idle_12 _).mp e) (by show ¬1 ≤ 0; decide)
    rw [(dats m 0 c).before_of_pos 12 ⟨0 + 1, hn⟩ (Nat.succ_ne_zero 0) ((cfg0.win 12).fetch_out rfl _) d]
    show (if (cfg0.win 12).flush ⟨0, Nat.lt_of_succ_lt hn⟩ = true then d else (dats m 0 c).left 12 ⟨0, Nat.lt_of_succ_lt hn⟩ d) = _
    rw [hfl, if_neg Bool.false_ne_true]
    unfold Dat.left
    rw [hi]
    rfl
  | succ n ih =>
    have hl : n + 1 < cfg0.N := Nat.lt_of_succ_lt hn
    have hfl : (cfg0.win 12).flush ⟨n + 1, hl⟩ = false := by
      rw [Bool.eq_false_iff]
      intro hf
      have := (flush0_12 _).mp hf
      have hN : n + 1 + 1 < 32 := Nat.lt_of_lt_of_eq hn N_0
      dsimp only at this
      omega
    rw [(dats m 0 c).before_of_pos 12 ⟨n + 1 + 1, hn⟩ (Nat.succ_ne_zero _) ((cfg0.win 12).fetch_out rfl _) d]
    show (if (cfg0.win 12).flush ⟨n + 1, hl⟩ = true then d else (dats m 0 c).left 12 ⟨n + 1, hl⟩ d) = _
    rw [hfl, if_neg Bool.false_ne_true]
    unfold Dat.left
    rw [(idle_12 ⟨n + 1, hl⟩).mpr (Nat.succ_le_succ (Nat.zero_le n))]
    exact ih hl

/-- The block of sample rows as the body finds it, run through the body. -/
theorem step_12 (c : Dev nD) (t : Fin cfg0.N) (d) : zAt m c t ((dats m 0 c).before 12 t d) = zFin m c := by
  obtain ⟨n, hn⟩ := t
  cases n with
  | zero => exact zAt_zero m c _ rfl _
  | succ n => rw [before_12]; exact zAt_later m c ⟨n + 1, hn⟩ (Nat.succ_ne_zero n) _

/-- What the body owes of the last window's buffer: at a point that leaves it alone and does not write it back, what it found. -/
def owe12 (c : Dev nD) (t : Fin cfg0.N) : sProp 𝕄 :=
  match cfg0.idle 12 (cfg0.grid.coords t) with
  | true =>
    match (cfg0.win 12).flush t with
    | false => iprop(∃ d, owns (c : Thread nD τ) (st0_12 t) fullShare ((dats m 0 c).before 12 t d))
    | true => owns (c : Thread nD τ) (st0_12 t) fullShare ((dats m 0 c).after 12 t)
  | false => owns (c : Thread nD τ) (st0_12 t) fullShare ((dats m 0 c).after 12 t)

theorem owe12_of (c : Dev nD) (t : Fin cfg0.N) (d) :
    owns (c : Thread nD τ) (st0_12 t) fullShare (zAt m c t ((dats m 0 c).before 12 t d)) ⊢ owe12 m c t := by
  unfold owe12
  by_cases h1 : 1 ≤ t.val
  · rw [(idle_12 t).mpr h1]
    cases (cfg0.win 12).flush t
    · rw [zAt_later m c t (Nat.pos_iff_ne_zero.mp h1)]
      iintro H
      iexists d
      iexact H
    · rw [step_12, after_12]
  · rw [Bool.eq_false_iff.mpr fun e => h1 ((idle_12 t).mp e), step_12]
    rfl

/-- What the body is handed at a point. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)))

/-- What the body hands back. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owe12 m c t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).owesAt () t.succ = (dats m 0 c).owesAt () t.castSucc from rfl,
    show (dats m 0 c).Φ t.succ = (dats m 0 c).Φ t.castSucc from rfl,
    after_0, after_1, after_2, after_3, after_4, after_5, after_6, after_7, after_8, after_9, after_10, after_11]
  iintro ⟨S0, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 11 t d11) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  rw [show yNew (iblk m c 0 t) (iblk m c 1 t) (iblk m c 2 t) (iblk m c 6 t) (iblk m c 7 t) (iblk m c 8 t) (iblk m c 9 t) (iblk m c 10 t) = yAt m c t from rfl]
  iintro ⟨H0, H1, H2, H3, H4, H5, H6, H7, H8, H9, H10, H11, H12⟩
  isplitl [S0]; · iexact S0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (owe12_of m c t d12)
  iexact H12

set_option maxHeartbeats 1000000 in
theorem body_obligation (c : Dev nD) : BodyObligation (dats m 0 c) (defs₀ (F := F)) Variants.none () Set.univ := by
  intro t
  rw [bigSep_W0, bigSep_W0]
  exact triple_restated (sound_body m c t) rfl .rfl fun _ => .rfl

set_option backward.isDefEq.respectTransparency.types false in
/-- Every run of the program ends, with the arrays at what the grid's write-backs leave and every semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun c => .rfl)
    (hout := fun c => .rfl)

/-- The run with the arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
    ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.MergeIdeal.Mrg

end
-- ==== Proof.Merge.Frames.lean ====
module

public import proofs.«01_k».proof.Defs
public import proofs.«01_k».proof.Proof.Gen.Merge
public import proofs.«01_k».proof.Proof.Merge.Data
public import proofs.«01_k».proof.Proof.Gen.MergeReferenceIdeal.Run

/-! The merging call's frames: the kernel at both readings by one run, the reference by its run. -/

@[expose] public section

set_option maxRecDepth 16384

noncomputable section

namespace Cert.Proof

open Idealize.ShloMosaic Idealize.SL.Sem

instance merge_facts : Cert.Merge.Facts := Cert.Merge.Gen.facts
instance mergeIdeal_facts : Cert.MergeIdeal.Facts := Cert.MergeIdeal.Gen.facts
instance mergeReference_facts : Cert.MergeReferenceIdeal.Facts := Cert.MergeReferenceIdeal.Gen.facts

theorem merge_frame_ideal : quiescent_MergeIdeal := fun m g _ => Cert.MergeIdeal.Mrg.frame_run m g

/-- The two printed body tables are one. -/
theorem merge_bodies_same : @Cert.Merge.defs₀ Bits _ _ = @Cert.MergeIdeal.defs₀ Bits _ _ := by
  unfold Cert.Merge.defs₀ Cert.MergeIdeal.defs₀
  refine congrArg Defs.onTc (funext fun b => funext fun a => ?_)
  match b, a with
  | 0, (t, s) => rfl
  | ⟨_ + 1, h⟩, _ => exact absurd h (Nat.not_lt.2 (Nat.le_add_left _ _))

theorem merge_defs_same : @Cert.Merge.defs Bits _ _ = @Cert.MergeIdeal.defs Bits _ _ :=
  congrArg (Pipeline.defs (Cert.Merge.pcfgs (F := Bits))) merge_bodies_same

theorem merge_frame_bits : quiescent_Merge := fun m g _ => by
  rw [merge_defs_same]
  exact Cert.MergeIdeal.Mrg.frame_run (F := Bits) m g

theorem merge_frame_ref : quiescent_MergeReferenceIdeal := fun m g _ =>
  (θ_run Cert.MergeReferenceIdeal.defs _ _).mono
    (fun r h => ⟨fun c => (h c).2.2, sem_eq_zero_of_no_sems (by decide) r.2⟩) (Cert.MergeReferenceIdeal.Value.run m g)

end Cert.Proof

end
-- ==== Proof.Merge.Pay.lean ====
module

public import proofs.«01_k».proof.Proof.Merge.Data
public import proofs.«01_k».proof.Proof.Mlp.Pay
public import Idealize.ShloMosaic.Lib.Pointwise
public import Idealize.ShloMosaic.PureOps.Ideal

/-! The merge over extended reals, row by row, and the kernel's block operations at an index. -/

@[expose] public section

set_option maxRecDepth 16384

noncomputable section

namespace Cert.MergeSpec

open Idealize.ShloMosaic
open Cert.MlpSpec (nrm)

/-- One branch of a row: its projection into the model's width, times the sigmoid of the normed row's gate. -/
def gated (x g : Fin 2048 → EReal) (w : Fin 2048 → Fin 2048 → EReal) (o : Fin 1024 → EReal) (u : Fin 1024 → Fin 2048 → EReal) (f : Fin 2048) : EReal :=
  Ideal.logistic (∑ k, nrm x g k * w k f) * ∑ k, o k * u k f

/-- A row with its two gated branches, summed and projected, added. -/
def merged (x g : Fin 2048 → EReal) (wa wb : Fin 2048 → Fin 2048 → EReal) (oa ob : Fin 1024 → EReal) (ua ub : Fin 1024 → Fin 2048 → EReal)
    (wo : Fin 2048 → Fin 2048 → EReal) (d : Fin 2048) : EReal :=
  x d + ∑ f, (gated x g wa oa ua f + gated x g wb ob ub f) * wo f d

end Cert.MergeSpec

namespace Cert.MergeIdeal.Mrg

open Idealize.ShloMosaic
open Cert.MergeIdeal Cert.MergeIdeal.Gen Cert.MergeSpec Cert.MlpSpec

theorem lo_at (w : Vec Ideal S4096x2048 .bf16) (f k : Fin 2048) : lo w (ix2 f k) = w (ix2 ⟨f.val, by omega⟩ k) := by
  unfold lo
  pointwise

theorem hi_at (w : Vec Ideal S4096x2048 .bf16) (f k : Fin 2048) : hi w (ix2 f k) = w (ix2 ⟨2048 + f.val, by omega⟩ k) := by
  unfold hi
  pointwise

theorem pay4_at (x : Vec Ideal S256x2048 .f32) (g : Vec Ideal S1x2048 .f32) (r : Fin 256) (d : Fin 2048) :
    k0_pay4 (F := Ideal) x g (ix2 r d) = nrm (fun k => x (ix2 r k)) (fun k => g (ix2 0 k)) d := by
  unfold nrm
  pointwise [k0_pay4]

theorem pay5_at (o : Vec Ideal S256x1024 .bf16) (x : Vec Ideal S256x2048 .f32) (g : Vec Ideal S1x2048 .f32) (w : Vec Ideal S2048x2048 .bf16) (u : Vec Ideal S1024x2048 .bf16)
    (r : Fin 256) (f : Fin 2048) :
    k0_pay5 (F := Ideal) o x g w u (ix2 r f)
      = gated (fun k => x (ix2 r k)) (fun k => g (ix2 0 k)) (fun k f => w (ix2 f k)) (fun k => o (ix2 r k)) (fun k f => u (ix2 k f)) f := by
  unfold gated
  simp only [← pay4_at]
  unfold k0_pay5
  generalize k0_pay4 (F := Ideal) x g = p
  pointwise

theorem pay6_at (o : Vec Ideal S256x1024 .bf16) (x : Vec Ideal S256x2048 .f32) (g : Vec Ideal S1x2048 .f32) (w : Vec Ideal S2048x2048 .bf16) (u : Vec Ideal S1024x2048 .bf16)
    (r : Fin 256) (f : Fin 2048) :
    k0_pay6 (F := Ideal) o x g w u (ix2 r f)
      = gated (fun k => x (ix2 r k)) (fun k => g (ix2 0 k)) (fun k f => w (ix2 f k)) (fun k => o (ix2 r k)) (fun k f => u (ix2 k f)) f := by
  unfold gated
  simp only [← pay4_at]
  unfold k0_pay6
  generalize k0_pay4 (F := Ideal) x g = p
  pointwise

theorem pay1_at (x a b : Vec Ideal S256x2048 .f32) (w : Vec Ideal S2048x2048 .bf16) (r : Fin 256) (d : Fin 2048) :
    k0_pay1 (F := Ideal) x a b w (ix2 r d) = x (ix2 r d) + ∑ f : Fin 2048, (a (ix2 r f) + b (ix2 r f)) * w (ix2 f d) := by
  pointwise [k0_pay1]

theorem pay2_at (x a : Vec Ideal S16x2048 .f32) (w : Vec Ideal S2048x2048 .bf16) (r : Fin 16) (d : Fin 2048) :
    k0_pay2 (F := Ideal) x a w (ix2 r d) = x (ix2 r d) + ∑ f : Fin 2048, a (ix2 r f) * w (ix2 f d) := by
  pointwise [k0_pay2]

theorem pay3_at (oa ob : Vec Ideal S16x1024 .bf16) (x : Vec Ideal S16x2048 .f32) (g : Vec Ideal S1x2048 .f32) (wa : Vec Ideal S2048x2048 .bf16) (ua : Vec Ideal S1024x2048 .bf16)
    (wb : Vec Ideal S2048x2048 .bf16) (ub : Vec Ideal S1024x2048 .bf16) (r : Fin 16) (f : Fin 2048) :
    k0_pay3 (F := Ideal) oa ob x g wa ua wb ub (ix2 r f)
      = gated (fun k => x (ix2 r k)) (fun k => g (ix2 0 k)) (fun k f => wa (ix2 f k)) (fun k => oa (ix2 r k)) (fun k f => ua (ix2 k f)) f
        + gated (fun k => x (ix2 r k)) (fun k => g (ix2 0 k)) (fun k f => wb (ix2 f k)) (fun k => ob (ix2 r k)) (fun k f => ub (ix2 k f)) f := by
  unfold gated nrm
  pointwise [k0_pay3]

end Cert.MergeIdeal.Mrg

end
-- ==== Proof.Merge.KVal.lean ====
module

public import proofs.«01_k».proof.Proof.Merge.Pay
public import Idealize.ShloMosaic.Lib.Pipeline.ValueKit
public import Idealize.ShloMosaic.Lib.StableHlo.RunRead

/-! The blocks the merging kernel reads, at an index, and its results, over the arguments. -/

@[expose] public section

set_option maxRecDepth 16384

noncomputable section

namespace Cert.MergeIdeal.Mrg

open Idealize.ShloMosaic Idealize.ShloMosaic.TcCoe Idealize.ShloMosaic.Tactic
open Idealize.ShloMosaic.StableHlo
open Cert.MergeIdeal Cert.MergeIdeal.Gen Cert.MergeSpec Cert.MlpSpec

variable (m : (ℓ : Loc nD τ sig) → Buf (Elt Ideal) ℓ) (c : Dev nD)

/-- The first branch's output, prompt rows. -/
def OA : FVec Ideal S8192x1024 .f32 := m ((c.tc : Thread nD τ).loc main_arg0)
/-- The second branch's output, prompt rows. -/
def OB : FVec Ideal S8192x1024 .f32 := m ((c.tc : Thread nD τ).loc main_arg1)
/-- The prompt rows. -/
def X : FVec Ideal S8192x2048 .f32 := m ((c.tc : Thread nD τ).loc main_arg2)
/-- The first branch's output, sample rows. -/
def OAs : FVec Ideal S16x1024 .f32 := m ((c.tc : Thread nD τ).loc main_arg3)
/-- The second branch's output, sample rows. -/
def OBs : FVec Ideal S16x1024 .f32 := m ((c.tc : Thread nD τ).loc main_arg4)
/-- The sample rows. -/
def Xs : FVec Ideal S16x2048 .f32 := m ((c.tc : Thread nD τ).loc main_arg5)
/-- The norm's scale. -/
def G : FVec Ideal S2048 .f32 := m ((c.tc : Thread nD τ).loc main_arg6)
/-- The weights out of the normed row; the gates' columns are the last 4096. -/
def Win : FVec Ideal S2048x9792 .f32 := m ((c.tc : Thread nD τ).loc main_arg7)
/-- The first branch's projection. -/
def UA : FVec Ideal S1024x2048 .f32 := m ((c.tc : Thread nD τ).loc main_arg8)
/-- The second branch's projection. -/
def UB : FVec Ideal S1024x2048 .f32 := m ((c.tc : Thread nD τ).loc main_arg9)
/-- The output projection. -/
def WO : FVec Ideal S2048x2048 .f32 := m ((c.tc : Thread nD τ).loc main_arg10)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![5696, 0]
    ∧ win0_8.index t = ![0, 0] ∧ win0_9.index t = ![0, 0] ∧ win0_10.index t = ![0, 0] ∧ win0_11.index t = ![t.val, 0] ∧ win0_12.index t = ![0, 0] :=
  (by decide +kernel : ∀ t : Fin grid0.N, _)

theorem lt32 (t : Fin cfg0.N) : t.val < 32 := Nat.lt_of_lt_of_eq t.isLt N_0

/-- A prompt row of a grid point's block. -/
def rowOf (t : Fin cfg0.N) (r : Fin 256) : Fin 8192 := ⟨256 * t.val + r.val, by have := lt32 t; omega⟩

theorem blk0 (t : Fin cfg0.N) (r : Fin 256) (k : Fin 1024) : (iblk m c 0 t : FVec Ideal S256x1024 .bf16) (ix2 r k) = OA m c (ix2 (rowOf t r) k) := by
  have e : (win0_0.blk t).view.emb (ix2 r k) = (ix2 (rowOf t r) k : S8192x1024.Idx) := by
    blk_ext [idx t, rowOf]
  blk_simp [iblk]
  rw [e]
  entry_read
  rfl

theorem blk1 (t : Fin cfg0.N) (r : Fin 256) (k : Fin 1024) : (iblk m c 1 t : FVec Ideal S256x1024 .bf16) (ix2 r k) = OB m c (ix2 (rowOf t r) k) := by
  have e : (win0_1.blk t).view.emb (ix2 r k) = (ix2 (rowOf t r) k : S8192x1024.Idx) := by
    blk_ext [idx t, rowOf]
  blk_simp [iblk]
  rw [e]
  entry_read
  rfl

theorem blk2 (t : Fin cfg0.N) (r : Fin 256) (k : Fin 2048) : (iblk m c 2 t : FVec Ideal S256x2048 .f32) (ix2 r k) = X m c (ix2 (rowOf t r) k) := by
  have e : (win0_2.blk t).view.emb (ix2 r k) = (ix2 (rowOf t r) k : S8192x2048.Idx) := by
    blk_ext [idx t, rowOf]
  blk_simp [iblk]
  rw [e]
  entry_read
  rfl

theorem blk3 (t : Fin cfg0.N) (r : Fin 16) (k : Fin 1024) : (iblk m c 3 t : FVec Ideal S16x1024 .bf16) (ix2 r k) = OAs m c (ix2 r k) := by
  have e : (win0_3.blk t).view.emb (ix2 r k) = (ix2 r k : S16x1024.Idx) := by
    blk_ext [idx t]
  blk_simp [iblk]
  rw [e]
  entry_read
  rfl

theorem blk4 (t : Fin cfg0.N) (r : Fin 16) (k : Fin 1024) : (iblk m c 4 t : FVec Ideal S16x1024 .bf16) (ix2 r k) = OBs m c (ix2 r k) := by
  have e : (win0_4.blk t).view.emb (ix2 r k) = (ix2 r k : S16x1024.Idx) := by
    blk_ext [idx t]
  blk_simp [iblk]
  rw [e]
  entry_read
  rfl

theorem blk5 (t : Fin cfg0.N) (r : Fin 16) (k : Fin 2048) : (iblk m c 5 t : FVec Ideal S16x2048 .f32) (ix2 r k) = Xs m c (ix2 r k) := by
  have e : (win0_5.blk t).view.emb (ix2 r k) = (ix2 r k : S16x2048.Idx) := by
    blk_ext [idx t]
  blk_simp [iblk]
  rw [e]
  entry_read
  rfl

theorem blk6 (t : Fin cfg0.N) (k : Fin 2048) : (iblk m c 6 t : FVec Ideal S1x2048 .f32) (ix2 0 k) = G m c (ix1 k) := by
  have e : (win0_6.blk t).view.emb (ix2 0 k) = (ix2 0 k : S1x2048.Idx) := by
    blk_ext [idx t]
  blk_simp [iblk]
  rw [e]
  entry_read
  pointwise
  rfl

theorem emb7 (t : Fin cfg0.N) (r : Fin 4096) (k : Fin 2048) : (win0_7.blk t).view.emb (ix2 r k) = (ix2 (⟨5696 + r.val, by omega⟩ : Fin 9792) k : S9792x2048.Idx) := by
  have h0 := Pipeline.Window.rect_emb_val_off win0_7 t (ix2 r k)
  funext a
  fin_cases a
  · refine Fin.ext ((h0 0).trans ?_)
    rfl
  · refine Fin.ext ((h0 1).trans ?_)
    show 0 + k.val = k.val
    omega

theorem blk7 (t : Fin cfg0.N) (r : Fin 4096) (k : Fin 2048) : (iblk m c 7 t : FVec Ideal S4096x2048 .bf16) (ix2 r k) = Win m c (ix2 k ⟨5696 + r.val, by omega⟩) := by
  have e := emb7 t r k
  blk_simp [iblk]
  rw [e]
  entry_read
  pointwise
  rfl

theorem blk8 (t : Fin cfg0.N) (r : Fin 1024) (k : Fin 2048) : (iblk m c 8 t : FVec Ideal S1024x2048 .bf16) (ix2 r k) = UA m c (ix2 r k) := by
  have e : (win0_8.blk t).view.emb (ix2 r k) = (ix2 r k : S1024x2048.Idx) := by
    blk_ext [idx t]
  blk_simp [iblk]
  rw [e]
  entry_read
  rfl

theorem blk9 (t : Fin cfg0.N) (r : Fin 1024) (k : Fin 2048) : (iblk m c 9 t : FVec Ideal S1024x2048 .bf16) (ix2 r k) = UB m c (ix2 r k) := by
  have e : (win0_9.blk t).view.emb (ix2 r k) = (ix2 r k : S1024x2048.Idx) := by
    blk_ext [idx t]
  blk_simp [iblk]
  rw [e]
  entry_read
  rfl

theorem blk10 (t : Fin cfg0.N) (r : Fin 2048) (k : Fin 2048) : (iblk m c 10 t : FVec Ideal S2048x2048 .bf16) (ix2 r k) = WO m c (ix2 r k) := by
  have e : (win0_10.blk t).view.emb (ix2 r k) = (ix2 r k : S2048x2048.Idx) := by
    blk_ext [idx t]
  blk_simp [iblk]
  rw [e]
  entry_read
  rfl

/-- A prompt row merged. -/
abbrev mergedRow (r : Fin 8192) (d : Fin 2048) : EReal :=
  merged (fun k => X m c (ix2 r k)) (fun k => G m c (ix1 k)) (fun k f => Win m c (ix2 k ⟨5696 + f.val, by omega⟩)) (fun k f => Win m c (ix2 k ⟨5696 + (2048 + f.val), by omega⟩))
    (fun k => OA m c (ix2 r k)) (fun k => OB m c (ix2 r k)) (fun k f => UA m c (ix2 k f)) (fun k f => UB m c (ix2 k f)) (fun f e => WO m c (ix2 f e)) d

/-- A sample row merged. -/
abbrev mergedSample (r : Fin 16) (d : Fin 2048) : EReal :=
  merged (fun k => Xs m c (ix2 r k)) (fun k => G m c (ix1 k)) (fun k f => Win m c (ix2 k ⟨5696 + f.val, by omega⟩)) (fun k f => Win m c (ix2 k ⟨5696 + (2048 + f.val), by omega⟩))
    (fun k => OAs m c (ix2 r k)) (fun k => OBs m c (ix2 r k)) (fun k f => UA m c (ix2 k f)) (fun k f => UB m c (ix2 k f)) (fun f e => WO m c (ix2 f e)) d

theorem gate_lo (t : Fin cfg0.N) (f k : Fin 2048) : lo (iblk m c 7 t : FVec Ideal S4096x2048 .bf16) (ix2 f k) = Win m c (ix2 k ⟨5696 + f.val, by omega⟩) :=
  (lo_at _ f k).trans (blk7 m c t _ k)

theorem gate_hi (t : Fin cfg0.N) (f k : Fin 2048) : hi (iblk m c 7 t : FVec Ideal S4096x2048 .bf16) (ix2 f k) = Win m c (ix2 k ⟨5696 + (2048 + f.val), by omega⟩) :=
  (hi_at _ f k).trans (blk7 m c t _ k)

theorem y_at (t : Fin cfg0.N) (r : Fin 256) (d : Fin 2048) : yAt m c t (ix2 r d) = mergedRow m c (rowOf t r) d := by
  unfold yAt yNew
  refine (pay1_at _ _ _ _ r d).trans ?_
  unfold mergedRow merged
  refine congrArg₂ (· + ·) (blk2 m c t r d) (Finset.sum_congr rfl fun f _ => congrArg₂ (· * ·) (congrArg₂ (· + ·) ?_ ?_) (blk10 m c t f d))
  · refine (pay5_at _ _ _ _ _ r f).trans ?_
    simp only [blk0, blk2, blk6, blk8, gate_lo]
  · refine (pay6_at _ _ _ _ _ r f).trans ?_
    simp only [blk1, blk2, blk6, blk9, gate_hi]

theorem z_at (r : Fin 16) (d : Fin 2048) : zFin m c (ix2 r d) = mergedSample m c r d := by
  unfold zFin zVal
  refine (pay2_at _ _ _ r d).trans ?_
  unfold mergedSample merged
  refine congrArg₂ (· + ·) (blk5 m c pt0 r d) (Finset.sum_congr rfl fun f _ => congrArg₂ (· * ·) ?_ (blk10 m c pt0 f d))
  refine (pay3_at _ _ _ _ _ _ _ _ r f).trans ?_
  simp only [blk3, blk4, blk5, blk6, blk8, blk9, gate_lo, gate_hi]

/-- The prompt rows' result. -/
def outArr : FVec Ideal S8192x2048 .f32 := fun i => mergedRow m c (i 0) (i 1)

/-- The sample rows' result. -/
def outSample : FVec Ideal S16x2048 .f32 := fun i => mergedSample m c (i 0) (i 1)

theorem final11 : (dats m 0 c).arrAt 11 (cfgs 0).N = outArr m c := by
  refine (dats m 0 c).arrAt_eq_of_covers 11 (outArr m c) (by decide +kernel) fun t hf y => ?_
  obtain ⟨r, d, rfl⟩ : ∃ (r : Fin 256) (d : Fin 2048), y = (ix2 r d : S256x2048.Idx) := ⟨y 0, y 1, by funext i; fin_cases i <;> rfl⟩
  have he : (win0_11.blk t).view.emb (ix2 r d) = (ix2 (rowOf t r) d : S8192x2048.Idx) := by
    blk_ext [idx t, rowOf]
  blk_simp
  exact (y_at m c t r d).trans (congrArg (outArr m c) he).symm

theorem final12 : (dats m 0 c).arrAt 12 (cfgs 0).N = outSample m c := by
  refine (dats m 0 c).arrAt_eq_of_covers 12 (outSample m c) (by decide +kernel) fun t hf y => ?_
  obtain ⟨r, d, rfl⟩ : ∃ (r : Fin 16) (d : Fin 2048), y = (ix2 r d : S16x2048.Idx) := ⟨y 0, y 1, by funext i; fin_cases i <;> rfl⟩
  have he : (win0_12.blk t).view.emb (ix2 r d) = (ix2 r d : S16x2048.Idx) := by
    blk_ext [idx t]
  blk_simp
  exact (z_at m c r d).trans (congrArg (outSample m c) he).symm

end Cert.MergeIdeal.Mrg

end
-- ==== Proof.Merge.RefVal.lean ====
module

public import proofs.«01_k».proof.Proof.Merge.Pay
public import proofs.«01_k».proof.Proof.Gen.MergeReferenceIdeal.Run
public import Idealize.ShloMosaic.Lib.Claim

/-! The merging reference's results at an index. -/

@[expose] public section

set_option maxRecDepth 16384

noncomputable section

namespace Cert.MergeReferenceIdeal.Mrg

open Idealize.ShloMosaic Idealize.ShloMosaic.TcCoe Idealize.SL.Sem
open Cert.MergeReferenceIdeal Cert.MergeReferenceIdeal.Gen Cert.MergeReferenceIdeal.Value Cert.MergeSpec Cert.MlpSpec

/-- The sigmoid as it is spelled out by a negation, an exponential, a sum and a quotient. -/
theorem sigmoid_eq (x : EReal) : Ideal.div (Ideal.ofBits .f32 0x3F800000#32) (Ideal.ofBits .f32 0x3F800000#32 + Ideal.exp (-x)) = Ideal.logistic x := by
  have h1 : Ideal.ofBits .f32 0x3F800000#32 = 1 := by
    simp [Ideal.ofBits, Ideal.ieee, -EReal.coe_mul]
    norm_num
  rw [h1]
  rfl

variable (m : (ℓ : Loc nD τ sig) → Buf (Elt Ideal) ℓ) (c : Dev nD)

/-- The first branch's output, prompt rows. -/
def OA : FVec Ideal S8192x1024 .f32 := m ((c.tc : Thread nD τ).loc main_arg0)
/-- The second branch's output, prompt rows. -/
def OB : FVec Ideal S8192x1024 .f32 := m ((c.tc : Thread nD τ).loc main_arg1)
/-- The prompt rows. -/
def X : FVec Ideal S8192x2048 .f32 := m ((c.tc : Thread nD τ).loc main_arg2)
/-- The first branch's output, sample rows. -/
def OAs : FVec Ideal S16x1024 .f32 := m ((c.tc : Thread nD τ).loc main_arg3)
/-- The second branch's output, sample rows. -/
def OBs : FVec Ideal S16x1024 .f32 := m ((c.tc : Thread nD τ).loc main_arg4)
/-- The sample rows. -/
def Xs : FVec Ideal S16x2048 .f32 := m ((c.tc : Thread nD τ).loc main_arg5)
/-- The norm's scale. -/
def G : FVec Ideal S2048 .f32 := m ((c.tc : Thread nD τ).loc main_arg6)
/-- The weights out of the normed row; the gates' columns are the last 4096. -/
def Win : FVec Ideal S2048x9792 .f32 := m ((c.tc : Thread nD τ).loc main_arg7)
/-- The first branch's projection. -/
def UA : FVec Ideal S1024x2048 .f32 := m ((c.tc : Thread nD τ).loc main_arg8)
/-- The second branch's projection. -/
def UB : FVec Ideal S1024x2048 .f32 := m ((c.tc : Thread nD τ).loc main_arg9)
/-- The output projection. -/
def WO : FVec Ideal S2048x2048 .f32 := m ((c.tc : Thread nD τ).loc main_arg10)

/-- A prompt row merged. -/
abbrev mergedRow (r : Fin 8192) (d : Fin 2048) : EReal :=
  merged (fun k => X m c (ix2 r k)) (fun k => G m c (ix1 k)) (fun k f => Win m c (ix2 k ⟨5696 + f.val, by omega⟩)) (fun k f => Win m c (ix2 k ⟨5696 + (2048 + f.val), by omega⟩))
    (fun k => OA m c (ix2 r k)) (fun k => OB m c (ix2 r k)) (fun k f => UA m c (ix2 k f)) (fun k f => UB m c (ix2 k f)) (fun f e => WO m c (ix2 f e)) d

/-- A sample row merged. -/
abbrev mergedSample (r : Fin 16) (d : Fin 2048) : EReal :=
  merged (fun k => Xs m c (ix2 r k)) (fun k => G m c (ix1 k)) (fun k f => Win m c (ix2 k ⟨5696 + f.val, by omega⟩)) (fun k f => Win m c (ix2 k ⟨5696 + (2048 + f.val), by omega⟩))
    (fun k => OAs m c (ix2 r k)) (fun k => OBs m c (ix2 r k)) (fun k f => UA m c (ix2 k f)) (fun k f => UB m c (ix2 k f)) (fun f e => WO m c (ix2 f e)) d

/-- The prompt rows' result. -/
def outArr : FVec Ideal S8192x2048 .f32 := fun i => mergedRow m c (i 0) (i 1)

/-- The sample rows' result. -/
def outSample : FVec Ideal S16x2048 .f32 := fun i => mergedSample m c (i 0) (i 1)

/-- The reference's run, with its two results and its arguments. -/
theorem results_run (ρ : Dev nD → PrngReg) : θ_run defs (onTc (τ := τ) (main (F := Ideal))) ⟨m, fun _ => 0, ρ⟩ fun r => ∀ c : Dev nD,
      r.2.mem ((c.tc : Thread nD τ).loc main_v35) = outArr m c
      ∧ r.2.mem ((c.tc : Thread nD τ).loc main_v71) = outSample m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun r h c => ⟨(h c).1.trans ?_, (h c).2.1.trans ?_, (h c).2.2⟩) (Value.run m ρ)
  · funext j
    obtain ⟨r, d, rfl⟩ : ∃ (r : Fin 8192) (d : Fin 2048), j = (ix2 r d : S8192x2048.Idx) := ⟨j 0, j 1, by funext i; fin_cases i <;> rfl⟩
    show (_ : FVec Ideal S8192x2048 .f32) (ix2 r d) = mergedRow m c r d
    rw [show m ((c.tc : Thread nD τ).loc main_arg2) = X m c from rfl, show m ((c.tc : Thread nD τ).loc main_arg0) = OA m c from rfl, show m ((c.tc : Thread nD τ).loc main_arg1) = OB m c from rfl, show m ((c.tc : Thread nD τ).loc main_arg6) = G m c from rfl, show m ((c.tc : Thread nD τ).loc main_arg7) = Win m c from rfl, show m ((c.tc : Thread nD τ).loc main_arg8) = UA m c from rfl, show m ((c.tc : Thread nD τ).loc main_arg9) = UB m c from rfl, show m ((c.tc : Thread nD τ).loc main_arg10) = WO m c from rfl]
    unfold mergedRow
    generalize X m c = v2
    generalize OA m c = v0
    generalize OB m c = v1
    generalize G m c = v6
    generalize Win m c = v7
    generalize UA m c = v8
    generalize UB m c = v9
    generalize WO m c = v10
    unfold merged gated nrm
    simp only [← sigmoid_eq]
    pointwise
  · funext j
    obtain ⟨r, d, rfl⟩ : ∃ (r : Fin 16) (d : Fin 2048), j = (ix2 r d : S16x2048.Idx) := ⟨j 0, j 1, by funext i; fin_cases i <;> rfl⟩
    show (_ : FVec Ideal S16x2048 .f32) (ix2 r d) = mergedSample m c r d
    rw [show m ((c.tc : Thread nD τ).loc main_arg5) = Xs m c from rfl, show m ((c.tc : Thread nD τ).loc main_arg3) = OAs m c from rfl, show m ((c.tc : Thread nD τ).loc main_arg4) = OBs m c from rfl, show m ((c.tc : Thread nD τ).loc main_arg6) = G m c from rfl, show m ((c.tc : Thread nD τ).loc main_arg7) = Win m c from rfl, show m ((c.tc : Thread nD τ).loc main_arg8) = UA m c from rfl, show m ((c.tc : Thread nD τ).loc main_arg9) = UB m c from rfl, show m ((c.tc : Thread nD τ).loc main_arg10) = WO m c from rfl]
    unfold mergedSample
    generalize Xs m c = v5
    generalize OAs m c = v3
    generalize OBs m c = v4
    generalize G m c = v6
    generalize Win m c = v7
    generalize UA m c = v8
    generalize UB m c = v9
    generalize WO m c = v10
    unfold merged gated nrm
    simp only [← sigmoid_eq]
    pointwise

end Cert.MergeReferenceIdeal.Mrg

end
-- ==== Proof.Merge.Value.lean ====
module

public import proofs.«01_k».proof.Proof.Merge.Frames
public import proofs.«01_k».proof.Proof.Merge.KVal
public import proofs.«01_k».proof.Proof.Merge.RefVal

/-! The merging kernel and the reference compute the same two results. -/

@[expose] public section

set_option maxRecDepth 16384

noncomputable section

namespace Cert.Proof

open Idealize.ShloMosaic Idealize.SL.Sem

section
variable (m : (ℓ : Loc Cert.MergeIdeal.nD Cert.MergeIdeal.τ Cert.MergeIdeal.sig) → Buf (Elt Ideal) ℓ)
  (m' : (ℓ : Loc Cert.MergeReferenceIdeal.nD Cert.MergeReferenceIdeal.τ Cert.MergeReferenceIdeal.sig) → Buf (Elt Ideal) ℓ)
  (c : Dev Cert.MergeIdeal.nD)

/-- The two memories hold the same merging arguments. -/
structure MergeSame : Prop where
  e0 : MergeReferenceIdeal.Mrg.OA m' c = MergeIdeal.Mrg.OA m c
  e1 : MergeReferenceIdeal.Mrg.OB m' c = MergeIdeal.Mrg.OB m c
  e2 : MergeReferenceIdeal.Mrg.X m' c = MergeIdeal.Mrg.X m c
  e3 : MergeReferenceIdeal.Mrg.OAs m' c = MergeIdeal.Mrg.OAs m c
  e4 : MergeReferenceIdeal.Mrg.OBs m' c = MergeIdeal.Mrg.OBs m c
  e5 : MergeReferenceIdeal.Mrg.Xs m' c = MergeIdeal.Mrg.Xs m c
  e6 : MergeReferenceIdeal.Mrg.G m' c = MergeIdeal.Mrg.G m c
  e7 : MergeReferenceIdeal.Mrg.Win m' c = MergeIdeal.Mrg.Win m c
  e8 : MergeReferenceIdeal.Mrg.UA m' c = MergeIdeal.Mrg.UA m c
  e9 : MergeReferenceIdeal.Mrg.UB m' c = MergeIdeal.Mrg.UB m c
  e10 : MergeReferenceIdeal.Mrg.WO m' c = MergeIdeal.Mrg.WO m c

variable {m m' c}

theorem merge_prompt_eq (h : MergeSame m m' c) : MergeReferenceIdeal.Mrg.outArr m' c = MergeIdeal.Mrg.outArr m c := by
  obtain ⟨e0, e1, e2, e3, e4, e5, e6, e7, e8, e9, e10⟩ := h
  unfold MergeReferenceIdeal.Mrg.outArr MergeIdeal.Mrg.outArr MergeReferenceIdeal.Mrg.mergedRow MergeIdeal.Mrg.mergedRow
  rw [e0, e1, e2, e6, e7, e8, e9, e10]

theorem merge_sample_eq (h : MergeSame m m' c) : MergeReferenceIdeal.Mrg.outSample m' c = MergeIdeal.Mrg.outSample m c := by
  obtain ⟨e0, e1, e2, e3, e4, e5, e6, e7, e8, e9, e10⟩ := h
  unfold MergeReferenceIdeal.Mrg.outSample MergeIdeal.Mrg.outSample MergeReferenceIdeal.Mrg.mergedSample MergeIdeal.Mrg.mergedSample
  rw [e3, e4, e5, e6, e7, e8, e9, e10]

end

/-- What the merging kernel leaves in its two result arrays. -/
theorem merge_results_run (m : (ℓ : Loc Cert.MergeIdeal.nD Cert.MergeIdeal.τ Cert.MergeIdeal.sig) → Buf (Elt Ideal) ℓ) (g : Dev Cert.MergeIdeal.nD → PrngReg) :
    θ_run (Cert.MergeIdeal.defs (F := Ideal)) (onTc (τ := Cert.MergeIdeal.τ) (Cert.MergeIdeal.main (F := Ideal))) ⟨m, fun _ => 0, g⟩
    (fun r => ∀ c : Dev Cert.MergeIdeal.nD,
      r.2.mem ((c.tc : Thread MergeIdeal.nD MergeIdeal.τ).loc MergeIdeal.main_v10_0) = (MergeIdeal.Mrg.dats m 0 c).arrAt 11 (MergeIdeal.cfgs 0).N
      ∧ r.2.mem ((c.tc : Thread MergeIdeal.nD MergeIdeal.τ).loc MergeIdeal.main_v10_1) = (MergeIdeal.Mrg.dats m 0 c).arrAt 12 (MergeIdeal.cfgs 0).N) :=
  θ_run_mono (Cert.MergeIdeal.Mrg.run_main m g) (fun _ h c => ⟨(h.1 c).1 11, (h.1 c).1 12⟩)

theorem merge_algebraic : algebraic_MergeIdeal_MergeReferenceIdeal := by
  intro m g m' g' _ hagree
  have hsame : ∀ c, MergeSame m m' c := fun c => by
    obtain ⟨e0, e1, e2, e3, e4, e5, e6, e7, e8, e9, e10⟩ := hagree c
    exact ⟨e0, e1, e2, e3, e4, e5, e6, e7, e8, e9, e10⟩
  refine ⟨fun c => (MergeIdeal.Mrg.dats m 0 c).arrAt 11 (MergeIdeal.cfgs 0).N, fun c => (MergeIdeal.Mrg.dats m 0 c).arrAt 12 (MergeIdeal.cfgs 0).N,
    θ_run_mono (θ_run_and (merge_results_run m g) (Cert.MergeIdeal.Mrg.frame_run m g)) (fun _ h c => ⟨(h.1 c).1, (h.1 c).2, h.2.1 c⟩),
    θ_run_mono (Cert.MergeReferenceIdeal.Mrg.results_run m' g') (fun _ h c => ⟨(h c).1.trans ?_, (h c).2.1.trans ?_, (h c).2.2⟩)⟩
  · exact (merge_prompt_eq (hsame c)).trans (MergeIdeal.Mrg.final11 m c).symm
  · exact (merge_sample_eq (hsame c)).trans (MergeIdeal.Mrg.final12 m c).symm

end Cert.Proof

end
-- ==== Proof.Rows.Frames.lean ====
module

public import proofs.«01_k».proof.Defs
public import proofs.«01_k».proof.Proof.Gen.Rows
public import proofs.«01_k».proof.Proof.Gen.RowsIdeal
public import proofs.«01_k».proof.Proof.Gen.RowsIdeal.Frame
public import proofs.«01_k».proof.Proof.Gen.RowsIdeal.Skeleton
public import proofs.«01_k».proof.Proof.Gen.RowsReferenceIdeal
public import proofs.«01_k».proof.Proof.Gen.RowsReferenceIdeal.Run

/-! The prompt projection's frames: the kernel at both readings by one run, the reference by its run. -/

@[expose] public section

set_option maxRecDepth 16384

noncomputable section

namespace Cert.Proof

open Idealize.ShloMosaic Idealize.SL.Sem

instance rows_facts : Cert.Rows.Facts := Cert.Rows.Gen.facts
instance rowsIdeal_facts : Cert.RowsIdeal.Facts := Cert.RowsIdeal.Gen.facts
instance rowsReference_facts : Cert.RowsReferenceIdeal.Facts := Cert.RowsReferenceIdeal.Gen.facts

theorem rows_frame_ideal : quiescent_RowsIdeal := fun m g _ => Cert.RowsIdeal.Gen.frame m g

set_option maxHeartbeats 4000000 in
/-- The two printed body tables are one. -/
theorem rows_bodies_same : @Cert.Rows.defs₀ Bits _ _ = @Cert.RowsIdeal.defs₀ Bits _ _ := by
  unfold Cert.Rows.defs₀ Cert.RowsIdeal.defs₀
  refine congrArg Defs.onTc (funext fun b => funext fun a => ?_)
  match b, a with
  | 0, (t, s) => rfl
  | ⟨_ + 1, h⟩, _ => exact absurd h (Nat.not_lt.2 (Nat.le_add_left _ _))

theorem rows_defs_same : @Cert.Rows.defs Bits _ _ = @Cert.RowsIdeal.defs Bits _ _ :=
  congrArg (Pipeline.defs (Cert.Rows.pcfgs (F := Bits))) rows_bodies_same

set_option maxHeartbeats 2000000 in
theorem rows_frame_bits : quiescent_Rows := fun m g _ => by
  rw [rows_defs_same]
  exact Cert.RowsIdeal.Gen.frame (F := Bits) m g

theorem rows_frame_ref : quiescent_RowsReferenceIdeal := fun m g _ =>
  (θ_run Cert.RowsReferenceIdeal.defs _ _).mono
    (fun r h => ⟨fun c => (h c).2.2.2.2.2.2, sem_eq_zero_of_no_sems (by decide) r.2⟩) (Cert.RowsReferenceIdeal.Value.run m g)

end Cert.Proof

end
-- ==== Proof.Sample.Pay.lean ====
module

public import proofs.«01_k».proof.Proof.Gen.SampleIdeal
public import proofs.«01_k».proof.Proof.Gen.SampleIdeal.Frame
public import proofs.«01_k».proof.Proof.Gen.SampleIdeal.Skeleton
public import proofs.«01_k».proof.Proof.Gen.SampleReferenceIdeal
public import proofs.«01_k».proof.Proof.Gen.SampleReferenceIdeal.Run
public import proofs.«01_k».proof.Proof.Mlp.Pay
public import Idealize.ShloMosaic.Lib.Pointwise
public import Idealize.ShloMosaic.PureOps.Ideal

/-! A normed row's product with one column of the weights, and the sample projection's block operations at an index. -/

@[expose] public section

set_option maxRecDepth 16384

noncomputable section

namespace Cert.RowSpec

open Idealize.ShloMosaic
open Cert.MlpSpec (nrm)

/-- The normed row times one column of the weights. -/
def col (x g : Fin 2048 → EReal) (w : Fin 2048 → EReal) : EReal := ∑ k, nrm x g k * w k

end Cert.RowSpec

namespace Cert.SampleIdeal.Smp

open Idealize.ShloMosaic
open Cert.SampleIdeal Cert.SampleIdeal.Gen Cert.RowSpec Cert.MlpSpec

theorem pay5_at (x : Vec Ideal S16x2048 .f32) (g : Vec Ideal S1x2048 .f32) (r : Fin 16) (d : Fin 2048) :
    k0_pay5 (F := Ideal) x g (ix2 r d) = nrm (fun k => x (ix2 r k)) (fun k => g (ix2 0 k)) d := by
  unfold nrm
  pointwise [k0_pay5]

theorem pay1_at (x : Vec Ideal S16x2048 .f32) (g : Vec Ideal S1x2048 .f32) (w : Vec Ideal S256x2048 .bf16) (r : Fin 16) (n : Fin 256) :
    k0_pay1 (F := Ideal) (k0_pay5 x g) w (ix2 r n) = col (fun k => x (ix2 r k)) (fun k => g (ix2 0 k)) (fun k => w (ix2 n k)) := by
  unfold col
  simp only [← pay5_at]
  generalize k0_pay5 (F := Ideal) x g = p
  pointwise [k0_pay1]

theorem pay2_eq (p : Vec Ideal S16x2048 .bf16) (w : Vec Ideal S256x2048 .bf16) : k0_pay2 (F := Ideal) p w = k0_pay1 p w := rfl
theorem pay3_eq (p : Vec Ideal S16x2048 .bf16) (w : Vec Ideal S256x2048 .bf16) : k0_pay3 (F := Ideal) p w = k0_pay1 p w := rfl
theorem pay4_eq (p : Vec Ideal S16x2048 .bf16) (w : Vec Ideal S256x2048 .bf16) : k0_pay4 (F := Ideal) p w = k0_pay1 p w := rfl
theorem pay7_eq (x : Vec Ideal S16x2048 .f32) (g : Vec Ideal S1x2048 .f32) (w : Vec Ideal S256x2048 .bf16) : k0_pay7 (F := Ideal) x g w = k0_pay1 (k0_pay5 x g) w := rfl
theorem pay8_eq (x : Vec Ideal S16x2048 .f32) (g : Vec Ideal S1x2048 .f32) (w : Vec Ideal S256x2048 .bf16) : k0_pay8 (F := Ideal) x g w = k0_pay1 (k0_pay5 x g) w := rfl

/-- A block of 256 rows of the window's weights, from any first row. -/
theorem ld_at (w : Vec Ideal S2560x2048 .bf16) (o : ℕ) (ho : o + 256 ≤ 2560) (inb : ∀ a, (![o, 0] : Fin 2 → ℕ) a + S256x2048.size a ≤ S2560x2048.size a) (n : Fin 256) (k : Fin 2048) :
    View.ld w (Rect.unit (s := S2560x2048) ![o, 0] S256x2048.size inb) (ix2 n k) = w (ix2 ⟨o + n.val, by omega⟩ k) := by
  pointwise

end Cert.SampleIdeal.Smp

end
-- ==== Proof.Rows.Pay.lean ====
module

public import proofs.«01_k».proof.Proof.Gen.RowsIdeal
public import proofs.«01_k».proof.Proof.Gen.RowsIdeal.Frame
public import proofs.«01_k».proof.Proof.Gen.RowsIdeal.Skeleton
public import proofs.«01_k».proof.Proof.Gen.RowsReferenceIdeal
public import proofs.«01_k».proof.Proof.Gen.RowsReferenceIdeal.Run
public import proofs.«01_k».proof.Proof.Sample.Pay

/-! The prompt projection's block operations at an index. -/

@[expose] public section

set_option maxRecDepth 16384

noncomputable section

namespace Cert.RowsIdeal.Rws

open Idealize.ShloMosaic
open Cert.RowsIdeal Cert.RowsIdeal.Gen Cert.RowSpec Cert.MlpSpec

theorem pay3_at (x : Vec Ideal S512x2048 .f32) (g : Vec Ideal S1x2048 .f32) (r : Fin 512) (d : Fin 2048) :
    k0_pay3 (F := Ideal) x g (ix2 r d) = nrm (fun k => x (ix2 r k)) (fun k => g (ix2 0 k)) d := by
  unfold nrm
  pointwise [k0_pay3]

theorem pay23_at (x : Vec Ideal S512x2048 .f32) (g : Vec Ideal S1x2048 .f32) (w : Vec Ideal S256x2048 .bf16) (n : Fin 256) (r : Fin 512) :
    k0_pay23 (F := Ideal) (k0_pay3 x g) w (ix3 0 n r) = col (fun k => x (ix2 r k)) (fun k => g (ix2 0 k)) (fun k => w (ix2 n k)) := by
  unfold col
  simp only [← pay3_at]
  generalize k0_pay3 (F := Ideal) x g = p
  pointwise [k0_pay23]

theorem pay24_eq (p : Vec Ideal S512x2048 .bf16) (w : Vec Ideal S256x2048 .bf16) : k0_pay24 (F := Ideal) p w = k0_pay23 p w := rfl
theorem pay26_eq (p : Vec Ideal S512x2048 .bf16) (w : Vec Ideal S256x2048 .bf16) : k0_pay26 (F := Ideal) p w = k0_pay23 p w := rfl
theorem pay33_eq (p : Vec Ideal S512x2048 .bf16) (w : Vec Ideal S256x2048 .bf16) : k0_pay33 (F := Ideal) p w = k0_pay23 p w := rfl
theorem pay41_eq (p : Vec Ideal S512x2048 .bf16) (w : Vec Ideal S256x2048 .bf16) : k0_pay41 (F := Ideal) p w = k0_pay23 p w := rfl
theorem pay48_eq (p : Vec Ideal S512x2048 .bf16) (w : Vec Ideal S256x2048 .bf16) : k0_pay48 (F := Ideal) p w = k0_pay23 p w := rfl

/-- A block of 256 rows of the window's weights, from any first row. -/
theorem ld_at (w : Vec Ideal S2560x2048 .bf16) (o : ℕ) (ho : o + 256 ≤ 2560) (inb : ∀ a, (![o, 0] : Fin 2 → ℕ) a + S256x2048.size a ≤ S2560x2048.size a) (n : Fin 256) (k : Fin 2048) :
    View.ld w (Rect.unit (s := S2560x2048) ![o, 0] S256x2048.size inb) (ix2 n k) = w (ix2 ⟨o + n.val, by omega⟩ k) := by
  pointwise

end Cert.RowsIdeal.Rws

end
-- ==== Proof.Rows.KVal.lean ====
module

public import proofs.«01_k».proof.Proof.Rows.Pay
public import Idealize.ShloMosaic.Lib.Pipeline.ValueKit
public import Idealize.ShloMosaic.Lib.StableHlo.RunRead
public import Idealize.ShloMosaic.Lib.StableHlo.ReadAt

/-! The prompts' rows the projection leaves in its arrays, and the host's slices of them, over the arguments. -/

@[expose] public section

set_option maxRecDepth 16384

noncomputable section

namespace Cert.RowsIdeal.Rws

open Idealize.ShloMosaic Idealize.ShloMosaic.TcCoe Idealize.ShloMosaic.Tactic
open Idealize.ShloMosaic.StableHlo
open Cert.RowsIdeal Cert.RowsIdeal.Gen Cert.RowSpec Cert.MlpSpec

variable (m : (ℓ : Loc nD τ sig) → Buf (Elt Ideal) ℓ) (c : Dev nD)

/-- The prompts' rows. -/
def X : FVec Ideal S4x2048x2048 .f32 := m ((c.tc : Thread nD τ).loc main_arg0)
/-- The norm's scale. -/
def G : FVec Ideal S2048 .f32 := m ((c.tc : Thread nD τ).loc main_arg1)
/-- The weights out of the normed row. -/
def Win : FVec Ideal S2048x9792 .f32 := m ((c.tc : Thread nD τ).loc main_arg2)
/-- The rows the kernel is handed, all prompts' in one array. -/
def X2 : FVec Ideal S8192x2048 .f32 := V m c main_v13

theorem idx : ∀ t : Fin cfg0.N, win0_0.index t = ![t.val, 0] ∧ win0_1.index t = ![0, 0]
    ∧ win0_6.index t = ![t.val / 4, 0, t.val % 4]
    ∧ win0_7.index t = ![t.val / 4, 0, t.val % 4]
    ∧ win0_8.index t = ![t.val / 4, 0, t.val % 4]
    ∧ win0_10.index t = ![t.val / 4, 0, t.val % 4]
    ∧ win0_12.index t = ![t.val / 4, 0, t.val % 4]
    ∧ win0_14.index t = ![t.val / 4, 0, t.val % 4] :=
  (by decide +kernel : ∀ t : Fin grid0.N, _)

theorem X2_at (b : Fin 4) (p : Fin 2048) (k : Fin 2048) : X2 m c (ix2 (⟨2048 * b.val + p.val, by omega⟩ : Fin 8192) k) = X m c (ix3 b p k) := by
  unfold X2
  unfold_abbrev_sides
  after_reads_at
  rfl

theorem N_16 : cfg0.N = 16 := by decide

/-- The prompt a grid point's rows are of. -/
def pb (t : Fin cfg0.N) : Fin 4 := ⟨t.val / 4, by have := Nat.lt_of_lt_of_eq t.isLt N_16; omega⟩
/-- The position of a grid point's row. -/
def pp (t : Fin cfg0.N) (r : Fin 512) : Fin 2048 := ⟨512 * (t.val % 4) + r.val, by omega⟩

theorem blk0 (t : Fin cfg0.N) (r : Fin 512) (k : Fin 2048) : (iblk m c 0 t : FVec Ideal S512x2048 .f32) (ix2 r k) = X m c (ix3 (pb t) (pp t r) k) := by
  have e : (win0_0.blk t).view.emb (ix2 r k) = (ix2 (⟨2048 * (pb t).val + (pp t r).val, by omega⟩ : Fin 8192) k : S8192x2048.Idx) := by
    blk_ext [idx t, pb, pp]
  blk_simp [iblk]
  rw [e]
  exact X2_at m c (pb t) (pp t r) k

theorem G_at (k : Fin 2048) : (V m c main_v12 : FVec Ideal S1x2048 .f32) (ix2 0 k) = G m c (ix1 k) := by
  unfold_abbrev_sides
  after_reads_at
  rfl

theorem Win_at (n : Fin 9792) (k : Fin 2048) : (V m c main_v1 : FVec Ideal S9792x2048 .bf16) (ix2 n k) = Win m c (ix2 k n) := by
  unfold_abbrev_sides
  after_reads_at
  rfl

theorem blk1 (t : Fin cfg0.N) (k : Fin 2048) : (iblk m c 1 t : FVec Ideal S1x2048 .f32) (ix2 0 k) = G m c (ix1 k) := by
  have e : (win0_1.blk t).view.emb (ix2 0 k) = (ix2 0 k : S1x2048.Idx) := by
    blk_ext [idx t]
  blk_simp [iblk]
  rw [e]
  exact G_at m c k

theorem emb2 (t : Fin cfg0.N) (r : Fin 2560) (k : Fin 2048) : (win0_2.blk t).view.emb (ix2 r k) = (ix2 (⟨r.val, by omega⟩ : Fin 9792) k : S9792x2048.Idx) := by
  have h0 := Pipeline.Window.rect_emb_val_off win0_2 t (ix2 r k)
  funext a
  fin_cases a
  · refine Fin.ext ((h0 0).trans ?_)
    show 0 + r.val = r.val
    omega
  · refine Fin.ext ((h0 1).trans ?_)
    show 0 + k.val = k.val
    omega

theorem blk2 (t : Fin cfg0.N) (r : Fin 2560) (k : Fin 2048) : (iblk m c 2 t : FVec Ideal S2560x2048 .bf16) (ix2 r k) = Win m c (ix2 k ⟨r.val, by omega⟩) := by
  have e := emb2 t r k
  blk_simp [iblk]
  rw [e]
  exact Win_at m c _ k

/-- A row's product with one column of the weights. -/
def kv (b : Fin 4) (p : Fin 2048) (n : Fin 9792) : EReal := col (fun k => X m c (ix3 b p k)) (fun k => G m c (ix1 k)) (fun k => Win m c (ix2 k n))

/-- The array of 256 columns from column `o` on, one row per column. -/
def kvArr (o : ℕ) (ho : o + 256 ≤ 9792) : FVec Ideal S4x256x2048 .f32 := fun i => kv m c (i 0) (i 2) ⟨o + (i 1).val, by have : (i 1).val < 256 := (i 1).isLt; omega⟩

/-- What the body leaves in a block of 256 columns. -/
theorem block_at (t : Fin cfg0.N) (o : ℕ) (ho : o + 256 ≤ 2560) (inb : ∀ a, (![o, 0] : Fin 2 → ℕ) a + S256x2048.size a ≤ S2560x2048.size a) (n : Fin 256) (r : Fin 512) :
    k0_pay23 (F := Ideal) (k0_pay3 (iblk m c 0 t) (iblk m c 1 t)) (View.ld (iblk m c 2 t : FVec Ideal S2560x2048 .bf16) (Rect.unit (s := S2560x2048) ![o, 0] S256x2048.size inb)) (ix3 0 n r)
      = kvArr m c o (by omega) (ix3 (pb t) n (pp t r)) := by
  refine (pay23_at _ _ _ n r).trans ?_
  show _ = kv m c (pb t) (pp t r) ⟨o + n.val, _⟩
  unfold kv
  simp only [blk0, blk1]
  exact congrArg (col _ _) (funext fun k => (ld_at _ o ho inb n k).trans (blk2 m c t _ k))

theorem arr_index (y : S1x256x512.Idx) : ∃ (n : Fin 256) (r : Fin 512), y = ix3 0 n r :=
  ⟨y 1, y 2, by
    obtain ⟨z, hz⟩ : ∃ z : Fin 1, y 0 = z := ⟨_, rfl⟩
    obtain rfl : z = 0 := Subsingleton.elim _ _
    funext i
    fin_cases i
    · exact hz
    · rfl
    · rfl⟩

theorem final6 : (dats m 0 c).arrAt 6 (cfgs 0).N = kvArr m c 1024 (by omega) := by
  refine (dats m 0 c).arrAt_eq_of_covers 6 (kvArr m c 1024 (by omega)) (by decide +kernel) fun t hf y => ?_
  obtain ⟨n, r, rfl⟩ := arr_index y
  have he : (win0_6.blk t).view.emb (ix3 0 n r) = (ix3 (pb t) n (pp t r) : S4x256x2048.Idx) := by
    blk_ext [idx t, pb, pp]
  refine Eq.trans ?_ (congrArg (kvArr m c 1024 (by omega)) he).symm
  blk_simp
  rw [after0_6]
  frame_out
  unfold k0_pay54
  frame_out
  exact block_at m c t 1024 (by omega) _ n r

theorem final7 : (dats m 0 c).arrAt 7 (cfgs 0).N = kvArr m c 1280 (by omega) := by
  refine (dats m 0 c).arrAt_eq_of_covers 7 (kvArr m c 1280 (by omega)) (by decide +kernel) fun t hf y => ?_
  obtain ⟨n, r, rfl⟩ := arr_index y
  have he : (win0_7.blk t).view.emb (ix3 0 n r) = (ix3 (pb t) n (pp t r) : S4x256x2048.Idx) := by
    blk_ext [idx t, pb, pp]
  refine Eq.trans ?_ (congrArg (kvArr m c 1280 (by omega)) he).symm
  blk_simp
  rw [after0_7]
  frame_out
  unfold k0_pay54
  frame_out
  rw [pay24_eq]
  exact block_at m c t 1280 (by omega) _ n r

theorem final8 : (dats m 0 c).arrAt 8 (cfgs 0).N = kvArr m c 1536 (by omega) := by
  refine (dats m 0 c).arrAt_eq_of_covers 8 (kvArr m c 1536 (by omega)) (by decide +kernel) fun t hf y => ?_
  obtain ⟨n, r, rfl⟩ := arr_index y
  have he : (win0_8.blk t).view.emb (ix3 0 n r) = (ix3 (pb t) n (pp t r) : S4x256x2048.Idx) := by
    blk_ext [idx t, pb, pp]
  refine Eq.trans ?_ (congrArg (kvArr m c 1536 (by omega)) he).symm
  blk_simp
  rw [after0_8]
  frame_out
  unfold k0_pay54
  frame_out
  rw [pay26_eq]
  exact block_at m c t 1536 (by omega) _ n r

theorem final10 : (dats m 0 c).arrAt 10 (cfgs 0).N = kvArr m c 1792 (by omega) := by
  refine (dats m 0 c).arrAt_eq_of_covers 10 (kvArr m c 1792 (by omega)) (by decide +kernel) fun t hf y => ?_
  obtain ⟨n, r, rfl⟩ := arr_index y
  have he : (win0_10.blk t).view.emb (ix3 0 n r) = (ix3 (pb t) n (pp t r) : S4x256x2048.Idx) := by
    blk_ext [idx t, pb, pp]
  refine Eq.trans ?_ (congrArg (kvArr m c 1792 (by omega)) he).symm
  blk_simp
  rw [after0_10]
  frame_out
  unfold k0_pay54
  frame_out
  rw [pay33_eq]
  exact block_at m c t 1792 (by omega) _ n r

theorem final12 : (dats m 0 c).arrAt 12 (cfgs 0).N = kvArr m c 2048 (by omega) := by
  refine (dats m 0 c).arrAt_eq_of_covers 12 (kvArr m c 2048 (by omega)) (by decide +kernel) fun t hf y => ?_
  obtain ⟨n, r, rfl⟩ := arr_index y
  have he : (win0_12.blk t).view.emb (ix3 0 n r) = (ix3 (pb t) n (pp t r) : S4x256x2048.Idx) := by
    blk_ext [idx t, pb, pp]
  refine Eq.trans ?_ (congrArg (kvArr m c 2048 (by omega)) he).symm
  blk_simp
  rw [after0_12]
  frame_out
  unfold k0_pay54
  frame_out
  rw [pay41_eq]
  exact block_at m c t 2048 (by omega) _ n r

theorem final14 : (dats m 0 c).arrAt 14 (cfgs 0).N = kvArr m c 2304 (by omega) := by
  refine (dats m 0 c).arrAt_eq_of_covers 14 (kvArr m c 2304 (by omega)) (by decide +kernel) fun t hf y => ?_
  obtain ⟨n, r, rfl⟩ := arr_index y
  have he : (win0_14.blk t).view.emb (ix3 0 n r) = (ix3 (pb t) n (pp t r) : S4x256x2048.Idx) := by
    blk_ext [idx t, pb, pp]
  refine Eq.trans ?_ (congrArg (kvArr m c 2304 (by omega)) he).symm
  blk_simp
  rw [after0_14]
  frame_out
  unfold k0_pay54
  frame_out
  rw [pay48_eq]
  exact block_at m c t 2304 (by omega) _ n r

/-- What a buffer holds after the host's operations that follow the kernel. -/
abbrev tail (b : Ref sig .tc) : Buf (Elt Ideal) ((c : Thread nD τ).loc b) := Pipeline.afterTail₀ cfgs (dats m) 0 (V0 m) [hostOps1] c b

/-- The prompts' rows of the columns from `o` on, by head. -/
def rows (o : ℕ) (ho : o + 256 ≤ 9792) : FVec Ideal S4x2048x4x64 .f32 := fun i =>
  col (fun k => X m c (ix3 (i 0) (i 1) k)) (fun k => G m c (ix1 k)) (fun k => Win m c (ix2 k ⟨o + ((i 2).val * 64 + (i 3).val), by have : (i 2).val < 4 := (i 2).isLt; have : (i 3).val < 64 := (i 3).isLt; omega⟩))

/-- The last 512 positions of those rows. -/
def lastRows (o : ℕ) (ho : o + 256 ≤ 9792) : FVec Ideal S4x512x4x64 .f32 := fun i =>
  rows m c o ho (ix4 (i 0) ⟨1536 + (i 1).val, by have : (i 1).val < 512 := (i 1).isLt; omega⟩ (i 2) (i 3))

theorem rows_index (y : S4x2048x4x64.Idx) : ∃ (b : Fin 4) (p : Fin 2048) (h : Fin 4) (d : Fin 64), y = ix4 b p h d :=
  ⟨y 0, y 1, y 2, y 3, by funext i; fin_cases i <;> rfl⟩

theorem last_index (y : S4x512x4x64.Idx) : ∃ (b : Fin 4) (p : Fin 512) (h : Fin 4) (d : Fin 64), y = ix4 b p h d :=
  ⟨y 0, y 1, y 2, y 3, by funext i; fin_cases i <;> rfl⟩

theorem kvArr_at (o : ℕ) (ho : o + 256 ≤ 9792) (b : Fin 4) (p : Fin 2048) (h : Fin 4) (d : Fin 64) (n : Fin 256) (hn : n.val = h.val * 64 + d.val) :
    kvArr m c o ho (ix3 b n p) = rows m c o ho (ix4 b p h d) := by
  show kv m c b p ⟨o + n.val, _⟩ = col (fun k => X m c (ix3 b p k)) (fun k => G m c (ix1 k)) (fun k => Win m c (ix2 k ⟨o + (h.val * 64 + d.val), _⟩))
  unfold kv
  simp only [hn]

/-- What a buffer holds when the kernel has run and the host's operations after it have not. -/
abbrev exit (b : Ref sig .tc) : Buf (Elt Ideal) ((c : Thread nD τ).loc b) :=
  Pipeline.withArrays (cfgs 0).spec c (V0 m c) (fun w => (dats m 0 c).arrAt w (cfgs 0).N) (Proc.devRef .tc b)

theorem exit6 : (exit m c main_v15_1 : FVec Ideal S4x256x2048 .f32) = kvArr m c 1024 (by omega) :=
  (Pipeline.withArrays_arr spec0 launch0.win.arr_inj c (V0 m c) _ 6).trans (final6 m c)
theorem exit7 : (exit m c main_v15_2 : FVec Ideal S4x256x2048 .f32) = kvArr m c 1280 (by omega) :=
  (Pipeline.withArrays_arr spec0 launch0.win.arr_inj c (V0 m c) _ 7).trans (final7 m c)
theorem exit8 : (exit m c main_v15_3 : FVec Ideal S4x256x2048 .f32) = kvArr m c 1536 (by omega) :=
  (Pipeline.withArrays_arr spec0 launch0.win.arr_inj c (V0 m c) _ 8).trans (final8 m c)
theorem exit10 : (exit m c main_v15_5 : FVec Ideal S4x256x2048 .f32) = kvArr m c 1792 (by omega) :=
  (Pipeline.withArrays_arr spec0 launch0.win.arr_inj c (V0 m c) _ 10).trans (final10 m c)
theorem exit12 : (exit m c main_v15_7 : FVec Ideal S4x256x2048 .f32) = kvArr m c 2048 (by omega) :=
  (Pipeline.withArrays_arr spec0 launch0.win.arr_inj c (V0 m c) _ 12).trans (final12 m c)
theorem exit14 : (exit m c main_v15_9 : FVec Ideal S4x256x2048 .f32) = kvArr m c 2304 (by omega) :=
  (Pipeline.withArrays_arr spec0 launch0.win.arr_inj c (V0 m c) _ 14).trans (final14 m c)

theorem tail17 : (tail m c main_v17 : FVec Ideal S4x2048x4x64 .f32) = rows m c 1024 (by omega) := by
  funext j
  obtain ⟨b, p, h, d, rfl⟩ := rows_index j
  unfold tail Pipeline.afterTail₀
  after_reads_at
  refine (congrFun (exit6 m c) _).trans (kvArr_at m c 1024 (by omega) b p h d _ ?_)
  rfl

theorem tail19 : (tail m c main_v19 : FVec Ideal S4x2048x4x64 .f32) = rows m c 1280 (by omega) := by
  funext j
  obtain ⟨b, p, h, d, rfl⟩ := rows_index j
  unfold tail Pipeline.afterTail₀
  after_reads_at
  refine (congrFun (exit7 m c) _).trans (kvArr_at m c 1280 (by omega) b p h d _ ?_)
  rfl

theorem tail21 : (tail m c main_v21 : FVec Ideal S4x2048x4x64 .f32) = rows m c 1536 (by omega) := by
  funext j
  obtain ⟨b, p, h, d, rfl⟩ := rows_index j
  unfold tail Pipeline.afterTail₀
  after_reads_at
  refine (congrFun (exit8 m c) _).trans (kvArr_at m c 1536 (by omega) b p h d _ ?_)
  rfl

theorem tail23 : (tail m c main_v23 : FVec Ideal S4x2048x4x64 .f32) = rows m c 1792 (by omega) := by
  funext j
  obtain ⟨b, p, h, d, rfl⟩ := rows_index j
  unfold tail Pipeline.afterTail₀
  after_reads_at
  refine (congrFun (exit10 m c) _).trans (kvArr_at m c 1792 (by omega) b p h d _ ?_)
  rfl

theorem tail26 : (tail m c main_v26 : FVec Ideal S4x512x4x64 .f32) = lastRows m c 2048 (by omega) := by
  funext j
  obtain ⟨b, p, h, d, rfl⟩ := last_index j
  unfold tail Pipeline.afterTail₀
  after_reads_at
  refine (congrFun (exit12 m c) _).trans (kvArr_at m c 2048 (by omega) b ⟨1536 + p.val, by omega⟩ h d _ ?_)
  rfl

theorem tail29 : (tail m c main_v29 : FVec Ideal S4x512x4x64 .f32) = lastRows m c 2304 (by omega) := by
  funext j
  obtain ⟨b, p, h, d, rfl⟩ := last_index j
  unfold tail Pipeline.afterTail₀
  after_reads_at
  refine (congrFun (exit14 m c) _).trans (kvArr_at m c 2304 (by omega) b ⟨1536 + p.val, by omega⟩ h d _ ?_)
  rfl

end Cert.RowsIdeal.Rws

end
-- ==== Proof.Rows.RefVal.lean ====
module

public import proofs.«01_k».proof.Proof.Rows.Pay
public import Idealize.ShloMosaic.Lib.Claim

/-! The prompt reference's results at an index. -/

@[expose] public section

set_option maxRecDepth 16384

noncomputable section

namespace Cert.RowsReferenceIdeal.Rws

open Idealize.ShloMosaic Idealize.ShloMosaic.TcCoe Idealize.SL.Sem
open Cert.RowsReferenceIdeal Cert.RowsReferenceIdeal.Gen Cert.RowsReferenceIdeal.Value Cert.RowSpec Cert.MlpSpec

variable (m : (ℓ : Loc nD τ sig) → Buf (Elt Ideal) ℓ) (c : Dev nD)

/-- The prompts' rows. -/
def X : FVec Ideal S4x2048x2048 .f32 := m ((c.tc : Thread nD τ).loc main_arg0)
/-- The norm's scale. -/
def G : FVec Ideal S2048 .f32 := m ((c.tc : Thread nD τ).loc main_arg1)
/-- The weights out of the normed row. -/
def Win : FVec Ideal S2048x9792 .f32 := m ((c.tc : Thread nD τ).loc main_arg2)

/-- The prompts' rows of the columns from `o` on, by head. -/
def rows (o : ℕ) (ho : o + 256 ≤ 9792) : FVec Ideal S4x2048x4x64 .f32 := fun i =>
  col (fun k => X m c (ix3 (i 0) (i 1) k)) (fun k => G m c (ix1 k)) (fun k => Win m c (ix2 k ⟨o + ((i 2).val * 64 + (i 3).val), by have : (i 2).val < 4 := (i 2).isLt; have : (i 3).val < 64 := (i 3).isLt; omega⟩))

/-- The last 512 positions of those rows. -/
def lastRows (o : ℕ) (ho : o + 256 ≤ 9792) : FVec Ideal S4x512x4x64 .f32 := fun i =>
  rows m c o ho (ix4 (i 0) ⟨1536 + (i 1).val, by have : (i 1).val < 512 := (i 1).isLt; omega⟩ (i 2) (i 3))

theorem rows_index (y : S4x2048x4x64.Idx) : ∃ (b : Fin 4) (p : Fin 2048) (h : Fin 4) (d : Fin 64), y = ix4 b p h d :=
  ⟨y 0, y 1, y 2, y 3, by funext i; fin_cases i <;> rfl⟩

theorem last_index (y : S4x512x4x64.Idx) : ∃ (b : Fin 4) (p : Fin 512) (h : Fin 4) (d : Fin 64), y = ix4 b p h d :=
  ⟨y 0, y 1, y 2, y 3, by funext i; fin_cases i <;> rfl⟩

/-- The reference's run, with its six results and its arguments. -/
theorem results_run (ρ : Dev nD → PrngReg) : θ_run defs (onTc (τ := τ) (main (F := Ideal))) ⟨m, fun _ => 0, ρ⟩ fun r => ∀ c : Dev nD,
      r.2.mem ((c.tc : Thread nD τ).loc main_v17) = rows m c 1024 (by omega)
      ∧ r.2.mem ((c.tc : Thread nD τ).loc main_v19) = rows m c 1280 (by omega)
      ∧ r.2.mem ((c.tc : Thread nD τ).loc main_v21) = rows m c 1536 (by omega)
      ∧ r.2.mem ((c.tc : Thread nD τ).loc main_v23) = rows m c 1792 (by omega)
      ∧ r.2.mem ((c.tc : Thread nD τ).loc main_v32) = lastRows m c 2048 (by omega)
      ∧ r.2.mem ((c.tc : Thread nD τ).loc main_v33) = lastRows m c 2304 (by omega)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Value.run m ρ)
  · funext j
    obtain ⟨b, p, h, d, rfl⟩ := rows_index j
    show (_ : FVec Ideal S4x2048x4x64 .f32) (ix4 b p h d) = rows m c 1024 (by omega) (ix4 b p h d)
    rw [show m ((c.tc : Thread nD τ).loc main_arg0) = X m c from rfl, show m ((c.tc : Thread nD τ).loc main_arg1) = G m c from rfl, show m ((c.tc : Thread nD τ).loc main_arg2) = Win m c from rfl]
    unfold rows
    generalize X m c = v0
    generalize G m c = v1
    generalize Win m c = v2
    unfold col nrm
    clear * -
    pointwise
  · funext j
    obtain ⟨b, p, h, d, rfl⟩ := rows_index j
    show (_ : FVec Ideal S4x2048x4x64 .f32) (ix4 b p h d) = rows m c 1280 (by omega) (ix4 b p h d)
    rw [show m ((c.tc : Thread nD τ).loc main_arg0) = X m c from rfl, show m ((c.tc : Thread nD τ).loc main_arg1) = G m c from rfl, show m ((c.tc : Thread nD τ).loc main_arg2) = Win m c from rfl]
    unfold rows
    generalize X m c = v0
    generalize G m c = v1
    generalize Win m c = v2
    unfold col nrm
    clear * -
    pointwise
    refine Finset.sum_congr rfl fun k _ => congrArg _ (congrArg v2 (congrArg (ix2 k) (Fin.ext ?_)))
    show 1024 + (256 + h.val * 64 + d.val) = 1280 + (h.val * 64 + d.val)
    omega
  · funext j
    obtain ⟨b, p, h, d, rfl⟩ := rows_index j
    show (_ : FVec Ideal S4x2048x4x64 .f32) (ix4 b p h d) = rows m c 1536 (by omega) (ix4 b p h d)
    rw [show m ((c.tc : Thread nD τ).loc main_arg0) = X m c from rfl, show m ((c.tc : Thread nD τ).loc main_arg1) = G m c from rfl, show m ((c.tc : Thread nD τ).loc main_arg2) = Win m c from rfl]
    unfold rows
    generalize X m c = v0
    generalize G m c = v1
    generalize Win m c = v2
    unfold col nrm
    clear * -
    pointwise
    refine Finset.sum_congr rfl fun k _ => congrArg _ (congrArg v2 (congrArg (ix2 k) (Fin.ext ?_)))
    show 1024 + (512 + h.val * 64 + d.val) = 1536 + (h.val * 64 + d.val)
    omega
  · funext j
    obtain ⟨b, p, h, d, rfl⟩ := rows_index j
    show (_ : FVec Ideal S4x2048x4x64 .f32) (ix4 b p h d) = rows m c 1792 (by omega) (ix4 b p h d)
    rw [show m ((c.tc : Thread nD τ).loc main_arg0) = X m c from rfl, show m ((c.tc : Thread nD τ).loc main_arg1) = G m c from rfl, show m ((c.tc : Thread nD τ).loc main_arg2) = Win m c from rfl]
    unfold rows
    generalize X m c = v0
    generalize G m c = v1
    generalize Win m c = v2
    unfold col nrm
    clear * -
    pointwise
    refine Finset.sum_congr rfl fun k _ => congrArg _ (congrArg v2 (congrArg (ix2 k) (Fin.ext ?_)))
    show 1024 + (768 + h.val * 64 + d.val) = 1792 + (h.val * 64 + d.val)
    omega
  · funext j
    obtain ⟨b, p, h, d, rfl⟩ := last_index j
    show (_ : FVec Ideal S4x512x4x64 .f32) (ix4 b p h d) = lastRows m c 2048 (by omega) (ix4 b p h d)
    rw [show m ((c.tc : Thread nD τ).loc main_arg0) = X m c from rfl, show m ((c.tc : Thread nD τ).loc main_arg1) = G m c from rfl, show m ((c.tc : Thread nD τ).loc main_arg2) = Win m c from rfl]
    unfold lastRows rows
    generalize X m c = v0
    generalize G m c = v1
    generalize Win m c = v2
    unfold col nrm
    clear * -
    pointwise
    have e : (⟨2048 + p.val - 512, by omega⟩ : Fin 2048) = ⟨1536 + p.val, by omega⟩ := Fin.ext (by show 2048 + p.val - 512 = 1536 + p.val; omega)
    rw [dif_neg (by omega)]
    simp only [e]
    refine Finset.sum_congr rfl fun k _ => congrArg _ (congrArg v2 (congrArg (ix2 k) (Fin.ext ?_)))
    show 1024 + (1024 + h.val * 64 + d.val) = 2048 + (h.val * 64 + d.val)
    omega
  · funext j
    obtain ⟨b, p, h, d, rfl⟩ := last_index j
    show (_ : FVec Ideal S4x512x4x64 .f32) (ix4 b p h d) = lastRows m c 2304 (by omega) (ix4 b p h d)
    rw [show m ((c.tc : Thread nD τ).loc main_arg0) = X m c from rfl, show m ((c.tc : Thread nD τ).loc main_arg1) = G m c from rfl, show m ((c.tc : Thread nD τ).loc main_arg2) = Win m c from rfl]
    unfold lastRows rows
    generalize X m c = v0
    generalize G m c = v1
    generalize Win m c = v2
    unfold col nrm
    clear * -
    pointwise
    have e : (⟨2048 + p.val - 512, by omega⟩ : Fin 2048) = ⟨1536 + p.val, by omega⟩ := Fin.ext (by show 2048 + p.val - 512 = 1536 + p.val; omega)
    rw [dif_neg (by omega)]
    simp only [e]
    refine Finset.sum_congr rfl fun k _ => congrArg _ (congrArg v2 (congrArg (ix2 k) (Fin.ext ?_)))
    show 1024 + (1280 + h.val * 64 + d.val) = 2304 + (h.val * 64 + d.val)
    omega

end Cert.RowsReferenceIdeal.Rws

end
-- ==== Proof.Rows.Value.lean ====
module

public import proofs.«01_k».proof.Proof.Rows.Frames
public import proofs.«01_k».proof.Proof.Rows.KVal
public import proofs.«01_k».proof.Proof.Rows.RefVal

/-! The prompt projection and the reference compute the same six results. -/

@[expose] public section

set_option maxRecDepth 16384

noncomputable section

namespace Cert.Proof

open Idealize.ShloMosaic Idealize.SL.Sem

section
variable (m : (ℓ : Loc Cert.RowsIdeal.nD Cert.RowsIdeal.τ Cert.RowsIdeal.sig) → Buf (Elt Ideal) ℓ)
  (m' : (ℓ : Loc Cert.RowsReferenceIdeal.nD Cert.RowsReferenceIdeal.τ Cert.RowsReferenceIdeal.sig) → Buf (Elt Ideal) ℓ)
  (c : Dev Cert.RowsIdeal.nD)

/-- The two memories hold the same arguments of the prompt projection. -/
structure RowsSame : Prop where
  e0 : RowsReferenceIdeal.Rws.X m' c = RowsIdeal.Rws.X m c
  e1 : RowsReferenceIdeal.Rws.G m' c = RowsIdeal.Rws.G m c
  e2 : RowsReferenceIdeal.Rws.Win m' c = RowsIdeal.Rws.Win m c

variable {m m' c}

theorem rows_all_eq (h : RowsSame m m' c) (o : ℕ) (ho : o + 256 ≤ 9792) : RowsReferenceIdeal.Rws.rows m' c o ho = RowsIdeal.Rws.rows m c o ho := by
  unfold RowsReferenceIdeal.Rws.rows RowsIdeal.Rws.rows
  rw [h.e0, h.e1, h.e2]

theorem rows_last_eq (h : RowsSame m m' c) (o : ℕ) (ho : o + 256 ≤ 9792) : RowsReferenceIdeal.Rws.lastRows m' c o ho = RowsIdeal.Rws.lastRows m c o ho := by
  unfold RowsReferenceIdeal.Rws.lastRows RowsIdeal.Rws.lastRows
  rw [rows_all_eq h o ho]

end

/-- What the prompt projection leaves in its six results. -/
theorem rows_results_run (m : (ℓ : Loc Cert.RowsIdeal.nD Cert.RowsIdeal.τ Cert.RowsIdeal.sig) → Buf (Elt Ideal) ℓ) (g : Dev Cert.RowsIdeal.nD → PrngReg) :
    θ_run (Cert.RowsIdeal.defs (F := Ideal)) (onTc (τ := Cert.RowsIdeal.τ) (Cert.RowsIdeal.main (F := Ideal))) ⟨m, fun _ => 0, g⟩
    (fun r => ∀ c : Dev Cert.RowsIdeal.nD,
      r.2.mem ((c.tc : Thread RowsIdeal.nD RowsIdeal.τ).loc RowsIdeal.main_v17) = RowsIdeal.Rws.rows m c 1024 (by omega)
      ∧ r.2.mem ((c.tc : Thread RowsIdeal.nD RowsIdeal.τ).loc RowsIdeal.main_v19) = RowsIdeal.Rws.rows m c 1280 (by omega)
      ∧ r.2.mem ((c.tc : Thread RowsIdeal.nD RowsIdeal.τ).loc RowsIdeal.main_v21) = RowsIdeal.Rws.rows m c 1536 (by omega)
      ∧ r.2.mem ((c.tc : Thread RowsIdeal.nD RowsIdeal.τ).loc RowsIdeal.main_v23) = RowsIdeal.Rws.rows m c 1792 (by omega)
      ∧ r.2.mem ((c.tc : Thread RowsIdeal.nD RowsIdeal.τ).loc RowsIdeal.main_v26) = RowsIdeal.Rws.lastRows m c 2048 (by omega)
      ∧ r.2.mem ((c.tc : Thread RowsIdeal.nD RowsIdeal.τ).loc RowsIdeal.main_v29) = RowsIdeal.Rws.lastRows m c 2304 (by omega)) :=
  θ_run_mono (Cert.RowsIdeal.Gen.run_main m g) fun _ h c =>
    ⟨((h c).2 RowsIdeal.main_v17 (Pipeline.mem_restRefs_of RowsIdeal.main_v17 (by decide) (by decide))).trans (RowsIdeal.Rws.tail17 m c),
     ((h c).2 RowsIdeal.main_v19 (Pipeline.mem_restRefs_of RowsIdeal.main_v19 (by decide) (by decide))).trans (RowsIdeal.Rws.tail19 m c),
     ((h c).2 RowsIdeal.main_v21 (Pipeline.mem_restRefs_of RowsIdeal.main_v21 (by decide) (by decide))).trans (RowsIdeal.Rws.tail21 m c),
     ((h c).2 RowsIdeal.main_v23 (Pipeline.mem_restRefs_of RowsIdeal.main_v23 (by decide) (by decide))).trans (RowsIdeal.Rws.tail23 m c),
     ((h c).2 RowsIdeal.main_v26 (Pipeline.mem_restRefs_of RowsIdeal.main_v26 (by decide) (by decide))).trans (RowsIdeal.Rws.tail26 m c),
     ((h c).2 RowsIdeal.main_v29 (Pipeline.mem_restRefs_of RowsIdeal.main_v29 (by decide) (by decide))).trans (RowsIdeal.Rws.tail29 m c)⟩

theorem rows_algebraic : algebraic_RowsIdeal_RowsReferenceIdeal := by
  intro m g m' g' _ hagree
  have hsame : ∀ c, RowsSame m m' c := fun c => by
    obtain ⟨e0, e1, e2⟩ := hagree c
    exact ⟨e0, e1, e2⟩
  refine ⟨_, _, _, _, _, _,
    θ_run_mono (θ_run_and (rows_results_run m g) (Cert.RowsIdeal.Gen.frame m g)) (fun _ h c =>
      ⟨(h.1 c).1, (h.1 c).2.1, (h.1 c).2.2.1, (h.1 c).2.2.2.1, (h.1 c).2.2.2.2.1, (h.1 c).2.2.2.2.2, h.2.1 c⟩),
    θ_run_mono (Cert.RowsReferenceIdeal.Rws.results_run m' g') (fun _ h c =>
      ⟨(h c).1.trans (rows_all_eq (hsame c) 1024 (by omega)), (h c).2.1.trans (rows_all_eq (hsame c) 1280 (by omega)),
       (h c).2.2.1.trans (rows_all_eq (hsame c) 1536 (by omega)), (h c).2.2.2.1.trans (rows_all_eq (hsame c) 1792 (by omega)),
       (h c).2.2.2.2.1.trans (rows_last_eq (hsame c) 2048 (by omega)), (h c).2.2.2.2.2.1.trans (rows_last_eq (hsame c) 2304 (by omega)),
       (h c).2.2.2.2.2.2⟩)⟩

end Cert.Proof

end
-- ==== Proof.Sample.Frames.lean ====
module

public import proofs.«01_k».proof.Defs
public import proofs.«01_k».proof.Proof.Gen.Sample
public import proofs.«01_k».proof.Proof.Gen.SampleIdeal
public import proofs.«01_k».proof.Proof.Gen.SampleIdeal.Frame
public import proofs.«01_k».proof.Proof.Gen.SampleIdeal.Skeleton
public import proofs.«01_k».proof.Proof.Gen.SampleReferenceIdeal
public import proofs.«01_k».proof.Proof.Gen.SampleReferenceIdeal.Run

/-! The sample projection's frames: the kernel at both readings by one run, the reference by its run. -/

@[expose] public section

set_option maxRecDepth 16384

noncomputable section

namespace Cert.Proof

open Idealize.ShloMosaic Idealize.SL.Sem

instance sample_facts : Cert.Sample.Facts := Cert.Sample.Gen.facts
instance sampleIdeal_facts : Cert.SampleIdeal.Facts := Cert.SampleIdeal.Gen.facts
instance sampleReference_facts : Cert.SampleReferenceIdeal.Facts := Cert.SampleReferenceIdeal.Gen.facts

theorem sample_frame_ideal : quiescent_SampleIdeal := fun m g _ => Cert.SampleIdeal.Gen.frame m g

/-- The two printed body tables are one. -/
theorem sample_bodies_same : @Cert.Sample.defs₀ Bits _ _ = @Cert.SampleIdeal.defs₀ Bits _ _ := by
  unfold Cert.Sample.defs₀ Cert.SampleIdeal.defs₀
  refine congrArg Defs.onTc (funext fun b => funext fun a => ?_)
  match b, a with
  | 0, (t, s) => rfl
  | ⟨_ + 1, h⟩, _ => exact absurd h (Nat.not_lt.2 (Nat.le_add_left _ _))

theorem sample_defs_same : @Cert.Sample.defs Bits _ _ = @Cert.SampleIdeal.defs Bits _ _ :=
  congrArg (Pipeline.defs (Cert.Sample.pcfgs (F := Bits))) sample_bodies_same

set_option maxHeartbeats 2000000 in
theorem sample_frame_bits : quiescent_Sample := fun m g _ => by
  rw [sample_defs_same]
  exact Cert.SampleIdeal.Gen.frame (F := Bits) m g

theorem sample_frame_ref : quiescent_SampleReferenceIdeal := fun m g _ =>
  (θ_run Cert.SampleReferenceIdeal.defs _ _).mono
    (fun r h => ⟨fun c => (h c).2.2.2.2.2.2, sem_eq_zero_of_no_sems (by decide) r.2⟩) (Cert.SampleReferenceIdeal.Value.run m g)

end Cert.Proof

end
-- ==== Proof.Sample.KVal.lean ====
module

public import proofs.«01_k».proof.Proof.Sample.Pay
public import Idealize.ShloMosaic.Lib.Pipeline.ValueKit
public import Idealize.ShloMosaic.Lib.StableHlo.RunRead
public import Idealize.ShloMosaic.Lib.StableHlo.ReadAt

/-! The sample rows the projection leaves in its arrays, and the host's slices of them, over the arguments. -/

@[expose] public section

set_option maxRecDepth 16384

noncomputable section

namespace Cert.SampleIdeal.Smp

open Idealize.ShloMosaic Idealize.ShloMosaic.TcCoe Idealize.ShloMosaic.Tactic
open Idealize.ShloMosaic.StableHlo
open Cert.SampleIdeal Cert.SampleIdeal.Gen Cert.RowSpec Cert.MlpSpec

variable (m : (ℓ : Loc nD τ sig) → Buf (Elt Ideal) ℓ) (c : Dev nD)

/-- The sample's rows. -/
def X : FVec Ideal S8x1x2048 .f32 := m ((c.tc : Thread nD τ).loc main_arg0)
/-- The window's keys. -/
def WK : FVec Ideal S8x512x4x64 .f32 := m ((c.tc : Thread nD τ).loc main_arg1)
/-- The window's values. -/
def WV : FVec Ideal S8x512x4x64 .f32 := m ((c.tc : Thread nD τ).loc main_arg2)
/-- The norm's scale. -/
def G : FVec Ideal S2048 .f32 := m ((c.tc : Thread nD τ).loc main_arg3)
/-- The weights out of the normed row. -/
def Win : FVec Ideal S2048x9792 .f32 := m ((c.tc : Thread nD τ).loc main_arg4)
/-- The rows the kernel is handed: the sample's eight and eight of padding. -/
def Xp : FVec Ideal S16x2048 .f32 := V m c main_v14

theorem idx : ∀ t : Fin cfg0.N, win0_0.index t = ![0, 0] ∧ win0_1.index t = ![0, 0] ∧ win0_2.index t = ![0, 0]
    ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel : ∀ t : Fin grid0.N, _)

theorem blk0 (t : Fin cfg0.N) (r : Fin 16) (k : Fin 2048) : (iblk m c 0 t : FVec Ideal S16x2048 .f32) (ix2 r k) = Xp m c (ix2 r k) := by
  have e : (win0_0.blk t).view.emb (ix2 r k) = (ix2 r k : S16x2048.Idx) := by
    blk_ext [idx t]
  blk_simp [iblk]
  rw [e]
  rfl

theorem Xp_at (r : Fin 8) (k : Fin 2048) : Xp m c (ix2 (⟨r.val, by omega⟩ : Fin 16) k) = X m c (ix3 r 0 k) := by
  unfold Xp
  unfold_abbrev_sides
  after_reads_at
  rfl

theorem G_at (k : Fin 2048) : (V m c main_v12 : FVec Ideal S1x2048 .f32) (ix2 0 k) = G m c (ix1 k) := by
  unfold_abbrev_sides
  after_reads_at
  rfl

theorem Win_at (n : Fin 9792) (k : Fin 2048) : (V m c main_v1 : FVec Ideal S9792x2048 .bf16) (ix2 n k) = Win m c (ix2 k n) := by
  unfold_abbrev_sides
  after_reads_at
  rfl

theorem blk1 (t : Fin cfg0.N) (k : Fin 2048) : (iblk m c 1 t : FVec Ideal S1x2048 .f32) (ix2 0 k) = G m c (ix1 k) := by
  have e : (win0_1.blk t).view.emb (ix2 0 k) = (ix2 0 k : S1x2048.Idx) := by
    blk_ext [idx t]
  blk_simp [iblk]
  rw [e]
  exact G_at m c k

theorem emb2 (t : Fin cfg0.N) (r : Fin 2560) (k : Fin 2048) : (win0_2.blk t).view.emb (ix2 r k) = (ix2 (⟨r.val, by omega⟩ : Fin 9792) k : S9792x2048.Idx) := by
  have h0 := Pipeline.Window.rect_emb_val_off win0_2 t (ix2 r k)
  funext a
  fin_cases a
  · refine Fin.ext ((h0 0).trans ?_)
    show 0 + r.val = r.val
    omega
  · refine Fin.ext ((h0 1).trans ?_)
    show 0 + k.val = k.val
    omega

theorem blk2 (t : Fin cfg0.N) (r : Fin 2560) (k : Fin 2048) : (iblk m c 2 t : FVec Ideal S2560x2048 .bf16) (ix2 r k) = Win m c (ix2 k ⟨r.val, by omega⟩) := by
  have e := emb2 t r k
  blk_simp [iblk]
  rw [e]
  exact Win_at m c _ k

/-- A row's product with one column of the weights. -/
def kv (r : Fin 16) (n : Fin 9792) : EReal := col (fun k => Xp m c (ix2 r k)) (fun k => G m c (ix1 k)) (fun k => Win m c (ix2 k n))

/-- The array of 256 columns from column `o` on. -/
def kvArr (o : ℕ) (ho : o + 256 ≤ 9792) : FVec Ideal S16x256 .f32 := fun i => kv m c (i 0) ⟨o + (i 1).val, by have : (i 1).val < 256 := (i 1).isLt; omega⟩

/-- What the body leaves in a block of 256 columns. -/
theorem block_at (t : Fin cfg0.N) (o : ℕ) (ho : o + 256 ≤ 2560) (inb : ∀ a, (![o, 0] : Fin 2 → ℕ) a + S256x2048.size a ≤ S2560x2048.size a) (r : Fin 16) (n : Fin 256) :
    k0_pay1 (F := Ideal) (k0_pay5 (iblk m c 0 t) (iblk m c 1 t)) (View.ld (iblk m c 2 t : FVec Ideal S2560x2048 .bf16) (Rect.unit (s := S2560x2048) ![o, 0] S256x2048.size inb)) (ix2 r n)
      = kvArr m c o (by omega) (ix2 r n) := by
  refine (pay1_at _ _ _ r n).trans ?_
  show _ = kv m c r ⟨o + n.val, _⟩
  unfold kv
  simp only [blk0, blk1]
  exact congrArg (col _ _) (funext fun k => (ld_at _ o ho inb n k).trans (blk2 m c t _ k))

theorem arr_index (y : S16x256.Idx) : ∃ (r : Fin 16) (d : Fin 256), y = ix2 r d := ⟨y 0, y 1, by funext i; fin_cases i <;> rfl⟩

theorem final6 : (dats m 0 c).arrAt 6 (cfgs 0).N = kvArr m c 1024 (by omega) := by
  refine (dats m 0 c).arrAt_eq_of_covers 6 (kvArr m c 1024 (by omega)) (by decide +kernel) fun t hf y => ?_
  obtain ⟨r, d, rfl⟩ := arr_index y
  have he : (win0_6.blk t).view.emb (ix2 r d) = (ix2 r d : S16x256.Idx) := by
    blk_ext [idx t]
  refine Eq.trans ?_ (congrArg (kvArr m c 1024 (by omega)) he).symm
  blk_simp
  rw [after0_6]
  frame_out

  rw [pay7_eq]
  exact block_at m c t 1024 (by omega) _ r d

theorem final7 : (dats m 0 c).arrAt 7 (cfgs 0).N = kvArr m c 1280 (by omega) := by
  refine (dats m 0 c).arrAt_eq_of_covers 7 (kvArr m c 1280 (by omega)) (by decide +kernel) fun t hf y => ?_
  obtain ⟨r, d, rfl⟩ := arr_index y
  have he : (win0_7.blk t).view.emb (ix2 r d) = (ix2 r d : S16x256.Idx) := by
    blk_ext [idx t]
  refine Eq.trans ?_ (congrArg (kvArr m c 1280 (by omega)) he).symm
  blk_simp
  rw [after0_7]
  frame_out

  rw [pay8_eq]
  exact block_at m c t 1280 (by omega) _ r d

theorem final8 : (dats m 0 c).arrAt 8 (cfgs 0).N = kvArr m c 1536 (by omega) := by
  refine (dats m 0 c).arrAt_eq_of_covers 8 (kvArr m c 1536 (by omega)) (by decide +kernel) fun t hf y => ?_
  obtain ⟨r, d, rfl⟩ := arr_index y
  have he : (win0_8.blk t).view.emb (ix2 r d) = (ix2 r d : S16x256.Idx) := by
    blk_ext [idx t]
  refine Eq.trans ?_ (congrArg (kvArr m c 1536 (by omega)) he).symm
  blk_simp
  rw [after0_8]
  frame_out
  unfold k0_pay9
  frame_out

  exact block_at m c t 1536 (by omega) _ r d

theorem final9 : (dats m 0 c).arrAt 9 (cfgs 0).N = kvArr m c 1792 (by omega) := by
  refine (dats m 0 c).arrAt_eq_of_covers 9 (kvArr m c 1792 (by omega)) (by decide +kernel) fun t hf y => ?_
  obtain ⟨r, d, rfl⟩ := arr_index y
  have he : (win0_9.blk t).view.emb (ix2 r d) = (ix2 r d : S16x256.Idx) := by
    blk_ext [idx t]
  refine Eq.trans ?_ (congrArg (kvArr m c 1792 (by omega)) he).symm
  blk_simp
  rw [after0_9]
  frame_out
  unfold k0_pay9
  frame_out
  rw [pay2_eq]
  exact block_at m c t 1792 (by omega) _ r d

theorem final10 : (dats m 0 c).arrAt 10 (cfgs 0).N = kvArr m c 2048 (by omega) := by
  refine (dats m 0 c).arrAt_eq_of_covers 10 (kvArr m c 2048 (by omega)) (by decide +kernel) fun t hf y => ?_
  obtain ⟨r, d, rfl⟩ := arr_index y
  have he : (win0_10.blk t).view.emb (ix2 r d) = (ix2 r d : S16x256.Idx) := by
    blk_ext [idx t]
  refine Eq.trans ?_ (congrArg (kvArr m c 2048 (by omega)) he).symm
  blk_simp
  rw [after0_10]
  frame_out
  unfold k0_pay9
  frame_out
  rw [pay3_eq]
  exact block_at m c t 2048 (by omega) _ r d

theorem final11 : (dats m 0 c).arrAt 11 (cfgs 0).N = kvArr m c 2304 (by omega) := by
  refine (dats m 0 c).arrAt_eq_of_covers 11 (kvArr m c 2304 (by omega)) (by decide +kernel) fun t hf y => ?_
  obtain ⟨r, d, rfl⟩ := arr_index y
  have he : (win0_11.blk t).view.emb (ix2 r d) = (ix2 r d : S16x256.Idx) := by
    blk_ext [idx t]
  refine Eq.trans ?_ (congrArg (kvArr m c 2304 (by omega)) he).symm
  blk_simp
  rw [after0_11]
  frame_out
  unfold k0_pay9
  frame_out
  rw [pay4_eq]
  exact block_at m c t 2304 (by omega) _ r d

/-- What a buffer holds after the host's operations that follow the kernel. -/
abbrev tail (b : Ref sig .tc) : Buf (Elt Ideal) ((c : Thread nD τ).loc b) := Pipeline.afterTail₀ cfgs (dats m) 0 (V0 m) [hostOps1] c b

/-- The sample's new rows of the columns from `o` on, by head. -/
def newRows (o : ℕ) (ho : o + 256 ≤ 9792) : FVec Ideal S8x1x4x64 .f32 := fun i =>
  col (fun k => X m c (ix3 (i 0) 0 k)) (fun k => G m c (ix1 k)) (fun k => Win m c (ix2 k ⟨o + ((i 2).val * 64 + (i 3).val), by have : (i 2).val < 4 := (i 2).isLt; have : (i 3).val < 64 := (i 3).isLt; omega⟩))

theorem kvArr_at (o : ℕ) (ho : o + 256 ≤ 9792) (r : Fin 8) (h : Fin 4) (d : Fin 64) (n : Fin 256) (hn : n.val = h.val * 64 + d.val) :
    kvArr m c o ho (ix2 (⟨r.val, by omega⟩ : Fin 16) n) = newRows m c o ho (ix4 r 0 h d) := by
  show kv m c (⟨r.val, _⟩ : Fin 16) ⟨o + n.val, _⟩ = col (fun k => X m c (ix3 r 0 k)) (fun k => G m c (ix1 k)) (fun k => Win m c (ix2 k ⟨o + (h.val * 64 + d.val), _⟩))
  unfold kv
  simp only [Xp_at, hn]

/-- The window with its first position dropped and the sample's new row at the end. -/
def newWin (w : FVec Ideal S8x512x4x64 .f32) (o : ℕ) (ho : o + 256 ≤ 9792) : FVec Ideal S8x512x4x64 .f32 := fun i =>
  if h : (i 1).val < 511 then w (ix4 (i 0) ⟨1 + (i 1).val, by omega⟩ (i 2) (i 3)) else newRows m c o ho (ix4 (i 0) 0 (i 2) (i 3))

theorem win_index (y : S8x512x4x64.Idx) : ∃ (r : Fin 8) (p : Fin 512) (h : Fin 4) (d : Fin 64), y = ix4 r p h d :=
  ⟨y 0, y 1, y 2, y 3, by funext i; fin_cases i <;> rfl⟩

theorem rows_index (y : S8x1x4x64.Idx) : ∃ (r : Fin 8) (h : Fin 4) (d : Fin 64), y = ix4 r 0 h d :=
  ⟨y 0, y 2, y 3, by
    obtain ⟨z, hz⟩ : ∃ z : Fin 1, y 1 = z := ⟨_, rfl⟩
    obtain rfl : z = 0 := Subsingleton.elim _ _
    funext i
    fin_cases i
    · rfl
    · exact hz
    · rfl
    · rfl⟩

/-- What a buffer holds when the kernel has run and the host's operations after it have not. -/
abbrev exit (b : Ref sig .tc) : Buf (Elt Ideal) ((c : Thread nD τ).loc b) :=
  Pipeline.withArrays (cfgs 0).spec c (V0 m c) (fun w => (dats m 0 c).arrAt w (cfgs 0).N) (Proc.devRef .tc b)

theorem exit6 : (exit m c main_v16_1 : FVec Ideal S16x256 .f32) = kvArr m c 1024 (by omega) :=
  (Pipeline.withArrays_arr spec0 launch0.win.arr_inj c (V0 m c) _ 6).trans (final6 m c)
theorem exit7 : (exit m c main_v16_2 : FVec Ideal S16x256 .f32) = kvArr m c 1280 (by omega) :=
  (Pipeline.withArrays_arr spec0 launch0.win.arr_inj c (V0 m c) _ 7).trans (final7 m c)
theorem exit8 : (exit m c main_v16_3 : FVec Ideal S16x256 .f32) = kvArr m c 1536 (by omega) :=
  (Pipeline.withArrays_arr spec0 launch0.win.arr_inj c (V0 m c) _ 8).trans (final8 m c)
theorem exit9 : (exit m c main_v16_4 : FVec Ideal S16x256 .f32) = kvArr m c 1792 (by omega) :=
  (Pipeline.withArrays_arr spec0 launch0.win.arr_inj c (V0 m c) _ 9).trans (final9 m c)
theorem exit10 : (exit m c main_v16_5 : FVec Ideal S16x256 .f32) = kvArr m c 2048 (by omega) :=
  (Pipeline.withArrays_arr spec0 launch0.win.arr_inj c (V0 m c) _ 10).trans (final10 m c)
theorem exit11 : (exit m c main_v16_6 : FVec Ideal S16x256 .f32) = kvArr m c 2304 (by omega) :=
  (Pipeline.withArrays_arr spec0 launch0.win.arr_inj c (V0 m c) _ 11).trans (final11 m c)
theorem exitK : (exit m c main_arg1 : FVec Ideal S8x512x4x64 .f32) = WK m c :=
  (Pipeline.withArrays_of_ne spec0 c (V0 m c) _ main_arg1 (by decide)).trans (V_main_arg1 m c)
theorem exitV : (exit m c main_arg2 : FVec Ideal S8x512x4x64 .f32) = WV m c :=
  (Pipeline.withArrays_of_ne spec0 c (V0 m c) _ main_arg2 (by decide)).trans (V_main_arg2 m c)

theorem tail18 : (tail m c main_v18 : FVec Ideal S8x1x4x64 .f32) = newRows m c 1024 (by omega) := by
  funext j
  obtain ⟨r, h, d, rfl⟩ := rows_index j
  unfold tail Pipeline.afterTail₀
  after_reads_at
  refine (congrFun (exit6 m c) _).trans (kvArr_at m c 1024 (by omega) r h d _ ?_)
  rfl

theorem tail20 : (tail m c main_v20 : FVec Ideal S8x1x4x64 .f32) = newRows m c 1280 (by omega) := by
  funext j
  obtain ⟨r, h, d, rfl⟩ := rows_index j
  unfold tail Pipeline.afterTail₀
  after_reads_at
  refine (congrFun (exit7 m c) _).trans (kvArr_at m c 1280 (by omega) r h d _ ?_)
  rfl

theorem tail22 : (tail m c main_v22 : FVec Ideal S8x1x4x64 .f32) = newRows m c 1536 (by omega) := by
  funext j
  obtain ⟨r, h, d, rfl⟩ := rows_index j
  unfold tail Pipeline.afterTail₀
  after_reads_at
  refine (congrFun (exit8 m c) _).trans (kvArr_at m c 1536 (by omega) r h d _ ?_)
  rfl

theorem tail24 : (tail m c main_v24 : FVec Ideal S8x1x4x64 .f32) = newRows m c 1792 (by omega) := by
  funext j
  obtain ⟨r, h, d, rfl⟩ := rows_index j
  unfold tail Pipeline.afterTail₀
  after_reads_at
  refine (congrFun (exit9 m c) _).trans (kvArr_at m c 1792 (by omega) r h d _ ?_)
  rfl

theorem tail28 : (tail m c main_v28 : FVec Ideal S8x512x4x64 .f32) = newWin m c (WK m c) 2048 (by omega) := by
  funext j
  obtain ⟨r, p, h, d, rfl⟩ := win_index j
  unfold tail Pipeline.afterTail₀
  after_reads_at
  unfold newWin
  refine dite_congr rfl (fun hp => congrFun (exitK m c) _) fun hp => (congrFun (exit10 m c) _).trans (kvArr_at m c 2048 (by omega) r h d _ ?_)
  rfl

theorem tail32 : (tail m c main_v32 : FVec Ideal S8x512x4x64 .f32) = newWin m c (WV m c) 2304 (by omega) := by
  funext j
  obtain ⟨r, p, h, d, rfl⟩ := win_index j
  unfold tail Pipeline.afterTail₀
  after_reads_at
  unfold newWin
  refine dite_congr rfl (fun hp => congrFun (exitV m c) _) fun hp => (congrFun (exit11 m c) _).trans (kvArr_at m c 2304 (by omega) r h d _ ?_)
  rfl

end Cert.SampleIdeal.Smp

end
-- ==== Proof.Sample.RefVal.lean ====
module

public import proofs.«01_k».proof.Proof.Sample.Pay
public import Idealize.ShloMosaic.Lib.Claim

/-! The sample reference's results at an index. -/

@[expose] public section

set_option maxRecDepth 16384

noncomputable section

namespace Cert.SampleReferenceIdeal.Smp

open Idealize.ShloMosaic Idealize.ShloMosaic.TcCoe Idealize.SL.Sem
open Cert.SampleReferenceIdeal Cert.SampleReferenceIdeal.Gen Cert.SampleReferenceIdeal.Value Cert.RowSpec Cert.MlpSpec

variable (m : (ℓ : Loc nD τ sig) → Buf (Elt Ideal) ℓ) (c : Dev nD)

/-- The sample's rows. -/
def X : FVec Ideal S8x1x2048 .f32 := m ((c.tc : Thread nD τ).loc main_arg0)
/-- The window's keys. -/
def WK : FVec Ideal S8x512x4x64 .f32 := m ((c.tc : Thread nD τ).loc main_arg1)
/-- The window's values. -/
def WV : FVec Ideal S8x512x4x64 .f32 := m ((c.tc : Thread nD τ).loc main_arg2)
/-- The norm's scale. -/
def G : FVec Ideal S2048 .f32 := m ((c.tc : Thread nD τ).loc main_arg3)
/-- The weights out of the normed row. -/
def Win : FVec Ideal S2048x9792 .f32 := m ((c.tc : Thread nD τ).loc main_arg4)

/-- The sample's new rows of the columns from `o` on, by head. -/
def newRows (o : ℕ) (ho : o + 256 ≤ 9792) : FVec Ideal S8x1x4x64 .f32 := fun i =>
  col (fun k => X m c (ix3 (i 0) 0 k)) (fun k => G m c (ix1 k)) (fun k => Win m c (ix2 k ⟨o + ((i 2).val * 64 + (i 3).val), by have : (i 2).val < 4 := (i 2).isLt; have : (i 3).val < 64 := (i 3).isLt; omega⟩))

/-- The window with its first position dropped and the sample's new row at the end. -/
def newWin (w : FVec Ideal S8x512x4x64 .f32) (o : ℕ) (ho : o + 256 ≤ 9792) : FVec Ideal S8x512x4x64 .f32 := fun i =>
  if h : (i 1).val < 511 then w (ix4 (i 0) ⟨1 + (i 1).val, by omega⟩ (i 2) (i 3)) else newRows m c o ho (ix4 (i 0) 0 (i 2) (i 3))

theorem rows_index (y : S8x1x4x64.Idx) : ∃ (r : Fin 8) (h : Fin 4) (d : Fin 64), y = ix4 r 0 h d :=
  ⟨y 0, y 2, y 3, by
    obtain ⟨z, hz⟩ : ∃ z : Fin 1, y 1 = z := ⟨_, rfl⟩
    obtain rfl : z = 0 := Subsingleton.elim _ _
    funext i
    fin_cases i
    · rfl
    · exact hz
    · rfl
    · rfl⟩

theorem win_index (y : S8x512x4x64.Idx) : ∃ (r : Fin 8) (p : Fin 512) (h : Fin 4) (d : Fin 64), y = ix4 r p h d :=
  ⟨y 0, y 1, y 2, y 3, by funext i; fin_cases i <;> rfl⟩

/-- The reference's run, with its six results and its arguments. -/
theorem results_run (ρ : Dev nD → PrngReg) : θ_run defs (onTc (τ := τ) (main (F := Ideal))) ⟨m, fun _ => 0, ρ⟩ fun r => ∀ c : Dev nD,
      r.2.mem ((c.tc : Thread nD τ).loc main_v17) = newRows m c 1024 (by omega)
      ∧ r.2.mem ((c.tc : Thread nD τ).loc main_v19) = newRows m c 1280 (by omega)
      ∧ r.2.mem ((c.tc : Thread nD τ).loc main_v21) = newRows m c 1536 (by omega)
      ∧ r.2.mem ((c.tc : Thread nD τ).loc main_v23) = newRows m c 1792 (by omega)
      ∧ r.2.mem ((c.tc : Thread nD τ).loc main_v30) = newWin m c (WK m c) 2048 (by omega)
      ∧ r.2.mem ((c.tc : Thread nD τ).loc main_v31) = newWin m c (WV m c) 2304 (by omega)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Value.run m ρ)
  · funext j
    obtain ⟨r, h, d, rfl⟩ := rows_index j
    show (_ : FVec Ideal S8x1x4x64 .f32) (ix4 r 0 h d) = newRows m c 1024 (by omega) (ix4 r 0 h d)
    rw [show m ((c.tc : Thread nD τ).loc main_arg0) = X m c from rfl, show m ((c.tc : Thread nD τ).loc main_arg3) = G m c from rfl, show m ((c.tc : Thread nD τ).loc main_arg4) = Win m c from rfl]
    unfold newRows
    generalize X m c = v0
    generalize G m c = v3
    generalize Win m c = v4
    unfold col nrm
    clear * -
    pointwise
  · funext j
    obtain ⟨r, h, d, rfl⟩ := rows_index j
    show (_ : FVec Ideal S8x1x4x64 .f32) (ix4 r 0 h d) = newRows m c 1280 (by omega) (ix4 r 0 h d)
    rw [show m ((c.tc : Thread nD τ).loc main_arg0) = X m c from rfl, show m ((c.tc : Thread nD τ).loc main_arg3) = G m c from rfl, show m ((c.tc : Thread nD τ).loc main_arg4) = Win m c from rfl]
    unfold newRows
    generalize X m c = v0
    generalize G m c = v3
    generalize Win m c = v4
    unfold col nrm
    clear * -
    pointwise
    refine Finset.sum_congr rfl fun k _ => congrArg _ (congrArg v4 (congrArg (ix2 k) (Fin.ext ?_)))
    show 1024 + (256 + h.val * 64 + d.val) = 1280 + (h.val * 64 + d.val)
    omega
  · funext j
    obtain ⟨r, h, d, rfl⟩ := rows_index j
    show (_ : FVec Ideal S8x1x4x64 .f32) (ix4 r 0 h d) = newRows m c 1536 (by omega) (ix4 r 0 h d)
    rw [show m ((c.tc : Thread nD τ).loc main_arg0) = X m c from rfl, show m ((c.tc : Thread nD τ).loc main_arg3) = G m c from rfl, show m ((c.tc : Thread nD τ).loc main_arg4) = Win m c from rfl]
    unfold newRows
    generalize X m c = v0
    generalize G m c = v3
    generalize Win m c = v4
    unfold col nrm
    clear * -
    pointwise
    refine Finset.sum_congr rfl fun k _ => congrArg _ (congrArg v4 (congrArg (ix2 k) (Fin.ext ?_)))
    show 1024 + (512 + h.val * 64 + d.val) = 1536 + (h.val * 64 + d.val)
    omega
  · funext j
    obtain ⟨r, h, d, rfl⟩ := rows_index j
    show (_ : FVec Ideal S8x1x4x64 .f32) (ix4 r 0 h d) = newRows m c 1792 (by omega) (ix4 r 0 h d)
    rw [show m ((c.tc : Thread nD τ).loc main_arg0) = X m c from rfl, show m ((c.tc : Thread nD τ).loc main_arg3) = G m c from rfl, show m ((c.tc : Thread nD τ).loc main_arg4) = Win m c from rfl]
    unfold newRows
    generalize X m c = v0
    generalize G m c = v3
    generalize Win m c = v4
    unfold col nrm
    clear * -
    pointwise
    refine Finset.sum_congr rfl fun k _ => congrArg _ (congrArg v4 (congrArg (ix2 k) (Fin.ext ?_)))
    show 1024 + (768 + h.val * 64 + d.val) = 1792 + (h.val * 64 + d.val)
    omega
  · funext j
    obtain ⟨r, p, h, d, rfl⟩ := win_index j
    show (_ : FVec Ideal S8x512x4x64 .f32) (ix4 r p h d) = newWin m c (WK m c) 2048 (by omega) (ix4 r p h d)
    rw [show m ((c.tc : Thread nD τ).loc main_arg1) = WK m c from rfl, show m ((c.tc : Thread nD τ).loc main_arg0) = X m c from rfl, show m ((c.tc : Thread nD τ).loc main_arg3) = G m c from rfl, show m ((c.tc : Thread nD τ).loc main_arg4) = Win m c from rfl]
    unfold newWin newRows
    generalize X m c = v0
    generalize WK m c = v1
    generalize G m c = v3
    generalize Win m c = v4
    unfold col nrm
    clear * -
    pointwise
    refine dite_congr (propext ⟨fun hp => by omega, fun hp => by omega⟩) (fun _ => rfl) fun _ => Finset.sum_congr rfl fun k _ => congrArg _ (congrArg v4 (congrArg (ix2 k) (Fin.ext ?_)))
    show 1024 + (1024 + h.val * 64 + d.val) = 2048 + (h.val * 64 + d.val)
    omega
  · funext j
    obtain ⟨r, p, h, d, rfl⟩ := win_index j
    show (_ : FVec Ideal S8x512x4x64 .f32) (ix4 r p h d) = newWin m c (WV m c) 2304 (by omega) (ix4 r p h d)
    rw [show m ((c.tc : Thread nD τ).loc main_arg2) = WV m c from rfl, show m ((c.tc : Thread nD τ).loc main_arg0) = X m c from rfl, show m ((c.tc : Thread nD τ).loc main_arg3) = G m c from rfl, show m ((c.tc : Thread nD τ).loc main_arg4) = Win m c from rfl]
    unfold newWin newRows
    generalize X m c = v0
    generalize WV m c = v1
    generalize G m c = v3
    generalize Win m c = v4
    unfold col nrm
    clear * -
    pointwise
    refine dite_congr (propext ⟨fun hp => by omega, fun hp => by omega⟩) (fun _ => rfl) fun _ => Finset.sum_congr rfl fun k _ => congrArg _ (congrArg v4 (congrArg (ix2 k) (Fin.ext ?_)))
    show 1024 + (1280 + h.val * 64 + d.val) = 2304 + (h.val * 64 + d.val)
    omega

end Cert.SampleReferenceIdeal.Smp

end
-- ==== Proof.Sample.Value.lean ====
module

public import proofs.«01_k».proof.Proof.Sample.Frames
public import proofs.«01_k».proof.Proof.Sample.KVal
public import proofs.«01_k».proof.Proof.Sample.RefVal

/-! The sample projection and the reference compute the same six results. -/

@[expose] public section

set_option maxRecDepth 16384

noncomputable section

namespace Cert.Proof

open Idealize.ShloMosaic Idealize.SL.Sem

section
variable (m : (ℓ : Loc Cert.SampleIdeal.nD Cert.SampleIdeal.τ Cert.SampleIdeal.sig) → Buf (Elt Ideal) ℓ)
  (m' : (ℓ : Loc Cert.SampleReferenceIdeal.nD Cert.SampleReferenceIdeal.τ Cert.SampleReferenceIdeal.sig) → Buf (Elt Ideal) ℓ)
  (c : Dev Cert.SampleIdeal.nD)

/-- The two memories hold the same arguments of the sample projection. -/
structure SampleSame : Prop where
  e0 : SampleReferenceIdeal.Smp.X m' c = SampleIdeal.Smp.X m c
  e1 : SampleReferenceIdeal.Smp.WK m' c = SampleIdeal.Smp.WK m c
  e2 : SampleReferenceIdeal.Smp.WV m' c = SampleIdeal.Smp.WV m c
  e3 : SampleReferenceIdeal.Smp.G m' c = SampleIdeal.Smp.G m c
  e4 : SampleReferenceIdeal.Smp.Win m' c = SampleIdeal.Smp.Win m c

variable {m m' c}

theorem sample_rows_eq (h : SampleSame m m' c) (o : ℕ) (ho : o + 256 ≤ 9792) : SampleReferenceIdeal.Smp.newRows m' c o ho = SampleIdeal.Smp.newRows m c o ho := by
  unfold SampleReferenceIdeal.Smp.newRows SampleIdeal.Smp.newRows
  rw [h.e0, h.e3, h.e4]

theorem sample_win_eq (h : SampleSame m m' c) (w w' : FVec Ideal SampleIdeal.S8x512x4x64 .f32) (hw : w' = w) (o : ℕ) (ho : o + 256 ≤ 9792) :
    SampleReferenceIdeal.Smp.newWin m' c w' o ho = SampleIdeal.Smp.newWin m c w o ho := by
  unfold SampleReferenceIdeal.Smp.newWin SampleIdeal.Smp.newWin
  rw [sample_rows_eq h o ho, hw]

end

/-- What the sample projection leaves in its six results. -/
theorem sample_results_run (m : (ℓ : Loc Cert.SampleIdeal.nD Cert.SampleIdeal.τ Cert.SampleIdeal.sig) → Buf (Elt Ideal) ℓ) (g : Dev Cert.SampleIdeal.nD → PrngReg) :
    θ_run (Cert.SampleIdeal.defs (F := Ideal)) (onTc (τ := Cert.SampleIdeal.τ) (Cert.SampleIdeal.main (F := Ideal))) ⟨m, fun _ => 0, g⟩
    (fun r => ∀ c : Dev Cert.SampleIdeal.nD,
      r.2.mem ((c.tc : Thread SampleIdeal.nD SampleIdeal.τ).loc SampleIdeal.main_v18) = SampleIdeal.Smp.newRows m c 1024 (by omega)
      ∧ r.2.mem ((c.tc : Thread SampleIdeal.nD SampleIdeal.τ).loc SampleIdeal.main_v20) = SampleIdeal.Smp.newRows m c 1280 (by omega)
      ∧ r.2.mem ((c.tc : Thread SampleIdeal.nD SampleIdeal.τ).loc SampleIdeal.main_v22) = SampleIdeal.Smp.newRows m c 1536 (by omega)
      ∧ r.2.mem ((c.tc : Thread SampleIdeal.nD SampleIdeal.τ).loc SampleIdeal.main_v24) = SampleIdeal.Smp.newRows m c 1792 (by omega)
      ∧ r.2.mem ((c.tc : Thread SampleIdeal.nD SampleIdeal.τ).loc SampleIdeal.main_v28) = SampleIdeal.Smp.newWin m c (SampleIdeal.Smp.WK m c) 2048 (by omega)
      ∧ r.2.mem ((c.tc : Thread SampleIdeal.nD SampleIdeal.τ).loc SampleIdeal.main_v32) = SampleIdeal.Smp.newWin m c (SampleIdeal.Smp.WV m c) 2304 (by omega)) :=
  θ_run_mono (Cert.SampleIdeal.Gen.run_main m g) fun _ h c =>
    ⟨((h c).2 SampleIdeal.main_v18 (Pipeline.mem_restRefs_of SampleIdeal.main_v18 (by decide) (by decide))).trans (SampleIdeal.Smp.tail18 m c),
     ((h c).2 SampleIdeal.main_v20 (Pipeline.mem_restRefs_of SampleIdeal.main_v20 (by decide) (by decide))).trans (SampleIdeal.Smp.tail20 m c),
     ((h c).2 SampleIdeal.main_v22 (Pipeline.mem_restRefs_of SampleIdeal.main_v22 (by decide) (by decide))).trans (SampleIdeal.Smp.tail22 m c),
     ((h c).2 SampleIdeal.main_v24 (Pipeline.mem_restRefs_of SampleIdeal.main_v24 (by decide) (by decide))).trans (SampleIdeal.Smp.tail24 m c),
     ((h c).2 SampleIdeal.main_v28 (Pipeline.mem_restRefs_of SampleIdeal.main_v28 (by decide) (by decide))).trans (SampleIdeal.Smp.tail28 m c),
     ((h c).2 SampleIdeal.main_v32 (Pipeline.mem_restRefs_of SampleIdeal.main_v32 (by decide) (by decide))).trans (SampleIdeal.Smp.tail32 m c)⟩

theorem sample_algebraic : algebraic_SampleIdeal_SampleReferenceIdeal := by
  intro m g m' g' _ hagree
  have hsame : ∀ c, SampleSame m m' c := fun c => by
    obtain ⟨e0, e1, e2, e3, e4⟩ := hagree c
    exact ⟨e0, e1, e2, e3, e4⟩
  refine ⟨_, _, _, _, _, _,
    θ_run_mono (θ_run_and (sample_results_run m g) (Cert.SampleIdeal.Gen.frame m g)) (fun _ h c =>
      ⟨(h.1 c).1, (h.1 c).2.1, (h.1 c).2.2.1, (h.1 c).2.2.2.1, (h.1 c).2.2.2.2.1, (h.1 c).2.2.2.2.2, h.2.1 c⟩),
    θ_run_mono (Cert.SampleReferenceIdeal.Smp.results_run m' g') (fun _ h c =>
      ⟨(h c).1.trans (sample_rows_eq (hsame c) 1024 (by omega)), (h c).2.1.trans (sample_rows_eq (hsame c) 1280 (by omega)),
       (h c).2.2.1.trans (sample_rows_eq (hsame c) 1536 (by omega)), (h c).2.2.2.1.trans (sample_rows_eq (hsame c) 1792 (by omega)),
       (h c).2.2.2.2.1.trans (sample_win_eq (hsame c) _ _ (hsame c).e1 2048 (by omega)), (h c).2.2.2.2.2.1.trans (sample_win_eq (hsame c) _ _ (hsame c).e2 2304 (by omega)),
       (h c).2.2.2.2.2.2⟩)⟩

end Cert.Proof

end
-- ==== Proof.Lin.Frames.lean ====
module

public import proofs.«01_k».proof.Defs
public import proofs.«01_k».proof.Proof.Gen.Lin
public import proofs.«01_k».proof.Proof.Gen.LinIdeal
public import proofs.«01_k».proof.Proof.Gen.LinIdeal.Frame
public import proofs.«01_k».proof.Proof.Gen.LinIdeal.Skeleton
public import proofs.«01_k».proof.Proof.Gen.LinReferenceIdeal
public import proofs.«01_k».proof.Proof.Gen.LinReferenceIdeal.Run

/-! The second prompt projection's frames: the kernel at both readings by one run, the reference by its run. -/

@[expose] public section

set_option maxRecDepth 16384

noncomputable section

namespace Cert.Proof

open Idealize.ShloMosaic Idealize.SL.Sem

instance lin_facts : Cert.Lin.Facts := Cert.Lin.Gen.facts
instance linIdeal_facts : Cert.LinIdeal.Facts := Cert.LinIdeal.Gen.facts
instance linReference_facts : Cert.LinReferenceIdeal.Facts := Cert.LinReferenceIdeal.Gen.facts

theorem lin_frame_ideal : quiescent_LinIdeal := fun m g _ => Cert.LinIdeal.Gen.frame m g

set_option maxHeartbeats 4000000 in
/-- The two printed body tables are one. -/
theorem lin_bodies_same : @Cert.Lin.defs₀ Bits _ _ = @Cert.LinIdeal.defs₀ Bits _ _ := by
  unfold Cert.Lin.defs₀ Cert.LinIdeal.defs₀
  refine congrArg Defs.onTc (funext fun b => funext fun a => ?_)
  match b, a with
  | 0, (t, s) => rfl
  | ⟨_ + 1, h⟩, _ => exact absurd h (Nat.not_lt.2 (Nat.le_add_left _ _))

theorem lin_defs_same : @Cert.Lin.defs Bits _ _ = @Cert.LinIdeal.defs Bits _ _ :=
  congrArg (Pipeline.defs (Cert.Lin.pcfgs (F := Bits))) lin_bodies_same

set_option maxHeartbeats 2000000 in
theorem lin_frame_bits : quiescent_Lin := fun m g _ => by
  rw [lin_defs_same]
  exact Cert.LinIdeal.Gen.frame (F := Bits) m g

theorem lin_frame_ref : quiescent_LinReferenceIdeal := fun m g _ =>
  (θ_run Cert.LinReferenceIdeal.defs _ _).mono
    (fun r h => ⟨fun c => (h c).2.2.2.2.2.2, sem_eq_zero_of_no_sems (by decide) r.2⟩) (Cert.LinReferenceIdeal.Value.run m g)

end Cert.Proof

end
-- ==== Proof.Lin.Pay.lean ====
module

public import proofs.«01_k».proof.Proof.Gen.LinIdeal
public import proofs.«01_k».proof.Proof.Gen.LinIdeal.Frame
public import proofs.«01_k».proof.Proof.Gen.LinIdeal.Skeleton
public import proofs.«01_k».proof.Proof.Gen.LinReferenceIdeal
public import proofs.«01_k».proof.Proof.Gen.LinReferenceIdeal.Run
public import proofs.«01_k».proof.Proof.Sample.Pay

/-! The second prompt projection's block operations at an index. -/

@[expose] public section

set_option maxRecDepth 16384

noncomputable section

namespace Cert.LinIdeal.Ln

open Idealize.ShloMosaic
open Cert.LinIdeal Cert.LinIdeal.Gen Cert.RowSpec Cert.MlpSpec

theorem pay2_at (x : Vec Ideal S512x2048 .f32) (g : Vec Ideal S1x2048 .f32) (r : Fin 512) (d : Fin 2048) :
    k0_pay2 (F := Ideal) x g (ix2 r d) = nrm (fun k => x (ix2 r k)) (fun k => g (ix2 0 k)) d := by
  unfold nrm
  pointwise [k0_pay2]

theorem pay3_at (x : Vec Ideal S512x2048 .f32) (g : Vec Ideal S1x2048 .f32) (w : Vec Ideal S512x2048 .bf16) (r : Fin 512) (n : Fin 512) :
    k0_pay3 (F := Ideal) x g w (ix2 r n) = col (fun k => x (ix2 r k)) (fun k => g (ix2 0 k)) (fun k => w (ix2 n k)) := by
  unfold col
  simp only [← pay2_at]
  unfold k0_pay3
  generalize k0_pay2 (F := Ideal) x g = p
  pointwise

theorem pay4_eq (x : Vec Ideal S512x2048 .f32) (g : Vec Ideal S1x2048 .f32) (w : Vec Ideal S512x2048 .bf16) : k0_pay4 (F := Ideal) x g w = k0_pay3 x g w := rfl

theorem pay7_at (x : Vec Ideal S512x2048 .f32) (g : Vec Ideal S1x2048 .f32) (w : Vec Ideal S1024x2048 .bf16) (r : Fin 512) (n : Fin 1024) :
    k0_pay7 (F := Ideal) (k0_pay2 x g) (k0_pay6 w) (ix2 r n) = col (fun k => x (ix2 r k)) (fun k => g (ix2 0 k)) (fun k => w (ix2 n k)) := by
  unfold col
  simp only [← pay2_at]
  generalize k0_pay2 (F := Ideal) x g = p
  pointwise [k0_pay7, k0_pay6]

theorem pay5_at (x : Vec Ideal S512x2048 .f32) (g : Vec Ideal S1x2048 .f32) (w : Vec Ideal S1024x2048 .bf16) (r : Fin 512) (n : Fin 1024) :
    k0_pay5 (F := Ideal) x g w (ix2 r n) = col (fun k => x (ix2 r k)) (fun k => g (ix2 0 k)) (fun k => w (ix2 n k)) := by
  unfold col
  simp only [← pay2_at]
  unfold k0_pay5
  generalize k0_pay2 (F := Ideal) x g = p
  pointwise

theorem lane_slt : ∀ n : Fin 128, IntOp.cmpi .slt (BitVec.ofNat 32 n.val) 48#32 = if n.val < 48 then 1#1 else 0#1 := by decide +kernel

/-- A gate's lane: the sigmoid of the product and the bias. -/
theorem pay8_gate (x : Vec Ideal S512x2048 .f32) (g : Vec Ideal S1x2048 .f32) (w : Vec Ideal S128x2048 .bf16) (b : Vec Ideal S1x128 .f32) (r : Fin 512) (n : Fin 128) (h : n.val < 48) :
    k0_pay8 (F := Ideal) (k0_pay2 x g) w b (ix2 r n) = Ideal.logistic (col (fun k => x (ix2 r k)) (fun k => g (ix2 0 k)) (fun k => w (ix2 n k)) + b (ix2 0 n)) := by
  unfold col
  simp only [← pay2_at]
  generalize k0_pay2 (F := Ideal) x g = p
  pointwise [k0_pay8]
  rw [lane_slt, if_pos h]
  rfl

/-- A later lane: the product alone. -/
theorem pay8_plain (x : Vec Ideal S512x2048 .f32) (g : Vec Ideal S1x2048 .f32) (w : Vec Ideal S128x2048 .bf16) (b : Vec Ideal S1x128 .f32) (r : Fin 512) (n : Fin 128) (h : ¬ n.val < 48) :
    k0_pay8 (F := Ideal) (k0_pay2 x g) w b (ix2 r n) = col (fun k => x (ix2 r k)) (fun k => g (ix2 0 k)) (fun k => w (ix2 n k)) := by
  unfold col
  simp only [← pay2_at]
  generalize k0_pay2 (F := Ideal) x g = p
  pointwise [k0_pay8]
  rw [lane_slt, if_neg h]
  rfl

/-- A block of 512 rows of the window's weights, from any first row. -/
theorem ld512_at (w : Vec Ideal S3072x2048 .bf16) (o : ℕ) (ho : o + 512 ≤ 3072) (inb : ∀ a, (![o, 0] : Fin 2 → ℕ) a + S512x2048.size a ≤ S3072x2048.size a) (n : Fin 512) (k : Fin 2048) :
    View.ld w (Rect.unit (s := S3072x2048) ![o, 0] S512x2048.size inb) (ix2 n k) = w (ix2 ⟨o + n.val, by omega⟩ k) := by
  pointwise

/-- A block of 1024 rows of the window's weights, from any first row. -/
theorem ld1024_at (w : Vec Ideal S3072x2048 .bf16) (o : ℕ) (ho : o + 1024 ≤ 3072) (inb : ∀ a, (![o, 0] : Fin 2 → ℕ) a + S1024x2048.size a ≤ S3072x2048.size a) (n : Fin 1024) (k : Fin 2048) :
    View.ld w (Rect.unit (s := S3072x2048) ![o, 0] S1024x2048.size inb) (ix2 n k) = w (ix2 ⟨o + n.val, by omega⟩ k) := by
  pointwise

end Cert.LinIdeal.Ln

end
-- ==== Proof.Lin.KVal.lean ====
module

public import proofs.«01_k».proof.Proof.Lin.Pay
public import Idealize.ShloMosaic.Lib.Pipeline.ValueKit
public import Idealize.ShloMosaic.Lib.StableHlo.RunRead
public import Idealize.ShloMosaic.Lib.StableHlo.ReadAt

/-! The rows the second prompt projection leaves in its arrays, and the host's shaping of them, over the arguments. -/

@[expose] public section

set_option maxRecDepth 16384

noncomputable section

namespace Cert.LinIdeal.Ln

open Idealize.ShloMosaic Idealize.ShloMosaic.TcCoe Idealize.ShloMosaic.Tactic
open Idealize.ShloMosaic.StableHlo
open Cert.LinIdeal Cert.LinIdeal.Gen Cert.RowSpec Cert.MlpSpec

variable (m : (ℓ : Loc nD τ sig) → Buf (Elt Ideal) ℓ) (c : Dev nD)

/-- The prompts' rows. -/
def X : FVec Ideal S4x2048x2048 .f32 := m ((c.tc : Thread nD τ).loc main_arg0)
/-- The norm's scale. -/
def G : FVec Ideal S2048 .f32 := m ((c.tc : Thread nD τ).loc main_arg1)
/-- The weights out of the normed row. -/
def Win : FVec Ideal S2048x9792 .f32 := m ((c.tc : Thread nD τ).loc main_arg2)
/-- The gates' bias. -/
def Bg : FVec Ideal S48 .f32 := m ((c.tc : Thread nD τ).loc main_arg3)
/-- The rows the kernel is handed, all prompts' in one array. -/
def X2 : FVec Ideal S8192x2048 .f32 := V m c main_v25
/-- The gates' and the low-rank rows' weights, as the kernel is handed them. -/
def Wm : FVec Ideal S128x2048 .bf16 := V m c main_v11
/-- The bias, as the kernel is handed it. -/
def Bm : FVec Ideal S1x128 .f32 := V m c main_v24

theorem idx : ∀ t : Fin cfg0.N, win0_0.index t = ![t.val, 0] ∧ win0_1.index t = ![0, 0]
    ∧ win0_3.index t = ![0, 0] ∧ win0_4.index t = ![0, 0]
    ∧ win0_5.index t = ![t.val, 0] ∧ win0_6.index t = ![t.val, 0] ∧ win0_7.index t = ![t.val, 0]
    ∧ win0_8.index t = ![t.val, 0] ∧ win0_9.index t = ![t.val, 0] :=
  (by decide +kernel : ∀ t : Fin grid0.N, _)

theorem X2_at (b : Fin 4) (p : Fin 2048) (k : Fin 2048) : X2 m c (ix2 (⟨2048 * b.val + p.val, by omega⟩ : Fin 8192) k) = X m c (ix3 b p k) := by
  unfold X2
  unfold_abbrev_sides
  after_reads_at
  rfl

theorem N_16 : cfg0.N = 16 := by decide

/-- The row of the whole array that a grid point's row is. -/
def rowOf (t : Fin cfg0.N) (r : Fin 512) : Fin 8192 := ⟨512 * t.val + r.val, by have := Nat.lt_of_lt_of_eq t.isLt N_16; omega⟩

theorem blk0 (t : Fin cfg0.N) (r : Fin 512) (k : Fin 2048) : (iblk m c 0 t : FVec Ideal S512x2048 .f32) (ix2 r k) = X2 m c (ix2 (rowOf t r) k) := by
  have e : (win0_0.blk t).view.emb (ix2 r k) = (ix2 (rowOf t r) k : S8192x2048.Idx) := by
    blk_ext [idx t, rowOf]
  blk_simp [iblk]
  rw [e]
  rfl

theorem G_at (k : Fin 2048) : (V m c main_v12 : FVec Ideal S1x2048 .f32) (ix2 0 k) = G m c (ix1 k) := by
  unfold_abbrev_sides
  after_reads_at
  rfl

theorem Win_at (n : Fin 9792) (k : Fin 2048) : (V m c main_v1 : FVec Ideal S9792x2048 .bf16) (ix2 n k) = Win m c (ix2 k n) := by
  unfold_abbrev_sides
  after_reads_at
  rfl

theorem blk1 (t : Fin cfg0.N) (k : Fin 2048) : (iblk m c 1 t : FVec Ideal S1x2048 .f32) (ix2 0 k) = G m c (ix1 k) := by
  have e : (win0_1.blk t).view.emb (ix2 0 k) = (ix2 0 k : S1x2048.Idx) := by
    blk_ext [idx t]
  blk_simp [iblk]
  rw [e]
  exact G_at m c k

theorem blk3 (t : Fin cfg0.N) (n : Fin 128) (k : Fin 2048) : (iblk m c 3 t : FVec Ideal S128x2048 .bf16) (ix2 n k) = Wm m c (ix2 n k) := by
  have e : (win0_3.blk t).view.emb (ix2 n k) = (ix2 n k : S128x2048.Idx) := by
    blk_ext [idx t]
  blk_simp [iblk]
  rw [e]
  rfl

theorem blk4 (t : Fin cfg0.N) (n : Fin 128) : (iblk m c 4 t : FVec Ideal S1x128 .f32) (ix2 0 n) = Bm m c (ix2 0 n) := by
  have e : (win0_4.blk t).view.emb (ix2 0 n) = (ix2 0 n : S1x128.Idx) := by
    blk_ext [idx t]
  blk_simp [iblk]
  rw [e]
  rfl

theorem emb2 (t : Fin cfg0.N) (r : Fin 3072) (k : Fin 2048) : (win0_2.blk t).view.emb (ix2 r k) = (ix2 (⟨2608 + r.val, by omega⟩ : Fin 9792) k : S9792x2048.Idx) := by
  have h0 := Pipeline.Window.rect_emb_val_off win0_2 t (ix2 r k)
  funext a
  fin_cases a
  · refine Fin.ext ((h0 0).trans ?_)
    rfl
  · refine Fin.ext ((h0 1).trans ?_)
    show 0 + k.val = k.val
    omega

theorem blk2 (t : Fin cfg0.N) (r : Fin 3072) (k : Fin 2048) : (iblk m c 2 t : FVec Ideal S3072x2048 .bf16) (ix2 r k) = Win m c (ix2 k ⟨2608 + r.val, by omega⟩) := by
  have e := emb2 t r k
  blk_simp [iblk]
  rw [e]
  exact Win_at m c _ k

/-- A row's product with one column of the weights. -/
def kv (R : Fin 8192) (n : Fin 9792) : EReal := col (fun k => X2 m c (ix2 R k)) (fun k => G m c (ix1 k)) (fun k => Win m c (ix2 k n))

/-- The array of 512 columns from column `o` on. -/
def arr512 (o : ℕ) (ho : o + 512 ≤ 9792) : FVec Ideal S8192x512 .f32 := fun i => kv m c (i 0) ⟨o + (i 1).val, by have : (i 1).val < 512 := (i 1).isLt; omega⟩
/-- The array of 1024 columns from column `o` on. -/
def arr1024 (o : ℕ) (ho : o + 1024 ≤ 9792) : FVec Ideal S8192x1024 .f32 := fun i => kv m c (i 0) ⟨o + (i 1).val, by have : (i 1).val < 1024 := (i 1).isLt; omega⟩
/-- The product with one column of the gates' and the low-rank rows' weights. -/
def ms (R : Fin 8192) (n : Fin 128) : EReal := col (fun k => X2 m c (ix2 R k)) (fun k => G m c (ix1 k)) (fun k => Wm m c (ix2 n k))
/-- The array of the gates and the low-rank rows. -/
def misc : FVec Ideal S8192x128 .f32 := fun i => if (i 1).val < 48 then Ideal.logistic (ms m c (i 0) (i 1) + Bm m c (ix2 0 (i 1))) else ms m c (i 0) (i 1)

theorem i512 (y : S512x512.Idx) : ∃ (r : Fin 512) (n : Fin 512), y = ix2 r n := ⟨y 0, y 1, by funext i; fin_cases i <;> rfl⟩
theorem i1024 (y : S512x1024.Idx) : ∃ (r : Fin 512) (n : Fin 1024), y = ix2 r n := ⟨y 0, y 1, by funext i; fin_cases i <;> rfl⟩
theorem i128 (y : S512x128.Idx) : ∃ (r : Fin 512) (n : Fin 128), y = ix2 r n := ⟨y 0, y 1, by funext i; fin_cases i <;> rfl⟩

theorem block512_at (t : Fin cfg0.N) (o : ℕ) (ho : o + 512 ≤ 3072) (inb : ∀ a, (![o, 0] : Fin 2 → ℕ) a + S512x2048.size a ≤ S3072x2048.size a) (r : Fin 512) (n : Fin 512) :
    k0_pay3 (F := Ideal) (iblk m c 0 t) (iblk m c 1 t) (View.ld (iblk m c 2 t : FVec Ideal S3072x2048 .bf16) (Rect.unit (s := S3072x2048) ![o, 0] S512x2048.size inb)) (ix2 r n)
      = arr512 m c (2608 + o) (by omega) (ix2 (rowOf t r) n) := by
  refine (pay3_at _ _ _ r n).trans ?_
  show _ = kv m c (rowOf t r) ⟨2608 + o + n.val, _⟩
  unfold kv
  simp only [blk0, blk1]
  refine congrArg (col _ _) (funext fun k => (ld512_at _ o ho inb n k).trans ((blk2 m c t _ k).trans (congrArg (Win m c) (congrArg (ix2 k) (Fin.ext ?_)))))
  show 2608 + (o + n.val) = 2608 + o + n.val
  omega

theorem block1024_at (t : Fin cfg0.N) (o : ℕ) (ho : o + 1024 ≤ 3072) (inb : ∀ a, (![o, 0] : Fin 2 → ℕ) a + S1024x2048.size a ≤ S3072x2048.size a) (r : Fin 512) (n : Fin 1024) :
    col (fun k => (iblk m c 0 t : FVec Ideal S512x2048 .f32) (ix2 r k)) (fun k => (iblk m c 1 t : FVec Ideal S1x2048 .f32) (ix2 0 k))
        (fun k => View.ld (iblk m c 2 t : FVec Ideal S3072x2048 .bf16) (Rect.unit (s := S3072x2048) ![o, 0] S1024x2048.size inb) (ix2 n k))
      = arr1024 m c (2608 + o) (by omega) (ix2 (rowOf t r) n) := by
  show _ = kv m c (rowOf t r) ⟨2608 + o + n.val, _⟩
  unfold kv
  simp only [blk0, blk1]
  refine congrArg (col _ _) (funext fun k => (ld1024_at _ o ho inb n k).trans ((blk2 m c t _ k).trans (congrArg (Win m c) (congrArg (ix2 k) (Fin.ext ?_)))))
  show 2608 + (o + n.val) = 2608 + o + n.val
  omega

theorem misc_at (t : Fin cfg0.N) (r : Fin 512) (n : Fin 128) :
    k0_pay8 (F := Ideal) (k0_pay2 (iblk m c 0 t) (iblk m c 1 t)) (iblk m c 3 t) (iblk m c 4 t) (ix2 r n) = misc m c (ix2 (rowOf t r) n) := by
  show _ = if n.val < 48 then Ideal.logistic (ms m c (rowOf t r) n + Bm m c (ix2 0 n)) else ms m c (rowOf t r) n
  unfold ms
  by_cases h : n.val < 48
  · rw [if_pos h]
    refine (pay8_gate _ _ _ _ r n h).trans ?_
    simp only [blk0, blk1, blk3, blk4]
  · rw [if_neg h]
    refine (pay8_plain _ _ _ _ r n h).trans ?_
    simp only [blk0, blk1, blk3]

theorem final5 : (dats m 0 c).arrAt 5 (cfgs 0).N = arr512 m c 2608 (by omega) := by
  refine (dats m 0 c).arrAt_eq_of_covers 5 (arr512 m c 2608 (by omega)) (by decide +kernel) fun t hf y => ?_
  obtain ⟨r, n, rfl⟩ := i512 y
  have he : (win0_5.blk t).view.emb (ix2 r n) = (ix2 (rowOf t r) n : S8192x512.Idx) := by
    blk_ext [idx t, rowOf]
  refine Eq.trans ?_ (congrArg (arr512 m c 2608 (by omega)) he).symm
  blk_simp
  rw [after0_5]
  frame_out
  exact block512_at m c t 0 (by omega) _ r n

theorem final6 : (dats m 0 c).arrAt 6 (cfgs 0).N = arr512 m c 3120 (by omega) := by
  refine (dats m 0 c).arrAt_eq_of_covers 6 (arr512 m c 3120 (by omega)) (by decide +kernel) fun t hf y => ?_
  obtain ⟨r, n, rfl⟩ := i512 y
  have he : (win0_6.blk t).view.emb (ix2 r n) = (ix2 (rowOf t r) n : S8192x512.Idx) := by
    blk_ext [idx t, rowOf]
  refine Eq.trans ?_ (congrArg (arr512 m c 3120 (by omega)) he).symm
  blk_simp
  rw [after0_6]
  frame_out
  rw [pay4_eq]
  exact block512_at m c t 512 (by omega) _ r n

theorem final7 : (dats m 0 c).arrAt 7 (cfgs 0).N = arr1024 m c 3632 (by omega) := by
  refine (dats m 0 c).arrAt_eq_of_covers 7 (arr1024 m c 3632 (by omega)) (by decide +kernel) fun t hf y => ?_
  obtain ⟨r, n, rfl⟩ := i1024 y
  have he : (win0_7.blk t).view.emb (ix2 r n) = (ix2 (rowOf t r) n : S8192x1024.Idx) := by
    blk_ext [idx t, rowOf]
  refine Eq.trans ?_ (congrArg (arr1024 m c 3632 (by omega)) he).symm
  blk_simp
  rw [after0_7]
  frame_out
  exact (pay5_at _ _ _ r n).trans (block1024_at m c t 1024 (by omega) _ r n)

theorem final8 : (dats m 0 c).arrAt 8 (cfgs 0).N = arr1024 m c 4656 (by omega) := by
  refine (dats m 0 c).arrAt_eq_of_covers 8 (arr1024 m c 4656 (by omega)) (by decide +kernel) fun t hf y => ?_
  obtain ⟨r, n, rfl⟩ := i1024 y
  have he : (win0_8.blk t).view.emb (ix2 r n) = (ix2 (rowOf t r) n : S8192x1024.Idx) := by
    blk_ext [idx t, rowOf]
  refine Eq.trans ?_ (congrArg (arr1024 m c 4656 (by omega)) he).symm
  blk_simp
  rw [after0_8]
  frame_out
  unfold k0_pay13
  frame_out
  exact (pay7_at _ _ _ r n).trans (block1024_at m c t 2048 (by omega) _ r n)

theorem final9 : (dats m 0 c).arrAt 9 (cfgs 0).N = misc m c := by
  refine (dats m 0 c).arrAt_eq_of_covers 9 (misc m c) (by decide +kernel) fun t hf y => ?_
  obtain ⟨r, n, rfl⟩ := i128 y
  have he : (win0_9.blk t).view.emb (ix2 r n) = (ix2 (rowOf t r) n : S8192x128.Idx) := by
    blk_ext [idx t, rowOf]
  refine Eq.trans ?_ (congrArg (misc m c) he).symm
  blk_simp
  rw [after0_9]
  frame_out
  unfold k0_pay13
  frame_out
  exact misc_at m c t r n

theorem gather_row {α : Type} {w : ℕ} (x : S9792x2048.Idx → α) (idx : IVec S48x1 w) (n : Fin 48) (k : Fin 2048) :
    Host.gather gather_S9792x2048_S48x1_S48x2048_1_0_n_n_0_1_12048 x idx (ix2 n k) = x (ix2 ⟨min (idx (ix2 n 0)).toInt.toNat 9791, by omega⟩ k) := by
  unfold Host.gather
  congr 1
  funext a
  refine Fin.ext ?_
  set d := gather_S9792x2048_S48x1_S48x2048_1_0_n_n_0_1_12048 with hd
  show d.start (ix2 n k) idx a + d.batchCoord (ix2 n k) a + d.offCoord (ix2 n k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 n k) ⟨List.idxOf (0 : Fin 2) d.startIndexMap,
        List.idxOf_lt_length_iff.2 (List.mem_singleton.mpr rfl)⟩ = (ix2 n 0 : S48x1.Idx) := by
      funext b
      refine Fin.ext ?_
      match b with
      | ⟨0, _⟩ => rfl
      | ⟨1, _⟩ => rfl
    rw [hsi]
    rfl
  · have h1 : (1 : Fin 2) ∉ d.startIndexMap := fun h => absurd (List.mem_singleton.mp h) (by decide)
    unfold GatherDims.start
    rw [dif_neg h1]
    have h2 : (1 : Fin 2) ∈ d.sKept := by rw [hd]; decide
    unfold GatherDims.offCoord
    rw [dif_pos h2]
    show 0 + 0 + k.val = k.val
    omega

theorem gather_lane {α : Type} {w : ℕ} (x : S48.Idx → α) (idx : IVec S48x1 w) (n : Fin 48) :
    Host.gather gather_S48_S48x1_S48_n_0_n_n_0_1_1 x idx (ix1 n) = x (ix1 ⟨min (idx (ix2 n 0)).toInt.toNat 47, by omega⟩) := by
  unfold Host.gather
  congr 1
  funext a
  obtain rfl : a = 0 := Subsingleton.elim _ _
  refine Fin.ext ?_
  set d := gather_S48_S48x1_S48_n_0_n_n_0_1_1 with hd
  show d.start (ix1 n) idx 0 + d.batchCoord (ix1 n) 0 + d.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix1 n) ⟨List.idxOf (0 : Fin 1) d.startIndexMap,
      List.idxOf_lt_length_iff.2 (List.mem_singleton.mpr rfl)⟩ = (ix2 n 0 : S48x1.Idx) := by
    funext b
    refine Fin.ext ?_
    match b with
    | ⟨0, _⟩ => rfl
    | ⟨1, _⟩ => rfl
  rw [hsi]
  rfl

/-- The column a gate's lane is of: group, head and branch re-ordered. -/
def gl (n : Fin 48) : Fin 48 := ⟨(n.val / 12) * 12 + (n.val % 4) * 3 + (n.val % 12) / 4, by omega⟩

/-- The table of columns, as the host writes it. -/
def tab : IVec S48 32 := fun i => lit0 (S48.rowMajor i)
/-- The rows gathered from the weights. -/
def rowsI : IVec S48x1 32 := broadcastInDim S48x1 ![0] bcast_S48_S48x1_0
  (select (cmpi CmpIPredicate.slt tab (broadcastInDim S48 ![] bcast_S_S48 (constantI S_ 32 0#32)))
    (addi tab (broadcastInDim S48 ![] bcast_S_S48 (constantI S_ 32 9792#32))) tab)
/-- The lanes gathered from the bias. -/
def lanesI : IVec S48x1 32 := broadcastInDim S48x1 ![0] bcast_S48_S48x1_0
  (select (cmpi CmpIPredicate.slt (subi tab (broadcastInDim S48 ![] bcast_S_S48 (constantI S_ 32 2560#32))) (broadcastInDim S48 ![] bcast_S_S48 (constantI S_ 32 0#32)))
    (addi (subi tab (broadcastInDim S48 ![] bcast_S_S48 (constantI S_ 32 2560#32))) (broadcastInDim S48 ![] bcast_S_S48 (constantI S_ 32 48#32)))
    (subi tab (broadcastInDim S48 ![] bcast_S_S48 (constantI S_ 32 2560#32))))

theorem rowsI_at : ∀ n : Fin 48, min (rowsI (ix2 n 0)).toInt.toNat 9791 = 2560 + (gl n).val := by decide +kernel
theorem lanesI_at : ∀ n : Fin 48, min (lanesI (ix2 n 0)).toInt.toNat 47 = (gl n).val := by decide +kernel

theorem B_at (n : Fin 48) : (V m c main_v24 : FVec Ideal S1x128 .f32) (ix2 0 ⟨n.val, by omega⟩) = Bg m c (ix1 (gl n)) := by
  unfold_abbrev_sides
  after_reads_at
  after_reads_at
  refine (gather_lane _ lanesI n).trans ?_
  exact congrArg (Bg m c) (congrArg ix1 (Fin.ext (lanesI_at n)))

theorem Wm_at (n : Fin 48) (k : Fin 2048) : (V m c main_v11 : FVec Ideal S128x2048 .bf16) (ix2 ⟨n.val, by omega⟩ k) = Win m c (ix2 k ⟨2560 + (gl n).val, by omega⟩) := by
  unfold_abbrev_sides
  after_reads_at
  after_reads_at
  refine (gather_row _ rowsI n k).trans ?_
  pointwise
  exact congrArg (Win m c) (congrArg (ix2 k) (Fin.ext (rowsI_at n)))

theorem Wlr_at (n : Fin 16) (k : Fin 2048) : (V m c main_v11 : FVec Ideal S128x2048 .bf16) (ix2 ⟨48 + n.val, by omega⟩ k) = Win m c (ix2 k ⟨5680 + n.val, by omega⟩) := by
  unfold_abbrev_sides
  after_reads_at
  after_reads_at
  rfl

/-- What a buffer holds after the host's operations that follow the kernel. -/
abbrev tail (b : Ref sig .tc) : Buf (Elt Ideal) ((c : Thread nD τ).loc b) := Pipeline.afterTail₀ cfgs (dats m) 0 (V0 m) [hostOps1] c b

/-- What a buffer holds when the kernel has run and the host's operations after it have not. -/
abbrev exit (b : Ref sig .tc) : Buf (Elt Ideal) ((c : Thread nD τ).loc b) :=
  Pipeline.withArrays (cfgs 0).spec c (V0 m c) (fun w => (dats m 0 c).arrAt w (cfgs 0).N) (Proc.devRef .tc b)

theorem exit5 : (exit m c main_v26_0 : FVec Ideal S8192x512 .f32) = arr512 m c 2608 (by omega) :=
  (Pipeline.withArrays_arr spec0 launch0.win.arr_inj c (V0 m c) _ 5).trans (final5 m c)
theorem exit6 : (exit m c main_v26_1 : FVec Ideal S8192x512 .f32) = arr512 m c 3120 (by omega) :=
  (Pipeline.withArrays_arr spec0 launch0.win.arr_inj c (V0 m c) _ 6).trans (final6 m c)
theorem exit7 : (exit m c main_v26_2 : FVec Ideal S8192x1024 .bf16) = arr1024 m c 3632 (by omega) :=
  (Pipeline.withArrays_arr spec0 launch0.win.arr_inj c (V0 m c) _ 7).trans (final7 m c)
theorem exit8 : (exit m c main_v26_3 : FVec Ideal S8192x1024 .f32) = arr1024 m c 4656 (by omega) :=
  (Pipeline.withArrays_arr spec0 launch0.win.arr_inj c (V0 m c) _ 8).trans (final8 m c)
theorem exit9 : (exit m c main_v26_4 : FVec Ideal S8192x128 .f32) = misc m c :=
  (Pipeline.withArrays_arr spec0 launch0.win.arr_inj c (V0 m c) _ 9).trans (final9 m c)

/-- A prompt's row times one column of the weights. -/
def at3 (b : Fin 4) (p : Fin 2048) (n : Fin 9792) : EReal := col (fun k => X m c (ix3 b p k)) (fun k => G m c (ix1 k)) (fun k => Win m c (ix2 k n))
/-- The rows of 512 columns from `o` on. -/
def cols512 (o : ℕ) (ho : o + 512 ≤ 9792) : FVec Ideal S4x2048x512 .f32 := fun i => at3 m c (i 0) (i 1) ⟨o + (i 2).val, by have : (i 2).val < 512 := (i 2).isLt; omega⟩
/-- The rows of 1024 columns from `o` on. -/
def cols1024 (o : ℕ) (ho : o + 1024 ≤ 9792) : FVec Ideal S4x2048x1024 .f32 := fun i => at3 m c (i 0) (i 1) ⟨o + (i 2).val, by have : (i 2).val < 1024 := (i 2).isLt; omega⟩
/-- The low-rank rows. -/
def low : FVec Ideal S4x2048x16 .f32 := fun i => at3 m c (i 0) (i 1) ⟨5680 + (i 2).val, by have : (i 2).val < 16 := (i 2).isLt; omega⟩
/-- A gate's place among the 48. -/
def gpos (a h : Fin 4) (d : Fin 3) : Fin 48 := ⟨a.val * 12 + h.val * 3 + d.val, by omega⟩
/-- The gates, by group, head and branch. -/
def gates : FVec Ideal S4x2048x4x4x3 .f32 := fun i =>
  Ideal.logistic (at3 m c (i 0) (i 1) ⟨2560 + (gpos (i 2) (i 3) (i 4)).val, by omega⟩ + Bg m c (ix1 (gpos (i 2) (i 3) (i 4))))

theorem X2_row (R : Fin 8192) (b : Fin 4) (p : Fin 2048) (h : R.val = b.val * 2048 + p.val) (k : Fin 2048) : X2 m c (ix2 R k) = X m c (ix3 b p k) := by
  have e : R = (⟨2048 * b.val + p.val, by omega⟩ : Fin 8192) := Fin.ext (by show R.val = 2048 * b.val + p.val; omega)
  rw [e]
  exact X2_at m c b p k

theorem kv_row (R : Fin 8192) (b : Fin 4) (p : Fin 2048) (h : R.val = b.val * 2048 + p.val) (n : Fin 9792) : kv m c R n = at3 m c b p n := by
  unfold kv at3
  simp only [X2_row m c R b p h]

/-- A low-rank column of the kernel's joint weights. -/
theorem ms_low (R : Fin 8192) (b : Fin 4) (p : Fin 2048) (h : R.val = b.val * 2048 + p.val) (n : Fin 16) :
    misc m c (ix2 R ⟨48 + n.val, by omega⟩) = at3 m c b p ⟨5680 + n.val, by omega⟩ := by
  show (if 48 + n.val < 48 then _ else ms m c R ⟨48 + n.val, _⟩) = _
  rw [if_neg (by omega)]
  unfold ms at3 Wm
  simp only [X2_row m c R b p h, Wlr_at m c n]

/-- A gate's lane: which of the 48 it is, and its value. -/
theorem ms_gate (R : Fin 8192) (b : Fin 4) (p : Fin 2048) (h : R.val = b.val * 2048 + p.val) (a e : Fin 4) (d : Fin 3) (l : Fin 128) (hl : l.val = a.val * 12 + d.val * 4 + e.val) :
    misc m c (ix2 R l) = gates m c (ix5 b p a e d) := by
  have hn : l.val < 48 := by omega
  have hg : gl ⟨l.val, hn⟩ = gpos a e d := by
    refine Fin.ext ?_
    show l.val / 12 * 12 + l.val % 4 * 3 + l.val % 12 / 4 = a.val * 12 + e.val * 3 + d.val
    omega
  show (if l.val < 48 then Ideal.logistic (ms m c R l + Bm m c (ix2 0 l)) else ms m c R l) = Ideal.logistic (at3 m c b p ⟨2560 + (gpos a e d).val, _⟩ + Bg m c (ix1 (gpos a e d)))
  rw [if_pos hn]
  have hw := Wm_at m c ⟨l.val, hn⟩
  have hb := B_at m c ⟨l.val, hn⟩
  simp only [hg] at hw hb
  unfold ms at3
  simp only [X2_row m c R b p h]
  refine congrArg Ideal.logistic (congrArg₂ (· + ·) (congrArg (col _ _) (funext fun k => hw k)) hb)

theorem i3a (y : S4x2048x512.Idx) : ∃ (b : Fin 4) (p : Fin 2048) (n : Fin 512), y = ix3 b p n := ⟨y 0, y 1, y 2, by funext i; fin_cases i <;> rfl⟩
theorem i3b (y : S4x2048x1024.Idx) : ∃ (b : Fin 4) (p : Fin 2048) (n : Fin 1024), y = ix3 b p n := ⟨y 0, y 1, y 2, by funext i; fin_cases i <;> rfl⟩
theorem i3c (y : S4x2048x16.Idx) : ∃ (b : Fin 4) (p : Fin 2048) (n : Fin 16), y = ix3 b p n := ⟨y 0, y 1, y 2, by funext i; fin_cases i <;> rfl⟩
theorem i5 (y : S4x2048x4x4x3.Idx) : ∃ (b : Fin 4) (p : Fin 2048) (a e : Fin 4) (d : Fin 3), y = ix5 b p a e d := ⟨y 0, y 1, y 2, y 3, y 4, by funext i; fin_cases i <;> rfl⟩

theorem tail31 : (tail m c main_v31 : FVec Ideal S4x2048x512 .f32) = cols512 m c 2608 (by omega) := by
  funext j
  obtain ⟨b, p, n, rfl⟩ := i3a j
  unfold tail Pipeline.afterTail₀
  after_reads_at
  exact (congrFun (exit5 m c) _).trans (kv_row m c _ b p (by rfl) _)

theorem tail32 : (tail m c main_v32 : FVec Ideal S4x2048x512 .f32) = cols512 m c 3120 (by omega) := by
  funext j
  obtain ⟨b, p, n, rfl⟩ := i3a j
  unfold tail Pipeline.afterTail₀
  after_reads_at
  exact (congrFun (exit6 m c) _).trans (kv_row m c _ b p (by rfl) _)

theorem tail33 : (tail m c main_v33 : FVec Ideal S4x2048x1024 .bf16) = cols1024 m c 3632 (by omega) := by
  funext j
  obtain ⟨b, p, n, rfl⟩ := i3b j
  unfold tail Pipeline.afterTail₀
  after_reads_at
  exact (congrFun (exit7 m c) _).trans (kv_row m c _ b p (by rfl) _)

theorem tail34 : (tail m c main_v34 : FVec Ideal S4x2048x1024 .f32) = cols1024 m c 4656 (by omega) := by
  funext j
  obtain ⟨b, p, n, rfl⟩ := i3b j
  unfold tail Pipeline.afterTail₀
  after_reads_at
  exact (congrFun (exit8 m c) _).trans (kv_row m c _ b p (by rfl) _)

theorem tail35 : (tail m c main_v35 : FVec Ideal S4x2048x16 .f32) = low m c := by
  funext j
  obtain ⟨b, p, n, rfl⟩ := i3c j
  unfold tail Pipeline.afterTail₀
  after_reads_at
  exact (congrFun (exit9 m c) _).trans (ms_low m c _ b p (by rfl) n)

theorem tail30 : (tail m c main_v30 : FVec Ideal S4x2048x4x4x3 .f32) = gates m c := by
  funext j
  obtain ⟨b, p, a, e, d, rfl⟩ := i5 j
  unfold tail Pipeline.afterTail₀
  after_reads_at
  exact (congrFun (exit9 m c) _).trans (ms_gate m c _ b p (by rfl) a e d _ (by rfl))

end Cert.LinIdeal.Ln

end
-- ==== Proof.Lin.RefVal.lean ====
module

public import proofs.«01_k».proof.Proof.Lin.Pay
public import Idealize.ShloMosaic.Lib.Claim

/-! The second prompt reference's results at an index. -/

@[expose] public section

set_option maxRecDepth 16384

noncomputable section

namespace Cert.LinReferenceIdeal.Ln

open Idealize.ShloMosaic Idealize.ShloMosaic.TcCoe Idealize.SL.Sem
open Cert.LinReferenceIdeal Cert.LinReferenceIdeal.Gen Cert.LinReferenceIdeal.Value Cert.RowSpec Cert.MlpSpec

variable (m : (ℓ : Loc nD τ sig) → Buf (Elt Ideal) ℓ) (c : Dev nD)

/-- The prompts' rows. -/
def X : FVec Ideal S4x2048x2048 .f32 := m ((c.tc : Thread nD τ).loc main_arg0)
/-- The norm's scale. -/
def G : FVec Ideal S2048 .f32 := m ((c.tc : Thread nD τ).loc main_arg1)
/-- The weights out of the normed row. -/
def Win : FVec Ideal S2048x9792 .f32 := m ((c.tc : Thread nD τ).loc main_arg2)
/-- The gates' bias. -/
def Bg : FVec Ideal S48 .f32 := m ((c.tc : Thread nD τ).loc main_arg3)

/-- A prompt's row times one column of the weights. -/
def at3 (b : Fin 4) (p : Fin 2048) (n : Fin 9792) : EReal := col (fun k => X m c (ix3 b p k)) (fun k => G m c (ix1 k)) (fun k => Win m c (ix2 k n))
/-- The rows of 512 columns from `o` on. -/
def cols512 (o : ℕ) (ho : o + 512 ≤ 9792) : FVec Ideal S4x2048x512 .f32 := fun i => at3 m c (i 0) (i 1) ⟨o + (i 2).val, by have : (i 2).val < 512 := (i 2).isLt; omega⟩
/-- The rows of 1024 columns from `o` on. -/
def cols1024 (o : ℕ) (ho : o + 1024 ≤ 9792) : FVec Ideal S4x2048x1024 .f32 := fun i => at3 m c (i 0) (i 1) ⟨o + (i 2).val, by have : (i 2).val < 1024 := (i 2).isLt; omega⟩
/-- The low-rank rows. -/
def low : FVec Ideal S4x2048x16 .f32 := fun i => at3 m c (i 0) (i 1) ⟨5680 + (i 2).val, by have : (i 2).val < 16 := (i 2).isLt; omega⟩
/-- A gate's place among the 48. -/
def gpos (a h : Fin 4) (d : Fin 3) : Fin 48 := ⟨a.val * 12 + h.val * 3 + d.val, by omega⟩
/-- The gates, by group, head and branch. -/
def gates : FVec Ideal S4x2048x4x4x3 .f32 := fun i =>
  Ideal.logistic (at3 m c (i 0) (i 1) ⟨2560 + (gpos (i 2) (i 3) (i 4)).val, by omega⟩ + Bg m c (ix1 (gpos (i 2) (i 3) (i 4))))

theorem i3a (y : S4x2048x512.Idx) : ∃ (b : Fin 4) (p : Fin 2048) (n : Fin 512), y = ix3 b p n := ⟨y 0, y 1, y 2, by funext i; fin_cases i <;> rfl⟩
theorem i3b (y : S4x2048x1024.Idx) : ∃ (b : Fin 4) (p : Fin 2048) (n : Fin 1024), y = ix3 b p n := ⟨y 0, y 1, y 2, by funext i; fin_cases i <;> rfl⟩
theorem i3c (y : S4x2048x16.Idx) : ∃ (b : Fin 4) (p : Fin 2048) (n : Fin 16), y = ix3 b p n := ⟨y 0, y 1, y 2, by funext i; fin_cases i <;> rfl⟩
theorem i5 (y : S4x2048x4x4x3.Idx) : ∃ (b : Fin 4) (p : Fin 2048) (a e : Fin 4) (d : Fin 3), y = ix5 b p a e d := ⟨y 0, y 1, y 2, y 3, y 4, by funext i; fin_cases i <;> rfl⟩

/-- The reference's run, with its six results and its arguments. -/
theorem results_run (ρ : Dev nD → PrngReg) : θ_run defs (onTc (τ := τ) (main (F := Ideal))) ⟨m, fun _ => 0, ρ⟩ fun r => ∀ c : Dev nD,
      r.2.mem ((c.tc : Thread nD τ).loc main_v17) = cols512 m c 2608 (by omega)
      ∧ r.2.mem ((c.tc : Thread nD τ).loc main_v18) = cols512 m c 3120 (by omega)
      ∧ r.2.mem ((c.tc : Thread nD τ).loc main_v33) = cols1024 m c 3632 (by omega)
      ∧ r.2.mem ((c.tc : Thread nD τ).loc main_v20) = cols1024 m c 4656 (by omega)
      ∧ r.2.mem ((c.tc : Thread nD τ).loc main_v21) = low m c
      ∧ r.2.mem ((c.tc : Thread nD τ).loc main_v32) = gates m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Value.run m ρ)
  · funext j
    obtain ⟨b, p, n, rfl⟩ := i3a j
    show (_ : FVec Ideal S4x2048x512 .f32) (ix3 b p n) = cols512 m c 2608 (by omega) (ix3 b p n)
    rw [show m ((c.tc : Thread nD τ).loc main_arg0) = X m c from rfl, show m ((c.tc : Thread nD τ).loc main_arg1) = G m c from rfl, show m ((c.tc : Thread nD τ).loc main_arg2) = Win m c from rfl]
    unfold cols512 at3
    generalize X m c = v0
    generalize G m c = v1
    generalize Win m c = v2
    generalize Bg m c = v3
    unfold col nrm
    clear * -
    pointwise
  · funext j
    obtain ⟨b, p, n, rfl⟩ := i3a j
    show (_ : FVec Ideal S4x2048x512 .f32) (ix3 b p n) = cols512 m c 3120 (by omega) (ix3 b p n)
    rw [show m ((c.tc : Thread nD τ).loc main_arg0) = X m c from rfl, show m ((c.tc : Thread nD τ).loc main_arg1) = G m c from rfl, show m ((c.tc : Thread nD τ).loc main_arg2) = Win m c from rfl]
    unfold cols512 at3
    generalize X m c = v0
    generalize G m c = v1
    generalize Win m c = v2
    generalize Bg m c = v3
    unfold col nrm
    clear * -
    pointwise
  · funext j
    obtain ⟨b, p, n, rfl⟩ := i3b j
    show (_ : FVec Ideal S4x2048x1024 .bf16) (ix3 b p n) = cols1024 m c 3632 (by omega) (ix3 b p n)
    rw [show m ((c.tc : Thread nD τ).loc main_arg0) = X m c from rfl, show m ((c.tc : Thread nD τ).loc main_arg1) = G m c from rfl, show m ((c.tc : Thread nD τ).loc main_arg2) = Win m c from rfl]
    unfold cols1024 at3
    generalize X m c = v0
    generalize G m c = v1
    generalize Win m c = v2
    generalize Bg m c = v3
    unfold col nrm
    clear * -
    pointwise
  · funext j
    obtain ⟨b, p, n, rfl⟩ := i3b j
    show (_ : FVec Ideal S4x2048x1024 .f32) (ix3 b p n) = cols1024 m c 4656 (by omega) (ix3 b p n)
    rw [show m ((c.tc : Thread nD τ).loc main_arg0) = X m c from rfl, show m ((c.tc : Thread nD τ).loc main_arg1) = G m c from rfl, show m ((c.tc : Thread nD τ).loc main_arg2) = Win m c from rfl]
    unfold cols1024 at3
    generalize X m c = v0
    generalize G m c = v1
    generalize Win m c = v2
    generalize Bg m c = v3
    unfold col nrm
    clear * -
    pointwise
  · funext j
    obtain ⟨b, p, n, rfl⟩ := i3c j
    show (_ : FVec Ideal S4x2048x16 .f32) (ix3 b p n) = low m c (ix3 b p n)
    rw [show m ((c.tc : Thread nD τ).loc main_arg0) = X m c from rfl, show m ((c.tc : Thread nD τ).loc main_arg1) = G m c from rfl, show m ((c.tc : Thread nD τ).loc main_arg2) = Win m c from rfl]
    unfold low at3
    generalize X m c = v0
    generalize G m c = v1
    generalize Win m c = v2
    generalize Bg m c = v3
    unfold col nrm
    clear * -
    pointwise
  · funext j
    obtain ⟨b, p, a, e, d, rfl⟩ := i5 j
    show (_ : FVec Ideal S4x2048x4x4x3 .f32) (ix5 b p a e d) = gates m c (ix5 b p a e d)
    rw [show m ((c.tc : Thread nD τ).loc main_arg0) = X m c from rfl, show m ((c.tc : Thread nD τ).loc main_arg1) = G m c from rfl, show m ((c.tc : Thread nD τ).loc main_arg2) = Win m c from rfl, show m ((c.tc : Thread nD τ).loc main_arg3) = Bg m c from rfl]
    unfold gates at3 gpos
    generalize X m c = v0
    generalize G m c = v1
    generalize Win m c = v2
    generalize Bg m c = v3
    unfold col nrm
    clear * -
    pointwise
    rfl

end Cert.LinReferenceIdeal.Ln

end
-- ==== Proof.Lin.Value.lean ====
module

public import proofs.«01_k».proof.Proof.Lin.Frames
public import proofs.«01_k».proof.Proof.Lin.KVal
public import proofs.«01_k».proof.Proof.Lin.RefVal

/-! The second prompt projection and the reference compute the same six results. -/

@[expose] public section

set_option maxRecDepth 16384

noncomputable section

namespace Cert.Proof

open Idealize.ShloMosaic Idealize.SL.Sem

section
variable (m : (ℓ : Loc Cert.LinIdeal.nD Cert.LinIdeal.τ Cert.LinIdeal.sig) → Buf (Elt Ideal) ℓ)
  (m' : (ℓ : Loc Cert.LinReferenceIdeal.nD Cert.LinReferenceIdeal.τ Cert.LinReferenceIdeal.sig) → Buf (Elt Ideal) ℓ)
  (c : Dev Cert.LinIdeal.nD)

/-- The two memories hold the same arguments of the second prompt projection. -/
structure LinSame : Prop where
  e0 : LinReferenceIdeal.Ln.X m' c = LinIdeal.Ln.X m c
  e1 : LinReferenceIdeal.Ln.G m' c = LinIdeal.Ln.G m c
  e2 : LinReferenceIdeal.Ln.Win m' c = LinIdeal.Ln.Win m c
  e3 : LinReferenceIdeal.Ln.Bg m' c = LinIdeal.Ln.Bg m c

variable {m m' c}

theorem lin_at3_eq (h : LinSame m m' c) : LinReferenceIdeal.Ln.at3 m' c = LinIdeal.Ln.at3 m c := by
  unfold LinReferenceIdeal.Ln.at3 LinIdeal.Ln.at3
  rw [h.e0, h.e1, h.e2]

theorem lin_512_eq (h : LinSame m m' c) (o : ℕ) (ho : o + 512 ≤ 9792) : LinReferenceIdeal.Ln.cols512 m' c o ho = LinIdeal.Ln.cols512 m c o ho := by
  unfold LinReferenceIdeal.Ln.cols512 LinIdeal.Ln.cols512
  rw [lin_at3_eq h]

theorem lin_1024_eq (h : LinSame m m' c) (o : ℕ) (ho : o + 1024 ≤ 9792) : LinReferenceIdeal.Ln.cols1024 m' c o ho = LinIdeal.Ln.cols1024 m c o ho := by
  unfold LinReferenceIdeal.Ln.cols1024 LinIdeal.Ln.cols1024
  rw [lin_at3_eq h]

theorem lin_low_eq (h : LinSame m m' c) : LinReferenceIdeal.Ln.low m' c = LinIdeal.Ln.low m c := by
  unfold LinReferenceIdeal.Ln.low LinIdeal.Ln.low
  rw [lin_at3_eq h]

theorem lin_gates_eq (h : LinSame m m' c) : LinReferenceIdeal.Ln.gates m' c = LinIdeal.Ln.gates m c := by
  unfold LinReferenceIdeal.Ln.gates LinIdeal.Ln.gates
  rw [lin_at3_eq h, h.e3]
  rfl

end

/-- What the second prompt projection leaves in its six results. -/
theorem lin_results_run (m : (ℓ : Loc Cert.LinIdeal.nD Cert.LinIdeal.τ Cert.LinIdeal.sig) → Buf (Elt Ideal) ℓ) (g : Dev Cert.LinIdeal.nD → PrngReg) :
    θ_run (Cert.LinIdeal.defs (F := Ideal)) (onTc (τ := Cert.LinIdeal.τ) (Cert.LinIdeal.main (F := Ideal))) ⟨m, fun _ => 0, g⟩
    (fun r => ∀ c : Dev Cert.LinIdeal.nD,
      r.2.mem ((c.tc : Thread LinIdeal.nD LinIdeal.τ).loc LinIdeal.main_v31) = LinIdeal.Ln.cols512 m c 2608 (by omega)
      ∧ r.2.mem ((c.tc : Thread LinIdeal.nD LinIdeal.τ).loc LinIdeal.main_v32) = LinIdeal.Ln.cols512 m c 3120 (by omega)
      ∧ r.2.mem ((c.tc : Thread LinIdeal.nD LinIdeal.τ).loc LinIdeal.main_v33) = LinIdeal.Ln.cols1024 m c 3632 (by omega)
      ∧ r.2.mem ((c.tc : Thread LinIdeal.nD LinIdeal.τ).loc LinIdeal.main_v34) = LinIdeal.Ln.cols1024 m c 4656 (by omega)
      ∧ r.2.mem ((c.tc : Thread LinIdeal.nD LinIdeal.τ).loc LinIdeal.main_v35) = LinIdeal.Ln.low m c
      ∧ r.2.mem ((c.tc : Thread LinIdeal.nD LinIdeal.τ).loc LinIdeal.main_v30) = LinIdeal.Ln.gates m c) :=
  θ_run_mono (Cert.LinIdeal.Gen.run_main m g) fun _ h c =>
    ⟨((h c).2 LinIdeal.main_v31 (Pipeline.mem_restRefs_of LinIdeal.main_v31 (by decide) (by decide))).trans (LinIdeal.Ln.tail31 m c),
     ((h c).2 LinIdeal.main_v32 (Pipeline.mem_restRefs_of LinIdeal.main_v32 (by decide) (by decide))).trans (LinIdeal.Ln.tail32 m c),
     ((h c).2 LinIdeal.main_v33 (Pipeline.mem_restRefs_of LinIdeal.main_v33 (by decide) (by decide))).trans (LinIdeal.Ln.tail33 m c),
     ((h c).2 LinIdeal.main_v34 (Pipeline.mem_restRefs_of LinIdeal.main_v34 (by decide) (by decide))).trans (LinIdeal.Ln.tail34 m c),
     ((h c).2 LinIdeal.main_v35 (Pipeline.mem_restRefs_of LinIdeal.main_v35 (by decide) (by decide))).trans (LinIdeal.Ln.tail35 m c),
     ((h c).2 LinIdeal.main_v30 (Pipeline.mem_restRefs_of LinIdeal.main_v30 (by decide) (by decide))).trans (LinIdeal.Ln.tail30 m c)⟩

theorem lin_algebraic : algebraic_LinIdeal_LinReferenceIdeal := by
  intro m g m' g' _ hagree
  have hsame : ∀ c, LinSame m m' c := fun c => by
    obtain ⟨e0, e1, e2, e3⟩ := hagree c
    exact ⟨e0, e1, e2, e3⟩
  refine ⟨_, _, _, _, _, _,
    θ_run_mono (θ_run_and (lin_results_run m g) (Cert.LinIdeal.Gen.frame m g)) (fun _ h c =>
      ⟨(h.1 c).1, (h.1 c).2.1, (h.1 c).2.2.1, (h.1 c).2.2.2.1, (h.1 c).2.2.2.2.1, (h.1 c).2.2.2.2.2, h.2.1 c⟩),
    θ_run_mono (Cert.LinReferenceIdeal.Ln.results_run m' g') (fun _ h c =>
      ⟨(h c).1.trans (lin_512_eq (hsame c) 2608 (by omega)), (h c).2.1.trans (lin_512_eq (hsame c) 3120 (by omega)),
       (h c).2.2.1.trans (lin_1024_eq (hsame c) 3632 (by omega)), (h c).2.2.2.1.trans (lin_1024_eq (hsame c) 4656 (by omega)),
       (h c).2.2.2.2.1.trans (lin_low_eq (hsame c)), (h c).2.2.2.2.2.1.trans (lin_gates_eq (hsame c)),
       (h c).2.2.2.2.2.2⟩)⟩

end Cert.Proof

end
-- ==== Proof.Step.Frames.lean ====
module

public import proofs.«01_k».proof.Defs
public import proofs.«01_k».proof.Proof.Gen.Step
public import proofs.«01_k».proof.Proof.Gen.StepIdeal
public import proofs.«01_k».proof.Proof.Gen.StepIdeal.Frame
public import proofs.«01_k».proof.Proof.Gen.StepIdeal.Skeleton
public import proofs.«01_k».proof.Proof.Gen.StepReferenceIdeal
public import proofs.«01_k».proof.Proof.Gen.StepReferenceIdeal.Run

/-! The frames of linear attention's one token: the kernel at both readings by one run, the reference by its run. -/

@[expose] public section

set_option maxRecDepth 16384

noncomputable section

namespace Cert.Proof

open Idealize.ShloMosaic Idealize.SL.Sem

instance step_facts : Cert.Step.Facts := Cert.Step.Gen.facts
instance stepIdeal_facts : Cert.StepIdeal.Facts := Cert.StepIdeal.Gen.facts
instance stepReference_facts : Cert.StepReferenceIdeal.Facts := Cert.StepReferenceIdeal.Gen.facts

theorem step_frame_ideal : quiescent_StepIdeal := fun m g _ => Cert.StepIdeal.Gen.frame m g

set_option maxHeartbeats 4000000 in
/-- The two printed body tables are one. -/
theorem step_bodies_same : @Cert.Step.defs₀ Bits _ _ = @Cert.StepIdeal.defs₀ Bits _ _ := by
  unfold Cert.Step.defs₀ Cert.StepIdeal.defs₀
  refine congrArg Defs.onTc (funext fun b => funext fun a => ?_)
  match b, a with
  | 0, (t, s) => rfl
  | ⟨_ + 1, h⟩, _ => exact absurd h (Nat.not_lt.2 (Nat.le_add_left _ _))

theorem step_defs_same : @Cert.Step.defs Bits _ _ = @Cert.StepIdeal.defs Bits _ _ :=
  congrArg (Pipeline.defs (Cert.Step.pcfgs (F := Bits))) step_bodies_same

set_option maxHeartbeats 2000000 in
theorem step_frame_bits : quiescent_Step := fun m g _ => by
  rw [step_defs_same]
  exact Cert.StepIdeal.Gen.frame (F := Bits) m g

theorem step_frame_ref : quiescent_StepReferenceIdeal := fun m g _ =>
  (θ_run Cert.StepReferenceIdeal.defs _ _).mono
    (fun r h => ⟨fun c => (h c).2.2, sem_eq_zero_of_no_sems (by decide) r.2⟩) (Cert.StepReferenceIdeal.Value.run m g)

end Cert.Proof

end
-- ==== Proof.Step.Finite.lean ====
module

public import proofs.«01_k».proof.Proof.Gla.Finite
public import proofs.«01_k».proof.Pre_finite_gate

/-! Inputs of the forget gate that pass the test are real numbers. -/

@[expose] public section

noncomputable section

namespace Cert.Pre_finite_gate

open Idealize.ShloMosaic Cert.Pre_finite

theorem facts : Cert.Pre_finite_gate.Facts :=
  ⟨by decide, by decide, by decide, by decide, by decide, by decide, by decide⟩

variable [Cert.Pre_finite_gate.Facts]

theorem reals (a0 a1 : FVec Ideal S8x1x512 .f32) (a2 a3 : FVec Ideal S8x1x1024 .f32) (a4 : FVec Ideal S8x1x16 .f32) (a5 : FVec Ideal S16x512 .f32)
    (a6 : FVec Ideal S512 .f32) (a7 : FVec Ideal S256 .f32) (a8 : FVec Ideal S8x4x128x256 .f32) (h : fn (F := Ideal) a0 a1 a2 a3 a4 a5 a6 a7 a8 = fun _ => 1#1) :
    (∀ i, a4 i = ((EReal.toReal (a4 i) : ℝ) : EReal)) ∧ (∀ i, a5 i = ((EReal.toReal (a5 i) : ℝ) : EReal)) ∧ ∀ i, a6 i = ((EReal.toReal (a6 i) : ℝ) : EReal) := by
  have h2 := congrFun h (Shape.Idx.first Facts.h_S_)
  obtain ⟨h1, e6⟩ := both _ _ _ h2
  obtain ⟨e4, e5⟩ := both _ _ _ h1
  exact ⟨real_of a4 _ _ _ _ e4, real_of a5 _ _ _ _ e5, real_of a6 _ _ _ _ e6⟩

end Cert.Pre_finite_gate

end
-- ==== Proof.Step.Pay.lean ====
module

public import proofs.«01_k».proof.Proof.Gla.Math
public import proofs.«01_k».proof.Proof.Gen.StepIdeal.Frame
public import proofs.«01_k».proof.Proof.Gen.StepIdeal.Skeleton
public import Idealize.ShloMosaic.Lib.Pointwise

/-! Linear attention's one token: the results of a head as functions of its rows, and the kernel's blocks at an index. -/

@[expose] public section

set_option maxRecDepth 16384

noncomputable section

namespace Cert.StepSpec

open Idealize.ShloMosaic Cert.GlaMath

/-- The scaled and decayed query. -/
def qd (g q : Fin 128 → EReal) (d : Fin 128) : EReal := q d * Ideal.ofBits .f32 0x3DB504F3#32 * Ideal.exp (g d)

/-- The head's output before the norm. -/
def oS (g q k : Fin 128 → EReal) (v : Fin 256 → EReal) (s : Fin 128 → Fin 256 → EReal) (e : Fin 256) : EReal :=
  ∑ d : Fin 128, qd g q d * s d e + (∑ d : Fin 128, qd g q d * (k d * Ideal.exp (-(g d)))) * v e

/-- The head's new state. -/
def sS (g k : Fin 128 → EReal) (v : Fin 256 → EReal) (s : Fin 128 → Fin 256 → EReal) (d : Fin 128) (e : Fin 256) : EReal :=
  Ideal.exp (g d) * s d e + k d * v e

/-- The normalised and gated output. -/
def nS (o ng r : Fin 256 → EReal) (e : Fin 256) : EReal :=
  o e * Ideal.rsqrt (Ideal.div (∑ j : Fin 256, o j * o j) (Ideal.ofBits .f32 0x43800000#32) + Ideal.ofBits .f32 0x358637BD#32) * ng e * (r e * Ideal.logistic (r e))

end Cert.StepSpec

namespace Cert.StepIdeal.Stp

open Idealize.ShloMosaic
open Cert.StepIdeal Cert.StepIdeal.Gen Cert.StepSpec

/-- A row as the columns of a block. -/
def colV (v : FVec Ideal S1x128 .f32) : FVec Ideal S128x256 .f32 :=
  let t : FVec Ideal S128x128 .f32 := transpose S128x128 [1, 0] (broadcastTo S128x128 (shapeCast S1x128 v shapeCasts_S1x128_S1x128) broadcasts_S1x128_S128x128) transposes_S128x128_p1_0_S128x128
  concatenate S128x256 1 [⟨S128x128, t⟩, ⟨S128x128, t⟩] concatenates_S128x128_S128x128_S128x256_d1

theorem colV_at (v : FVec Ideal S1x128 .f32) (d : Fin 128) (e : Fin 256) : colV v (ix2 d e) = v (ix2 0 d) := by
  unfold colV
  pointwise
  split <;> rfl

/-- The block's output before the norm. -/
def oV (g q k : FVec Ideal S1x128 .f32) (v : FVec Ideal S1x256 .f32) (s : FVec Ideal S128x256 .f32) : FVec Ideal S1x256 .f32 :=
  let z : FVec Ideal S1x128 .f32 := broadcast S1x128 (Scalar.ofBits .f32 0x00000000#32 : Ideal .f32)
  let p := mulf q (exp g)
  let a := mulf p (mulf k (exp (subf z g)))
  addf (shapeCast S1x256 (multiReduction .add [0] S256 (mulf (colV p) s) 0x00000000#32 reduces_S128x256_S256 (.inl rfl) rfl) shapeCasts_S256_S1x256)
    (mulf (broadcastTo S1x256 (shapeCast S1x1 (multiReduction .add [1] S1 a 0x00000000#32 reduces_S1x128_S1 (.inl rfl) rfl) shapeCasts_S1_S1x1) broadcasts_S1x1_S1x256) v)

/-- The block's new state. -/
def sV (g k : FVec Ideal S1x128 .f32) (v : FVec Ideal S1x256 .f32) (s : FVec Ideal S128x256 .f32) : FVec Ideal S1x1x128x256 .f32 :=
  shapeCast S1x1x128x256 (addf (mulf (colV (exp g)) s) (mulf (colV k) (broadcastTo S128x256 v broadcasts_S1x256_S128x256))) shapeCasts_S128x256_S1x1x128x256

/-- The block's normalised and gated output. -/
def nV (o ng r : FVec Ideal S1x256 .f32) : FVec Ideal S1x256 .f32 :=
  let ms : FVec Ideal S1x1 .f32 := divf (shapeCast S1x1 (multiReduction .add [1] S1 (mulf o o) 0x00000000#32 reduces_S1x256_S1 (.inl rfl) rfl) shapeCasts_S1_S1x1)
    (broadcast S1x1 (Scalar.ofBits .f32 0x43800000#32 : Ideal .f32))
  mulf (mulf (mulf o (broadcastTo S1x256 (rsqrt (addf ms (broadcast S1x1 (Scalar.ofBits .f32 0x358637BD#32 : Ideal .f32)))) broadcasts_S1x1_S1x256))
    (shapeCast S1x256 ng shapeCasts_S1x256_S1x256)) (mulf r (logistic r))

theorem oV_at (g q k : FVec Ideal S1x128 .f32) (v : FVec Ideal S1x256 .f32) (s : FVec Ideal S128x256 .f32) (g' q' k' : Fin 128 → EReal) (v' : Fin 256 → EReal)
    (s' : Fin 128 → Fin 256 → EReal) (hg : ∀ d, g (ix2 0 d) = g' d) (hq : ∀ d, q (ix2 0 d) = q' d * Ideal.ofBits .f32 0x3DB504F3#32) (hk : ∀ d, k (ix2 0 d) = k' d) (hv : ∀ e, v (ix2 0 e) = v' e)
    (hs : ∀ d e, s (ix2 d e) = s' d e) (e : Fin 256) : oV g q k v s (ix2 0 e) = oS g' q' k' v' s' e := by
  unfold oV oS qd
  pointwise
  simp only [colV_at]
  pointwise
  simp only [hg, hq, hk, hv, hs, zero_sub]

theorem sV_at (g k : FVec Ideal S1x128 .f32) (v : FVec Ideal S1x256 .f32) (s : FVec Ideal S128x256 .f32) (g' k' : Fin 128 → EReal) (v' : Fin 256 → EReal)
    (s' : Fin 128 → Fin 256 → EReal) (hg : ∀ d, g (ix2 0 d) = g' d) (hk : ∀ d, k (ix2 0 d) = k' d) (hv : ∀ e, v (ix2 0 e) = v' e)
    (hs : ∀ d e, s (ix2 d e) = s' d e) (d : Fin 128) (e : Fin 256) : sV g k v s (ix4 0 0 d e) = sS g' k' v' s' d e := by
  unfold sV sS
  pointwise
  simp only [colV_at]
  pointwise
  simp only [hg, hk, hv, hs]

theorem nV_at (o ng r : FVec Ideal S1x256 .f32) (o' ng' r' : Fin 256 → EReal) (ho : ∀ e, o (ix2 0 e) = o' e) (hn : ∀ e, ng (ix2 0 e) = ng' e) (hr : ∀ e, r (ix2 0 e) = r' e)
    (e : Fin 256) : nV o ng r (ix2 0 e) = nS o' ng' r' e := by
  unfold nV nS
  pointwise
  simp only [ho, hn, hr]

/-- A head of the log gates' row. -/
def gH (h : Fin 4) (x : FVec Ideal S1x512 .f32) : FVec Ideal S1x128 .f32 :=
  match h with
  | 0 => extractStridedSlice S1x128 ![0, 0] x slices_S1x512_o0_0_S1x128
  | 1 => k0_pay11 x
  | 2 => k0_pay21 x
  | 3 => k0_pay30 x

/-- A head of a row of 512 lanes. -/
def kH (h : Fin 4) (x : Vec Ideal S1x1x512 .f32) : FVec Ideal S1x128 .f32 :=
  match h with
  | 0 => k0_pay5 x
  | 1 => k0_pay12 x
  | 2 => k0_pay22 x
  | 3 => k0_pay32 x

/-- A head of a row of 1024 lanes. -/
def vH (h : Fin 4) (x : Vec Ideal S1x1x1024 .f32) : FVec Ideal S1x256 .f32 :=
  match h with
  | 0 => k0_pay6 x
  | 1 => k0_pay13 x
  | 2 => k0_pay23 x
  | 3 => k0_pay33 x

/-- A head of the block of states. -/
def sH (h : Fin 4) (x : Vec Ideal S1x4x128x256 .f32) : FVec Ideal S128x256 .f32 :=
  match h with
  | 0 => k0_pay7 (View.ld x r0_5)
  | 1 => k0_pay14 (View.ld x r0_7)
  | 2 => k0_pay24 (View.ld x r0_8)
  | 3 => k0_pay34 (View.ld x r0_9)

/-- A row scaled as the queries are. -/
def scV (x : FVec Ideal S1x128 .f32) : FVec Ideal S1x128 .f32 := mulf x (broadcast S1x128 (Scalar.ofBits .f32 0x3DB504F3#32 : Ideal .f32))

/-- A lane of a head of 128 lanes. -/
abbrev lane (h : Fin 4) (d : Fin 128) : Fin 512 := ⟨h.val * 128 + d.val, by omega⟩

/-- A lane of a head of 256 lanes. -/
abbrev laneV (h : Fin 4) (e : Fin 256) : Fin 1024 := ⟨h.val * 256 + e.val, by omega⟩

theorem gH_at (h : Fin 4) (x : FVec Ideal S1x512 .f32) (d : Fin 128) : gH h x (ix2 0 d) = x (ix2 0 (lane h d)) := by
  match h with
  | 0 => unfold gH; pointwise; exact congrArg (fun l => x (ix2 0 l)) (Fin.ext (by simp [lane]))
  | 1 => unfold gH k0_pay11; pointwise; exact congrArg (fun l => x (ix2 0 l)) (Fin.ext (by simp [lane]))
  | 2 => unfold gH k0_pay21; pointwise; exact congrArg (fun l => x (ix2 0 l)) (Fin.ext (by simp [lane]))
  | 3 => unfold gH k0_pay30; pointwise; exact congrArg (fun l => x (ix2 0 l)) (Fin.ext (by simp [lane]))

theorem kH_at (h : Fin 4) (x : Vec Ideal S1x1x512 .f32) (d : Fin 128) : kH h x (ix2 0 d) = x (ix3 0 0 (lane h d)) := by
  match h with
  | 0 => unfold kH k0_pay5; pointwise; exact congrArg (fun l => x (ix3 0 0 l)) (Fin.ext (by simp [lane]))
  | 1 => unfold kH k0_pay12; pointwise; exact congrArg (fun l => x (ix3 0 0 l)) (Fin.ext (by simp [lane]))
  | 2 => unfold kH k0_pay22; pointwise; exact congrArg (fun l => x (ix3 0 0 l)) (Fin.ext (by simp [lane]))
  | 3 => unfold kH k0_pay32; pointwise; exact congrArg (fun l => x (ix3 0 0 l)) (Fin.ext (by simp [lane]))

theorem vH_at (h : Fin 4) (x : Vec Ideal S1x1x1024 .f32) (e : Fin 256) : vH h x (ix2 0 e) = x (ix3 0 0 (laneV h e)) := by
  match h with
  | 0 => unfold vH k0_pay6; pointwise; exact congrArg (fun l => x (ix3 0 0 l)) (Fin.ext (by simp [laneV]))
  | 1 => unfold vH k0_pay13; pointwise; exact congrArg (fun l => x (ix3 0 0 l)) (Fin.ext (by simp [laneV]))
  | 2 => unfold vH k0_pay23; pointwise; exact congrArg (fun l => x (ix3 0 0 l)) (Fin.ext (by simp [laneV]))
  | 3 => unfold vH k0_pay33; pointwise; exact congrArg (fun l => x (ix3 0 0 l)) (Fin.ext (by simp [laneV]))

theorem sH_at (h : Fin 4) (x : Vec Ideal S1x4x128x256 .f32) (d : Fin 128) (e : Fin 256) : sH h x (ix2 d e) = x (ix4 0 h d e) := by
  match h with
  | 0 => unfold sH k0_pay7; pointwise
  | 1 => unfold sH k0_pay14; pointwise
  | 2 => unfold sH k0_pay24; pointwise
  | 3 => unfold sH k0_pay34; pointwise

theorem scV_at (x : FVec Ideal S1x128 .f32) (d : Fin 128) : scV x (ix2 0 d) = x (ix2 0 d) * Ideal.ofBits .f32 0x3DB504F3#32 := by
  unfold scV
  pointwise

/-- The block of four heads' outputs. -/
def catV (a b c d : FVec Ideal S1x256 .f32) : FVec Ideal S1x1x1024 .f32 :=
  shapeCast S1x1x1024 (concatenate S1x1024 1 [⟨S1x256, a⟩, ⟨S1x256, b⟩, ⟨S1x256, c⟩, ⟨S1x256, d⟩] concatenates_S1x256_S1x256_S1x256_S1x256_S1x1024_d1) shapeCasts_S1x1024_S1x1x1024

theorem catV_at (f : Fin 4 → FVec Ideal S1x256 .f32) (h : Fin 4) (e : Fin 256) : catV (f 0) (f 1) (f 2) (f 3) (ix3 0 0 (laneV h e)) = f h (ix2 0 e) := by
  have he := e.isLt
  unfold catV
  match h with
  | 0 => pointwise
  | 1 => pointwise
  | 2 =>
    pointwise
    rw [dif_neg (by omega), dif_neg (by omega), dif_pos (by omega)]
    exact congrArg (fun l => f 2 (ix2 0 l)) (Fin.ext (by show 512 + e.val - 256 - 256 = e.val; omega))
  | 3 =>
    pointwise
    rw [dif_neg (by omega), dif_neg (by omega), dif_neg (by omega)]
    exact congrArg (fun l => f 3 (ix2 0 l)) (Fin.ext (by show 768 + e.val - 256 - 256 - 256 = e.val; omega))

/-- A head's output. -/
def headO (h : Fin 4) (gg : FVec Ideal S1x512 .f32) (x0 x1 : Vec Ideal S1x1x512 .f32) (x2 x3 : Vec Ideal S1x1x1024 .f32) (x7 : Vec Ideal S1x256 .f32)
    (x8 : Vec Ideal S1x4x128x256 .f32) : FVec Ideal S1x256 .f32 :=
  nV (oV (gH h gg) (scV (kH h x0)) (kH h x1) (vH h x2) (sH h x8)) x7 (vH h x3)

/-- A head's state. -/
def headS (h : Fin 4) (gg : FVec Ideal S1x512 .f32) (x1 : Vec Ideal S1x1x512 .f32) (x2 : Vec Ideal S1x1x1024 .f32)
    (x8 : Vec Ideal S1x4x128x256 .f32) : FVec Ideal S1x1x128x256 .f32 :=
  sV (gH h gg) (kH h x1) (vH h x2) (sH h x8)

section
variable (x0 x1 : Vec Ideal S1x1x512 .f32) (x2 x3 : Vec Ideal S1x1x1024 .f32) (x4 : Vec Ideal S1x1x128 .f32) (x5 : Vec Ideal S16x512 .bf16) (x6 : Vec Ideal S1x512 .f32)
  (x7 : Vec Ideal S1x256 .f32) (x8 : Vec Ideal S1x4x128x256 .f32) (gg : FVec Ideal S1x512 .f32)

theorem s0_eq : k0_pay9 (k0_pay3 x4 x5 x6) x1 x2 (View.ld x8 r0_5) = headS 0 (k0_pay2 x4 x5 x6) x1 x2 x8 := rfl
theorem s1_eq : k0_pay17 (k0_pay11 gg) (k0_pay12 x1) (k0_pay13 x2) (k0_pay14 (View.ld x8 r0_7)) = headS 1 gg x1 x2 x8 := rfl
theorem s2_eq : k0_pay28 (k0_pay23 x2) (k0_pay26 gg (View.ld x8 r0_8)) (k0_pay27 x1) = headS 2 gg x1 x2 x8 := rfl
theorem s3_eq : k0_pay36 (k0_pay30 gg) (k0_pay32 x1) x2 (View.ld x8 r0_9) = headS 3 gg x1 x2 x8 := rfl
theorem o0_eq : k0_pay10 (k0_pay8 (k0_pay3 x4 x5 x6) (k0_pay4 x0) x1 x2 (View.ld x8 r0_5)) x7 x3 = headO 0 (k0_pay2 x4 x5 x6) x0 x1 x2 x3 x7 x8 := rfl
theorem o1_eq : k0_pay20 (k0_pay18 (k0_pay13 x2) (k0_pay14 (View.ld x8 r0_7)) (k0_pay15 gg x0) (k0_pay16 gg x1) x7) (k0_pay19 x3) = headO 1 gg x0 x1 x2 x3 x7 x8 := rfl
theorem o2_eq : k0_pay29 (k0_pay25 gg x0 x1 x2 (View.ld x8 r0_8)) x7 x3 = headO 2 gg x0 x1 x2 x3 x7 x8 := rfl
theorem cat_eq (a b d : FVec Ideal S1x256 .f32) :
    k0_pay1 a b d (k0_pay35 (k0_pay30 gg) (k0_pay31 x0) (k0_pay32 x1) x2 (View.ld x8 r0_9)) (k0_pay37 x7) (k0_pay38 (k0_pay30 gg) (k0_pay31 x0) (k0_pay32 x1) x2 (View.ld x8 r0_9)) x3
      = catV a b d (headO 3 gg x0 x1 x2 x3 x7 x8) := rfl

theorem headO_at (h : Fin 4) (e : Fin 256) : headO h gg x0 x1 x2 x3 x7 x8 (ix2 0 e)
    = nS (oS (fun d => gg (ix2 0 (lane h d))) (fun d => x0 (ix3 0 0 (lane h d))) (fun d => x1 (ix3 0 0 (lane h d))) (fun e => x2 (ix3 0 0 (laneV h e))) (fun d e => x8 (ix4 0 h d e)))
        (fun e => x7 (ix2 0 e)) (fun e => x3 (ix3 0 0 (laneV h e))) e :=
  nV_at _ _ _ _ _ _ (fun e => oV_at _ _ _ _ _ _ _ _ _ _ (gH_at h gg) (fun d => (scV_at _ d).trans (congrArg (· * _) (kH_at h x0 d))) (kH_at h x1) (vH_at h x2) (sH_at h x8) e)
    (fun _ => rfl) (vH_at h x3) e

theorem headS_at (h : Fin 4) (d : Fin 128) (e : Fin 256) : headS h gg x1 x2 x8 (ix4 0 0 d e)
    = sS (fun d => gg (ix2 0 (lane h d))) (fun d => x1 (ix3 0 0 (lane h d))) (fun e => x2 (ix3 0 0 (laneV h e))) (fun d e => x8 (ix4 0 h d e)) d e :=
  sV_at _ _ _ _ _ _ _ _ (gH_at h gg) (kH_at h x1) (vH_at h x2) (sH_at h x8) d e

/-- The log gate of a pre-activation, as the kernel writes it. -/
def gateK (x : EReal) : EReal :=
  Ideal.div (0 - (max (0 - x) 0 + Ideal.log1p (Ideal.exp (0 - max (0 - x) (-(0 - x)))))) (Ideal.ofBits .f32 1098907648#32)

theorem pay2_at (l : Fin 512) : k0_pay2 x4 x5 x6 (ix2 0 l) = gateK (∑ k : Fin 16, x4 (ix3 0 0 ⟨48 + k.val, by omega⟩) * x5 (ix2 k l) + x6 (ix2 0 l) : EReal) := by
  unfold k0_pay2 gateK
  pointwise
  rw [if_neg (fun h => h rfl)]
  rfl

end

end Cert.StepIdeal.Stp

end
-- ==== Proof.Step.KVal.lean ====
module

public import proofs.«01_k».proof.Proof.Step.Pay
public import Idealize.ShloMosaic.Lib.Pipeline.ValueKit
public import Idealize.ShloMosaic.Lib.StableHlo.RunRead
public import Idealize.ShloMosaic.Lib.StableHlo.ReadAt

/-! Linear attention's one token in the kernel: what it leaves in its two result arrays, over the arguments. -/

@[expose] public section

set_option maxRecDepth 16384

noncomputable section

namespace Cert.StepIdeal.Stp

open Idealize.ShloMosaic Idealize.ShloMosaic.TcCoe Idealize.ShloMosaic.Tactic
open Idealize.ShloMosaic.StableHlo
open Cert.StepIdeal Cert.StepIdeal.Gen Cert.StepSpec

variable (m : (ℓ : Loc nD τ sig) → Buf (Elt Ideal) ℓ) (c : Dev nD)

/-- The queries. -/
def A0 : FVec Ideal S8x1x512 .f32 := m ((c.tc : Thread nD τ).loc main_arg0)
/-- The keys. -/
def A1 : FVec Ideal S8x1x512 .f32 := m ((c.tc : Thread nD τ).loc main_arg1)
/-- The values. -/
def A2 : FVec Ideal S8x1x1024 .f32 := m ((c.tc : Thread nD τ).loc main_arg2)
/-- The output gate's rows. -/
def A3 : FVec Ideal S8x1x1024 .f32 := m ((c.tc : Thread nD τ).loc main_arg3)
/-- The forget gate's rows. -/
def A4 : FVec Ideal S8x1x16 .f32 := m ((c.tc : Thread nD τ).loc main_arg4)
/-- The forget gate's weights. -/
def A5 : FVec Ideal S16x512 .f32 := m ((c.tc : Thread nD τ).loc main_arg5)
/-- The forget gate's offsets. -/
def A6 : FVec Ideal S512 .f32 := m ((c.tc : Thread nD τ).loc main_arg6)
/-- The norm's scale. -/
def A7 : FVec Ideal S256 .f32 := m ((c.tc : Thread nD τ).loc main_arg7)
/-- The old state. -/
def A8 : FVec Ideal S8x4x128x256 .f32 := m ((c.tc : Thread nD τ).loc main_arg8)

theorem q_at (b : Fin 8) (l : Fin 512) : (V m c main_v6 : FVec Ideal S16x1x512 .f32) (ix3 (⟨b.val, by omega⟩ : Fin 16) 0 l) = A0 m c (ix3 b 0 l) := by
  unfold_abbrev_sides
  after_reads_at
  rfl

theorem k_at (b : Fin 8) (l : Fin 512) : (V m c main_v9 : FVec Ideal S16x1x512 .f32) (ix3 (⟨b.val, by omega⟩ : Fin 16) 0 l) = A1 m c (ix3 b 0 l) := by
  unfold_abbrev_sides
  after_reads_at
  rfl

theorem v_at (b : Fin 8) (l : Fin 1024) : (V m c main_v12 : FVec Ideal S16x1x1024 .f32) (ix3 (⟨b.val, by omega⟩ : Fin 16) 0 l) = A2 m c (ix3 b 0 l) := by
  unfold_abbrev_sides
  after_reads_at
  rfl

theorem r_at (b : Fin 8) (l : Fin 1024) : (V m c main_v15 : FVec Ideal S16x1x1024 .f32) (ix3 (⟨b.val, by omega⟩ : Fin 16) 0 l) = A3 m c (ix3 b 0 l) := by
  unfold_abbrev_sides
  after_reads_at
  rfl

theorem lr_at (b : Fin 8) (k : Fin 16) : (V m c main_v17 : FVec Ideal S16x1x128 .f32) (ix3 (⟨b.val, by omega⟩ : Fin 16) 0 (⟨48 + k.val, by omega⟩ : Fin 128)) = A4 m c (ix3 b 0 k) := by
  unfold_abbrev_sides
  after_reads_at
  rw [dif_pos (by omega)]
  after_reads_at
  rfl

theorem w_at (k : Fin 16) (l : Fin 512) : (V m c main_v18 : FVec Ideal S16x512 .bf16) (ix2 k l) = A5 m c (ix2 k l) := by
  unfold_abbrev_sides
  after_reads_at
  rfl

theorem b_at (l : Fin 512) : (V m c main_v19 : FVec Ideal S1x512 .f32) (ix2 0 l) = A6 m c (ix1 l) := by
  unfold_abbrev_sides
  after_reads_at
  rfl

theorem n_at (e : Fin 256) : (V m c main_v20 : FVec Ideal S1x256 .f32) (ix2 0 e) = A7 m c (ix1 e) := by
  unfold_abbrev_sides
  after_reads_at
  rfl

theorem s_at (b : Fin 8) (h : Fin 4) (d : Fin 128) (e : Fin 256) : (V m c main_arg8 : FVec Ideal S8x4x128x256 .f32) (ix4 b h d e) = A8 m c (ix4 b h d e) := by
  unfold_abbrev_sides
  after_reads_at
  rfl

/-- The sequence a grid point works on. -/
def bOf (t : Fin cfg0.N) : Fin 8 := ⟨t.val, t.isLt⟩

theorem idx : ∀ t : Fin cfg0.N, win0_0.index t = ![t.val, 0, 0] ∧ win0_1.index t = ![t.val, 0, 0] ∧ win0_2.index t = ![t.val, 0, 0] ∧ win0_3.index t = ![t.val, 0, 0]
    ∧ win0_4.index t = ![t.val, 0, 0] ∧ win0_5.index t = ![0, 0] ∧ win0_6.index t = ![0, 0] ∧ win0_7.index t = ![0, 0] ∧ win0_8.index t = ![t.val, 0, 0, 0]
    ∧ win0_9.index t = ![t.val, 0, 0] ∧ win0_10.index t = ![t.val, 0, 0, 0] :=
  (by decide +kernel : ∀ t : Fin grid0.N, _)

theorem blk0 (t : Fin cfg0.N) (l : Fin 512) : (iblk m c 0 t : FVec Ideal S1x1x512 .f32) (ix3 0 0 l) = A0 m c (ix3 (bOf t) 0 l) := by
  have e : (win0_0.blk t).view.emb (ix3 0 0 l) = (ix3 (⟨(bOf t).val, by omega⟩ : Fin 16) 0 l : S16x1x512.Idx) := by
    blk_ext [idx t, bOf]
  blk_simp [iblk]
  rw [e]
  exact q_at m c (bOf t) l

theorem blk1 (t : Fin cfg0.N) (l : Fin 512) : (iblk m c 1 t : FVec Ideal S1x1x512 .f32) (ix3 0 0 l) = A1 m c (ix3 (bOf t) 0 l) := by
  have e : (win0_1.blk t).view.emb (ix3 0 0 l) = (ix3 (⟨(bOf t).val, by omega⟩ : Fin 16) 0 l : S16x1x512.Idx) := by
    blk_ext [idx t, bOf]
  blk_simp [iblk]
  rw [e]
  exact k_at m c (bOf t) l

theorem blk2 (t : Fin cfg0.N) (l : Fin 1024) : (iblk m c 2 t : FVec Ideal S1x1x1024 .f32) (ix3 0 0 l) = A2 m c (ix3 (bOf t) 0 l) := by
  have e : (win0_2.blk t).view.emb (ix3 0 0 l) = (ix3 (⟨(bOf t).val, by omega⟩ : Fin 16) 0 l : S16x1x1024.Idx) := by
    blk_ext [idx t, bOf]
  blk_simp [iblk]
  rw [e]
  exact v_at m c (bOf t) l

theorem blk3 (t : Fin cfg0.N) (l : Fin 1024) : (iblk m c 3 t : FVec Ideal S1x1x1024 .f32) (ix3 0 0 l) = A3 m c (ix3 (bOf t) 0 l) := by
  have e : (win0_3.blk t).view.emb (ix3 0 0 l) = (ix3 (⟨(bOf t).val, by omega⟩ : Fin 16) 0 l : S16x1x1024.Idx) := by
    blk_ext [idx t, bOf]
  blk_simp [iblk]
  rw [e]
  exact r_at m c (bOf t) l

theorem blk4 (t : Fin cfg0.N) (k : Fin 16) : (iblk m c 4 t : FVec Ideal S1x1x128 .f32) (ix3 0 0 (⟨48 + k.val, by omega⟩ : Fin 128)) = A4 m c (ix3 (bOf t) 0 k) := by
  have e : (win0_4.blk t).view.emb (ix3 0 0 (⟨48 + k.val, by omega⟩ : Fin 128)) = (ix3 (⟨(bOf t).val, by omega⟩ : Fin 16) 0 (⟨48 + k.val, by omega⟩ : Fin 128) : S16x1x128.Idx) := by
    blk_ext [idx t, bOf]
  blk_simp [iblk]
  rw [e]
  exact lr_at m c (bOf t) k

theorem blk5 (t : Fin cfg0.N) (k : Fin 16) (l : Fin 512) : (iblk m c 5 t : FVec Ideal S16x512 .bf16) (ix2 k l) = A5 m c (ix2 k l) := by
  have e : (win0_5.blk t).view.emb (ix2 k l) = (ix2 k l : S16x512.Idx) := by
    blk_ext [idx t]
  blk_simp [iblk]
  rw [e]
  exact w_at m c k l

theorem blk6 (t : Fin cfg0.N) (l : Fin 512) : (iblk m c 6 t : FVec Ideal S1x512 .f32) (ix2 0 l) = A6 m c (ix1 l) := by
  have e : (win0_6.blk t).view.emb (ix2 0 l) = (ix2 0 l : S1x512.Idx) := by
    blk_ext [idx t]
  blk_simp [iblk]
  rw [e]
  exact b_at m c l

theorem blk7 (t : Fin cfg0.N) (e : Fin 256) : (iblk m c 7 t : FVec Ideal S1x256 .f32) (ix2 0 e) = A7 m c (ix1 e) := by
  have he : (win0_7.blk t).view.emb (ix2 0 e) = (ix2 0 e : S1x256.Idx) := by
    blk_ext [idx t]
  blk_simp [iblk]
  rw [he]
  exact n_at m c e

theorem blk8 (t : Fin cfg0.N) (h : Fin 4) (d : Fin 128) (e : Fin 256) : (iblk m c 8 t : FVec Ideal S1x4x128x256 .f32) (ix4 0 h d e) = A8 m c (ix4 (bOf t) h d e) := by
  have he : (win0_8.blk t).view.emb (ix4 0 h d e) = (ix4 (bOf t) h d e : S8x4x128x256.Idx) := by
    blk_ext [idx t, bOf]
  blk_simp [iblk]
  rw [he]
  exact s_at m c (bOf t) h d e

/-- The log gate of a lane of a sequence. -/
def gateOf (b : Fin 8) (l : Fin 512) : EReal := gateK (∑ k : Fin 16, A4 m c (ix3 b 0 k) * A5 m c (ix2 k l) + A6 m c (ix1 l) : EReal)

theorem gate_blk (t : Fin cfg0.N) (l : Fin 512) : k0_pay2 (F := Ideal) (iblk m c 4 t) (iblk m c 5 t) (iblk m c 6 t) (ix2 0 l) = gateOf m c (bOf t) l := by
  refine (pay2_at _ _ _ l).trans ?_
  unfold gateOf
  simp only [blk4, blk5, blk6]

/-- The output of a lane of a head of a sequence. -/
def outAt (b : Fin 8) (h : Fin 4) (e : Fin 256) : EReal :=
  nS (oS (fun d => gateOf m c b (lane h d)) (fun d => A0 m c (ix3 b 0 (lane h d))) (fun d => A1 m c (ix3 b 0 (lane h d))) (fun e => A2 m c (ix3 b 0 (laneV h e))) (fun d e => A8 m c (ix4 b h d e)))
    (fun e => A7 m c (ix1 e)) (fun e => A3 m c (ix3 b 0 (laneV h e))) e

/-- The new state at an index. -/
def stateAt (b : Fin 8) (h : Fin 4) (d : Fin 128) (e : Fin 256) : EReal :=
  sS (fun d => gateOf m c b (lane h d)) (fun d => A1 m c (ix3 b 0 (lane h d))) (fun e => A2 m c (ix3 b 0 (laneV h e))) (fun d e => A8 m c (ix4 b h d e)) d e

/-- The array of outputs. -/
def outArr : FVec Ideal S8x1x1024 .f32 := fun i =>
  outAt m c (i 0) ⟨(i 2).val / 256, by have : (i 2).val < 1024 := (i 2).isLt; omega⟩ ⟨(i 2).val % 256, by omega⟩

/-- The array of states. -/
def stateArr : FVec Ideal S8x4x128x256 .f32 := fun i => stateAt m c (i 0) (i 1) (i 2) (i 3)

theorem outArr_at (b : Fin 8) (h : Fin 4) (e : Fin 256) : outArr m c (ix3 b 0 (laneV h e)) = outAt m c b h e := by
  have e1 : (⟨(h.val * 256 + e.val) / 256, by omega⟩ : Fin 4) = h := Fin.ext (by show (h.val * 256 + e.val) / 256 = h.val; omega)
  have e2 : (⟨(h.val * 256 + e.val) % 256, by omega⟩ : Fin 256) = e := Fin.ext (by show (h.val * 256 + e.val) % 256 = e.val; omega)
  show outAt m c b ⟨(h.val * 256 + e.val) / 256, _⟩ ⟨(h.val * 256 + e.val) % 256, _⟩ = _
  rw [e1, e2]

theorem head_out (t : Fin cfg0.N) (h : Fin 4) (e : Fin 256) :
    headO h (k0_pay2 (iblk m c 4 t) (iblk m c 5 t) (iblk m c 6 t)) (iblk m c 0 t) (iblk m c 1 t) (iblk m c 2 t) (iblk m c 3 t) (iblk m c 7 t) (iblk m c 8 t) (ix2 0 e)
      = outAt m c (bOf t) h e := by
  refine (headO_at _ _ _ _ _ _ _ h e).trans ?_
  unfold outAt
  simp only [gate_blk, blk0, blk1, blk2, blk3, blk7, blk8]

theorem head_state (t : Fin cfg0.N) (h : Fin 4) (d : Fin 128) (e : Fin 256) :
    headS h (k0_pay2 (iblk m c 4 t) (iblk m c 5 t) (iblk m c 6 t)) (iblk m c 1 t) (iblk m c 2 t) (iblk m c 8 t) (ix4 0 0 d e)
      = stateAt m c (bOf t) h d e := by
  refine (headS_at _ _ _ _ h d e).trans ?_
  unfold stateAt
  simp only [gate_blk, blk1, blk2, blk8]

theorem final9 : (dats m 0 c).arrAt 9 (cfgs 0).N = outArr m c := by
  refine (dats m 0 c).arrAt_eq_of_covers 9 (outArr m c) (by decide +kernel) fun t hf y => ?_
  obtain ⟨h, e, rfl⟩ : ∃ (h : Fin 4) (e : Fin 256), y = (ix3 0 0 (laneV h e) : S1x1x1024.Idx) := by
    have d2 : (y 2).val < 1024 := (y 2).isLt
    refine ⟨⟨(y 2).val / 256, by omega⟩, ⟨(y 2).val % 256, by omega⟩, ?_⟩
    funext i
    fin_cases i
    · exact Fin.ext (Nat.lt_one_iff.mp (y 0).isLt)
    · exact Fin.ext (Nat.lt_one_iff.mp (y 1).isLt)
    · exact Fin.ext (show (y 2).val = (y 2).val / 256 * 256 + (y 2).val % 256 by omega)
  have he : (win0_9.blk t).view.emb (ix3 0 0 (laneV h e)) = (ix3 (bOf t) 0 (laneV h e) : S8x1x1024.Idx) := by
    blk_ext [idx t, bOf]
  refine Eq.trans ?_ ((congrArg (outArr m c) he).trans (outArr_at m c (bOf t) h e)).symm
  blk_simp
  rw [after0_9]
  unfold_out out0_9
  frame_out
  rw [o0_eq, o1_eq, o2_eq, cat_eq]
  exact (catV_at (fun h => headO h (k0_pay2 (iblk m c 4 t) (iblk m c 5 t) (iblk m c 6 t)) (iblk m c 0 t) (iblk m c 1 t) (iblk m c 2 t) (iblk m c 3 t) (iblk m c 7 t) (iblk m c 8 t)) h e).trans
    (head_out m c t h e)

/-- A head's stored block holds the states of that head. -/
theorem piece_at (t : Fin cfg0.N) (h : Fin 4) (inb : ∀ a, (![0, h.val, 0, 0] : Fin 4 → ℕ) a + S1x1x128x256.size a ≤ S1x4x128x256.size a)
    (j : S1x1x128x256.Idx) (x : Vec Ideal S1x1x128x256 .f32)
    (hx : x = headS h (k0_pay2 (iblk m c 4 t) (iblk m c 5 t) (iblk m c 6 t)) (iblk m c 1 t) (iblk m c 2 t) (iblk m c 8 t)) :
    x j = (fun y : S1x4x128x256.Idx => stateAt m c (bOf t) (y 1) (y 2) (y 3)) ((Rect.unit (s := S1x4x128x256) ![0, h.val, 0, 0] S1x1x128x256.size inb).emb j) := by
  obtain ⟨d, e, rfl⟩ : ∃ (d : Fin 128) (e : Fin 256), j = (ix4 0 0 d e : S1x1x128x256.Idx) :=
    ⟨j 2, j 3, by
      funext i
      fin_cases i
      · exact Fin.ext (Nat.lt_one_iff.mp (j 0).isLt)
      · exact Fin.ext (Nat.lt_one_iff.mp (j 1).isLt)
      · rfl
      · rfl⟩
  have he : (Rect.unit (s := S1x4x128x256) ![0, h.val, 0, 0] S1x1x128x256.size inb).emb (ix4 0 0 d e) = (ix4 0 h d e : S1x4x128x256.Idx) := by
    funext a
    refine Fin.ext ?_
    fin_cases a
    · rfl
    · show h.val + 1 * 0 = h.val
      omega
    · show 0 + 1 * d.val = d.val
      omega
    · show 0 + 1 * e.val = e.val
      omega
  rw [he, hx]
  exact head_state m c t h d e

theorem final10 : (dats m 0 c).arrAt 10 (cfgs 0).N = stateArr m c := by
  refine (dats m 0 c).arrAt_eq_of_covers 10 (stateArr m c) (by decide +kernel) fun t hf y => ?_
  obtain ⟨h, d, e, rfl⟩ : ∃ (h : Fin 4) (d : Fin 128) (e : Fin 256), y = (ix4 0 h d e : S1x4x128x256.Idx) :=
    ⟨y 1, y 2, y 3, by
      funext i
      fin_cases i
      · exact Fin.ext (Nat.lt_one_iff.mp (y 0).isLt)
      · rfl
      · rfl
      · rfl⟩
  have he : (win0_10.blk t).view.emb (ix4 0 h d e) = (ix4 (bOf t) h d e : S8x4x128x256.Idx) := by
    blk_ext [idx t, bOf]
  refine Eq.trans ?_ (congrArg (stateArr m c) he).symm
  show _ = stateAt m c (bOf t) h d e
  blk_simp
  rw [after0_10]
  unfold_out out0_10
  frame_out
  refine View.canon_apply_of_pieces (Val := Elt Ideal) (S := S1x4x128x256) (e := .f32) (fun y => stateAt m c (bOf t) (y 1) (y 2) (y 3)) _ (fun p hp j => ?_) _ (cover0_10 _ _ _ _ _)
  simp only [List.mem_cons, List.not_mem_nil, or_false] at hp
  obtain rfl | rfl | rfl | rfl := hp
  · exact (piece_at m c t 3 (by decide) j _ (s3_eq _ _ _ _))
  · exact (piece_at m c t 2 (by decide) j _ (s2_eq _ _ _ _))
  · exact (piece_at m c t 1 (by decide) j _ (s1_eq _ _ _ _))
  · exact (piece_at m c t 0 (by decide) j _ (s0_eq _ _ _ _ _ _))

end Cert.StepIdeal.Stp

end
-- ==== Proof.Step.RefVal.lean ====
module

public import proofs.«01_k».proof.Proof.Step.Pay
public import proofs.«01_k».proof.Proof.Gen.StepReferenceIdeal
public import proofs.«01_k».proof.Proof.Gen.StepReferenceIdeal.Run
public import Mathlib.Tactic.Linarith
public import Idealize.ShloMosaic.Lib.Claim

/-! Linear attention's one token in the reference: its two results at an index. -/

@[expose] public section

set_option maxRecDepth 16384

noncomputable section

namespace Cert.StepReferenceIdeal.Stp

open Idealize.ShloMosaic Idealize.ShloMosaic.TcCoe Idealize.SL.Sem
open Cert.StepReferenceIdeal Cert.StepReferenceIdeal.Gen Cert.StepReferenceIdeal.Value Cert.StepSpec Cert.GlaMath

/-- The scaled queries by head. -/
def qOf (x : FVec Ideal S8x1x512 .f32) : FVec Ideal S8x1x4x128 .f32 :=
  mulf (shapeCast S8x1x4x128 x shapeCasts_S8x1x512_S8x1x4x128) (broadcastInDim S8x1x4x128 ![] bcast_S_S8x1x4x128 (constant (F := Ideal) S_ .f32 0x3DB504F3#32))

/-- Rows by head, as the chunk of one token. -/
def rows (x : FVec Ideal S8x1x4x128 .f32) : FVec Ideal S8x4x1x128 .f32 :=
  shapeCast S8x4x1x128 (transpose S1x8x4x1x128 [1, 0, 3, 2, 4] (shapeCast S8x1x1x4x128 x shapeCasts_S8x1x4x128_S8x1x1x4x128) transposes_S8x1x1x4x128_S1x8x4x1x128_1_0_3_2_4) shapeCasts_S1x8x4x1x128_S8x4x1x128

/-- The values by head, as the chunk of one token. -/
def vrows (x : FVec Ideal S8x1x1024 .f32) : FVec Ideal S8x4x1x256 .f32 :=
  shapeCast S8x4x1x256 (transpose S1x8x4x1x256 [1, 0, 3, 2, 4] (shapeCast S8x1x1x4x256 (shapeCast S8x1x4x256 x shapeCasts_S8x1x1024_S8x1x4x256) shapeCasts_S8x1x4x256_S8x1x1x4x256) transposes_S8x1x1x4x256_S1x8x4x1x256_1_0_3_2_4) shapeCasts_S1x8x4x1x256_S8x4x1x256

/-- The gate's pre-activation. -/
def actOf (lr : FVec Ideal S8x1x16 .f32) (w : FVec Ideal S16x512 .f32) (b : FVec Ideal S512 .f32) : FVec Ideal S8x1x512 .f32 :=
  addf (Host.dotGeneral dot_S8x1x16_S16x512_S8x1x512_2_0_01_1_n_n none lr w)
    (broadcastInDim S8x1x512 ![0, 1, 2] bcast_S1x1x512_S8x1x512_0_1_2 (broadcastInDim S1x1x512 ![2] bcast_S512_S1x1x512_2 b))

/-- The log gate of the pre-activation. -/
def lsOf (x : FVec Ideal S8x1x512 .f32) : FVec Ideal S8x1x512 .f32 :=
  let z : FVec Ideal S8x1x512 .f32 := broadcastInDim S8x1x512 ![] bcast_S_S8x1x512 (constant S_ .f32 0x00000000#32)
  let n := Host.negf x
  let d := subf n z
  Host.divf (Host.negf (select (cmpf .une d d) (addf n z) (addf (maximumf n z) (Host.log1p (Host.exp (Host.negf (Host.absf d)))))))
    (broadcastInDim S8x1x512 ![] bcast_S_S8x1x512 (constant S_ .f32 0x41800000#32))

/-- The sum along the chunk's one token. -/
def cum (x : FVec Ideal S8x4x1x128 .f32) : FVec Ideal S8x4x1x128 .f32 :=
  Host.reduceWindowAdd ![1, 1, 1, 1] ![1, 1, 1, 1] ![0, 0, 0, 0] ![0, 0, 0, 0] x (broadcastInDim S_ ![] bcast_S_S_ (constant S_ .f32 0x00000000#32))
    reduceWindows_S8x4x1x128_S8x4x1x128_w1s1p0_0_w1s1p0_0_w1s1p0_0_w1s1p0_0 h_S_

/-- The causal mask of one token. -/
def tril : IVec S1x1 1 :=
  select (cmpi .sge (addi (iotaInDim S1x1 32 0) (broadcastInDim S1x1 ![] bcast_S_S1x1 (constantI S_ 32 0#32))) (iotaInDim S1x1 32 1))
    (broadcastInDim S1x1 ![] bcast_S_S1x1 (constantI S_ 1 1#1)) (broadcastInDim S1x1 ![] bcast_S_S1x1 (constantI S_ 1 0#1))

/-- The new state. -/
def sOf (g k : FVec Ideal S8x4x1x128 .f32) (v : FVec Ideal S8x4x1x256 .f32) (s : FVec Ideal S8x4x128x256 .f32) : FVec Ideal S8x4x128x256 .f32 :=
  addf (mulf (broadcastInDim S8x4x128x256 ![0, 1, 2, 3] bcast_S8x4x128x1_S8x4x128x256_0_1_2_3
      (broadcastInDim S8x4x128x1 ![0, 1, 2] bcast_S8x4x128_S8x4x128x1_0_1_2 (shapeCast S8x4x128 (Host.exp g) shapeCasts_S8x4x1x128_S8x4x128))) s)
    (Host.dotGeneral dot_S8x4x1x128_S8x4x1x256_S8x4x128x256_2_2_3_3_01_01 none (mulf k (Host.exp (subf g g))) v)

/-- The output before the norm. -/
def oOf (g q k : FVec Ideal S8x4x1x128 .f32) (v : FVec Ideal S8x4x1x256 .f32) (s : FVec Ideal S8x4x128x256 .f32) : FVec Ideal S8x1x4x256 .f32 :=
  let p := mulf q (Host.exp g)
  let a := select (broadcastInDim S8x4x1x1 ![2, 3] bcast_S1x1_S8x4x1x1_2_3 tril)
    (Host.dotGeneral dot_S8x4x1x128_S8x4x1x128_S8x4x1x1_3_3_2_2_01_01 none p (mulf k (Host.exp (Host.negf g))))
    (broadcastInDim S8x4x1x1 ![] bcast_S_S8x4x1x1 (constant S_ .f32 0x00000000#32))
  let o := addf (Host.dotGeneral dot_S8x4x1x128_S8x4x128x256_S8x4x1x256_3_2_2_3_01_01 none p s)
    (Host.dotGeneral dot_S8x4x1x1_S8x4x1x256_S8x4x1x256_3_2_2_3_01_01 none a v)
  shapeCast S8x1x4x256 (transpose S8x1x1x4x256 [1, 0, 3, 2, 4] (broadcastInDim S1x8x4x1x256 ![1, 2, 3, 4] bcast_S8x4x1x256_S1x8x4x1x256_1_2_3_4 o)
    transposes_S1x8x4x1x256_S8x1x1x4x256_1_0_3_2_4) shapeCasts_S8x1x1x4x256_S8x1x4x256

/-- The normalised and gated output. -/
def nOf (o : FVec Ideal S8x1x4x256 .f32) (ng : FVec Ideal S256 .f32) (r : FVec Ideal S8x1x1024 .f32) : FVec Ideal S8x1x1024 .f32 :=
  let rr := shapeCast S8x1x4x256 r shapeCasts_S8x1x1024_S8x1x4x256
  let one : FVec Ideal S8x1x4x256 .f32 := broadcastInDim S8x1x4x256 ![] bcast_S_S8x1x4x256 (constant S_ .f32 0x3F800000#32)
  let ms := Host.divf (broadcastInDim S8x1x4x1 ![0, 1, 2] bcast_S8x1x4_S8x1x4x1_0_1_2 (Host.reduceAdd (mulf o o) (constant S_ .f32 0x00000000#32) reducesTo_S8x1x4x256_S8x1x4_d3 h_S_))
    (broadcastInDim S8x1x4x1 ![] bcast_S_S8x1x4x1 (constant S_ .f32 0x43800000#32))
  let y := mulf o (broadcastInDim S8x1x4x256 ![0, 1, 2, 3] bcast_S8x1x4x1_S8x1x4x256_0_1_2_3 (Host.rsqrt (addf ms (broadcastInDim S8x1x4x1 ![] bcast_S_S8x1x4x1 (constant S_ .f32 0x358637BD#32)))))
  shapeCast S8x1x1024 (mulf (mulf y (broadcastInDim S8x1x4x256 ![0, 1, 2, 3] bcast_S1x1x1x256_S8x1x4x256_0_1_2_3 (broadcastInDim S1x1x1x256 ![3] bcast_S256_S1x1x1x256_3 ng)))
    (mulf rr (Host.divf one (addf one (Host.exp (Host.negf rr)))))) shapeCasts_S8x1x4x256_S8x1x1024

section
variable (m : (ℓ : Loc nD τ sig) → Buf (Elt Ideal) ℓ) (c : Dev nD)

/-- The queries. -/
def A0 : FVec Ideal S8x1x512 .f32 := m ((c.tc : Thread nD τ).loc main_arg0)
/-- The keys. -/
def A1 : FVec Ideal S8x1x512 .f32 := m ((c.tc : Thread nD τ).loc main_arg1)
/-- The values. -/
def A2 : FVec Ideal S8x1x1024 .f32 := m ((c.tc : Thread nD τ).loc main_arg2)
/-- The output gate's rows. -/
def A3 : FVec Ideal S8x1x1024 .f32 := m ((c.tc : Thread nD τ).loc main_arg3)
/-- The forget gate's rows. -/
def A4 : FVec Ideal S8x1x16 .f32 := m ((c.tc : Thread nD τ).loc main_arg4)
/-- The forget gate's weights. -/
def A5 : FVec Ideal S16x512 .f32 := m ((c.tc : Thread nD τ).loc main_arg5)
/-- The forget gate's offsets. -/
def A6 : FVec Ideal S512 .f32 := m ((c.tc : Thread nD τ).loc main_arg6)
/-- The norm's scale. -/
def A7 : FVec Ideal S256 .f32 := m ((c.tc : Thread nD τ).loc main_arg7)
/-- The old state. -/
def A8 : FVec Ideal S8x4x128x256 .f32 := m ((c.tc : Thread nD τ).loc main_arg8)

/-- The log gates. -/
def gR : FVec Ideal S8x4x1x128 .f32 := cum (rows (shapeCast S8x1x4x128 (lsOf (actOf (A4 m c) (A5 m c) (A6 m c))) shapeCasts_S8x1x512_S8x1x4x128))

set_option maxHeartbeats 2000000 in
theorem state_eq : res_main_v47 m c = sOf (gR m c) (rows (shapeCast S8x1x4x128 (A1 m c) shapeCasts_S8x1x512_S8x1x4x128)) (vrows (A2 m c)) (A8 m c) := rfl

set_option maxHeartbeats 2000000 in
theorem out_eq : res_main_v67 m c
    = nOf (oOf (gR m c) (rows (qOf (A0 m c))) (rows (shapeCast S8x1x4x128 (A1 m c) shapeCasts_S8x1x512_S8x1x4x128)) (vrows (A2 m c)) (A8 m c)) (A7 m c) (A3 m c) := rfl

end

/-- A lane of a head of 128 lanes. -/
abbrev lane (h : Fin 4) (d : Fin 128) : Fin 512 := ⟨h.val * 128 + d.val, by omega⟩

/-- A lane of a head of 256 lanes. -/
abbrev laneV (h : Fin 4) (e : Fin 256) : Fin 1024 := ⟨h.val * 256 + e.val, by omega⟩

theorem rows_at (x : FVec Ideal S8x1x512 .f32) (b : Fin 8) (h : Fin 4) (d : Fin 128) :
    rows (shapeCast S8x1x4x128 x shapeCasts_S8x1x512_S8x1x4x128) (ix4 b h 0 d) = x (ix3 b 0 (lane h d)) := by
  unfold rows
  pointwise

theorem qrows_at (x : FVec Ideal S8x1x512 .f32) (b : Fin 8) (h : Fin 4) (d : Fin 128) :
    rows (qOf x) (ix4 b h 0 d) = x (ix3 b 0 (lane h d)) * Ideal.ofBits .f32 0x3DB504F3#32 := by
  unfold rows qOf
  pointwise

theorem vrows_at (x : FVec Ideal S8x1x1024 .f32) (b : Fin 8) (h : Fin 4) (e : Fin 256) : vrows x (ix4 b h 0 e) = x (ix3 b 0 (laneV h e)) := by
  unfold vrows
  pointwise

theorem act_at (lr : FVec Ideal S8x1x16 .f32) (w : FVec Ideal S16x512 .f32) (b : FVec Ideal S512 .f32) (i : Fin 8) (l : Fin 512) :
    actOf lr w b (ix3 i 0 l) = (∑ k : Fin 16, lr (ix3 i 0 k) * w (ix2 k l) + b (ix1 l) : EReal) := by
  unfold actOf
  pointwise

theorem ls_at (x : FVec Ideal S8x1x512 .f32) (i : Fin 8) (l : Fin 512) (a : ℝ) (h : x (ix3 i 0 l) = ((a : ℝ) : EReal)) :
    lsOf x (ix3 i 0 l) = ((lsig a : ℝ) : EReal) := by
  unfold lsOf
  pointwise
  rw [h, if_neg (fun h => h rfl)]
  have h16 : Ideal.ofBits .f32 1098907648#32 = ((16 : ℝ) : EReal) := by
    simp [Ideal.ofBits, Ideal.ieee]
    rw [← EReal.coe_mul]
    norm_num
  have emax : ∀ a b : ℝ, max (a : EReal) (b : EReal) = ((max a b : ℝ) : EReal) := fun a b => EReal.coe_strictMono.monotone.map_max.symm
  have habs : FloatOps.absf (F := Ideal) (φ := .f32) (-(a : EReal)) = ((|(-a)| : ℝ) : EReal) := by
    show max (-(a : EReal)) (-(-(a : EReal))) = _
    rw [← EReal.coe_neg, ← EReal.coe_neg, emax, abs_eq_max_neg]
  rw [h16, habs, ← EReal.coe_neg, ← EReal.coe_neg, ← EReal.coe_zero, emax, Ideal.exp_coe, Ideal.log1p, ← EReal.coe_one, ← EReal.coe_add, Ideal.log_coe,
    if_neg (by have := Real.exp_pos (-|(-a)|); linarith), ← EReal.coe_add, ← EReal.coe_neg, Ideal.div_coe (by norm_num), ← EReal.coe_mul]
  unfold lsig
  norm_num

theorem cum_at (x : FVec Ideal S8x4x1x128 .f32) (b : Fin 8) (h : Fin 4) (d : Fin 128) : cum x (ix4 b h 0 d) = x (ix4 b h 0 d) := by
  unfold cum
  show Host.reduceWindow (α := EReal) (u := ⟨0, ![]⟩) (· + ·) ![1, 1, 1, 1] ![1, 1, 1, 1] ![0, 0, 0, 0] ![0, 0, 0, 0] x (fun _ => Ideal.ofBits .f32 0x00000000#32)
    reduceWindows_S8x4x1x128_S8x4x1x128_w1s1p0_0_w1s1p0_0_w1s1p0_0_w1s1p0_0 (by decide) (ix4 b h 0 d) = _
  have hz : Ideal.ofBits .f32 0x00000000#32 = (0 : EReal) := by simp [Ideal.ofBits, Ideal.ieee]
  rw [hz]
  unfold Host.reduceWindow
  have hN : List.finRange (⟨4, ![1, 1, 1, 1]⟩ : Shape).numel = [⟨0, by decide⟩] := by decide
  have hw : ∀ n : Fin (⟨4, ![1, 1, 1, 1]⟩ : Shape).numel, ∀ a, ((⟨4, ![1, 1, 1, 1]⟩ : Shape).rowMajor.symm n a).val = 0 := by decide +kernel
  dsimp only
  rw [hN, List.foldl_cons, List.foldl_nil, zero_add]
  split
  · next hin =>
    refine congrArg x (funext fun a => Fin.ext ?_)
    have e := hw ⟨0, by decide⟩ a
    match a with
    | ⟨0, _⟩ =>
      change b.val * 1 + ((⟨4, ![1, 1, 1, 1]⟩ : Shape).rowMajor.symm ⟨0, _⟩ 0).val - 0 = b.val
      change ((⟨4, ![1, 1, 1, 1]⟩ : Shape).rowMajor.symm ⟨0, _⟩ 0).val = 0 at e
      omega
    | ⟨1, _⟩ =>
      change h.val * 1 + ((⟨4, ![1, 1, 1, 1]⟩ : Shape).rowMajor.symm ⟨0, _⟩ 1).val - 0 = h.val
      change ((⟨4, ![1, 1, 1, 1]⟩ : Shape).rowMajor.symm ⟨0, _⟩ 1).val = 0 at e
      omega
    | ⟨2, _⟩ =>
      change 0 * 1 + ((⟨4, ![1, 1, 1, 1]⟩ : Shape).rowMajor.symm ⟨0, _⟩ 2).val - 0 = 0
      change ((⟨4, ![1, 1, 1, 1]⟩ : Shape).rowMajor.symm ⟨0, _⟩ 2).val = 0 at e
      omega
    | ⟨3, _⟩ =>
      change d.val * 1 + ((⟨4, ![1, 1, 1, 1]⟩ : Shape).rowMajor.symm ⟨0, _⟩ 3).val - 0 = d.val
      change ((⟨4, ![1, 1, 1, 1]⟩ : Shape).rowMajor.symm ⟨0, _⟩ 3).val = 0 at e
      omega
  · next hin =>
    exfalso
    apply hin
    intro a
    have e := hw ⟨0, by decide⟩ a
    match a with
    | ⟨0, _⟩ =>
      change 0 ≤ b.val * 1 + ((⟨4, ![1, 1, 1, 1]⟩ : Shape).rowMajor.symm ⟨0, _⟩ 0).val ∧ b.val * 1 + ((⟨4, ![1, 1, 1, 1]⟩ : Shape).rowMajor.symm ⟨0, _⟩ 0).val - 0 < 8
      change ((⟨4, ![1, 1, 1, 1]⟩ : Shape).rowMajor.symm ⟨0, _⟩ 0).val = 0 at e
      omega
    | ⟨1, _⟩ =>
      change 0 ≤ h.val * 1 + ((⟨4, ![1, 1, 1, 1]⟩ : Shape).rowMajor.symm ⟨0, _⟩ 1).val ∧ h.val * 1 + ((⟨4, ![1, 1, 1, 1]⟩ : Shape).rowMajor.symm ⟨0, _⟩ 1).val - 0 < 4
      change ((⟨4, ![1, 1, 1, 1]⟩ : Shape).rowMajor.symm ⟨0, _⟩ 1).val = 0 at e
      omega
    | ⟨2, _⟩ =>
      change 0 ≤ 0 * 1 + ((⟨4, ![1, 1, 1, 1]⟩ : Shape).rowMajor.symm ⟨0, _⟩ 2).val ∧ 0 * 1 + ((⟨4, ![1, 1, 1, 1]⟩ : Shape).rowMajor.symm ⟨0, _⟩ 2).val - 0 < 1
      change ((⟨4, ![1, 1, 1, 1]⟩ : Shape).rowMajor.symm ⟨0, _⟩ 2).val = 0 at e
      omega
    | ⟨3, _⟩ =>
      change 0 ≤ d.val * 1 + ((⟨4, ![1, 1, 1, 1]⟩ : Shape).rowMajor.symm ⟨0, _⟩ 3).val ∧ d.val * 1 + ((⟨4, ![1, 1, 1, 1]⟩ : Shape).rowMajor.symm ⟨0, _⟩ 3).val - 0 < 128
      change ((⟨4, ![1, 1, 1, 1]⟩ : Shape).rowMajor.symm ⟨0, _⟩ 3).val = 0 at e
      omega

theorem tril_at : tril (ix2 0 0) = 1#1 := by
  unfold tril
  decide +kernel

theorem sOf_at (g k : FVec Ideal S8x4x1x128 .f32) (v : FVec Ideal S8x4x1x256 .f32) (s : FVec Ideal S8x4x128x256 .f32) (b : Fin 8) (h : Fin 4) (g' : Fin 128 → ℝ)
    (hg : ∀ d, g (ix4 b h 0 d) = ((g' d : ℝ) : EReal)) (d : Fin 128) (e : Fin 256) :
    sOf g k v s (ix4 b h d e) = sS (fun d => g (ix4 b h 0 d)) (fun d => k (ix4 b h 0 d)) (fun e => v (ix4 b h 0 e)) (fun d e => s (ix4 b h d e)) d e := by
  have h1 : Ideal.exp (g (ix4 b h 0 d) - g (ix4 b h 0 d)) = 1 := by
    rw [hg, ← EReal.coe_sub, sub_self, Ideal.exp_coe, Real.exp_zero, EReal.coe_one]
  unfold sOf sS
  pointwise
  rw [Fin.sum_univ_one, h1, mul_one]

theorem oOf_at (g q k : FVec Ideal S8x4x1x128 .f32) (v : FVec Ideal S8x4x1x256 .f32) (s : FVec Ideal S8x4x128x256 .f32) (b : Fin 8) (h : Fin 4) (q' : Fin 128 → EReal)
    (hq : ∀ d, q (ix4 b h 0 d) = q' d * Ideal.ofBits .f32 0x3DB504F3#32) (e : Fin 256) :
    oOf g q k v s (ix4 b 0 h e) = oS (fun d => g (ix4 b h 0 d)) q' (fun d => k (ix4 b h 0 d)) (fun e => v (ix4 b h 0 e)) (fun d e => s (ix4 b h d e)) e := by
  unfold oOf oS qd
  pointwise
  rw [Fin.sum_univ_one]
  simp only [hq]
  rw [tril_at]
  rfl

theorem nOf_at (o : FVec Ideal S8x1x4x256 .f32) (ng : FVec Ideal S256 .f32) (r : FVec Ideal S8x1x1024 .f32) (b : Fin 8) (h : Fin 4) (e : Fin 256) :
    nOf o ng r (ix3 b 0 (laneV h e)) = nS (fun e => o (ix4 b 0 h e)) (fun e => ng (ix1 e)) (fun e => r (ix3 b 0 (laneV h e))) e := by
  have e1 : (⟨(h.val * 256 + e.val) / 256, by omega⟩ : Fin 4) = h := Fin.ext (by show (h.val * 256 + e.val) / 256 = h.val; omega)
  have e2 : (⟨(h.val * 256 + e.val) % 256, by omega⟩ : Fin 256) = e := Fin.ext (by show (h.val * 256 + e.val) % 256 = e.val; omega)
  have e3 : (⟨(h.val * 256 + e.val) / 256 * 256 + (h.val * 256 + e.val) % 256, by omega⟩ : Fin 1024) = laneV h e :=
    Fin.ext (by show (h.val * 256 + e.val) / 256 * 256 + (h.val * 256 + e.val) % 256 = h.val * 256 + e.val; omega)
  unfold nOf nS
  pointwise
  simp only [e1, e2, e3]
  rfl

end Cert.StepReferenceIdeal.Stp

end
-- ==== Proof.Step.Value.lean ====
module

public import proofs.«01_k».proof.Proof.Gla.KernelVal
public import proofs.«01_k».proof.Proof.Step.Frames
public import proofs.«01_k».proof.Proof.Step.Finite
public import proofs.«01_k».proof.Proof.Step.KVal
public import proofs.«01_k».proof.Proof.Step.RefVal

/-! Linear attention's one token: the kernel and the reference compute the same two results. -/

@[expose] public section

set_option maxRecDepth 16384

noncomputable section

namespace Cert.Proof

open Idealize.ShloMosaic Idealize.SL.Sem Cert.GlaMath Cert.StepSpec

instance finite_gate_facts : Cert.Pre_finite_gate.Facts := Cert.Pre_finite_gate.facts

section
variable (m : (ℓ : Loc Cert.StepIdeal.nD Cert.StepIdeal.τ Cert.StepIdeal.sig) → Buf (Elt Ideal) ℓ)
  (m' : (ℓ : Loc Cert.StepReferenceIdeal.nD Cert.StepReferenceIdeal.τ Cert.StepReferenceIdeal.sig) → Buf (Elt Ideal) ℓ)
  (c : Dev Cert.StepIdeal.nD)

/-- The reference's arguments are the kernel's. -/
structure StepSame : Prop where
  e0 : StepReferenceIdeal.Stp.A0 m' c = StepIdeal.Stp.A0 m c
  e1 : StepReferenceIdeal.Stp.A1 m' c = StepIdeal.Stp.A1 m c
  e2 : StepReferenceIdeal.Stp.A2 m' c = StepIdeal.Stp.A2 m c
  e3 : StepReferenceIdeal.Stp.A3 m' c = StepIdeal.Stp.A3 m c
  e4 : StepReferenceIdeal.Stp.A4 m' c = StepIdeal.Stp.A4 m c
  e5 : StepReferenceIdeal.Stp.A5 m' c = StepIdeal.Stp.A5 m c
  e6 : StepReferenceIdeal.Stp.A6 m' c = StepIdeal.Stp.A6 m c
  e7 : StepReferenceIdeal.Stp.A7 m' c = StepIdeal.Stp.A7 m c
  e8 : StepReferenceIdeal.Stp.A8 m' c = StepIdeal.Stp.A8 m c

/-- The forget gate's arguments are real. -/
structure StepReals : Prop where
  h4 : ∀ i, StepIdeal.Stp.A4 m c i = ((EReal.toReal (StepIdeal.Stp.A4 m c i) : ℝ) : EReal)
  h5 : ∀ i, StepIdeal.Stp.A5 m c i = ((EReal.toReal (StepIdeal.Stp.A5 m c i) : ℝ) : EReal)
  h6 : ∀ i, StepIdeal.Stp.A6 m c i = ((EReal.toReal (StepIdeal.Stp.A6 m c i) : ℝ) : EReal)

/-- The real pre-activation of a lane of a sequence. -/
def actR (b : Fin 8) (l : Fin 512) : ℝ :=
  ∑ k : Fin 16, EReal.toReal (StepIdeal.Stp.A4 m c (ix3 b 0 k)) * EReal.toReal (StepIdeal.Stp.A5 m c (ix2 k l)) + EReal.toReal (StepIdeal.Stp.A6 m c (ix1 l))

variable {m m' c}

theorem act_real (r : StepReals m c) (b : Fin 8) (l : Fin 512) :
    (∑ k : Fin 16, StepIdeal.Stp.A4 m c (ix3 b 0 k) * StepIdeal.Stp.A5 m c (ix2 k l) + StepIdeal.Stp.A6 m c (ix1 l) : EReal) = ((actR m c b l : ℝ) : EReal) := by
  unfold actR
  rw [EReal.coe_add, ← coe_sum, ← r.h6]
  congr 1
  exact Finset.sum_congr rfl fun k _ => by rw [EReal.coe_mul, ← r.h4, ← r.h5]

theorem gate_kernel (r : StepReals m c) (b : Fin 8) (l : Fin 512) : StepIdeal.Stp.gateOf m c b l = ((lsig (actR m c b l) : ℝ) : EReal) := by
  unfold StepIdeal.Stp.gateOf
  rw [act_real r]
  exact KernelIdeal.Gla.gate_scalar _

theorem gate_reference (s : StepSame m m' c) (r : StepReals m c) (b : Fin 8) (h : Fin 4) (d : Fin 128) :
    StepReferenceIdeal.Stp.gR m' c (ix4 b h 0 d) = ((lsig (actR m c b (StepIdeal.Stp.lane h d)) : ℝ) : EReal) := by
  unfold StepReferenceIdeal.Stp.gR
  refine (StepReferenceIdeal.Stp.cum_at _ b h d).trans ((StepReferenceIdeal.Stp.rows_at _ b h d).trans (StepReferenceIdeal.Stp.ls_at _ b _ _ ?_))
  refine (StepReferenceIdeal.Stp.act_at _ _ _ b _).trans ?_
  rw [s.e4, s.e5, s.e6]
  exact act_real r b _

theorem gates_eq (s : StepSame m m' c) (r : StepReals m c) (b : Fin 8) (h : Fin 4) (d : Fin 128) :
    StepReferenceIdeal.Stp.gR m' c (ix4 b h 0 d) = StepIdeal.Stp.gateOf m c b (StepIdeal.Stp.lane h d) :=
  (gate_reference s r b h d).trans (gate_kernel r b _).symm

theorem step_state_eq (s : StepSame m m' c) (r : StepReals m c) : StepReferenceIdeal.Value.res_main_v47 m' c = StepIdeal.Stp.stateArr m c := by
  rw [StepReferenceIdeal.Stp.state_eq]
  funext j
  obtain ⟨b, h, d, e, rfl⟩ : ∃ (b : Fin 8) (h : Fin 4) (d : Fin 128) (e : Fin 256), j = (ix4 b h d e : StepReferenceIdeal.S8x4x128x256.Idx) :=
    ⟨j 0, j 1, j 2, j 3, by funext i; fin_cases i <;> rfl⟩
  refine (StepReferenceIdeal.Stp.sOf_at _ _ _ _ b h _ (fun d => gate_reference s r b h d) d e).trans ?_
  show _ = StepIdeal.Stp.stateAt m c b h d e
  unfold StepIdeal.Stp.stateAt
  simp only [gates_eq s r, StepReferenceIdeal.Stp.rows_at, StepReferenceIdeal.Stp.vrows_at, s.e1, s.e2, s.e8]

theorem step_out_eq (s : StepSame m m' c) (r : StepReals m c) : StepReferenceIdeal.Value.res_main_v67 m' c = StepIdeal.Stp.outArr m c := by
  rw [StepReferenceIdeal.Stp.out_eq]
  funext j
  obtain ⟨b, h, e, rfl⟩ : ∃ (b : Fin 8) (h : Fin 4) (e : Fin 256), j = (ix3 b 0 (StepIdeal.Stp.laneV h e) : StepReferenceIdeal.S8x1x1024.Idx) := by
    have d2 : (j 2).val < 1024 := (j 2).isLt
    refine ⟨j 0, ⟨(j 2).val / 256, by omega⟩, ⟨(j 2).val % 256, by omega⟩, ?_⟩
    funext i
    fin_cases i
    · rfl
    · exact Fin.ext (Nat.lt_one_iff.mp (j 1).isLt)
    · exact Fin.ext (show (j 2).val = (j 2).val / 256 * 256 + (j 2).val % 256 by omega)
  refine (StepReferenceIdeal.Stp.nOf_at _ _ _ b h e).trans ((?_ : _ = _).trans (StepIdeal.Stp.outArr_at m c b h e).symm)
  unfold StepIdeal.Stp.outAt
  simp only [StepReferenceIdeal.Stp.oOf_at _ _ _ _ _ b h _ (fun d => StepReferenceIdeal.Stp.qrows_at _ b h d), gates_eq s r, StepReferenceIdeal.Stp.rows_at,
    StepReferenceIdeal.Stp.vrows_at, s.e0, s.e1, s.e2, s.e3, s.e7, s.e8]

end

theorem step_results_run (m : (ℓ : Loc Cert.StepIdeal.nD Cert.StepIdeal.τ Cert.StepIdeal.sig) → Buf (Elt Ideal) ℓ) (g : Dev Cert.StepIdeal.nD → PrngReg) :
    θ_run (Cert.StepIdeal.defs (F := Ideal)) (onTc (τ := Cert.StepIdeal.τ) (Cert.StepIdeal.main (F := Ideal))) ⟨m, fun _ => 0, g⟩
    (fun r => ∀ c : Dev Cert.StepIdeal.nD,
      r.2.mem ((c.tc : Thread StepIdeal.nD StepIdeal.τ).loc StepIdeal.main_v21_0) = (StepIdeal.Gen.dats m 0 c).arrAt 9 (StepIdeal.cfgs 0).N
      ∧ r.2.mem ((c.tc : Thread StepIdeal.nD StepIdeal.τ).loc StepIdeal.main_v21_1) = (StepIdeal.Gen.dats m 0 c).arrAt 10 (StepIdeal.cfgs 0).N) :=
  θ_run_mono (Cert.StepIdeal.Gen.run_main m g) (fun _ h c => ⟨(h c).1 9, (h c).1 10⟩)

theorem step_algebraic : algebraic_StepIdeal_StepReferenceIdeal_pre_finite_gate := by
  intro m g m' g' hpre hagree
  have hsame : ∀ c, StepSame m m' c := fun c =>
    ⟨(hagree c).1, (hagree c).2.1, (hagree c).2.2.1, (hagree c).2.2.2.1, (hagree c).2.2.2.2.1, (hagree c).2.2.2.2.2.1, (hagree c).2.2.2.2.2.2.1, (hagree c).2.2.2.2.2.2.2.1,
      (hagree c).2.2.2.2.2.2.2.2⟩
  have hreal : ∀ c, StepReals m c := fun c => by
    obtain ⟨h4, h5, h6⟩ := Cert.Pre_finite_gate.reals _ _ _ _ _ _ _ _ _ (hpre c)
    exact ⟨h4, h5, h6⟩
  refine ⟨fun c => (StepIdeal.Gen.dats m 0 c).arrAt 9 (StepIdeal.cfgs 0).N, fun c => (StepIdeal.Gen.dats m 0 c).arrAt 10 (StepIdeal.cfgs 0).N,
    θ_run_mono (θ_run_and (step_results_run m g) (Cert.StepIdeal.Gen.frame m g)) (fun _ h c => ⟨(h.1 c).1, (h.1 c).2, h.2.1 c⟩),
    θ_run_mono (Cert.StepReferenceIdeal.Value.run m' g') (fun _ h c => ⟨(h c).1.trans ?_, (h c).2.1.trans ?_, (h c).2.2⟩)⟩
  · exact (step_out_eq (hsame c) (hreal c)).trans (StepIdeal.Stp.final9 m c).symm
  · exact (step_state_eq (hsame c) (hreal c)).trans (StepIdeal.Stp.final10 m c).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gla.Value
public import proofs.«01_k».proof.Proof.Gen.Mlp
public import proofs.«01_k».proof.Proof.Gen.MlpIdeal
public import proofs.«01_k».proof.Proof.Gen.MlpReferenceIdeal
public import proofs.«01_k».proof.Proof.Mlp.Value
public import proofs.«01_k».proof.Proof.Gen.Merge
public import proofs.«01_k».proof.Proof.Gen.MergeIdeal
public import proofs.«01_k».proof.Proof.Gen.MergeReferenceIdeal
public import proofs.«01_k».proof.Proof.Merge.Value
public import proofs.«01_k».proof.Proof.Gen.Rows
public import proofs.«01_k».proof.Proof.Gen.RowsIdeal
public import proofs.«01_k».proof.Proof.Gen.RowsReferenceIdeal
public import proofs.«01_k».proof.Proof.Rows.Value
public import proofs.«01_k».proof.Proof.Gen.Sample
public import proofs.«01_k».proof.Proof.Gen.SampleIdeal
public import proofs.«01_k».proof.Proof.Gen.SampleReferenceIdeal
public import proofs.«01_k».proof.Proof.Sample.Value
public import proofs.«01_k».proof.Proof.Gen.Lin
public import proofs.«01_k».proof.Proof.Gen.LinIdeal
public import proofs.«01_k».proof.Proof.Gen.LinReferenceIdeal
public import proofs.«01_k».proof.Proof.Lin.Value
public import proofs.«01_k».proof.Proof.Gen.Step
public import proofs.«01_k».proof.Proof.Gen.StepIdeal
public import proofs.«01_k».proof.Proof.Gen.StepReferenceIdeal
public import proofs.«01_k».proof.Proof.Step.Value

/-! The claims of the seven calls: linear attention over the prompt and for one token, channel mixing, merging, and the three projections. -/

@[expose] public section

namespace Cert.Proof

open Cert Idealize.ShloMosaic

theorem claim : Cert.Claim :=
  ⟨Cert.Kernel.Gen.facts, Cert.KernelIdeal.Gen.facts, Cert.ReferenceIdeal.Gen.facts, Cert.Mlp.Gen.facts, Cert.MlpIdeal.Gen.facts, Cert.MlpReferenceIdeal.Gen.facts,
    Cert.Merge.Gen.facts, Cert.MergeIdeal.Gen.facts, Cert.MergeReferenceIdeal.Gen.facts,
    Cert.Rows.Gen.facts, Cert.RowsIdeal.Gen.facts, Cert.RowsReferenceIdeal.Gen.facts, Cert.Sample.Gen.facts, Cert.SampleIdeal.Gen.facts, Cert.SampleReferenceIdeal.Gen.facts,
    Cert.Lin.Gen.facts, Cert.LinIdeal.Gen.facts, Cert.LinReferenceIdeal.Gen.facts,
    Cert.Step.Gen.facts, Cert.StepIdeal.Gen.facts, Cert.StepReferenceIdeal.Gen.facts,
    Cert.Pre_finite.facts, Cert.Pre_finite_gate.facts, frame_bits, frame_ideal, fun m g _ => frame_ideal m g trivial, frame_ref, fun m g _ => frame_ref m g trivial,
    mlp_frame_bits, mlp_frame_ideal, mlp_frame_ref, merge_frame_bits, merge_frame_ideal, merge_frame_ref,
    rows_frame_bits, rows_frame_ideal, rows_frame_ref, sample_frame_bits, sample_frame_ideal, sample_frame_ref,
    lin_frame_bits, lin_frame_ideal, lin_frame_ref,
    step_frame_bits, step_frame_ideal, fun m g _ => step_frame_ideal m g trivial, step_frame_ref, fun m g _ => step_frame_ref m g trivial,
    trivial, algebraic, trivial, mlp_algebraic, trivial, merge_algebraic, trivial, rows_algebraic, trivial, sample_algebraic, trivial, lin_algebraic, trivial, step_algebraic⟩

end Cert.Proof
